-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Kernel_none (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_finite2 : Cert.Pre_finite2.Facts] (m : (ℓ : Loc Cert.Kernel2.nD Cert.Kernel2.τ Cert.Kernel2.sig) → Buf (Elt Bits) ℓ) : Prop :=
  ∀ c : Dev Cert.Kernel2.nD,
    (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2_none (m : (ℓ : Loc Cert.Kernel2.nD Cert.Kernel2.τ Cert.Kernel2.sig) → Buf (Elt Bits) ℓ) : Prop :=
  True

def Pre_Kernel2Ideal [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Kernel2Ideal_none (m : (ℓ : Loc Cert.Kernel2Ideal.nD Cert.Kernel2Ideal.τ Cert.Kernel2Ideal.sig) → Buf (Elt Ideal) ℓ) : Prop :=
  True

def Pre_Reference2Ideal [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_in_range : Cert.Pre_in_range.Facts] (m : (ℓ : Loc Cert.Kernel4.nD Cert.Kernel4.τ Cert.Kernel4.sig) → Buf (Elt Bits) ℓ) : Prop :=
  ∀ c : Dev Cert.Kernel4.nD,
    (Cert.Pre_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_in_range : Cert.Pre_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal [hPre_in_range : Cert.Pre_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 [hPre_finite5 : Cert.Pre_finite5.Facts] (m : (ℓ : Loc Cert.Kernel5.nD Cert.Kernel5.τ Cert.Kernel5.sig) → Buf (Elt Bits) ℓ) : Prop :=
  ∀ c : Dev Cert.Kernel5.nD,
    (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))) = (fun _ => 1#1)

def Pre_Kernel5_none (m : (ℓ : Loc Cert.Kernel5.nD Cert.Kernel5.τ Cert.Kernel5.sig) → Buf (Elt Bits) ℓ) : Prop :=
  True

def Pre_Kernel5Ideal [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Kernel5Ideal_none (m : (ℓ : Loc Cert.Kernel5Ideal.nD Cert.Kernel5Ideal.τ Cert.Kernel5Ideal.sig) → Buf (Elt Ideal) ℓ) : Prop :=
  True

def Pre_Reference5Ideal [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_finite2 : Cert.Pre_finite2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2_pre_none [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2_none m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_none [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_none m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_in_range : Cert.Pre_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_in_range : Cert.Pre_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] [hPre_in_range : Cert.Pre_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_finite5 : Cert.Pre_finite5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5_pre_none [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5_none m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_none [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_none m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_1)) (v1 : (c : Dev Cert.KernelIdeal.nD) → Buf (Elt Ideal) ((c.tc : Thread Cert.KernelIdeal.nD Cert.KernelIdeal.τ).loc Cert.KernelIdeal.main_v25_2)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_1) = v0 c
          ∧ r.2.mem ((c.tc : Thread Cert.KernelIdeal.nD Cert.KernelIdeal.τ).loc Cert.KernelIdeal.main_v25_2) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v28) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v72) = v2 c
          ∧ r.2.mem ((c.tc : Thread Cert.Reference2Ideal.nD Cert.Reference2Ideal.τ).loc Cert.Reference2Ideal.main_v69) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_v53) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] [hPre_in_range : Cert.Pre_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)) (v4 : (c : Dev Cert.Kernel5Ideal.nD) → Buf (Elt Ideal) ((c.tc : Thread Cert.Kernel5Ideal.nD Cert.Kernel5Ideal.τ).loc Cert.Kernel5Ideal.main_v6_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_v6_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_v56) = v3 c
          ∧ r.2.mem ((c.tc : Thread Cert.Reference5Ideal.nD Cert.Reference5Ideal.τ).loc Cert.Reference5Ideal.main_v23) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_v18) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_in_range : Cert.Pre_in_range.Facts) (hPre_finite5 : Cert.Pre_finite5.Facts),
    quiescent_Kernel (hKernel := hKernel) (hPre_finite := hPre_finite)
    ∧ quiescent_Kernel_pre_none (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal) (hPre_finite := hPre_finite)
    ∧ quiescent_Kernel2 (hKernel2 := hKernel2) (hPre_finite2 := hPre_finite2)
    ∧ quiescent_Kernel2_pre_none (hKernel2 := hKernel2)
    ∧ quiescent_Kernel2Ideal (hKernel2Ideal := hKernel2Ideal) (hPre_finite2 := hPre_finite2)
    ∧ quiescent_Kernel2Ideal_pre_none (hKernel2Ideal := hKernel2Ideal)
    ∧ quiescent_Reference2Ideal (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_in_range := hPre_in_range)
    ∧ quiescent_Kernel4Ideal (hKernel4Ideal := hKernel4Ideal) (hPre_in_range := hPre_in_range)
    ∧ quiescent_Reference4Ideal (hReference4Ideal := hReference4Ideal) (hPre_in_range := hPre_in_range)
    ∧ quiescent_Kernel5 (hKernel5 := hKernel5) (hPre_finite5 := hPre_finite5)
    ∧ quiescent_Kernel5_pre_none (hKernel5 := hKernel5)
    ∧ quiescent_Kernel5Ideal (hKernel5Ideal := hKernel5Ideal) (hPre_finite5 := hPre_finite5)
    ∧ quiescent_Kernel5Ideal_pre_none (hKernel5Ideal := hKernel5Ideal)
    ∧ quiescent_Reference5Ideal (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_in_range := hPre_in_range)
    ∧ preserves_Kernel5_Kernel5Ideal
    ∧ algebraic_Kernel5Ideal_Reference5Ideal (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8320x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S8320x1024 .f32 := Host.absf main_arg5
  let main_cst_8 : FVec F S_ .f32 := constant S_ .f32 0x7F800000#32
  let main_v21 : FVec F S8320x1024 .f32 := broadcastInDim S8320x1024 ![] bcast_S_S8320x1024 main_cst_8
  let main_v22 : IVec S8320x1024 1 := cmpf .olt main_v20 main_v21
  let main_c_9 : IVec S_ 1 := constantI S_ 1 1#1
  let main_v23 : IVec S_ 1 := (fun x v => Host.reduce IntOp.andi x v reducesTo_S8320x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8320x1024 .f32) (main_arg1 : FVec F S1x1024 .f32) (main_arg2 : FVec F S1024x2816 .f32) (main_arg3 : FVec F S1024x2816 .f32) (main_arg4 : FVec F S2816x1024 .f32) (main_arg5 : FVec F S8320x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite2.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S2816x1024 .f32) (main_arg5 : FVec F S1x1024 .f32) (main_arg6 : FVec F S8192x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8320x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S8192x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Pre_finite5.lean ====
abbrev S8320x1024 : Shape := ⟨2, ![8320, 1024]⟩
abbrev S1x1024 : Shape := ⟨2, ![1, 1024]⟩
abbrev S8320x512 : Shape := ⟨2, ![8320, 512]⟩
abbrev S8320x256 : Shape := ⟨2, ![8320, 256]⟩
abbrev S16x256 : Shape := ⟨2, ![16, 256]⟩
abbrev S1024x1792 : Shape := ⟨2, ![1024, 1792]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8320x512 : S_.BroadcastsInDim S8320x512 (![] : Fin 0 → Fin S8320x512.rank)
  reducesTo_S8320x512_S_d0_1 : S8320x512.ReducesTo [0, 1] S_
  bcast_S_S8320x256 : S_.BroadcastsInDim S8320x256 (![] : Fin 0 → Fin S8320x256.rank)
  reducesTo_S8320x256_S_d0_1 : S8320x256.ReducesTo [0, 1] S_
  bcast_S_S16x256 : S_.BroadcastsInDim S16x256 (![] : Fin 0 → Fin S16x256.rank)
  reducesTo_S16x256_S_d0_1 : S16x256.ReducesTo [0, 1] S_
  bcast_S_S1024x1792 : S_.BroadcastsInDim S1024x1792 (![] : Fin 0 → Fin S1024x1792.rank)
  reducesTo_S1024x1792_S_d0_1 : S1024x1792.ReducesTo [0, 1] S_

variable [Facts]

def fn_part2 {F : FTy → Type} [FloatOps F] (main_arg8 : FVec F S1024x1792 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x1792 .f32 := Host.absf main_arg8
  let main_cst_14 : FVec F S_ .f32 := constant S_ .f32 0x7F800000#32
  let main_v33 : FVec F S1024x1792 .f32 := broadcastInDim S1024x1792 ![] bcast_S_S1024x1792 main_cst_14
  let main_v34 : IVec S1024x1792 1 := cmpf .olt main_v32 main_v33
  let main_c_15 : IVec S_ 1 := constantI S_ 1 1#1
  let main_v35 : IVec S_ 1 := (fun x v => Host.reduce IntOp.andi x v reducesTo_S1024x1792_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S8320x256 .f32) (main_arg5 : FVec F S16x256 .f32) (main_arg6 : FVec F S8320x512 .f32) (main_arg7 : FVec F S8320x512 .f32) (main_arg8 : FVec F S1024x1792 .f32) (main_v3 : IVec S_ 1) (main_v7 : IVec S_ 1) (main_v11 : IVec S_ 1) (main_v15 : IVec S_ 1) : IVec S_ 1 :=
  let main_v16 : FVec F S8320x256 .f32 := Host.absf main_arg4
  let main_cst_6 : FVec F S_ .f32 := constant S_ .f32 0x7F800000#32
  let main_v17 : FVec F S8320x256 .f32 := broadcastInDim S8320x256 ![] bcast_S_S8320x256 main_cst_6
  let main_v18 : IVec S8320x256 1 := cmpf .olt main_v16 main_v17
  let main_c_7 : IVec S_ 1 := constantI S_ 1 1#1
  let main_v19 : IVec S_ 1 := (fun x v => Host.reduce IntOp.andi x v reducesTo_S8320x256_S_d0_1 h_S_) main_v18 main_c_7
  let main_v20 : FVec F S16x256 .f32 := Host.absf main_arg5
  let main_cst_8 : FVec F S_ .f32 := constant S_ .f32 0x7F800000#32
  let main_v21 : FVec F S16x256 .f32 := broadcastInDim S16x256 ![] bcast_S_S16x256 main_cst_8
  let main_v22 : IVec S16x256 1 := cmpf .olt main_v20 main_v21
  let main_c_9 : IVec S_ 1 := constantI S_ 1 1#1
  let main_v23 : IVec S_ 1 := (fun x v => Host.reduce IntOp.andi x v reducesTo_S16x256_S_d0_1 h_S_) main_v22 main_c_9
  let main_v24 : FVec F S8320x512 .f32 := Host.absf main_arg6
  let main_cst_10 : FVec F S_ .f32 := constant S_ .f32 0x7F800000#32
  let main_v25 : FVec F S8320x512 .f32 := broadcastInDim S8320x512 ![] bcast_S_S8320x512 main_cst_10
  let main_v26 : IVec S8320x512 1 := cmpf .olt main_v24 main_v25
  let main_c_11 : IVec S_ 1 := constantI S_ 1 1#1
  let main_v27 : IVec S_ 1 := (fun x v => Host.reduce IntOp.andi x v reducesTo_S8320x512_S_d0_1 h_S_) main_v26 main_c_11
  let main_v28 : FVec F S8320x512 .f32 := Host.absf main_arg7
  let main_cst_12 : FVec F S_ .f32 := constant S_ .f32 0x7F800000#32
  let main_v29 : FVec F S8320x512 .f32 := broadcastInDim S8320x512 ![] bcast_S_S8320x512 main_cst_12
  let main_v30 : IVec S8320x512 1 := cmpf .olt main_v28 main_v29
  let main_c_13 : IVec S_ 1 := constantI S_ 1 1#1
  let main_v31 : IVec S_ 1 := (fun x v => Host.reduce IntOp.andi x v reducesTo_S8320x512_S_d0_1 h_S_) main_v30 main_c_13
  fn_part2 (F := F) main_arg8 main_v3 main_v7 main_v11 main_v15 main_v19 main_v23 main_v27 main_v31

def fn {F : FTy → Type} [FloatOps F] (main_arg0 : FVec F S8320x1024 .f32) (main_arg1 : FVec F S8320x1024 .f32) (main_arg2 : FVec F S1x1024 .f32) (main_arg3 : FVec F S8320x512 .f32) (main_arg4 : FVec F S8320x256 .f32) (main_arg5 : FVec F S16x256 .f32) (main_arg6 : FVec F S8320x512 .f32) (main_arg7 : FVec F S8320x512 .f32) (main_arg8 : FVec F S1024x1792 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S8320x1024 .f32 := Host.absf main_arg1
  let main_cst_0 : FVec F S_ .f32 := constant S_ .f32 0x7F800000#32
  let main_v5 : FVec F S8320x1024 .f32 := broadcastInDim S8320x1024 ![] bcast_S_S8320x1024 main_cst_0
  let main_v6 : IVec S8320x1024 1 := cmpf .olt main_v4 main_v5
  let main_c_1 : IVec S_ 1 := constantI S_ 1 1#1
  let main_v7 : IVec S_ 1 := (fun x v => Host.reduce IntOp.andi x v reducesTo_S8320x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S8320x512 .f32 := Host.absf main_arg3
  let main_cst_4 : FVec F S_ .f32 := constant S_ .f32 0x7F800000#32
  let main_v13 : FVec F S8320x512 .f32 := broadcastInDim S8320x512 ![] bcast_S_S8320x512 main_cst_4
  let main_v14 : IVec S8320x512 1 := cmpf .olt main_v12 main_v13
  let main_c_5 : IVec S_ 1 := constantI S_ 1 1#1
  let main_v15 : IVec S_ 1 := (fun x v => Host.reduce IntOp.andi x v reducesTo_S8320x512_S_d0_1 h_S_) main_v14 main_c_5
  fn_part1 (F := F) main_arg4 main_arg5 main_arg6 main_arg7 main_arg8 main_v3 main_v7 main_v11 main_v15
-- ==== Pre_in_range.lean ====
abbrev S1 : Shape := ⟨1, ![1]⟩
abbrev S4x352x1024 : Shape := ⟨3, ![4, 352, 1024]⟩
abbrev S3x352x1024 : Shape := ⟨3, ![3, 352, 1024]⟩
abbrev S352x1024 : Shape := ⟨2, ![352, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S4x352x1024 .f32) (main_arg2 : FVec F S3x352x1024 .f32) (main_arg3 : FVec F S352x1024 .f32) (main_arg4 : FVec F S352x1024 .f32) (main_arg5 : FVec F S352x1024 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S640x1024 : Shape := ⟨2, ![640, 1024]⟩
abbrev S640x2816 : Shape := ⟨2, ![640, 2816]⟩
abbrev S256x1024 : Shape := ⟨2, ![256, 1024]⟩
abbrev S640x256 : Shape := ⟨2, ![640, 256]⟩
abbrev S640 : Shape := ⟨1, ![640]⟩
abbrev S640x1 : Shape := ⟨2, ![640, 1]⟩
abbrev S1024 : Shape := ⟨1, ![1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 51
  | .vmem => 45
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x2816, .f32⟩
  | .hbm, ⟨22, _⟩ => ⟨S8320x2816, .f32⟩
  | .hbm, ⟨23, _⟩ => ⟨S8320x2816, .bf16⟩
  | .hbm, ⟨24, _⟩ => ⟨S8320x2816, .bf16⟩
  | .hbm, ⟨25, _⟩ => ⟨S8320x2816, .f32⟩
  | .hbm, ⟨26, _⟩ => ⟨S8320x2816, .f32⟩
  | .hbm, ⟨27, _⟩ => ⟨S_, .f32⟩
  | .hbm, ⟨28, _⟩ => ⟨S8320x2816, .f32⟩
  | .hbm, ⟨29, _⟩ => ⟨S8320x2816, .f32⟩
  | .hbm, ⟨30, _⟩ => ⟨S_, .f32⟩
  | .hbm, ⟨31, _⟩ => ⟨S8320x2816, .f32⟩
  | .hbm, ⟨32, _⟩ => ⟨S8320x2816, .f32⟩
  | .hbm, ⟨33, _⟩ => ⟨S8320x2816, .f32⟩
  | .hbm, ⟨34, _⟩ => ⟨S8320x2816, .f32⟩
  | .hbm, ⟨35, _⟩ => ⟨S8320x2816, .bf16⟩
  | .hbm, ⟨36, _⟩ => ⟨S2816x1024, .f32⟩
  | .hbm, ⟨37, _⟩ => ⟨S2816x1024, .bf16⟩
  | .hbm, ⟨38, _⟩ => ⟨S2816x1024, .f32⟩
  | .hbm, ⟨39, _⟩ => ⟨S2816x1024, .bf16⟩
  | .hbm, ⟨40, _⟩ => ⟨S2816x1024, .bf16⟩
  | .hbm, ⟨41, _⟩ => ⟨S8320x2816, .bf16⟩
  | .hbm, ⟨42, _⟩ => ⟨S8320x2816, .bf16⟩
  | .hbm, ⟨43, _⟩ => ⟨S8320x1024, .bf16⟩
  | .hbm, ⟨44, _⟩ => ⟨S8320x1024, .f32⟩
  | .hbm, ⟨45, _⟩ => ⟨S1x1024, .f32⟩
  | .hbm, ⟨46, _⟩ => ⟨S2816x1024, .f32⟩
  | .hbm, ⟨47, _⟩ => ⟨S2816x1024, .f32⟩
  | .hbm, ⟨48, _⟩ => ⟨S2816x1024, .f32⟩
  | .hbm, ⟨49, _⟩ => ⟨S1024x2816, .f32⟩
  | .hbm, ⟨50, _⟩ => ⟨S1024x2816, .f32⟩
  | .local _ .vmem, ⟨0, _⟩ => ⟨S640x1024, .f32⟩
  | .local _ .vmem, ⟨1, _⟩ => ⟨S640x1024, .f32⟩
  | .local _ .vmem, ⟨2, _⟩ => ⟨S640x2816, .bf16⟩
  | .local _ .vmem, ⟨3, _⟩ => ⟨S640x2816, .bf16⟩
  | .local _ .vmem, ⟨4, _⟩ => ⟨S640x2816, .bf16⟩
  | .local _ .vmem, ⟨5, _⟩ => ⟨S640x2816, .bf16⟩
  | .local _ .vmem, ⟨6, _⟩ => ⟨S2816x1024, .bf16⟩
  | .local _ .vmem, ⟨7, _⟩ => ⟨S640x2816, .bf16⟩
  | .local _ .vmem, ⟨8, _⟩ => ⟨S640x2816, .bf16⟩
  | .local _ .vmem, ⟨9, _⟩ => ⟨S640x2816, .bf16⟩
  | .local _ .vmem, ⟨10, _⟩ => ⟨S640x2816, .bf16⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | .local _ .vmem, ⟨14, _⟩ => ⟨S640x1024, .f32⟩
  | .local _ .vmem, ⟨15, _⟩ => ⟨S1x1024, .f32⟩
  | .local _ .vmem, ⟨16, _⟩ => ⟨S640x2816, .bf16⟩
  | .local _ .vmem, ⟨17, _⟩ => ⟨S640x2816, .bf16⟩
  | .local _ .vmem, ⟨18, _⟩ => ⟨S640x2816, .bf16⟩
  | .local _ .vmem, ⟨19, _⟩ => ⟨S640x2816, .bf16⟩
  | .local _ .vmem, ⟨20, _⟩ => ⟨S2816x1024, .bf16⟩
  | .local _ .vmem, ⟨21, _⟩ => ⟨S2816x1024, .bf16⟩
  | .local _ .vmem, ⟨22, _⟩ => ⟨S640x1024, .bf16⟩
  | .local _ .vmem, ⟨23, _⟩ => ⟨S640x1024, .bf16⟩
  | .local _ .vmem, ⟨24, _⟩ => ⟨S640x1024, .f32⟩
  | .local _ .vmem, ⟨25, _⟩ => ⟨S640x1024, .f32⟩
  | .local _ .vmem, ⟨26, _⟩ => ⟨S1x1024, .f32⟩
  | .local _ .vmem, ⟨27, _⟩ => ⟨S1664x1408, .bf16⟩
  | .local _ .vmem, ⟨28, _⟩ => ⟨S1664x1408, .bf16⟩
  | .local _ .vmem, ⟨29, _⟩ => ⟨S1664x1024, .bf16⟩
  | .local _ .vmem, ⟨30, _⟩ => ⟨S1664x1024, .bf16⟩
  | .local _ .vmem, ⟨31, _⟩ => ⟨S1408x1024, .f32⟩
  | .local _ .vmem, ⟨32, _⟩ => ⟨S1408x1024, .f32⟩
  | .local _ .vmem, ⟨33, _⟩ => ⟨S1664x1408, .bf16⟩
  | .local _ .vmem, ⟨34, _⟩ => ⟨S1664x1408, .bf16⟩
  | .local _ .vmem, ⟨35, _⟩ => ⟨S1664x1024, .bf16⟩
  | .local _ .vmem, ⟨36, _⟩ => ⟨S1664x1024, .bf16⟩
  | .local _ .vmem, ⟨37, _⟩ => ⟨S1408x1024, .f32⟩
  | .local _ .vmem, ⟨38, _⟩ => ⟨S1408x1024, .f32⟩
  | .local _ .vmem, ⟨39, _⟩ => ⟨S1664x1408, .bf16⟩
  | .local _ .vmem, ⟨40, _⟩ => ⟨S1664x1408, .bf16⟩
  | .local _ .vmem, ⟨41, _⟩ => ⟨S1664x1024, .f32⟩
  | .local _ .vmem, ⟨42, _⟩ => ⟨S1664x1024, .f32⟩
  | .local _ .vmem, ⟨43, _⟩ => ⟨S1408x1024, .f32⟩
  | .local _ .vmem, ⟨44, _⟩ => ⟨S1408x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S640x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S640x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S640x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S640x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S640x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1664x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1664x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1408x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 5], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1664x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1664x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 5], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1664x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1664x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1408x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]
-- ==== ReferenceIdeal.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S8320x2816, .f32⟩
  | .hbm, ⟨26, _⟩ => ⟨S8320x2816, .f32⟩
  | .hbm, ⟨27, _⟩ => ⟨S8320x2816, .f32⟩
  | .hbm, ⟨28, _⟩ => ⟨S_, .f32⟩
  | .hbm, ⟨29, _⟩ => ⟨S8320x2816, .f32⟩
  | .hbm, ⟨30, _⟩ => ⟨S8320x2816, .f32⟩
  | .hbm, ⟨31, _⟩ => ⟨S_, .f32⟩
  | .hbm, ⟨32, _⟩ => ⟨S8320x2816, .f32⟩
  | .hbm, ⟨33, _⟩ => ⟨S8320x2816, .f32⟩
  | .hbm, ⟨34, _⟩ => ⟨S_, .f32⟩
  | .hbm, ⟨35, _⟩ => ⟨S8320x2816, .f32⟩
  | .hbm, ⟨36, _⟩ => ⟨S8320x2816, .f32⟩
  | .hbm, ⟨37, _⟩ => ⟨S8320x2816, .f32⟩
  | .hbm, ⟨38, _⟩ => ⟨S8320x2816, .f32⟩
  | .hbm, ⟨39, _⟩ => ⟨S8320x2816, .f32⟩
  | .hbm, ⟨40, _⟩ => ⟨S8320x2816, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S1024x2816, .f32⟩
  | .hbm, ⟨45, _⟩ => ⟨S2816x1024, .f32⟩
  | .hbm, ⟨46, _⟩ => ⟨S8320x2816, .f32⟩
  | .hbm, ⟨47, _⟩ => ⟨S8320x2816, .f32⟩
  | .hbm, ⟨48, _⟩ => ⟨S8320x2816, .f32⟩
  | .hbm, ⟨49, _⟩ => ⟨S2816x1024, .f32⟩
  | .hbm, ⟨50, _⟩ => ⟨S1024x2816, .f32⟩
  | .hbm, ⟨51, _⟩ => ⟨S8320x1024, .f32⟩
  | .hbm, ⟨52, _⟩ => ⟨S8320x2816, .f32⟩
  | .hbm, ⟨53, _⟩ => ⟨S8320x2816, .f32⟩
  | .hbm, ⟨54, _⟩ => ⟨S8320x2816, .f32⟩
  | .hbm, ⟨55, _⟩ => ⟨S8320x2816, .f32⟩
  | .hbm, ⟨56, _⟩ => ⟨S2816x1024, .f32⟩
  | .hbm, ⟨57, _⟩ => ⟨S1024x2816, .f32⟩
  | .hbm, ⟨58, _⟩ => ⟨S8320x1024, .f32⟩
  | .hbm, ⟨59, _⟩ => ⟨S8320x1024, .f32⟩
  | .hbm, ⟨60, _⟩ => ⟨S8320x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8320x1024, .f32⟩
  | .hbm, ⟨65, _⟩ => ⟨S8320x1024, .f32⟩
  | .hbm, ⟨66, _⟩ => ⟨S8320x1024, .f32⟩
  | .hbm, ⟨67, _⟩ => ⟨S_, .f32⟩
  | .hbm, ⟨68, _⟩ => ⟨S8320, .f32⟩
  | .hbm, ⟨69, _⟩ => ⟨S8320x1, .f32⟩
  | .hbm, ⟨70, _⟩ => ⟨S8320x1024, .f32⟩
  | .hbm, ⟨71, _⟩ => ⟨S8320x1024, .f32⟩
  | .hbm, ⟨72, _⟩ => ⟨S8320x1024, .f32⟩
  | .hbm, ⟨73, _⟩ => ⟨S8320x1, .f32⟩
  | .hbm, ⟨74, _⟩ => ⟨S_, .f32⟩
  | .hbm, ⟨75, _⟩ => ⟨S8320x1, .f32⟩
  | .hbm, ⟨76, _⟩ => ⟨S8320x1, .f32⟩
  | .hbm, ⟨77, _⟩ => ⟨S_, .f32⟩
  | .hbm, ⟨78, _⟩ => ⟨S8320, .f32⟩
  | .hbm, ⟨79, _⟩ => ⟨S8320x1024, .f32⟩
  | .hbm, ⟨80, _⟩ => ⟨S8320x1024, .f32⟩
  | .hbm, ⟨81, _⟩ => ⟨S8320x1024, .f32⟩
  | .hbm, ⟨82, _⟩ => ⟨S8320x1024, .f32⟩
  | .hbm, ⟨83, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel2.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S8192x1024 : Shape := ⟨2, ![8192, 1024]⟩
abbrev S8320x2816 : Shape := ⟨2, ![8320, 2816]⟩
abbrev S8x128 : Shape := ⟨2, ![8, 128]⟩
abbrev S640x1024 : Shape := ⟨2, ![640, 1024]⟩
abbrev S640x2816 : Shape := ⟨2, ![640, 2816]⟩
abbrev S_ : Shape := ⟨0, ![]⟩
abbrev S128x1024 : Shape := ⟨2, ![128, 1024]⟩
abbrev S512x1024 : Shape := ⟨2, ![512, 1024]⟩
abbrev S640 : Shape := ⟨1, ![640]⟩
abbrev S640x1 : Shape := ⟨2, ![640, 1]⟩
abbrev S256x1024 : Shape := ⟨2, ![256, 1024]⟩
abbrev S640x256 : Shape := ⟨2, ![640, 256]⟩
abbrev S1024 : Shape := ⟨1, ![1024]⟩
abbrev S1x640x1024 : Shape := ⟨3, ![1, 640, 1024]⟩
abbrev S1 : Shape := ⟨1, ![1]⟩
abbrev S1x1x1 : Shape := ⟨3, ![1, 1, 1]⟩

abbrev nBuf : Space → Nat
  | .hbm => 18
  | .vmem => 18
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8320x2816, .bf16⟩
  | .hbm, ⟨13, _⟩ => ⟨S8320x2816, .bf16⟩
  | .hbm, ⟨14, _⟩ => ⟨S8320x2816, .bf16⟩
  | .hbm, ⟨15, _⟩ => ⟨S8320x1024, .f32⟩
  | .hbm, ⟨16, _⟩ => ⟨S8x128, .f32⟩
  | .hbm, ⟨17, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S640x2816, .bf16⟩
  | .local _ .vmem, ⟨8, _⟩ => ⟨S640x2816, .bf16⟩
  | .local _ .vmem, ⟨9, _⟩ => ⟨S640x2816, .bf16⟩
  | .local _ .vmem, ⟨10, _⟩ => ⟨S640x2816, .bf16⟩
  | .local _ .vmem, ⟨11, _⟩ => ⟨S640x2816, .bf16⟩
  | .local _ .vmem, ⟨12, _⟩ => ⟨S640x2816, .bf16⟩
  | .local _ .vmem, ⟨13, _⟩ => ⟨S640x1024, .f32⟩
  | .local _ .vmem, ⟨14, _⟩ => ⟨S640x1024, .f32⟩
  | .local _ .vmem, ⟨15, _⟩ => ⟨S8x128, .f32⟩
  | .local _ .vmem, ⟨16, _⟩ => ⟨S1x1024, .f32⟩
  | .local _ .vmem, ⟨17, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg0 : BitVec 32 := BitVec.ofNat 32 (i 0).val
  let c640_i32_196 : BitVec 32 := 640#32
  let v327 : BitVec 32 := Scalar.muli arg0 c640_i32_196
  let c128_i32_197 : BitVec 32 := 128#32
  let v328 : BitVec 32 := Scalar.subi v327 c128_i32_197
  let c0_i32_198 : BitVec 32 := 0#32
  ![v328.toNat, 0]
def k0_cond4 (i : grid0.Coords) : BitVec 1 :=
  let arg0 : BitVec 32 := BitVec.ofNat 32 (i 0).val
  let c0_i32_170 : BitVec 32 := 0#32
  let v260 : BitVec 1 := Scalar.cmpi .sgt arg0 c0_i32_170
  let v261 : BitVec 32 := Scalar.extui v260
  let c0_i32_171 : BitVec 32 := 0#32
  let v262 : BitVec 1 := Scalar.cmpi .ne v261 c0_i32_171
  v262

def k0_off2 (i : grid0.Coords) : Fin 2 → Nat :=
  let arg0 : BitVec 32 := BitVec.ofNat 32 (i 0).val
  let c640_i32_196 : BitVec 32 := 640#32
  let v327 : BitVec 32 := Scalar.muli arg0 c640_i32_196
  let c128_i32_197 : BitVec 32 := 128#32
  let v328 : BitVec 32 := Scalar.subi v327 c128_i32_197
  let c0_i32_198 : BitVec 32 := 0#32
  ![v328.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S8192 : Shape := ⟨1, ![8192]⟩
abbrev S1024 : Shape := ⟨1, ![1024]⟩
abbrev S8x128 : Shape := ⟨2, ![8, 128]⟩

abbrev nBuf : Space → Nat
  | .hbm => 109
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S8320x2816, .f32⟩
  | .hbm, ⟨26, _⟩ => ⟨S_, .f32⟩
  | .hbm, ⟨27, _⟩ => ⟨S8320x2816, .f32⟩
  | .hbm, ⟨28, _⟩ => ⟨S8320x2816, .f32⟩
  | .hbm, ⟨29, _⟩ => ⟨S_, .f32⟩
  | .hbm, ⟨30, _⟩ => ⟨S8320x2816, .f32⟩
  | .hbm, ⟨31, _⟩ => ⟨S8320x2816, .f32⟩
  | .hbm, ⟨32, _⟩ => ⟨S8320x2816, .f32⟩
  | .hbm, ⟨33, _⟩ => ⟨S8320x2816, .f32⟩
  | .hbm, ⟨34, _⟩ => ⟨S8320x1024, .f32⟩
  | .hbm, ⟨35, _⟩ => ⟨S8320x1024, .f32⟩
  | .hbm, ⟨36, _⟩ => ⟨S8320x1024, .f32⟩
  | .hbm, ⟨37, _⟩ => ⟨S_, .f32⟩
  | .hbm, ⟨38, _⟩ => ⟨S8320, .f32⟩
  | .hbm, ⟨39, _⟩ => ⟨S8320x1, .f32⟩
  | .hbm, ⟨40, _⟩ => ⟨S_, .f32⟩
  | .hbm, ⟨41, _⟩ => ⟨S8320x1, .f32⟩
  | .hbm, ⟨42, _⟩ => ⟨S8320x1, .f32⟩
  | .hbm, ⟨43, _⟩ => ⟨S_, .f32⟩
  | .hbm, ⟨44, _⟩ => ⟨S8320x1, .f32⟩
  | .hbm, ⟨45, _⟩ => ⟨S8320x1, .f32⟩
  | .hbm, ⟨46, _⟩ => ⟨S8320x1, .f32⟩
  | .hbm, ⟨47, _⟩ => ⟨S8320x1, .f32⟩
  | .hbm, ⟨48, _⟩ => ⟨S_, .f32⟩
  | .hbm, ⟨49, _⟩ => ⟨S8320x1, .f32⟩
  | .hbm, ⟨50, _⟩ => ⟨S8320x1, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8320x1024, .f32⟩
  | .hbm, ⟨82, _⟩ => ⟨S8320x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8320x1024, .f32⟩
  | .hbm, ⟨87, _⟩ => ⟨S8320x1024, .f32⟩
  | .hbm, ⟨88, _⟩ => ⟨S8320x1024, .f32⟩
  | .hbm, ⟨89, _⟩ => ⟨S_, .f32⟩
  | .hbm, ⟨90, _⟩ => ⟨S8320, .f32⟩
  | .hbm, ⟨91, _⟩ => ⟨S8320x1, .f32⟩
  | .hbm, ⟨92, _⟩ => ⟨S8320x1024, .f32⟩
  | .hbm, ⟨93, _⟩ => ⟨S8320x1024, .f32⟩
  | .hbm, ⟨94, _⟩ => ⟨S8320x1, .f32⟩
  | .hbm, ⟨95, _⟩ => ⟨S_, .f32⟩
  | .hbm, ⟨96, _⟩ => ⟨S8320x1, .f32⟩
  | .hbm, ⟨97, _⟩ => ⟨S8320x1, .f32⟩
  | .hbm, ⟨98, _⟩ => ⟨S_, .f32⟩
  | .hbm, ⟨99, _⟩ => ⟨S8320, .f32⟩
  | .hbm, ⟨100, _⟩ => ⟨S8320x1024, .f32⟩
  | .hbm, ⟨101, _⟩ => ⟨S8320x1024, .f32⟩
  | .hbm, ⟨102, _⟩ => ⟨S8320x1024, .f32⟩
  | .hbm, ⟨103, _⟩ => ⟨S8320x1024, .f32⟩
  | .hbm, ⟨104, _⟩ => ⟨S8320x1024, .f32⟩
  | .hbm, ⟨105, _⟩ => ⟨S8320x2816, .bf16⟩
  | .hbm, ⟨106, _⟩ => ⟨S8320x2816, .bf16⟩
  | .hbm, ⟨107, _⟩ => ⟨S8320x2816, .bf16⟩
  | .hbm, ⟨108, _⟩ => ⟨S8x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_cst_12 : Ref sig .tc := ⟨.hbm, 71, rfl⟩
abbrev main_v43 : Ref sig .tc := ⟨.hbm, 72, rfl⟩
abbrev main_v44 : Ref sig .tc := ⟨.hbm, 73, rfl⟩
abbrev main_cst_13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_cst_15 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Kernel3.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .bf16⟩
  | .hbm, ⟨4, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8320x1024 : Shape := ⟨2, ![8320, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .f32⟩
  | .hbm, ⟨4, _⟩ => ⟨S1024x1024, .f32⟩
  | .hbm, ⟨5, _⟩ => ⟨S1024x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S1 : Shape := ⟨1, ![1]⟩
abbrev S4x352x1024 : Shape := ⟨3, ![4, 352, 1024]⟩
abbrev S3x352x1024 : Shape := ⟨3, ![3, 352, 1024]⟩
abbrev S352x1024 : Shape := ⟨2, ![352, 1024]⟩
abbrev S1x352x1024 : Shape := ⟨3, ![1, 352, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x352x1024, .f32⟩
  | .hbm, ⟨1, _⟩ => ⟨S3x352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x352x1024, .f32⟩
  | .local _ .vmem, ⟨1, _⟩ => ⟨S3x352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .smem, ⟨0, _⟩ => ⟨S1, .i32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S1 : Shape := ⟨1, ![1]⟩
abbrev S4x352x1024 : Shape := ⟨3, ![4, 352, 1024]⟩
abbrev S3x352x1024 : Shape := ⟨3, ![3, 352, 1024]⟩
abbrev S352x1024 : Shape := ⟨2, ![352, 1024]⟩
abbrev S4 : Shape := ⟨1, ![4]⟩
abbrev S4x1x1 : Shape := ⟨3, ![4, 1, 1]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x352x1024, .f32⟩
  | .hbm, ⟨2, _⟩ => ⟨S3x352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S_, .f32⟩
  | .hbm, ⟨11, _⟩ => ⟨S_, .f32⟩
  | .hbm, ⟨12, _⟩ => ⟨S4x352x1024, .i1⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | .hbm, ⟨49, _⟩ => ⟨S352x1024, .f32⟩
  | .hbm, ⟨50, _⟩ => ⟨S_, .f32⟩
  | .hbm, ⟨51, _⟩ => ⟨S352x1024, .f32⟩
  | .hbm, ⟨52, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel5.lean ====
abbrev S8320x1024 : Shape := ⟨2, ![8320, 1024]⟩
abbrev S1x1024 : Shape := ⟨2, ![1, 1024]⟩
abbrev S8320x512 : Shape := ⟨2, ![8320, 512]⟩
abbrev S8320x256 : Shape := ⟨2, ![8320, 256]⟩
abbrev S16x256 : Shape := ⟨2, ![16, 256]⟩
abbrev S1024x1792 : Shape := ⟨2, ![1024, 1792]⟩
abbrev S1792x1024 : Shape := ⟨2, ![1792, 1024]⟩
abbrev S8192x1024 : Shape := ⟨2, ![8192, 1024]⟩
abbrev S16x1024 : Shape := ⟨2, ![16, 1024]⟩
abbrev S8320x1792 : Shape := ⟨2, ![8320, 1792]⟩
abbrev S640x1024 : Shape := ⟨2, ![640, 1024]⟩
abbrev S640x512 : Shape := ⟨2, ![640, 512]⟩
abbrev S640x256 : Shape := ⟨2, ![640, 256]⟩
abbrev S640x1792 : Shape := ⟨2, ![640, 1792]⟩
abbrev S2x640x1024 : Shape := ⟨3, ![2, 640, 1024]⟩
abbrev S2 : Shape := ⟨1, ![2]⟩
abbrev S640 : Shape := ⟨1, ![640]⟩
abbrev S640x1 : Shape := ⟨2, ![640, 1]⟩
abbrev S1024 : Shape := ⟨1, ![1024]⟩
abbrev S1 : Shape := ⟨1, ![1]⟩
abbrev S_ : Shape := ⟨0, ![]⟩
abbrev S512x1024 : Shape := ⟨2, ![512, 1024]⟩
abbrev S1x512x1024 : Shape := ⟨3, ![1, 512, 1024]⟩
abbrev S1x640x1024 : Shape := ⟨3, ![1, 640, 1024]⟩
abbrev S1x16x1024 : Shape := ⟨3, ![1, 16, 1024]⟩

abbrev nBuf : Space → Nat
  | .hbm => 20
  | .vmem => 22
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8320x512, .f32⟩
  | .hbm, ⟨4, _⟩ => ⟨S8320x256, .f32⟩
  | .hbm, ⟨5, _⟩ => ⟨S16x256, .f32⟩
  | .hbm, ⟨6, _⟩ => ⟨S8320x512, .f32⟩
  | .hbm, ⟨7, _⟩ => ⟨S8320x512, .f32⟩
  | .hbm, ⟨8, _⟩ => ⟨S1024x1792, .f32⟩
  | .hbm, ⟨9, _⟩ => ⟨S8320x512, .bf16⟩
  | .hbm, ⟨10, _⟩ => ⟨S8320x256, .bf16⟩
  | .hbm, ⟨11, _⟩ => ⟨S8320x512, .bf16⟩
  | .hbm, ⟨12, _⟩ => ⟨S8320x512, .bf16⟩
  | .hbm, ⟨13, _⟩ => ⟨S1792x1024, .f32⟩
  | .hbm, ⟨14, _⟩ => ⟨S1792x1024, .bf16⟩
  | .hbm, ⟨15, _⟩ => ⟨S8192x1024, .f32⟩
  | .hbm, ⟨16, _⟩ => ⟨S16x1024, .f32⟩
  | .hbm, ⟨17, _⟩ => ⟨S8320x1792, .bf16⟩
  | .hbm, ⟨18, _⟩ => ⟨S8320x1024, .bf16⟩
  | .hbm, ⟨19, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S640x512, .bf16⟩
  | .local _ .vmem, ⟨6, _⟩ => ⟨S640x512, .bf16⟩
  | .local _ .vmem, ⟨7, _⟩ => ⟨S640x256, .bf16⟩
  | .local _ .vmem, ⟨8, _⟩ => ⟨S640x256, .bf16⟩
  | .local _ .vmem, ⟨9, _⟩ => ⟨S16x256, .f32⟩
  | .local _ .vmem, ⟨10, _⟩ => ⟨S640x512, .bf16⟩
  | .local _ .vmem, ⟨11, _⟩ => ⟨S640x512, .bf16⟩
  | .local _ .vmem, ⟨12, _⟩ => ⟨S640x512, .bf16⟩
  | .local _ .vmem, ⟨13, _⟩ => ⟨S640x512, .bf16⟩
  | .local _ .vmem, ⟨14, _⟩ => ⟨S1792x1024, .bf16⟩
  | .local _ .vmem, ⟨15, _⟩ => ⟨S16x1024, .f32⟩
  | .local _ .vmem, ⟨16, _⟩ => ⟨S640x1792, .bf16⟩
  | .local _ .vmem, ⟨17, _⟩ => ⟨S640x1792, .bf16⟩
  | .local _ .vmem, ⟨18, _⟩ => ⟨S640x1024, .bf16⟩
  | .local _ .vmem, ⟨19, _⟩ => ⟨S640x1024, .bf16⟩
  | .local _ .vmem, ⟨20, _⟩ => ⟨S1x1024, .f32⟩
  | .local _ .vmem, ⟨21, _⟩ => ⟨S2x640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![13], ![false]⟩

def k0_cond4 (i : grid0.Coords) : BitVec 1 :=
  let arg0 : BitVec 32 := BitVec.ofNat 32 (i 0).val
  let c2_i32_41 : BitVec 32 := 2#32
  let v76 : BitVec 1 := Scalar.cmpi .sgt arg0 c2_i32_41
  let v77 : BitVec 32 := Scalar.extui v76
  let c0_i32_42 : BitVec 32 := 0#32
  let v78 : BitVec 1 := Scalar.cmpi .ne v77 c0_i32_42
  v78

def k0_mult1 (i : grid0.Coords) : BitVec 32 :=
  let arg0 : BitVec 32 := BitVec.ofNat 32 (i 0).val
  let c2_i32_52 : BitVec 32 := 2#32
  let v94 : BitVec 32 := Scalar.subi arg0 c2_i32_52
  let c640_i32 : BitVec 32 := 640#32
  let v95 : BitVec 32 := Scalar.muli v94 c640_i32
  let c128_i32 : BitVec 32 := 128#32
  let v96 : BitVec 32 := Scalar.subi v95 c128_i32
  v96
def k0_off1 (i : grid0.Coords) : Fin 1 → Nat :=
  let arg0 : BitVec 32 := BitVec.ofNat 32 (i 0).val
  let c2_i32 : BitVec 32 := 2#32
  let c0_i32_35 : BitVec 32 := 0#32
  let v63 : BitVec 1 := Scalar.cmpi .eq c2_i32 c0_i32_35
  let c1_i32 : BitVec 32 := 1#32
  let v64 : BitVec 32 := Scalar.select v63 c1_i32 c2_i32
  let v65 : BitVec 32 := Scalar.remsi arg0 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  ![v72.toNat]
def k0_off2 (i : grid0.Coords) : Fin 2 → Nat :=
  let arg0 : BitVec 32 := BitVec.ofNat 32 (i 0).val
  let c2_i32_52 : BitVec 32 := 2#32
  let v94 : BitVec 32 := Scalar.subi arg0 c2_i32_52
  let c640_i32 : BitVec 32 := 640#32
  let v95 : BitVec 32 := Scalar.muli v94 c640_i32
  let c128_i32 : BitVec 32 := 128#32
  let v96 : BitVec 32 := Scalar.subi v95 c128_i32
  let v97 : BitVec 32 := v96
  let c0_i32_53 : BitVec 32 := 0#32
  ![v97.toNat, 0]
def k0_off3 (i : grid0.Coords) : Fin 3 → Nat :=
  let arg0 : BitVec 32 := BitVec.ofNat 32 (i 0).val
  let c2_i32 : BitVec 32 := 2#32
  let c0_i32_35 : BitVec 32 := 0#32
  let v63 : BitVec 1 := Scalar.cmpi .eq c2_i32 c0_i32_35
  let c1_i32 : BitVec 32 := 1#32
  let v64 : BitVec 32 := Scalar.select v63 c1_i32 c2_i32
  let v65 : BitVec 32 := Scalar.remsi arg0 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  let c0_i32_54 : BitVec 32 := 0#32
  let c0_i32_55 : BitVec 32 := 0#32
  ![v72.toNat, 0, 0]
def k0_off4 (i : grid0.Coords) : Fin 3 → Nat :=
  let arg0 : BitVec 32 := BitVec.ofNat 32 (i 0).val
  let c2_i32 : BitVec 32 := 2#32
  let c0_i32_35 : BitVec 32 := 0#32
  let v63 : BitVec 1 := Scalar.cmpi .eq c2_i32 c0_i32_35
  let c1_i32 : BitVec 32 := 1#32
  let v64 : BitVec 32 := Scalar.select v63 c1_i32 c2_i32
  let v65 : BitVec 32 := Scalar.remsi arg0 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  let v81 : Index := Scalar.indexCast v72
  let c0_45 : Index := 0#32
  let c0_46 : Index := 0#32
  ![v81.toNat, 0, 0]
def k0_cond6 (i : grid0.Coords) : BitVec 1 :=
  let arg0 : BitVec 32 := BitVec.ofNat 32 (i 0).val
  let c0_i32_49 : BitVec 32 := 0#32
  let v88 : BitVec 1 := Scalar.cmpi .sgt arg0 c0_i32_49
  let v89 : BitVec 32 := Scalar.extui v88
  let c0_i32_50 : BitVec 32 := 0#32
  let v90 : BitVec 1 := Scalar.cmpi .ne v89 c0_i32_50
  v90

def k0_mult2 (i : grid0.Coords) : BitVec 32 :=
  let arg0 : BitVec 32 := BitVec.ofNat 32 (i 0).val
  let c640_i32 : BitVec 32 := 640#32
  let v94 : BitVec 32 := Scalar.muli arg0 c640_i32
  let c128_i32 : BitVec 32 := 128#32
  let v95 : BitVec 32 := Scalar.subi v94 c128_i32
  v95
def k0_off5 (i : grid0.Coords) : Fin 1 → Nat :=
  let arg0 : BitVec 32 := BitVec.ofNat 32 (i 0).val
  let c2_i32 : BitVec 32 := 2#32
  let c0_i32_35 : BitVec 32 := 0#32
  let v63 : BitVec 1 := Scalar.cmpi .eq c2_i32 c0_i32_35
  let c1_i32 : BitVec 32 := 1#32
  let v64 : BitVec 32 := Scalar.select v63 c1_i32 c2_i32
  let v65 : BitVec 32 := Scalar.remsi arg0 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  ![v72.toNat]
def k0_off6 (i : grid0.Coords) : Fin 2 → Nat :=
  let arg0 : BitVec 32 := BitVec.ofNat 32 (i 0).val
  let c640_i32 : BitVec 32 := 640#32
  let v94 : BitVec 32 := Scalar.muli arg0 c640_i32
  let c128_i32 : BitVec 32 := 128#32
  let v95 : BitVec 32 := Scalar.subi v94 c128_i32
  let v96 : BitVec 32 := v95
  let c0_i32_52 : BitVec 32 := 0#32
  ![v96.toNat, 0]
def k0_off7 (i : grid0.Coords) : Fin 3 → Nat :=
  let arg0 : BitVec 32 := BitVec.ofNat 32 (i 0).val
  let c2_i32 : BitVec 32 := 2#32
  let c0_i32_35 : BitVec 32 := 0#32
  let v63 : BitVec 1 := Scalar.cmpi .eq c2_i32 c0_i32_35
  let c1_i32 : BitVec 32 := 1#32
  let v64 : BitVec 32 := Scalar.select v63 c1_i32 c2_i32
  let v65 : BitVec 32 := Scalar.remsi arg0 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  let c0_i32_53 : BitVec 32 := 0#32
  let c0_i32_54 : BitVec 32 := 0#32
  ![v72.toNat, 0, 0]
def k0_cond7 (i : grid0.Coords) : BitVec 1 :=
  let arg0 : BitVec 32 := BitVec.ofNat 32 (i 0).val
  let c12_i32 : BitVec 32 := 12#32
  let v91 : BitVec 1 := Scalar.cmpi .eq arg0 c12_i32
  let v92 : BitVec 32 := Scalar.extui v91
  let c0_i32_51 : BitVec 32 := 0#32
  let v93 : BitVec 1 := Scalar.cmpi .ne v92 c0_i32_51
  v93

def k0_mult3 : BitVec 32 :=
  let c6912_i32 : BitVec 32 := 6912#32
  c6912_i32
def k0_mult4 : BitVec 32 :=
  let c7552_i32 : BitVec 32 := 7552#32
  c7552_i32
def k0_cond5 (i : grid0.Coords) : BitVec 1 :=
  let arg0 : BitVec 32 := BitVec.ofNat 32 (i 0).val
  let c0_i32_47 : BitVec 32 := 0#32
  let v85 : BitVec 1 := Scalar.cmpi .eq arg0 c0_i32_47
  let v86 : BitVec 32 := Scalar.extui v85
  let c0_i32_48 : BitVec 32 := 0#32
  let v87 : BitVec 1 := Scalar.cmpi .ne v86 c0_i32_48
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1792x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S640x1792 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S8320x1024 : Shape := ⟨2, ![8320, 1024]⟩
abbrev S1x1024 : Shape := ⟨2, ![1, 1024]⟩
abbrev S8320x512 : Shape := ⟨2, ![8320, 512]⟩
abbrev S8320x256 : Shape := ⟨2, ![8320, 256]⟩
abbrev S16x256 : Shape := ⟨2, ![16, 256]⟩
abbrev S1024x1792 : Shape := ⟨2, ![1024, 1792]⟩
abbrev S112x256 : Shape := ⟨2, ![112, 256]⟩
abbrev S8192x256 : Shape := ⟨2, ![8192, 256]⟩
abbrev S8320x1792 : Shape := ⟨2, ![8320, 1792]⟩
abbrev S_ : Shape := ⟨0, ![]⟩
abbrev S8320 : Shape := ⟨1, ![8320]⟩
abbrev S8320x1 : Shape := ⟨2, ![8320, 1]⟩
abbrev S1024 : Shape := ⟨1, ![1024]⟩
abbrev S8192x1024 : Shape := ⟨2, ![8192, 1024]⟩
abbrev S16x1024 : Shape := ⟨2, ![16, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8320x512, .f32⟩
  | .hbm, ⟨4, _⟩ => ⟨S8320x256, .f32⟩
  | .hbm, ⟨5, _⟩ => ⟨S16x256, .f32⟩
  | .hbm, ⟨6, _⟩ => ⟨S8320x512, .f32⟩
  | .hbm, ⟨7, _⟩ => ⟨S8320x512, .f32⟩
  | .hbm, ⟨8, _⟩ => ⟨S1024x1792, .f32⟩
  | .hbm, ⟨9, _⟩ => ⟨S112x256, .f32⟩
  | .hbm, ⟨10, _⟩ => ⟨S8192x256, .f32⟩
  | .hbm, ⟨11, _⟩ => ⟨S8320x256, .f32⟩
  | .hbm, ⟨12, _⟩ => ⟨S8320x1792, .f32⟩
  | .hbm, ⟨13, _⟩ => ⟨S8320x1024, .f32⟩
  | .hbm, ⟨14, _⟩ => ⟨S_, .f32⟩
  | .hbm, ⟨15, _⟩ => ⟨S8320, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x1, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1792, .f32⟩
  | .hbm, ⟨33, _⟩ => ⟨S8320x1024, .f32⟩
  | .hbm, ⟨34, _⟩ => ⟨S8320x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S_, .f32⟩
  | .hbm, ⟨42, _⟩ => ⟨S8320, .f32⟩
  | .hbm, ⟨43, _⟩ => ⟨S8320x1, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1, .f32⟩
  | .hbm, ⟨48, _⟩ => ⟨S_, .f32⟩
  | .hbm, ⟨49, _⟩ => ⟨S8320x1, .f32⟩
  | .hbm, ⟨50, _⟩ => ⟨S8320x1, .f32⟩
  | .hbm, ⟨51, _⟩ => ⟨S_, .f32⟩
  | .hbm, ⟨52, _⟩ => ⟨S8320, .f32⟩
  | .hbm, ⟨53, _⟩ => ⟨S8320x1024, .f32⟩
  | .hbm, ⟨54, _⟩ => ⟨S8320x1024, .f32⟩
  | .hbm, ⟨55, _⟩ => ⟨S8320x1024, .f32⟩
  | .hbm, ⟨56, _⟩ => ⟨S8320x1024, .f32⟩
  | .hbm, ⟨57, _⟩ => ⟨S8320x1024, .f32⟩
  | .hbm, ⟨58, _⟩ => ⟨S8192x1024, .f32⟩
  | .hbm, ⟨59, _⟩ => ⟨S16x1024, .f32⟩
  | .hbm, ⟨60, _⟩ => ⟨S8320x1792, .bf16⟩
  | .hbm, ⟨61, _⟩ => ⟨S8320x1024, .f32⟩
  | .hbm, ⟨62, _⟩ => ⟨S_, .f32⟩
  | .hbm, ⟨63, _⟩ => ⟨S8320, .f32⟩
  | .hbm, ⟨64, _⟩ => ⟨S8320x1, .f32⟩
  | .hbm, ⟨65, _⟩ => ⟨S_, .f32⟩
  | .hbm, ⟨66, _⟩ => ⟨S8320x1, .f32⟩
  | .hbm, ⟨67, _⟩ => ⟨S8320x1, .f32⟩
  | .hbm, ⟨68, _⟩ => ⟨S_, .f32⟩
  | .hbm, ⟨69, _⟩ => ⟨S8320x1, .f32⟩
  | .hbm, ⟨70, _⟩ => ⟨S8320x1, .f32⟩
  | .hbm, ⟨71, _⟩ => ⟨S8320x1, .f32⟩
  | .hbm, ⟨72, _⟩ => ⟨S8320x1024, .f32⟩
  | .hbm, ⟨73, _⟩ => ⟨S8320x1024, .f32⟩
  | .hbm, ⟨74, _⟩ => ⟨S8320x1024, .f32⟩
  | .hbm, ⟨75, _⟩ => ⟨S8320x1024, .f32⟩
  | .hbm, ⟨76, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel6.lean ====
abbrev S8192x1024 : Shape := ⟨2, ![8192, 1024]⟩
abbrev S16x1024 : Shape := ⟨2, ![16, 1024]⟩
abbrev S1x1024 : Shape := ⟨2, ![1, 1024]⟩
abbrev S1024x1792 : Shape := ⟨2, ![1024, 1792]⟩
abbrev S1792x1024 : Shape := ⟨2, ![1792, 1024]⟩
abbrev S8320x1024 : Shape := ⟨2, ![8320, 1024]⟩
abbrev S8320x512 : Shape := ⟨2, ![8320, 512]⟩
abbrev S8320x256 : Shape := ⟨2, ![8320, 256]⟩
abbrev S640x1024 : Shape := ⟨2, ![640, 1024]⟩
abbrev S640x512 : Shape := ⟨2, ![640, 512]⟩
abbrev S640x256 : Shape := ⟨2, ![640, 256]⟩
abbrev S2x640x1024 : Shape := ⟨3, ![2, 640, 1024]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S112x1024 : Shape := ⟨2, ![112, 1024]⟩
abbrev S1x112x1024 : Shape := ⟨3, ![1, 112, 1024]⟩
abbrev S1x16x1024 : Shape := ⟨3, ![1, 16, 1024]⟩
abbrev S1x640x1024 : Shape := ⟨3, ![1, 640, 1024]⟩
abbrev S640 : Shape := ⟨1, ![640]⟩
abbrev S640x1 : Shape := ⟨2, ![640, 1]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S1024x1792, .f32⟩
  | .hbm, ⟨4, _⟩ => ⟨S1792x1024, .f32⟩
  | .hbm, ⟨5, _⟩ => ⟨S1792x1024, .bf16⟩
  | .hbm, ⟨6, _⟩ => ⟨S8320x1024, .f32⟩
  | .hbm, ⟨7, _⟩ => ⟨S8320x512, .bf16⟩
  | .hbm, ⟨8, _⟩ => ⟨S8320x256, .bf16⟩
  | .hbm, ⟨9, _⟩ => ⟨S8320x512, .f32⟩
  | .hbm, ⟨10, _⟩ => ⟨S8320x512, .f32⟩
  | .local _ .vmem, ⟨0, _⟩ => ⟨S16x1024, .f32⟩
  | .local _ .vmem, ⟨1, _⟩ => ⟨S1x1024, .f32⟩
  | .local _ .vmem, ⟨2, _⟩ => ⟨S1792x1024, .bf16⟩
  | .local _ .vmem, ⟨3, _⟩ => ⟨S640x1024, .f32⟩
  | .local _ .vmem, ⟨4, _⟩ => ⟨S640x1024, .f32⟩
  | .local _ .vmem, ⟨5, _⟩ => ⟨S640x512, .bf16⟩
  | .local _ .vmem, ⟨6, _⟩ => ⟨S640x512, .bf16⟩
  | .local _ .vmem, ⟨7, _⟩ => ⟨S640x256, .bf16⟩
  | .local _ .vmem, ⟨8, _⟩ => ⟨S640x256, .bf16⟩
  | .local _ .vmem, ⟨9, _⟩ => ⟨S640x512, .f32⟩
  | .local _ .vmem, ⟨10, _⟩ => ⟨S640x512, .f32⟩
  | .local _ .vmem, ⟨11, _⟩ => ⟨S640x512, .f32⟩
  | .local _ .vmem, ⟨12, _⟩ => ⟨S640x512, .f32⟩
  | .local _ .vmem, ⟨13, _⟩ => ⟨S2x640x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c13_i32 : BitVec 32 := 13#32
  let v14 : BitVec 1 := Scalar.cmpi .slt v13 c13_i32
  let v15 : BitVec 32 := Scalar.extui v14
  let c0_i32_6 : BitVec 32 := 0#32
  let v16 : BitVec 1 := Scalar.cmpi .ne v15 c0_i32_6
  v16

def k0_mult1 (i : grid0.Coords) : BitVec 32 :=
  let arg0 : BitVec 32 := BitVec.ofNat 32 (i 0).val
  let c1_i32_35 : BitVec 32 := 1#32
  let v59 : BitVec 32 := Scalar.addi arg0 c1_i32_35
  let c640_i32 : BitVec 32 := 640#32
  let v61 : BitVec 32 := Scalar.muli v59 c640_i32
  let c128_i32 : BitVec 32 := 128#32
  let v62 : BitVec 32 := Scalar.subi v61 c128_i32
  v62
def k0_off1 (i : grid0.Coords) : Fin 1 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_36 v9
  ![v60.toNat]
def k0_off2 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_36 v9
  let c0_i32_37 : BitVec 32 := 0#32
  let c0_i32_38 : BitVec 32 := 0#32
  ![v60.toNat, 0, 0]
def k0_off3 (i : grid0.Coords) : Fin 2 → Nat :=
  let arg0 : BitVec 32 := BitVec.ofNat 32 (i 0).val
  let c1_i32_35 : BitVec 32 := 1#32
  let v59 : BitVec 32 := Scalar.addi arg0 c1_i32_35
  let c640_i32 : BitVec 32 := 640#32
  let v61 : BitVec 32 := Scalar.muli v59 c640_i32
  let c128_i32 : BitVec 32 := 128#32
  let v62 : BitVec 32 := Scalar.subi v61 c128_i32
  let v63 : BitVec 32 := v62
  let c0_i32_39 : BitVec 32 := 0#32
  ![v63.toNat, 0]
def k0_cond4 (i : grid0.Coords) : BitVec 1 :=
  let arg0 : BitVec 32 := BitVec.ofNat 32 (i 0).val
  let c0_i32_9 : BitVec 32 := 0#32
  let v20 : BitVec 1 := Scalar.cmpi .sgt arg0 c0_i32_9
  let v21 : BitVec 32 := Scalar.extui v20
  let c0_i32_10 : BitVec 32 := 0#32
  let v22 : BitVec 1 := Scalar.cmpi .ne v21 c0_i32_10
  v22

def k0_mult2 (i : grid0.Coords) : BitVec 32 :=
  let arg0 : BitVec 32 := BitVec.ofNat 32 (i 0).val
  let c640_i32 : BitVec 32 := 640#32
  let v59 : BitVec 32 := Scalar.muli arg0 c640_i32
  let c128_i32 : BitVec 32 := 128#32
  let v60 : BitVec 32 := Scalar.subi v59 c128_i32
  v60
def k0_off4 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_35 : BitVec 32 := 0#32
  let c0_i32_36 : BitVec 32 := 0#32
  ![v9.toNat, 0, 0]
def k0_off6 (i : grid0.Coords) : Fin 2 → Nat :=
  let arg0 : BitVec 32 := BitVec.ofNat 32 (i 0).val
  let c640_i32 : BitVec 32 := 640#32
  let v59 : BitVec 32 := Scalar.muli arg0 c640_i32
  let c128_i32 : BitVec 32 := 128#32
  let v60 : BitVec 32 := Scalar.subi v59 c128_i32
  let v61 : BitVec 32 := v60
  let c0_i32_37 : BitVec 32 := 0#32
  ![v61.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v23 : Index := Scalar.indexCast v9
  let c0 : Index := 0#32
  let c0_11 : Index := 0#32
  ![v23.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x1024 : Shape := ⟨2, ![8192, 1024]⟩
abbrev S16x1024 : Shape := ⟨2, ![16, 1024]⟩
abbrev S1x1024 : Shape := ⟨2, ![1, 1024]⟩
abbrev S1024x1792 : Shape := ⟨2, ![1024, 1792]⟩
abbrev S_ : Shape := ⟨0, ![]⟩
abbrev S112x1024 : Shape := ⟨2, ![112, 1024]⟩
abbrev S8320x1024 : Shape := ⟨2, ![8320, 1024]⟩
abbrev S8320 : Shape := ⟨1, ![8320]⟩
abbrev S8320x1 : Shape := ⟨2, ![8320, 1]⟩
abbrev S8320x1792 : Shape := ⟨2, ![8320, 1792]⟩
abbrev S8320x512 : Shape := ⟨2, ![8320, 512]⟩
abbrev S8320x256 : Shape := ⟨2, ![8320, 256]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S1024x1792, .f32⟩
  | .hbm, ⟨4, _⟩ => ⟨S_, .f32⟩
  | .hbm, ⟨5, _⟩ => ⟨S112x1024, .f32⟩
  | .hbm, ⟨6, _⟩ => ⟨S8320x1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1792, .f32⟩
  | .hbm, ⟨23, _⟩ => ⟨S8320x512, .f32⟩
  | .hbm, ⟨24, _⟩ => ⟨S8320x256, .f32⟩
  | .hbm, ⟨25, _⟩ => ⟨S8320x512, .f32⟩
  | .hbm, ⟨26, _⟩ => ⟨S8320x512, .f32⟩
  | .hbm, ⟨27, _⟩ => ⟨S8320x512, .bf16⟩
  | .hbm, ⟨28, _⟩ => ⟨S8320x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Formulas.lean ====
/-
  The formulas that the calls of the kernel compute, over the extended reals: products of two matrices in the three ways
  in which the calls contract them.
-/
module

public import Idealize.ShloMosaic.Lib.Pointwise

@[expose] public section

noncomputable section

namespace Cert.Value

open Idealize.ShloMosaic

/-- A matrix of `a` rows and `b` columns over the extended reals. -/
abbrev Mat (a b : Nat) : Type := (⟨2, ![a, b]⟩ : Shape).Idx → EReal

/-- Element `(m, n)` of the product of the transpose of `a` with `b`. -/
def colDot {K M N : Nat} (a : Mat K M) (b : Mat K N) (m : Fin M) (n : Fin N) : EReal :=
  ∑ k : Fin K, a (ix2 k m) * b (ix2 k n)

/-- Element `(m, n)` of the product of `a` with `b`. -/
def matDot {K M N : Nat} (a : Mat M K) (b : Mat K N) (m : Fin M) (n : Fin N) : EReal :=
  ∑ k : Fin K, a (ix2 m k) * b (ix2 k n)

/-- Element `(m, n)` of the product of `a` with the transpose of `b`. -/
def rowDot {K M N : Nat} (a : Mat M K) (b : Mat N K) (m : Fin M) (n : Fin N) : EReal :=
  ∑ k : Fin K, a (ix2 m k) * b (ix2 n k)

/-- The logistic function as the kernel writes it. -/
def logis (x : EReal) : EReal := Ideal.div 1 (1 + Ideal.exp (0 - x))

/-- The gradient of the gate's pre-activation, `dact · up · (s · (1 + gate · (1 - s)))` with `dact = dh · wdᵀ`. -/
def dGate {R : Nat} (dh : Mat R 1024) (gate up : Mat R 2816) (wd : Mat 2816 1024) (i : Fin R) (n : Fin 2816) : EReal :=
  rowDot dh wd i n * up (ix2 i n)
    * (logis (gate (ix2 i n)) * (1 + gate (ix2 i n) * (1 - logis (gate (ix2 i n)))))

/-- The gradient of the up-projection, `dact · (gate · s)` with `dact = dh · wdᵀ`. -/
def dUp {R : Nat} (dh : Mat R 1024) (gate : Mat R 2816) (wd : Mat 2816 1024) (i : Fin R) (n : Fin 2816) : EReal :=
  rowDot dh wd i n * (gate (ix2 i n) * logis (gate (ix2 i n)))

/-- The reciprocal root mean square of row `i` of `h`: `rsqrt (mean of the squares + ε)`. -/
def rstd {R : Nat} (h : Mat R 1024) (i : Fin R) : EReal :=
  Ideal.rsqrt (Ideal.div (∑ k : Fin 1024, h (ix2 i k) * h (ix2 i k)) (Ideal.ofBits .f32 0x44800000#32)
    + Ideal.ofBits .f32 0x3727C5AC#32)

/-- The gradient that reaches the normalised row: the two products of the gate's and the up-projection's gradients
    with the transposed weights, added. -/
def dNorm {R : Nat} (dgate dup : Mat R 2816) (wg wu : Mat 2816 1024) (i : Fin R) (n : Fin 1024) : EReal :=
  matDot dgate wg i n + matDot dup wu i n

/-- The normalised row, `(h · r) · g`. -/
def normed {R : Nat} (h : Mat R 1024) (g : Mat 1 1024) (i : Fin R) (n : Fin 1024) : EReal :=
  h (ix2 i n) * rstd h i * g (ix2 0 n)

/-- The gradient of the residual stream as the kernel writes it: `dh + r · (t - h · r² · mean (t · h))`, `t = dhn · g`. -/
def dStream {R : Nat} (dh h : Mat R 1024) (g : Mat 1 1024) (dgate dup : Mat R 2816) (wg wu : Mat 2816 1024)
    (i : Fin R) (n : Fin 1024) : EReal :=
  dh (ix2 i n) + rstd h i * (dNorm dgate dup wg wu i n * g (ix2 0 n)
    - h (ix2 i n) * (rstd h i * rstd h i)
      * Ideal.div (∑ k : Fin 1024, dNorm dgate dup wg wu i k * g (ix2 0 k) * h (ix2 i k)) (Ideal.ofBits .f32 0x44800000#32))

/-- What row `i` adds to the gradient of the normalisation's gain: `(dhn · h) · r`. -/
def dGainRow {R : Nat} (h : Mat R 1024) (dgate dup : Mat R 2816) (wg wu : Mat 2816 1024) (i : Fin R) (n : Fin 1024) : EReal :=
  dNorm dgate dup wg wu i n * h (ix2 i n) * rstd h i

/-! ## The same formulas as whole arrays, from the call's six arguments -/

/-- The transpose of a matrix. -/
def tr {M N : Nat} (a : Mat M N) : Mat N M := fun j => a (ix2 (j 1) (j 0))

/-- The normalised rows. -/
def hnA {R : Nat} (h : Mat R 1024) (g : Mat 1 1024) : Mat R 1024 := fun j => normed h g (j 0) (j 1)

/-- A projection of the normalised rows: the gate's pre-activation or the up-projection. -/
def projA {R : Nat} (h : Mat R 1024) (g : Mat 1 1024) (w : Mat 1024 2816) : Mat R 2816 := fun j => matDot (hnA h g) w (j 0) (j 1)

/-- A matrix times its logistic function, element by element. -/
def silu {M N : Nat} (a : Mat M N) : Mat M N := fun j => a j * logis (a j)

/-- The product of two matrices, element by element. -/
def times {M N : Nat} (a b : Mat M N) : Mat M N := fun j => a j * b j

/-- The activation, `silu (gate) · up`. -/
def actA {R : Nat} (h : Mat R 1024) (g : Mat 1 1024) (wg wu : Mat 1024 2816) : Mat R 2816 :=
  times (silu (projA h g wg)) (projA h g wu)

/-- The gradient of the gate's pre-activation. -/
def dGateA {R : Nat} (h : Mat R 1024) (g : Mat 1 1024) (wg wu : Mat 1024 2816) (wd : Mat 2816 1024) (dh : Mat R 1024) : Mat R 2816 :=
  fun j => dGate dh (projA h g wg) (projA h g wu) wd (j 0) (j 1)

/-- The gradient of the up-projection. -/
def dUpA {R : Nat} (h : Mat R 1024) (g : Mat 1 1024) (wg : Mat 1024 2816) (wd : Mat 2816 1024) (dh : Mat R 1024) : Mat R 2816 :=
  fun j => dUp dh (projA h g wg) wd (j 0) (j 1)

/-- The gradient of the residual stream. -/
def dStreamA {R : Nat} (h : Mat R 1024) (g : Mat 1 1024) (wg wu : Mat 1024 2816) (wd : Mat 2816 1024) (dh : Mat R 1024) : Mat R 1024 :=
  fun j => dStream dh h g (dGateA h g wg wu wd dh) (dUpA h g wg wd dh) (tr wg) (tr wu) (j 0) (j 1)

/-- The gradient of the normalisation's gain: every row's share, summed. -/
def dGainA {R : Nat} (h : Mat R 1024) (g : Mat 1 1024) (wg wu : Mat 1024 2816) (wd : Mat 2816 1024) (dh : Mat R 1024) : Mat 1 1024 :=
  fun j => ∑ i : Fin R, dGainRow h (dGateA h g wg wu wd dh) (dUpA h g wg wd dh) (tr wg) (tr wu) i (j 1)

/-- The gradient of the gate's weight. -/
def dWGateA {R : Nat} (h : Mat R 1024) (g : Mat 1 1024) (wg wu : Mat 1024 2816) (wd : Mat 2816 1024) (dh : Mat R 1024) : Mat 1024 2816 :=
  fun j => colDot (dGateA h g wg wu wd dh) (hnA h g) (j 1) (j 0)

/-- The gradient of the up-projection's weight. -/
def dWUpA {R : Nat} (h : Mat R 1024) (g : Mat 1 1024) (wg : Mat 1024 2816) (wd : Mat 2816 1024) (dh : Mat R 1024) : Mat 1024 2816 :=
  fun j => colDot (dUpA h g wg wd dh) (hnA h g) (j 1) (j 0)

/-- The gradient of the down-projection's weight. -/
def dWDownA {R : Nat} (h : Mat R 1024) (g : Mat 1 1024) (wg wu : Mat 1024 2816) (dh : Mat R 1024) : Mat 2816 1024 :=
  fun j => colDot (actA h g wg wu) dh (j 0) (j 1)

end Cert.Value

end
-- ==== Proof.Reals.lean ====
module

public import Idealize.ShloMosaic.Lib.Pointwise
public import Idealize.ShloMosaic.Lib.IdealHost
public import proofs.«01_k».proof.Proof.Formulas

@[expose] public section

noncomputable section

namespace Cert.Value

open Idealize.ShloMosaic

/-- `x` is a finite number. -/
def IsReal (x : EReal) : Prop := ∃ r : ℝ, x = r

namespace IsReal

theorem add {x y : EReal} (hx : IsReal x) (hy : IsReal y) : IsReal (x + y) := by
  obtain ⟨a, rfl⟩ := hx; obtain ⟨b, rfl⟩ := hy; exact ⟨a + b, by norm_cast⟩

theorem mul {x y : EReal} (hx : IsReal x) (hy : IsReal y) : IsReal (x * y) := by
  obtain ⟨a, rfl⟩ := hx; obtain ⟨b, rfl⟩ := hy; exact ⟨a * b, by norm_cast⟩

theorem sub {x y : EReal} (hx : IsReal x) (hy : IsReal y) : IsReal (x - y) := by
  obtain ⟨a, rfl⟩ := hx; obtain ⟨b, rfl⟩ := hy; exact ⟨a - b, by norm_cast⟩

theorem one : IsReal 1 := ⟨1, by norm_cast⟩

/-- A finite sum of finite numbers is the sum of the numbers. -/
theorem sum_coe {n : Nat} (f : Fin n → EReal) (a : Fin n → ℝ) (hf : ∀ k, f k = a k) : ∑ k, f k = ((∑ k, a k : ℝ) : EReal) := by
  rw [Finset.sum_congr rfl fun k _ => hf k]
  exact (map_sum (⟨⟨Real.toEReal, EReal.coe_zero⟩, EReal.coe_add⟩ : ℝ →+ EReal) a Finset.univ).symm

theorem sum {n : Nat} {f : Fin n → EReal} (hf : ∀ k, IsReal (f k)) : IsReal (∑ k, f k) := by
  choose a ha using hf
  exact ⟨_, sum_coe f a ha⟩

/-- The logistic function of a finite number is finite. -/
theorem logis {x : EReal} (hx : IsReal x) : IsReal (logis x) := by
  obtain ⟨a, rfl⟩ := hx
  have h : (1 + Real.exp (0 - a) : ℝ) ≠ 0 := by positivity
  refine ⟨1 / (1 + Real.exp (0 - a)), ?_⟩
  have e : (1 + Ideal.exp (0 - (a : EReal)) : EReal) = ((1 + Real.exp (0 - a) : ℝ) : EReal) := by
    rw [show (0 - (a : EReal)) = ((0 - a : ℝ) : EReal) by norm_cast, Ideal.exp_coe]; norm_cast
  unfold Value.logis
  rw [e, Ideal.div_coe h, one_mul]

end IsReal

/-- The divisor of a mean over a row. -/
theorem ofBits_1024 : Ideal.ofBits .f32 0x44800000#32 = ((1024 : ℝ) : EReal) := by
  simp [Ideal.ofBits, Ideal.ieee, -EReal.coe_mul]; norm_num

/-- Minus one half. -/
theorem ofBits_neg_half : Ideal.ofBits .f32 0xBF000000#32 = ((-(1 / 2) : ℝ) : EReal) := by
  simp [Ideal.ofBits, Ideal.ieee, -EReal.coe_mul]; norm_num

/-- The normalisation's `ε` is a positive number. -/
theorem ofBits_eps : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-- A finite row's statistic: with `q` the mean of the squares plus `ε`, a positive number, it is a number `r` with
    `r · r · q = 1`. -/
theorem rstd_real {R : Nat} (h : Mat R 1024) (i : Fin R) (hh : ∀ k, IsReal (h (ix2 i k))) :
    ∃ q r : ℝ, 0 < q ∧ r * r * q = 1
      ∧ Ideal.div (∑ k : Fin 1024, h (ix2 i k) * h (ix2 i k)) (Ideal.ofBits .f32 0x44800000#32) + Ideal.ofBits .f32 0x3727C5AC#32 = (q : EReal)
      ∧ rstd h i = r := by
  choose a ha using hh
  obtain ⟨e, he, hE⟩ := ofBits_eps
  have hs : ∑ k : Fin 1024, h (ix2 i k) * h (ix2 i k) = ((∑ k, a k * a k : ℝ) : EReal) :=
    IsReal.sum_coe _ _ fun k => by rw [ha k]; norm_cast
  have hq : Ideal.div (∑ k : Fin 1024, h (ix2 i k) * h (ix2 i k)) (Ideal.ofBits .f32 0x44800000#32) + Ideal.ofBits .f32 0x3727C5AC#32
      = (((∑ k, a k * a k) * (1 / 1024) + e : ℝ) : EReal) := by
    rw [hs, ofBits_1024, hE, Ideal.div_coe (by norm_num)]; norm_cast
  have hpos : 0 < (∑ k, a k * a k) * (1 / 1024) + e := by
    have : 0 ≤ ∑ k, a k * a k := Finset.sum_nonneg fun k _ => mul_self_nonneg _
    positivity
  refine ⟨_, (Real.sqrt ((∑ k, a k * a k) * (1 / 1024) + e))⁻¹, hpos, ?_, hq, ?_⟩
  · rw [← mul_inv, Real.mul_self_sqrt hpos.le, inv_mul_cancel₀ hpos.ne']
  · unfold rstd
    rw [hq, Ideal.rsqrt_coe, if_neg (not_lt.mpr hpos.le), if_neg hpos.ne']

/-- The two ways to write the gate's gradient agree on finite numbers. -/
theorem gate_identity {d x s : EReal} (hd : IsReal d) (hx : IsReal x) (hs : IsReal s) :
    d * s + x * d * (s * (1 - s)) = d * (s * (1 + x * (1 - s))) := by
  obtain ⟨d, rfl⟩ := hd; obtain ⟨x, rfl⟩ := hx; obtain ⟨s, rfl⟩ := hs
  norm_cast
  ring

/-- The two ways to write the residual stream's gradient agree on finite numbers: `S` the row's sum of `t · h`. -/
theorem stream_identity {dh t h S : EReal} {q r : ℝ} (hq : 0 < q) (hr : r * r * q = 1)
    (hdh : IsReal dh) (ht : IsReal t) (hh : IsReal h) (hS : IsReal S) :
    dh + t * r + h * Ideal.div (S * (Ideal.ofBits .f32 0xBF000000#32 * Ideal.div r q)) (Ideal.ofBits .f32 0x44800000#32)
      + Ideal.div (S * (Ideal.ofBits .f32 0xBF000000#32 * Ideal.div r q)) (Ideal.ofBits .f32 0x44800000#32) * h
      = dh + r * (t - h * (r * r) * Ideal.div S (Ideal.ofBits .f32 0x44800000#32)) := by
  obtain ⟨dh, rfl⟩ := hdh; obtain ⟨t, rfl⟩ := ht; obtain ⟨h, rfl⟩ := hh; obtain ⟨S, rfl⟩ := hS
  have hrr : r * r = 1 / q := by field_simp; linarith
  rw [ofBits_1024, ofBits_neg_half, Ideal.div_coe hq.ne', Ideal.div_coe (by norm_num), Ideal.div_coe (by norm_num)]
  norm_cast
  rw [hrr]
  ring

end Cert.Value
-- ==== Proof.Finite.lean ====
/-
  What the precondition says: every element of each of the six arguments is a finite number.
-/
module

public import proofs.«01_k».proof.Pre_finite
public import Idealize.ShloMosaic.Lib.ReduceAll
public import Idealize.ShloMosaic.Lib.Affine
public import proofs.«01_k».proof.Proof.Reals

@[expose] public section

set_option maxRecDepth 16384

noncomputable section

namespace Cert.Value

open Idealize.ShloMosaic Cert.Pre_finite Cert.Pre_finite.Facts

/-- The side conditions of the precondition's operations. -/
theorem preFacts : Cert.Pre_finite.Facts where
  bcast_S_S8320x1024 := by decide
  reducesTo_S8320x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

/-- A number whose absolute value lies below infinity is finite. -/
theorem isReal_of_abs_lt {x : EReal} (h : max x (-x) < ⊤) : IsReal x := by
  refine ⟨x.toReal, (EReal.coe_toReal ?_ ?_).symm⟩
  · rintro rfl; simp at h
  · rintro rfl; simp at h

/-- A conjunction of truth values is true where each of them is. -/
theorem andi_split (a b : IVec S_ 1) (j : S_.Idx) (h : andi a b j = 1#1) : a j = 1#1 ∧ b j = 1#1 := IntOp.andi_eq_one.1 h

/-- If the test "all absolute values are below infinity" of an array is true then each of its elements is finite. -/
theorem real_of_test {s : Shape} (bc : S_.BroadcastsInDim s (![] : Fin 0 → Fin s.rank)) (axes : List (Fin s.rank)) (rd : s.ReducesTo axes S_) (h0 : 0 < S_.numel)
    (x : FVec Ideal s .f32) (v : IVec S_ 1) (j : S_.Idx)
    (e : Host.reduce IntOp.andi (cmpf .olt (Host.absf x) (broadcastInDim s ![] bc (constant (F := Ideal) S_ .f32 0x7F800000#32))) v rd h0 j = 1#1)
    (i : s.Idx) : IsReal (x i) := by
  haveI : Subsingleton S_.Idx := ⟨fun a b => funext fun k => k.elim0⟩
  have h := Host.reduce_andi_all _ _ rd h0 j e i
  have h' : Ideal.cmp .olt (max (x i) (-(x i))) (Ideal.ofBits .f32 0x7F800000#32) = 1#1 := h
  have ht : Ideal.ofBits .f32 0x7F800000#32 = ⊤ := by simp [Ideal.ofBits, Ideal.ieee]
  rw [ht] at h'
  refine isReal_of_abs_lt ?_
  by_contra hn
  have : Ideal.cmp .olt (max (x i) (-(x i))) ⊤ = 0#1 := by
    show BitVec.ofBool (decide (_ < _)) = 0#1
    rw [decide_eq_false hn]; rfl
  rw [this] at h'
  exact absurd h' (by decide)

/-- The test of one argument: all its absolute values are below infinity. -/
def tested {s : Shape} (bc : S_.BroadcastsInDim s (![] : Fin 0 → Fin s.rank)) {axes : List (Fin s.rank)} (rd : s.ReducesTo axes S_) (h0 : 0 < S_.numel)
    (x : FVec Ideal s .f32) : IVec S_ 1 :=
  Host.reduce IntOp.andi (cmpf .olt (Host.absf x) (broadcastInDim s ![] bc (constant (F := Ideal) S_ .f32 0x7F800000#32))) (constantI S_ 1 1#1) rd h0

/-- Where the precondition holds, every element of every argument is finite. -/
theorem real_of_finite [Cert.Pre_finite.Facts] (h : FVec Ideal S8320x1024 .f32) (g : FVec Ideal S1x1024 .f32) (wg wu : FVec Ideal S1024x2816 .f32)
    (wd : FVec Ideal S2816x1024 .f32) (dh : FVec Ideal S8320x1024 .f32)
    (hp : Cert.Pre_finite.fn (F := Ideal) h g wg wu wd dh = fun _ => 1#1) :
    (∀ i, IsReal (h i)) ∧ (∀ i, IsReal (g i)) ∧ (∀ i, IsReal (wg i)) ∧ (∀ i, IsReal (wu i)) ∧ (∀ i, IsReal (wd i)) ∧ (∀ i, IsReal (dh i)) := by
  let j : S_.Idx := fun k => k.elim0
  have e : andi (andi (andi (andi (andi (tested bcast_S_S8320x1024 reducesTo_S8320x1024_S_d0_1 h_S_ h)
      (tested bcast_S_S1x1024 reducesTo_S1x1024_S_d0_1 h_S_ g)) (tested bcast_S_S1024x2816 reducesTo_S1024x2816_S_d0_1 h_S_ wg))
      (tested bcast_S_S1024x2816 reducesTo_S1024x2816_S_d0_1 h_S_ wu)) (tested bcast_S_S2816x1024 reducesTo_S2816x1024_S_d0_1 h_S_ wd))
      (tested bcast_S_S8320x1024 reducesTo_S8320x1024_S_d0_1 h_S_ dh) j = 1#1 := congrFun hp j
  obtain ⟨e, e5⟩ := andi_split _ _ j e
  obtain ⟨e, e4⟩ := andi_split _ _ j e
  obtain ⟨e, e3⟩ := andi_split _ _ j e
  obtain ⟨e, e2⟩ := andi_split _ _ j e
  obtain ⟨e0, e1⟩ := andi_split _ _ j e
  exact ⟨fun i => real_of_test _ _ _ _ h _ j e0 i, fun i => real_of_test _ _ _ _ g _ j e1 i, fun i => real_of_test _ _ _ _ wg _ j e2 i,
    fun i => real_of_test _ _ _ _ wu _ j e3 i, fun i => real_of_test _ _ _ _ wd _ j e4 i, fun i => real_of_test _ _ _ _ dh _ j e5 i⟩

end Cert.Value

end
-- ==== Proof.RefStages.lean ====
module

public import proofs.«01_k».proof.Proof.Gen.ReferenceIdeal.Read
public import Idealize.ShloMosaic.Lib.Pointwise
public import Idealize.ShloMosaic.Lib.Pipeline.ValueKit
public import proofs.«01_k».proof.Proof.Formulas

@[expose] public section

set_option maxRecDepth 16384

noncomputable section

namespace Cert.ReferenceIdeal.Stages

open Idealize.ShloMosaic Idealize.ShloMosaic.TcCoe Idealize.ShloMosaic.Tactic
open Cert.ReferenceIdeal Cert.ReferenceIdeal.Read Cert.Value

variable (h : Mat 8320 1024) (g : Mat 1 1024) (wg wu : Mat 1024 2816) (wd : Mat 2816 1024) (dh : Mat 8320 1024)

/-- The reciprocal root mean square of a row. -/
theorem rstd_eq (i : S8320x1.Idx) : val_main_v7 (F := Ideal) h i = rstd h (i 0) := by
  unfold rstd
  pointwise [val_main_v7, val_main_v6, val_main_v5, val_main_v4, val_main_v3, val_main_v2, val_main_v1, val_main_v0, val_main_cst,
    val_main_cst_0, val_main_cst_1]

/-- The normalised rows. -/
theorem hn_eq : val_main_v14 (F := Ideal) h g = hnA h g := by
  funext i
  unfold hnA normed
  pointwise [val_main_v14, val_main_v13, val_main_v12, val_main_v11, rstd_eq]

/-- The gate's pre-activation. -/
theorem gate_eq : val_main_v15 (F := Ideal) h g wg = projA h g wg := by
  funext i
  unfold projA matDot val_main_v15
  rw [hn_eq]
  pointwise

/-- The up-projection. -/
theorem up_eq : val_main_v17 (F := Ideal) h g wu = projA h g wu := by
  funext i
  unfold projA matDot val_main_v17
  rw [hn_eq]
  pointwise

/-- The logistic function of the gate. -/
theorem logis_eq (i : S8320x2816.Idx) : val_main_v16_2 (F := Ideal) h g wg i = logis (projA h g wg i) := by
  unfold logis
  rw [zero_sub]
  pointwise [val_main_v16_2, val_main_call0_v4, val_main_call0_v3, val_main_call0_v2, val_main_call0_v1, val_main_call0_v0,
    val_main_call0_cst, val_main_call0_cst_0, gate_eq]

/-- The activation. -/
theorem act_eq : val_main_v18 (F := Ideal) h g wg wu = actA h g wg wu := by
  funext i
  show val_main_v15 (F := Ideal) h g wg i * val_main_v16_2 (F := Ideal) h g wg i * val_main_v17 (F := Ideal) h g wu i = _
  rw [gate_eq, logis_eq, up_eq]
  rfl

/-- The gradient of the down-projection's weight. -/
theorem dwd_eq : val_main_v23 (F := Ideal) h g wg wu dh = dWDownA h g wg wu dh := by
  funext i
  unfold dWDownA colDot val_main_v23 val_main_v22 val_main_v21
  rw [act_eq]
  pointwise
  exact Finset.sum_congr rfl fun k _ => mul_comm _ _

/-- The gradient that reaches the activation. -/
theorem dact_eq (i : S8320x2816.Idx) : val_main_v24 (F := Ideal) wd dh i = rowDot dh wd (i 0) (i 1) := by
  unfold rowDot
  pointwise [val_main_v24, val_main_v21]

/-- The gradient of the up-projection. -/
theorem dup_eq : val_main_v25 (F := Ideal) h g wg wd dh = dUpA h g wg wd dh := by
  funext i
  show val_main_v15 (F := Ideal) h g wg i * val_main_v16_2 (F := Ideal) h g wg i * val_main_v24 (F := Ideal) wd dh i = _
  rw [gate_eq, logis_eq, dact_eq, mul_comm]
  unfold dUpA dUp
  idx_vars i

/-- The gradient of the gate's pre-activation as the reference computes it:
    `d · s + (x · d) · (s · (1 - s))` with `d = dact · up`. -/
theorem dgate_eq (i : S8320x2816.Idx) : val_main_v30 (F := Ideal) h g wg wu wd dh i
    = rowDot dh wd (i 0) (i 1) * projA h g wu i * logis (projA h g wg i)
      + projA h g wg i * (rowDot dh wd (i 0) (i 1) * projA h g wu i) * (logis (projA h g wg i) * (1 - logis (projA h g wg i))) := by
  pointwise [val_main_v30, val_main_call1_v1, val_main_call1_v2, val_main_call1_v0, val_main_v26, val_main_v16_1, val_main_call0_v7,
    val_main_call0_v6, val_main_call0_cst_1, gate_eq, logis_eq, dact_eq, up_eq]

variable (hdg : val_main_v30 (F := Ideal) h g wg wu wd dh = dGateA h g wg wu wd dh)
include hdg

/-- The gradient of the gate's weight. -/
theorem dwg_eq : val_main_v32 (F := Ideal) h g wg wu wd dh = dWGateA h g wg wu wd dh := by
  funext i
  unfold dWGateA colDot val_main_v32 val_main_v31
  rw [hdg, hn_eq]
  pointwise

omit hdg in
/-- The gradient of the up-projection's weight. -/
theorem dwu_eq : val_main_v28 (F := Ideal) h g wg wd dh = dWUpA h g wg wd dh := by
  funext i
  unfold dWUpA colDot val_main_v28 val_main_v27
  rw [dup_eq, hn_eq]
  pointwise

/-- The gradient that reaches the normalised rows. -/
theorem dnorm_eq (i : S8320x1024.Idx) : val_main_v34 (F := Ideal) h g wg wu wd dh i
    = dNorm (dGateA h g wg wu wd dh) (dUpA h g wg wd dh) (tr wg) (tr wu) (i 0) (i 1) := by
  unfold dNorm matDot val_main_v34 val_main_v33 val_main_v29 tr
  rw [hdg, dup_eq, add_comm]
  pointwise

/-- The gradient of the gain. -/
theorem dg_eq : val_main_v37 (F := Ideal) h g wg wu wd dh = dGainA h g wg wu wd dh := by
  funext i
  unfold dGainA dGainRow
  pointwise [val_main_v37, val_main_v36, val_main_cst_3, val_main_v35, val_main_v12, val_main_v11, rstd_eq, dnorm_eq h g wg wu wd dh hdg]
  exact Finset.sum_congr rfl fun k _ => by rw [mul_comm, mul_assoc]

omit hdg in
/-- The mean of a row's squares plus `ε`. -/
theorem var_eq (i : S8320x1.Idx) : val_main_v6 (F := Ideal) h i
    = Ideal.div (∑ k : Fin 1024, h (ix2 (i 0) k) * h (ix2 (i 0) k)) (Ideal.ofBits .f32 0x44800000#32) + Ideal.ofBits .f32 0x3727C5AC#32 := by
  pointwise [val_main_v6, val_main_v5, val_main_v4, val_main_v3, val_main_v2, val_main_v1, val_main_v0, val_main_cst,
    val_main_cst_0, val_main_cst_1]

/-- The gradient of the residual stream, as the reference computes it. -/
theorem dh_eq (i : S8320x1024.Idx) (q : EReal)
    (hq : Ideal.div (∑ k : Fin 1024, h (ix2 (i 0) k) * h (ix2 (i 0) k)) (Ideal.ofBits .f32 0x44800000#32) + Ideal.ofBits .f32 0x3727C5AC#32 = q)
    (S : EReal)
    (hS : ∑ k : Fin 1024, dNorm (dGateA h g wg wu wd dh) (dUpA h g wg wd dh) (tr wg) (tr wu) (i 0) k * g (ix2 0 k) * h (ix2 (i 0) k) = S) :
    val_main_v54 (F := Ideal) h g wg wu wd dh i
      = dh i + dNorm (dGateA h g wg wu wd dh) (dUpA h g wg wd dh) (tr wg) (tr wu) (i 0) (i 1) * g (ix2 0 (i 1)) * rstd h (i 0)
        + h i * Ideal.div (S * (Ideal.ofBits .f32 0xBF000000#32 * Ideal.div (rstd h (i 0)) q)) (Ideal.ofBits .f32 0x44800000#32)
        + Ideal.div (S * (Ideal.ofBits .f32 0xBF000000#32 * Ideal.div (rstd h (i 0)) q)) (Ideal.ofBits .f32 0x44800000#32) * h i := by
  rw [← hS, ← hq, show ∑ k : Fin 1024, dNorm (dGateA h g wg wu wd dh) (dUpA h g wg wd dh) (tr wg) (tr wu) (i 0) k * g (ix2 0 k) * h (ix2 (i 0) k)
    = ∑ k : Fin 1024, h (ix2 (i 0) k) * (dNorm (dGateA h g wg wu wd dh) (dUpA h g wg wd dh) (tr wg) (tr wu) (i 0) k * g (ix2 0 k))
    from Finset.sum_congr rfl fun k _ => mul_comm _ _]
  pointwise [val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_cst_4,
    val_main_cst_5, val_main_cst_6, val_main_v10, val_main_v9, val_main_v8, val_main_cst_2, rstd_eq, var_eq, dnorm_eq h g wg wu wd dh hdg]
  simp only [Fin.sum_univ_one]

end Cert.ReferenceIdeal.Stages
-- ==== Proof.Equation.lean ====
/-
  On finite arguments the reference computes the formulas: the two places where the reference and the kernel distribute a
  product over a sum differently.
-/
module

public import proofs.«01_k».proof.Proof.RefStages
public import proofs.«01_k».proof.Proof.Reals

@[expose] public section

set_option maxRecDepth 16384

noncomputable section

namespace Cert.Value

open Idealize.ShloMosaic

/-- Every element of a matrix is finite. -/
def AllReal {a b : Nat} (x : Mat a b) : Prop := ∀ j, IsReal (x j)

theorem AllReal.rowDot {K M N : Nat} {a : Mat M K} {b : Mat N K} (ha : AllReal a) (hb : AllReal b) (m : Fin M) (n : Fin N) :
    IsReal (rowDot a b m n) := IsReal.sum fun _ => (ha _).mul (hb _)

theorem AllReal.matDot {K M N : Nat} {a : Mat M K} {b : Mat K N} (ha : AllReal a) (hb : AllReal b) (m : Fin M) (n : Fin N) :
    IsReal (matDot a b m n) := IsReal.sum fun _ => (ha _).mul (hb _)

theorem AllReal.tr {M N : Nat} {a : Mat M N} (ha : AllReal a) : AllReal (tr a) := fun _ => ha _

section
variable {R : Nat} {h dh : Mat R 1024} {g : Mat 1 1024} {wg wu : Mat 1024 2816} {wd : Mat 2816 1024}
  (hh : AllReal h) (hg : AllReal g) (hwg : AllReal wg) (hwu : AllReal wu) (hwd : AllReal wd) (hdh : AllReal dh)

include hh hg

/-- The normalised rows of finite arguments are finite. -/
theorem hnA_real : AllReal (hnA h g) := fun j => by
  obtain ⟨_, r, -, -, -, hr⟩ := rstd_real h (j 0) fun k => hh _
  exact ((hh _).mul ⟨r, hr⟩).mul (hg _)

/-- A projection of them is finite. -/
theorem projA_real {w : Mat 1024 2816} (hw : AllReal w) : AllReal (projA h g w) := fun _ => (hnA_real hh hg).matDot hw _ _

include hwg hwu hwd hdh in
/-- The gate's gradient is finite. -/
theorem dGateA_real : AllReal (dGateA h g wg wu wd dh) := fun j => by
  have hx := projA_real hh hg hwg (ix2 (j 0) (j 1))
  have hs := hx.logis
  exact ((hdh.rowDot hwd _ _).mul (projA_real hh hg hwu _)).mul (hs.mul (IsReal.one.add (hx.mul (IsReal.one.sub hs))))

include hwg hwd hdh in
/-- The up-projection's gradient is finite. -/
theorem dUpA_real : AllReal (dUpA h g wg wd dh) := fun j => by
  have hx := projA_real hh hg hwg (ix2 (j 0) (j 1))
  exact (hdh.rowDot hwd _ _).mul (hx.mul hx.logis)

include hwg hwu hwd hdh in
/-- The gradient that reaches the normalised rows is finite. -/
theorem dNorm_real (i : Fin R) (n : Fin 1024) :
    IsReal (dNorm (dGateA h g wg wu wd dh) (dUpA h g wg wd dh) (tr wg) (tr wu) i n) :=
  ((dGateA_real hh hg hwg hwu hwd hdh).matDot hwg.tr _ _).add ((dUpA_real hh hg hwg hwd hdh).matDot hwu.tr _ _)

end

end Cert.Value

namespace Cert.ReferenceIdeal.Stages

open Idealize.ShloMosaic Idealize.ShloMosaic.Tactic Cert.ReferenceIdeal Cert.ReferenceIdeal.Read Cert.Value

variable {h : Mat 8320 1024} {g : Mat 1 1024} {wg wu : Mat 1024 2816} {wd : Mat 2816 1024} {dh : Mat 8320 1024}
  (hh : AllReal h) (hg : AllReal g) (hwg : AllReal wg) (hwu : AllReal wu) (hwd : AllReal wd) (hdh : AllReal dh)
include hh hg hwg hwu hwd hdh

/-- The reference's gradient of the gate is the kernel's. -/
theorem dgate_real : val_main_v30 (F := Ideal) h g wg wu wd dh = dGateA h g wg wu wd dh := by
  funext i
  rw [dgate_eq]
  refine (gate_identity ((hdh.rowDot hwd _ _).mul (projA_real hh hg hwu i)) (projA_real hh hg hwg i) (projA_real hh hg hwg i).logis).trans ?_
  unfold dGateA dGate
  idx_vars i

/-- The reference's gradient of the residual stream is the kernel's. -/
theorem dstream_real : val_main_v54 (F := Ideal) h g wg wu wd dh = dStreamA h g wg wu wd dh := by
  funext i
  obtain ⟨q, r, hq, hr, hv, hs⟩ := rstd_real h (i 0) fun k => hh _
  rw [dh_eq h g wg wu wd dh (dgate_real hh hg hwg hwu hwd hdh) i q hv _ rfl, hs]
  refine (stream_identity hq hr (hdh i) ((dNorm_real hh hg hwg hwu hwd hdh _ _).mul (hg _)) (hh i)
    (IsReal.sum fun k => ((dNorm_real hh hg hwg hwu hwd hdh _ _).mul (hg _)).mul (hh _))).trans ?_
  unfold dStreamA dStream
  rw [hs]
  idx_vars i

end Cert.ReferenceIdeal.Stages

end
-- ==== Proof.RunEnd.lean ====
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- Every run of the program ends with the five result arrays holding what the last boundary's contents say, and the
    six arguments unchanged. -/
theorem run : θ_run defs (onTc (τ := τ) (main (F := F))) ⟨m, fun _ => 0, ρ⟩ (fun r => ∀ c : Dev nD,
      r.2.mem ((c.tc : Thread nD τ).loc main_v25_1) = W9 m ρ c (Proc.devRef .tc main_v25_1)
      ∧ r.2.mem ((c.tc : Thread nD τ).loc main_v25_2) = W9 m ρ c (Proc.devRef .tc main_v25_2)
      ∧ r.2.mem ((c.tc : Thread nD τ).loc main_v29) = W9 m ρ c (Proc.devRef .tc main_v29)
      ∧ r.2.mem ((c.tc : Thread nD τ).loc main_v30) = W9 m ρ c (Proc.devRef .tc main_v30)
      ∧ r.2.mem ((c.tc : Thread nD τ).loc main_v28) = W9 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨h c _ (mem_uc main_v25_1 (by decide)),
       h c _ (mem_uc main_v25_2 (by decide)),
       h c _ (mem_uc main_v29 (by decide)),
       h c _ (mem_uc main_v30 (by decide)),
       h c _ (mem_uc main_v28 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Value
-- ==== Proof.HostIn.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt
public import proofs.«01_k».proof.Proof.Formulas

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Value

/-- The gate's pre-activation that the host lines make, as the calls take it. -/
theorem proj_gate (V : Valuation τ sig (Elt Ideal)) (j : S8320x2816.Idx) :
    StableHlo.after (hostOps0 (F := Ideal)) V (Proc.devRef .tc main_v14) j
      = projA (R := 8320) (V (Proc.devRef .tc main_arg0)) (V (Proc.devRef .tc main_arg1)) (V (Proc.devRef .tc main_arg2)) j := by
  unfold projA matDot hnA normed rstd
  after_reads_at

/-- The up-projection that the host lines make, as the calls take it. -/
theorem proj_up (V : Valuation τ sig (Elt Ideal)) (j : S8320x2816.Idx) :
    StableHlo.after (hostOps0 (F := Ideal)) V (Proc.devRef .tc main_v15) j
      = projA (R := 8320) (V (Proc.devRef .tc main_arg0)) (V (Proc.devRef .tc main_arg1)) (V (Proc.devRef .tc main_arg3)) j := by
  unfold projA matDot hnA normed rstd
  after_reads_at

/-- The gate's pre-activation, as the activation takes it. -/
theorem proj_gate_wide (V : Valuation τ sig (Elt Ideal)) (j : S8320x2816.Idx) :
    StableHlo.after (hostOps0 (F := Ideal)) V (Proc.devRef .tc main_v12) j
      = projA (R := 8320) (V (Proc.devRef .tc main_arg0)) (V (Proc.devRef .tc main_arg1)) (V (Proc.devRef .tc main_arg2)) j := by
  unfold projA matDot hnA normed rstd
  after_reads_at

/-- The up-projection, as the activation takes it. -/
theorem proj_up_wide (V : Valuation τ sig (Elt Ideal)) (j : S8320x2816.Idx) :
    StableHlo.after (hostOps0 (F := Ideal)) V (Proc.devRef .tc main_v13) j
      = projA (R := 8320) (V (Proc.devRef .tc main_arg0)) (V (Proc.devRef .tc main_arg1)) (V (Proc.devRef .tc main_arg3)) j := by
  unfold projA matDot hnA normed rstd
  after_reads_at

/-- The activation's first factor, from the gate's pre-activation. -/
theorem silu_of (V : Valuation τ sig (Elt Ideal)) (j : S8320x2816.Idx) :
    StableHlo.after (hostOps0_1 (F := Ideal)) V (Proc.devRef .tc main_v16) j
      = silu (V (Proc.devRef .tc main_v12) : Mat 8320 2816) j := by
  unfold silu logis
  rw [zero_sub]
  after_reads_at

/-- The activation, from its two factors. -/
theorem act_of (V : Valuation τ sig (Elt Ideal)) (j : S8320x2816.Idx) :
    StableHlo.after (hostOps0_2 (F := Ideal)) V (Proc.devRef .tc main_v18) j
      = times (V (Proc.devRef .tc main_v16) : Mat 8320 2816) (V (Proc.devRef .tc main_v13) : Mat 8320 2816) j := by
  unfold times
  after_reads_at

/-- The transposed gate's weight. -/
theorem tr_gate (V : Valuation τ sig (Elt Ideal)) (j : S2816x1024.Idx) :
    StableHlo.after (hostOps0_2 (F := Ideal)) V (Proc.devRef .tc main_v20) j = tr (V (Proc.devRef .tc main_arg2) : Mat 1024 2816) j := by
  unfold tr
  after_reads_at

/-- The transposed up-projection's weight. -/
theorem tr_up (V : Valuation τ sig (Elt Ideal)) (j : S2816x1024.Idx) :
    StableHlo.after (hostOps0_2 (F := Ideal)) V (Proc.devRef .tc main_v22) j = tr (V (Proc.devRef .tc main_arg3) : Mat 1024 2816) j := by
  unfold tr
  after_reads_at

/-- The down-projection's weight. -/
theorem down_of (V : Valuation τ sig (Elt Ideal)) (j : S2816x1024.Idx) :
    StableHlo.after (hostOps0_2 (F := Ideal)) V (Proc.devRef .tc main_v23) j = (V (Proc.devRef .tc main_arg4) : Mat 2816 1024) j := by
  after_reads_at

/-- The gradient of the gate's weight, transposed back after the calls. -/
theorem out_tr_gate (V : Valuation τ sig (Elt Ideal)) (j : S1024x2816.Idx) :
    StableHlo.after (hostOps5 (F := Ideal)) V (Proc.devRef .tc main_v29) j = tr (V (Proc.devRef .tc main_v26) : Mat 2816 1024) j := by
  unfold tr
  after_reads_at

/-- The gradient of the up-projection's weight, transposed back after the calls. -/
theorem out_tr_up (V : Valuation τ sig (Elt Ideal)) (j : S1024x2816.Idx) :
    StableHlo.after (hostOps5 (F := Ideal)) V (Proc.devRef .tc main_v30) j = tr (V (Proc.devRef .tc main_v27) : Mat 2816 1024) j := by
  unfold tr
  after_reads_at

variable (m : (ℓ : Loc nD τ sig) → Buf (Elt Ideal) ℓ) (ρ : Dev nD → PrngReg)

/-- The gate's pre-activation when the first call starts. -/
theorem W3_gate (c : Dev nD) : W3 m ρ c (Proc.devRef .tc main_v14)
    = projA (R := 8320) (m ((c : Thread nD τ).loc main_arg0)) (m ((c : Thread nD τ).loc main_arg1)) (m ((c : Thread nD τ).loc main_arg2)) :=
  (W3_of m ρ c _ (by decide)).trans ((W2_of m ρ c _ (by decide)).trans (funext fun j => proj_gate (W0 m ρ c) j))

/-- The up-projection when the first call starts. -/
theorem W3_up (c : Dev nD) : W3 m ρ c (Proc.devRef .tc main_v15)
    = projA (R := 8320) (m ((c : Thread nD τ).loc main_arg0)) (m ((c : Thread nD τ).loc main_arg1)) (m ((c : Thread nD τ).loc main_arg3)) :=
  (W3_of m ρ c _ (by decide)).trans ((W2_of m ρ c _ (by decide)).trans (funext fun j => proj_up (W0 m ρ c) j))

/-- The activation when the first call starts. -/
theorem W3_act (c : Dev nD) : W3 m ρ c (Proc.devRef .tc main_v18)
    = actA (R := 8320) (m ((c : Thread nD τ).loc main_arg0)) (m ((c : Thread nD τ).loc main_arg1)) (m ((c : Thread nD τ).loc main_arg2))
        (m ((c : Thread nD τ).loc main_arg3)) := by
  have e12 : W1 m ρ c (Proc.devRef .tc main_v12) = projA (R := 8320) (m ((c : Thread nD τ).loc main_arg0)) (m ((c : Thread nD τ).loc main_arg1))
      (m ((c : Thread nD τ).loc main_arg2)) := funext fun j => proj_gate_wide (W0 m ρ c) j
  have e13 : W2 m ρ c (Proc.devRef .tc main_v13) = projA (R := 8320) (m ((c : Thread nD τ).loc main_arg0)) (m ((c : Thread nD τ).loc main_arg1))
      (m ((c : Thread nD τ).loc main_arg3)) := (W2_of m ρ c _ (by decide)).trans (funext fun j => proj_up_wide (W0 m ρ c) j)
  have e16 : W2 m ρ c (Proc.devRef .tc main_v16) = silu (projA (R := 8320) (m ((c : Thread nD τ).loc main_arg0))
      (m ((c : Thread nD τ).loc main_arg1)) (m ((c : Thread nD τ).loc main_arg2))) :=
    (funext fun j => silu_of (W1 m ρ c) j).trans (congrArg silu e12)
  exact (funext fun j => act_of (W2 m ρ c) j).trans (congrArg₂ times e16 e13)

/-- The transposed gate's weight when the first call starts. -/
theorem W3_wg (c : Dev nD) : W3 m ρ c (Proc.devRef .tc main_v20) = tr (m ((c : Thread nD τ).loc main_arg2) : Mat 1024 2816) := by
  rw [← W2_args m ρ c main_arg2 (by decide)]
  exact funext fun j => tr_gate (W2 m ρ c) j

/-- The transposed up-projection's weight when the first call starts. -/
theorem W3_wu (c : Dev nD) : W3 m ρ c (Proc.devRef .tc main_v22) = tr (m ((c : Thread nD τ).loc main_arg3) : Mat 1024 2816) := by
  rw [← W2_args m ρ c main_arg3 (by decide)]
  exact funext fun j => tr_up (W2 m ρ c) j

/-- The down-projection's weight when the first call starts. -/
theorem W3_wd (c : Dev nD) : W3 m ρ c (Proc.devRef .tc main_v23) = m ((c : Thread nD τ).loc main_arg4) := by
  rw [← W2_args m ρ c main_arg4 (by decide)]
  exact funext fun j => down_of (W2 m ρ c) j

end Cert.KernelIdeal.Value
-- ==== Proof.FfnAct.lean ====
module

public import proofs.«01_k».proof.Proof.Gen.KernelIdeal.Frame.Region0
public import Idealize.ShloMosaic.Lib.Pipeline.ValueKit
public import Idealize.ShloMosaic.Lib.Pointwise
public import proofs.«01_k».proof.Proof.Formulas

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Value

variable (V : (c : Dev nD) → (b : Ref sig .tc) → Buf (Elt Ideal) ((c : Thread nD τ).loc b))

/-- The blocks of the six windows at a grid point: the rows' windows walk down the rows, the weight stays. -/
theorem idx0 : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0])

/-- The gate gradients that one block of rows stores. -/
theorem out_gate (dh : Vec Ideal S640x1024 .f32) (ga up : Vec Ideal S640x2816 .bf16) (wd : Vec Ideal S2816x1024 .bf16) (y : S640x2816.Idx) :
    out0_4 dh ga up wd y = dGate dh ga up wd (y 0) (y 1) := by
  unfold_out out0_4
  canon_tiles x h
  all_goals unfold dGate rowDot logis
  all_goals open_payloads
  all_goals pointwise
  all_goals blk_point [h0, h1]

/-- The up-projection gradients that one block of rows stores. -/
theorem out_up (dh : Vec Ideal S640x1024 .f32) (ga up : Vec Ideal S640x2816 .bf16) (wd : Vec Ideal S2816x1024 .bf16) (y : S640x2816.Idx) :
    out0_5 dh ga up wd y = dUp dh ga wd (y 0) (y 1) := by
  unfold_out out0_5
  canon_tiles x h
  all_goals unfold dUp rowDot logis
  all_goals open_payloads
  all_goals pointwise
  all_goals blk_point [h0, h1]

/-- The gate gradients, as the call leaves them. -/
theorem arr0_gate (c : Dev nD) : (dat0 V c).arrAt 4 cfg0.N
    = fun j : S8320x2816.Idx => dGate (V c main_arg5 : Mat 8320 1024) (V c main_v14 : Mat 8320 2816) (V c main_v15 : Mat 8320 2816)
        (V c main_v23 : Mat 2816 1024) (j 0) (j 1) := by
  refine (dat0 V c).arrAt_eq_of_covers 4 _ (by decide +kernel) fun t hf y => ?_
  blk_simp
  have hN : t.val < 13 := lt_of_lt_of_eq t.isLt N_0
  rw [after0_4, out_gate]
  unfold dGate rowDot
  blk_point [iblk0, idx0 t]

/-- The up-projection gradients, as the call leaves them. -/
theorem arr0_up (c : Dev nD) : (dat0 V c).arrAt 5 cfg0.N
    = fun j : S8320x2816.Idx => dUp (V c main_arg5 : Mat 8320 1024) (V c main_v14 : Mat 8320 2816)
        (V c main_v23 : Mat 2816 1024) (j 0) (j 1) := by
  refine (dat0 V c).arrAt_eq_of_covers 5 _ (by decide +kernel) fun t hf y => ?_
  blk_simp
  have hN : t.val < 13 := lt_of_lt_of_eq t.isLt N_0
  rw [after0_5, out_up]
  unfold dUp rowDot
  blk_point [iblk0, idx0 t]

end Cert.KernelIdeal.Value
-- ==== Proof.NormBwd.lean ====
/-
  What the call `ffn_bwd_in` leaves in its three results: the normalised rows, the gradient of the residual stream and
  the gradient of the normalisation's gain, the last summed over the thirteen row tiles.
-/
module

public import proofs.«01_k».proof.Proof.Gen.KernelIdeal.Frame.Region1
public import Idealize.ShloMosaic.Lib.Pipeline.ValueKit
public import Idealize.ShloMosaic.Lib.Pointwise
public import proofs.«01_k».proof.Proof.Formulas

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Value

variable (V : (c : Dev nD) → (b : Ref sig .tc) → Buf (Elt Ideal) ((c : Thread nD τ).loc b))

/-- The block index of every window of the call at a point: the row tile is the point. -/
theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![t.val, 0] ∧ win1_8.index t = ![t.val, 0] ∧ win1_9.index t = ![0, 0] :=
  (by decide +kernel : ∀ t : Fin grid1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![t.val, 0] ∧ win1_8.index t = ![t.val, 0] ∧ win1_9.index t = ![0, 0])

/-- The row statistic of a block. -/
theorem rstd_pay (h : Vec Ideal S640x1024 .f32) (j : S640x1.Idx) : k1_pay5 h j = rstd h (j 0) := by
  pointwise [k1_pay5, rstd]

/-- The gradient at the normalised rows of a block. -/
theorem dNorm_pay (a : Vec Ideal S640x2816 .bf16) (wg : Vec Ideal S2816x1024 .bf16) (b : Vec Ideal S640x2816 .bf16)
    (wu : Vec Ideal S2816x1024 .bf16) (j : S640x1024.Idx) : k1_pay4 a wg b wu j = dNorm a b wg wu (j 0) (j 1) := by
  pointwise [k1_pay4, dNorm, matDot]

/-- The normalised rows of a block. -/
theorem normed_pay (h : Vec Ideal S640x1024 .f32) (g : Vec Ideal S1x1024 .f32) (j : S640x1024.Idx) :
    k1_pay6 h g j = normed h g (j 0) (j 1) := by
  pointwise [k1_pay6, normed, rstd_pay]

/-- The gradient of the residual stream in a block. -/
theorem dStream_pay (dh h : Vec Ideal S640x1024 .f32) (g : Vec Ideal S1x1024 .f32) (a b : Vec Ideal S640x2816 .bf16)
    (wg wu : Vec Ideal S2816x1024 .bf16) (j : S640x1024.Idx) :
    k1_pay1 (k1_pay5 h) (k1_pay7 a wg b wu g) (k1_pay8 h) (k1_pay9 a wg b wu h g) dh j = dStream dh h g a b wg wu (j 0) (j 1) := by
  pointwise [k1_pay1, k1_pay7, k1_pay8, k1_pay9, dStream, rstd_pay, dNorm_pay]

/-- What a block adds to the gradient of the gain. -/
theorem dGain_pay (h : Vec Ideal S640x1024 .f32) (a b : Vec Ideal S640x2816 .bf16)
    (wg wu : Vec Ideal S2816x1024 .bf16) (acc : Vec Ideal S1x1024 .f32) (j : S1x1024.Idx) :
    k1_pay2 (k1_pay4 a wg b wu) h (k1_pay5 h) acc j = acc j + ∑ i : Fin 640, dGainRow h a b wg wu i (j 1) := by
  pointwise [k1_pay2, dGainRow, rstd_pay, dNorm_pay]

/-- The block that the reset stores is zero. -/
theorem zero1 (j : S1x1024.Idx) : k1_pay3 (F := Ideal) j = 0 := by
  pointwise [k1_pay3]

/-- The normalised rows, as the call leaves them. -/
theorem arr1_hn (c : Dev nD) : (dat1 V c).arrAt 7 cfg1.N
    = fun j : S8320x1024.Idx => normed (V c main_arg0 : Mat 8320 1024) (V c main_arg1 : Mat 1 1024) (j 0) (j 1) := by
  refine (dat1 V c).arrAt_eq_of_covers 7 _ (by decide +kernel) fun t hf y => ?_
  blk_simp
  have key : (outsAt1 V c t.val t.isLt).1 y = normed (iblk1 V c 1 t : Mat 640 1024) (iblk1 V c 2 t : Mat 1 1024) (y 0) (y 1) := by
    by_cases h0 : t.val % 13 = 0
    · rw [outsAt1_A V c t h0]; frame_out; rw [normed_pay]
    · rw [outsAt1_B V c t h0]; frame_out; rw [normed_pay]
  rw [after1_7, key]
  have hN : t.val < 13 := lt_of_lt_of_eq t.isLt N_1
  unfold normed rstd
  blk_point [iblk1, idx1 t]

/-- The gradient of the residual stream, as the call leaves it. -/
theorem arr1_dh (c : Dev nD) : (dat1 V c).arrAt 8 cfg1.N
    = fun j : S8320x1024.Idx => dStream (V c main_arg5 : Mat 8320 1024) (V c main_arg0 : Mat 8320 1024) (V c main_arg1 : Mat 1 1024)
        (V c main_v24_0 : Mat 8320 2816) (V c main_v24_1 : Mat 8320 2816) (V c main_v20 : Mat 2816 1024)
        (V c main_v22 : Mat 2816 1024) (j 0) (j 1) := by
  refine (dat1 V c).arrAt_eq_of_covers 8 _ (by decide +kernel) fun t hf y => ?_
  blk_simp
  have key : (outsAt1 V c t.val t.isLt).2.1 y = dStream (iblk1 V c 0 t : Mat 640 1024) (iblk1 V c 1 t : Mat 640 1024)
      (iblk1 V c 2 t : Mat 1 1024) (iblk1 V c 3 t : Mat 640 2816) (iblk1 V c 4 t : Mat 640 2816)
      (iblk1 V c 5 t : Mat 2816 1024) (iblk1 V c 6 t : Mat 2816 1024) (y 0) (y 1) := by
    by_cases h0 : t.val % 13 = 0
    · rw [outsAt1_A V c t h0]; frame_out; rw [dStream_pay]
    · rw [outsAt1_B V c t h0]; frame_out; rw [dStream_pay]
  rw [after1_8, key]
  have hN : t.val < 13 := lt_of_lt_of_eq t.isLt N_1
  unfold dStream rstd dNorm matDot
  blk_point [iblk1, idx1 t]

/-- The gradient of the gain, as the call leaves it: the sum over all rows. -/
theorem arr1_dg (c : Dev nD) : (dat1 V c).arrAt 9 cfg1.N
    = fun j : S1x1024.Idx => ∑ i : Fin 8320, dGainRow (V c main_arg0 : Mat 8320 1024)
        (V c main_v24_0 : Mat 8320 2816) (V c main_v24_1 : Mat 8320 2816) (V c main_v20 : Mat 2816 1024)
        (V c main_v22 : Mat 2816 1024) i (j 1) := by
  refine (dat1 V c).arrAt_eq_of_covers 9 _ (by decide +kernel) fun t hf y => ?_
  blk_simp
  rw [after1_9, Pipeline.eq_sum_fin_of_reset_step_apply_of_flush (fun n h => (outsAt1 V c n h).2.2) 13 (fun _ => 0) _
    (fun t h j => by rw [outsAt1_A V c t h]; frame_out; rw [dGain_pay, zero1])
    (fun t h j => by rw [outsAt1_B V c t h]; frame_out; rw [dGain_pay]) t ((flush1_9 t).mp hf) y, zero_add]
  refine Fin.sum_mul_add_congr fun s k hl => ?_
  have hN : t.val < 13 := lt_of_lt_of_eq t.isLt N_1
  have e0 : 13 * (t.val / 13) + s.val = s.val := by omega
  unfold dGainRow rstd dNorm matDot
  blk_point [iblk1, idx1 t, idx1 ⟨s.val, lt_of_lt_of_eq s.isLt N_1.symm⟩, e0]

end Cert.KernelIdeal.Value

end
-- ==== Proof.WGrad2.lean ====
/-
  What the call `wgrad_gate` leaves in its result: the product of the transpose of its first operand with its second one,
  summed over all 8320 rows, taken 1664 rows at a time.
-/
module

public import proofs.«01_k».proof.Proof.Gen.KernelIdeal.Frame.Region2
public import Idealize.ShloMosaic.Lib.Pipeline.ValueKit
public import Idealize.ShloMosaic.Lib.Pointwise
public import proofs.«01_k».proof.Proof.Formulas

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Value

variable (V : (c : Dev nD) → (b : Ref sig .tc) → Buf (Elt Ideal) ((c : Thread nD τ).loc b))

/-- The block index of every window of the call at a point: the row tile is `t % 5`, the column tile `t / 5`. -/
theorem idx2 : ∀ t : Fin cfg2.N, win2_0.index t = ![t.val % 5, t.val / 5] ∧ win2_1.index t = ![t.val % 5, 0]
    ∧ win2_2.index t = ![t.val / 5, 0] :=
  (by decide +kernel : ∀ t : Fin grid2.N, win2_0.index t = ![t.val % 5, t.val / 5] ∧ win2_1.index t = ![t.val % 5, 0]
    ∧ win2_2.index t = ![t.val / 5, 0])

/-- The block that the reset stores is zero. -/
theorem zero2 (j : S1408x1024.Idx) : k2_pay1 (F := Ideal) j = 0 := by
  pointwise [k2_pay1]

/-- What one point adds: the product of the transposed first block with the second, read at an element. -/
theorem pay2 (acc : Vec Ideal S1408x1024 .f32) (a : Vec Ideal S1664x1408 .bf16) (b : Vec Ideal S1664x1024 .bf16) (j : S1408x1024.Idx) :
    k2_pay2 acc a b j = acc j + ∑ k : Fin 1664, a (ix2 k (j 0)) * b (ix2 k (j 1)) := by
  pointwise [k2_pay2]

/-- The result array: element `(m, n)` is the sum over the rows of the products of the operands' elements. -/
theorem arr2 (c : Dev nD) : (dat2 V c).arrAt 2 cfg2.N
    = fun j : S2816x1024.Idx => colDot (V c main_v24_0 : Mat 8320 2816) (V c main_v25_0 : Mat 8320 1024) (j 0) (j 1) := by
  refine (dat2 V c).arrAt_eq_of_covers 2 _ (by decide +kernel) fun t hf y => ?_
  blk_simp
  rw [after2_2, Pipeline.eq_sum_fin_of_reset_step_apply_of_flush (fun n h => outsAt2 V c n h) 5 (fun _ => 0) _
    (fun t h j => by rw [outsAt2_A V c t h]; frame_out; rw [pay2, zero2])
    (fun t h j => by rw [outsAt2_B V c t h]; frame_out; rw [pay2]) t ((flush2_2 t).mp hf) y, zero_add]
  unfold colDot
  refine Fin.sum_mul_add_congr fun s k hl => ?_
  have hN : t.val < 10 := lt_of_lt_of_eq t.isLt N_2
  have e0 : (5 * (t.val / 5) + s.val) % 5 = s.val := by omega
  have e1 : (5 * (t.val / 5) + s.val) / 5 = t.val / 5 := by omega
  congr 1
  · blk_ext [iblk2, idx2 t, (idx2 ⟨5 * (t.val / 5) + s.val, Pipeline.run_point_lt_of_flush t ((flush2_2 t).mp hf) s⟩), e0, e1]
  · blk_ext [iblk2, idx2 t, (idx2 ⟨5 * (t.val / 5) + s.val, Pipeline.run_point_lt_of_flush t ((flush2_2 t).mp hf) s⟩), e0, e1]

end Cert.KernelIdeal.Value

end
-- ==== Proof.WGrad3.lean ====
/-
  What the call `wgrad_up` leaves in its result: the product of the transpose of its first operand with its second one,
  summed over all 8320 rows, taken 1664 rows at a time.
-/
module

public import proofs.«01_k».proof.Proof.Gen.KernelIdeal.Frame.Region3
public import Idealize.ShloMosaic.Lib.Pipeline.ValueKit
public import Idealize.ShloMosaic.Lib.Pointwise
public import proofs.«01_k».proof.Proof.Formulas

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Value

variable (V : (c : Dev nD) → (b : Ref sig .tc) → Buf (Elt Ideal) ((c : Thread nD τ).loc b))

/-- The block index of every window of the call at a point: the row tile is `t % 5`, the column tile `t / 5`. -/
theorem idx3 : ∀ t : Fin cfg3.N, win3_0.index t = ![t.val % 5, t.val / 5] ∧ win3_1.index t = ![t.val % 5, 0]
    ∧ win3_2.index t = ![t.val / 5, 0] :=
  (by decide +kernel : ∀ t : Fin grid3.N, win3_0.index t = ![t.val % 5, t.val / 5] ∧ win3_1.index t = ![t.val % 5, 0]
    ∧ win3_2.index t = ![t.val / 5, 0])

/-- The block that the reset stores is zero. -/
theorem zero3 (j : S1408x1024.Idx) : k3_pay1 (F := Ideal) j = 0 := by
  pointwise [k3_pay1]

/-- What one point adds: the product of the transposed first block with the second, read at an element. -/
theorem pay3 (acc : Vec Ideal S1408x1024 .f32) (a : Vec Ideal S1664x1408 .bf16) (b : Vec Ideal S1664x1024 .bf16) (j : S1408x1024.Idx) :
    k3_pay2 acc a b j = acc j + ∑ k : Fin 1664, a (ix2 k (j 0)) * b (ix2 k (j 1)) := by
  pointwise [k3_pay2]

/-- The result array: element `(m, n)` is the sum over the rows of the products of the operands' elements. -/
theorem arr3 (c : Dev nD) : (dat3 V c).arrAt 2 cfg3.N
    = fun j : S2816x1024.Idx => colDot (V c main_v24_1 : Mat 8320 2816) (V c main_v25_0 : Mat 8320 1024) (j 0) (j 1) := by
  refine (dat3 V c).arrAt_eq_of_covers 2 _ (by decide +kernel) fun t hf y => ?_
  blk_simp
  rw [after3_2, Pipeline.eq_sum_fin_of_reset_step_apply_of_flush (fun n h => outsAt3 V c n h) 5 (fun _ => 0) _
    (fun t h j => by rw [outsAt3_A V c t h]; frame_out; rw [pay3, zero3])
    (fun t h j => by rw [outsAt3_B V c t h]; frame_out; rw [pay3]) t ((flush3_2 t).mp hf) y, zero_add]
  unfold colDot
  refine Fin.sum_mul_add_congr fun s k hl => ?_
  have hN : t.val < 10 := lt_of_lt_of_eq t.isLt N_2
  have e0 : (5 * (t.val / 5) + s.val) % 5 = s.val := by omega
  have e1 : (5 * (t.val / 5) + s.val) / 5 = t.val / 5 := by omega
  congr 1
  · blk_ext [iblk3, idx3 t, (idx3 ⟨5 * (t.val / 5) + s.val, Pipeline.run_point_lt_of_flush t ((flush3_2 t).mp hf) s⟩), e0, e1]
  · blk_ext [iblk3, idx3 t, (idx3 ⟨5 * (t.val / 5) + s.val, Pipeline.run_point_lt_of_flush t ((flush3_2 t).mp hf) s⟩), e0, e1]

end Cert.KernelIdeal.Value

end
-- ==== Proof.WGrad4.lean ====
/-
  What the call `wgrad_down` leaves in its result: the product of the transpose of its first operand with its second one,
  summed over all 8320 rows, taken 1664 rows at a time.
-/
module

public import proofs.«01_k».proof.Proof.Gen.KernelIdeal.Frame.Region4
public import Idealize.ShloMosaic.Lib.Pipeline.ValueKit
public import Idealize.ShloMosaic.Lib.Pointwise
public import proofs.«01_k».proof.Proof.Formulas

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Value

variable (V : (c : Dev nD) → (b : Ref sig .tc) → Buf (Elt Ideal) ((c : Thread nD τ).loc b))

/-- The block index of every window of the call at a point: the row tile is `t % 5`, the column tile `t / 5`. -/
theorem idx4 : ∀ t : Fin cfg4.N, win4_0.index t = ![t.val % 5, t.val / 5] ∧ win4_1.index t = ![t.val % 5, 0]
    ∧ win4_2.index t = ![t.val / 5, 0] :=
  (by decide +kernel : ∀ t : Fin grid4.N, win4_0.index t = ![t.val % 5, t.val / 5] ∧ win4_1.index t = ![t.val % 5, 0]
    ∧ win4_2.index t = ![t.val / 5, 0])

/-- The block that the reset stores is zero. -/
theorem zero4 (j : S1408x1024.Idx) : k4_pay1 (F := Ideal) j = 0 := by
  pointwise [k4_pay1]

/-- What one point adds: the product of the transposed first block with the second, read at an element. -/
theorem pay4 (acc : Vec Ideal S1408x1024 .f32) (a : Vec Ideal S1664x1408 .bf16) (b : Vec Ideal S1664x1024 .f32) (j : S1408x1024.Idx) :
    k4_pay2 acc a b j = acc j + ∑ k : Fin 1664, a (ix2 k (j 0)) * b (ix2 k (j 1)) := by
  pointwise [k4_pay2]

/-- The result array: element `(m, n)` is the sum over the rows of the products of the operands' elements. -/
theorem arr4 (c : Dev nD) : (dat4 V c).arrAt 2 cfg4.N
    = fun j : S2816x1024.Idx => colDot (V c main_v18 : Mat 8320 2816) (V c main_arg5 : Mat 8320 1024) (j 0) (j 1) := by
  refine (dat4 V c).arrAt_eq_of_covers 2 _ (by decide +kernel) fun t hf y => ?_
  blk_simp
  rw [after4_2, Pipeline.eq_sum_fin_of_reset_step_apply_of_flush (fun n h => outsAt4 V c n h) 5 (fun _ => 0) _
    (fun t h j => by rw [outsAt4_A V c t h]; frame_out; rw [pay4, zero4])
    (fun t h j => by rw [outsAt4_B V c t h]; frame_out; rw [pay4]) t ((flush4_2 t).mp hf) y, zero_add]
  unfold colDot
  refine Fin.sum_mul_add_congr fun s k hl => ?_
  have hN : t.val < 10 := lt_of_lt_of_eq t.isLt N_2
  have e0 : (5 * (t.val / 5) + s.val) % 5 = s.val := by omega
  have e1 : (5 * (t.val / 5) + s.val) / 5 = t.val / 5 := by omega
  congr 1
  · blk_ext [iblk4, idx4 t, (idx4 ⟨5 * (t.val / 5) + s.val, Pipeline.run_point_lt_of_flush t ((flush4_2 t).mp hf) s⟩), e0, e1]
  · blk_ext [iblk4, idx4 t, (idx4 ⟨5 * (t.val / 5) + s.val, Pipeline.run_point_lt_of_flush t ((flush4_2 t).mp hf) s⟩), e0, e1]

end Cert.KernelIdeal.Value

end
-- ==== Proof.KernelEnd.lean ====
module

public import proofs.«01_k».proof.Proof.HostIn
public import proofs.«01_k».proof.Proof.RunEnd
public import proofs.«01_k».proof.Proof.FfnAct
public import proofs.«01_k».proof.Proof.NormBwd
public import proofs.«01_k».proof.Proof.WGrad2
public import proofs.«01_k».proof.Proof.WGrad3
public import proofs.«01_k».proof.Proof.WGrad4

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Value

variable (m : (ℓ : Loc nD τ sig) → Buf (Elt Ideal) ℓ) (ρ : Dev nD → PrngReg) (c : Dev nD)

/-- The arguments, as matrices. -/
abbrev argH : Mat 8320 1024 := m ((c : Thread nD τ).loc main_arg0)
abbrev argG : Mat 1 1024 := m ((c : Thread nD τ).loc main_arg1)
abbrev argWg : Mat 1024 2816 := m ((c : Thread nD τ).loc main_arg2)
abbrev argWu : Mat 1024 2816 := m ((c : Thread nD τ).loc main_arg3)
abbrev argWd : Mat 2816 1024 := m ((c : Thread nD τ).loc main_arg4)
abbrev argDh : Mat 8320 1024 := m ((c : Thread nD τ).loc main_arg5)

/-- After the first call: the gate's gradients. -/
theorem W4_dgate : W4 m ρ c (Proc.devRef .tc main_v24_0)
    = dGateA (argH m c) (argG m c) (argWg m c) (argWu m c) (argWd m c) (argDh m c) := by
  refine (W4_arr m ρ c 4).trans ((arr0_gate (V3 m ρ) c).trans ?_)
  unfold dGateA
  rw [show V3 m ρ c main_arg5 = argDh m c from W3_args m ρ c main_arg5 (by decide), show V3 m ρ c main_v14 = _ from W3_gate m ρ c,
    show V3 m ρ c main_v15 = _ from W3_up m ρ c, show V3 m ρ c main_v23 = _ from W3_wd m ρ c]

/-- After the first call: the up-projection's gradients. -/
theorem W4_dup : W4 m ρ c (Proc.devRef .tc main_v24_1) = dUpA (argH m c) (argG m c) (argWg m c) (argWd m c) (argDh m c) := by
  refine (W4_arr m ρ c 5).trans ((arr0_up (V3 m ρ) c).trans ?_)
  unfold dUpA
  rw [show V3 m ρ c main_arg5 = argDh m c from W3_args m ρ c main_arg5 (by decide), show V3 m ρ c main_v14 = _ from W3_gate m ρ c,
    show V3 m ρ c main_v23 = _ from W3_wd m ρ c]

/-- The transposed gate's weight at the second call. -/
theorem W4_wg : W4 m ρ c (Proc.devRef .tc main_v20) = tr (argWg m c) :=
  (W4_of m ρ c main_v20 (by decide)).trans (W3_wg m ρ c)

/-- The transposed up-projection's weight at the second call. -/
theorem W4_wu : W4 m ρ c (Proc.devRef .tc main_v22) = tr (argWu m c) :=
  (W4_of m ρ c main_v22 (by decide)).trans (W3_wu m ρ c)

/-- After the second call: the normalised rows. -/
theorem W5_hn : W5 m ρ c (Proc.devRef .tc main_v25_0) = hnA (argH m c) (argG m c) := by
  refine (W5_arr m ρ c 7).trans ((arr1_hn (V4 m ρ) c).trans ?_)
  unfold hnA
  rw [show V4 m ρ c main_arg0 = argH m c from W4_args m ρ c main_arg0 (by decide),
    show V4 m ρ c main_arg1 = argG m c from W4_args m ρ c main_arg1 (by decide)]

/-- The gradient of the residual stream, at the end. -/
theorem W9_dh : W9 m ρ c (Proc.devRef .tc main_v25_1)
    = dStreamA (argH m c) (argG m c) (argWg m c) (argWu m c) (argWd m c) (argDh m c) := by
  refine (W9_of m ρ c main_v25_1 (by decide)).trans ((W8_of m ρ c main_v25_1 (by decide)).trans ((W7_of m ρ c main_v25_1 (by decide)).trans
    ((W6_of m ρ c main_v25_1 (by decide)).trans ((W5_arr m ρ c 8).trans ((arr1_dh (V4 m ρ) c).trans ?_)))))
  unfold dStreamA
  rw [show V4 m ρ c main_arg5 = argDh m c from W4_args m ρ c main_arg5 (by decide),
    show V4 m ρ c main_arg0 = argH m c from W4_args m ρ c main_arg0 (by decide),
    show V4 m ρ c main_arg1 = argG m c from W4_args m ρ c main_arg1 (by decide),
    show V4 m ρ c main_v24_0 = _ from W4_dgate m ρ c, show V4 m ρ c main_v24_1 = _ from W4_dup m ρ c,
    show V4 m ρ c main_v20 = _ from W4_wg m ρ c, show V4 m ρ c main_v22 = _ from W4_wu m ρ c]

/-- The gradient of the gain, at the end. -/
theorem W9_dg : W9 m ρ c (Proc.devRef .tc main_v25_2)
    = dGainA (argH m c) (argG m c) (argWg m c) (argWu m c) (argWd m c) (argDh m c) := by
  refine (W9_of m ρ c main_v25_2 (by decide)).trans ((W8_of m ρ c main_v25_2 (by decide)).trans ((W7_of m ρ c main_v25_2 (by decide)).trans
    ((W6_of m ρ c main_v25_2 (by decide)).trans ((W5_arr m ρ c 9).trans ((arr1_dg (V4 m ρ) c).trans ?_)))))
  unfold dGainA
  rw [show V4 m ρ c main_arg0 = argH m c from W4_args m ρ c main_arg0 (by decide),
    show V4 m ρ c main_v24_0 = _ from W4_dgate m ρ c, show V4 m ρ c main_v24_1 = _ from W4_dup m ρ c,
    show V4 m ρ c main_v20 = _ from W4_wg m ρ c, show V4 m ρ c main_v22 = _ from W4_wu m ρ c]

/-- The gradient of the gate's weight, at the end. -/
theorem W9_dwg : W9 m ρ c (Proc.devRef .tc main_v29)
    = dWGateA (argH m c) (argG m c) (argWg m c) (argWu m c) (argWd m c) (argDh m c) := by
  have e : W8 m ρ c (Proc.devRef .tc main_v26) = fun j : S2816x1024.Idx => colDot (dGateA (argH m c) (argG m c) (argWg m c) (argWu m c) (argWd m c) (argDh m c))
      (hnA (argH m c) (argG m c)) (j 0) (j 1) := by
    refine (W8_of m ρ c main_v26 (by decide)).trans ((W7_of m ρ c main_v26 (by decide)).trans ((W6_arr m ρ c 2).trans ((arr2 (V5 m ρ) c).trans ?_)))
    rw [show V5 m ρ c main_v24_0 = _ from (W5_of m ρ c main_v24_0 (by decide)).trans (W4_dgate m ρ c), show V5 m ρ c main_v25_0 = _ from W5_hn m ρ c]
  exact (funext fun j => out_tr_gate (W8 m ρ c) j).trans (congrArg tr e)

/-- The gradient of the up-projection's weight, at the end. -/
theorem W9_dwu : W9 m ρ c (Proc.devRef .tc main_v30)
    = dWUpA (argH m c) (argG m c) (argWg m c) (argWd m c) (argDh m c) := by
  have e : W8 m ρ c (Proc.devRef .tc main_v27) = fun j : S2816x1024.Idx => colDot (dUpA (argH m c) (argG m c) (argWg m c) (argWd m c) (argDh m c))
      (hnA (argH m c) (argG m c)) (j 0) (j 1) := by
    refine (W8_of m ρ c main_v27 (by decide)).trans ((W7_arr m ρ c 2).trans ((arr3 (V6 m ρ) c).trans ?_))
    rw [show V6 m ρ c main_v24_1 = _ from (W6_of m ρ c main_v24_1 (by decide)).trans ((W5_of m ρ c main_v24_1 (by decide)).trans (W4_dup m ρ c)),
      show V6 m ρ c main_v25_0 = _ from (W6_of m ρ c main_v25_0 (by decide)).trans (W5_hn m ρ c)]
  exact (funext fun j => out_tr_up (W8 m ρ c) j).trans (congrArg tr e)

/-- The gradient of the down-projection's weight, at the end. -/
theorem W9_dwd : W9 m ρ c (Proc.devRef .tc main_v28)
    = dWDownA (argH m c) (argG m c) (argWg m c) (argWu m c) (argDh m c) := by
  refine (W9_of m ρ c main_v28 (by decide)).trans ((W8_arr m ρ c 2).trans ((arr4 (V7 m ρ) c).trans ?_))
  unfold dWDownA
  rw [show V7 m ρ c main_v18 = _ from (W7_of m ρ c main_v18 (by decide)).trans ((W6_of m ρ c main_v18 (by decide)).trans
      ((W5_of m ρ c main_v18 (by decide)).trans ((W4_of m ρ c main_v18 (by decide)).trans (W3_act m ρ c)))),
    show V7 m ρ c main_arg5 = argDh m c from W7_args m ρ c main_arg5 (by decide)]

end Cert.KernelIdeal.Value
-- ==== Proof.Fwd.Setup.lean ====
/-
  The forward call of the feed-forward block: its buffers, its conditions, and what its body holds.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic
public import Idealize.ShloMosaic.Lib.WordCmp

@[expose] public section

set_option maxRecDepth 16384

noncomputable section

namespace Cert.Kernel2Ideal.Fwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the call, over the resources of a body that starts transfers of its own. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The staging buffer of input 0 holds its block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of input 1 holds its block at every point. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of input 2 holds its block at every point. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staging buffer of input 3 holds its block at every point. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging buffer of input 4 holds its block at every point. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The staging buffer of input 5 holds its block at every point. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- A run that leaves the arrays as the record says leaves the arguments unchanged. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c)⟩) h

/-- Condition 0 of the body. -/
abbrev cond0_0 (i : grid0.Coords) : Prop := (Scalar.cmpi .ne (Scalar.extui (Scalar.cmpi .eq (BitVec.ofNat 32 (i 0).val) 0#32)) 0#32) = 1#1

/-- Condition 0 of the body in terms of the grid point. -/
theorem hcond0_0 : ∀ t : Fin cfg0.N, cond0_0 (grid0.coords t) ↔ t.val % 13 = 0 :=
  (fun t => by
    have ht : t.val < 13 := Nat.lt_of_lt_of_eq t.isLt N_0
    have e0 : (grid0.coords t 0).val = t.val / 1 % 13 := Pipeline.Grid.coords_val t 0 (by decide) rfl
    simp only [cond0_0, e0]
    word_cmp
   : ∀ t : Fin grid0.N, cond0_0 (grid0.coords t) ↔ t.val % 13 = 0)

/-- Condition 1 of the body. -/
abbrev cond0_1 (i : grid0.Coords) : Prop := (Scalar.cmpi .ne (Scalar.extui (Scalar.cmpi .eq (BitVec.ofNat 32 (i 0).val) 0#32)) 0#32) = 1#1

/-- Condition 1 of the body in terms of the grid point. -/
theorem hcond0_1 : ∀ t : Fin cfg0.N, cond0_1 (grid0.coords t) ↔ t.val % 13 = 0 :=
  (fun t => by
    have ht : t.val < 13 := Nat.lt_of_lt_of_eq t.isLt N_0
    have e0 : (grid0.coords t 0).val = t.val / 1 % 13 := Pipeline.Grid.coords_val t 0 (by decide) rfl
    simp only [cond0_1, e0]
    word_cmp
   : ∀ t : Fin grid0.N, cond0_1 (grid0.coords t) ↔ t.val % 13 = 0)

/-- Condition 2 of the body. -/
abbrev cond0_2 (i : grid0.Coords) : Prop := k0_cond2 i = 1#1

/-- Condition 2 of the body in terms of the grid point. -/
theorem hcond0_2 : ∀ t : Fin cfg0.N, cond0_2 (grid0.coords t) ↔ 1 ≤ t.val :=
  (by decide +kernel : ∀ t : Fin grid0.N, cond0_2 (grid0.coords t) ↔ 1 ≤ t.val)

/-- A staging buffer of output 6. -/
abbrev VO0_6 : View sig .tc .vmem S640x2816 .bf16 := (Memref.whole cc0_stg6_0 : Memref sig .tc .vmem S640x2816 .bf16).view

/-- A staging buffer of output 7. -/
abbrev VO0_7 : View sig .tc .vmem S640x2816 .bf16 := (Memref.whole cc0_stg7_0 : Memref sig .tc .vmem S640x2816 .bf16).view

/-- A staging buffer of output 8. -/
abbrev VO0_8 : View sig .tc .vmem S640x2816 .bf16 := (Memref.whole cc0_stg8_0 : Memref sig .tc .vmem S640x2816 .bf16).view

/-- A staging buffer of output 9. -/
abbrev VO0_9 : View sig .tc .vmem S640x1024 .f32 := (Memref.whole cc0_stg9_0 : Memref sig .tc .vmem S640x1024 .f32).view

/-- A staging buffer of output 10. -/
abbrev VO0_10 : View sig .tc .vmem S8x128 .f32 := (Memref.whole cc0_stg10_0 : Memref sig .tc .vmem S8x128 .f32).view

/-- A staging buffer of output 11. -/
abbrev VO0_11 : View sig .tc .vmem S1x1024 .f32 := (Memref.whole cc0_stg11_0 : Memref sig .tc .vmem S1x1024 .f32).view

/-- The staging buffer of window 0 at a point. -/
abbrev ms0_0 (t : Fin cfg0.N) : Memref sig .tc .vmem S640x1024 .f32 := win0_0.stage (cfg0.slots t 0)

/-- It is a whole buffer. -/
abbrev hs0_0 (t : Fin cfg0.N) : (ms0_0 t).IsWhole := hstage0_0 ((cfg0.slots t 0).cast nbuf0_0)

/-- The staging buffer of window 1 at a point. -/
abbrev ms0_1 (t : Fin cfg0.N) : Memref sig .tc .vmem S1x1024 .f32 := win0_1.stage (cfg0.slots t 1)

/-- It is a whole buffer. -/
abbrev hs0_1 (t : Fin cfg0.N) : (ms0_1 t).IsWhole := hstage0_1 ((cfg0.slots t 1).cast nbuf0_1)

/-- The staging buffer of window 2 at a point. -/
abbrev ms0_2 (t : Fin cfg0.N) : Memref sig .tc .vmem S2816x1024 .bf16 := win0_2.stage (cfg0.slots t 2)

/-- It is a whole buffer. -/
abbrev hs0_2 (t : Fin cfg0.N) : (ms0_2 t).IsWhole := hstage0_2 ((cfg0.slots t 2).cast nbuf0_2)

/-- The staging buffer of window 3 at a point. -/
abbrev ms0_3 (t : Fin cfg0.N) : Memref sig .tc .vmem S2816x1024 .bf16 := win0_3.stage (cfg0.slots t 3)

/-- It is a whole buffer. -/
abbrev hs0_3 (t : Fin cfg0.N) : (ms0_3 t).IsWhole := hstage0_3 ((cfg0.slots t 3).cast nbuf0_3)

/-- The staging buffer of window 4 at a point. -/
abbrev ms0_4 (t : Fin cfg0.N) : Memref sig .tc .vmem S2816x1024 .bf16 := win0_4.stage (cfg0.slots t 4)

/-- It is a whole buffer. -/
abbrev hs0_4 (t : Fin cfg0.N) : (ms0_4 t).IsWhole := hstage0_4 ((cfg0.slots t 4).cast nbuf0_4)

/-- The staging buffer of window 5 at a point. -/
abbrev ms0_5 (t : Fin cfg0.N) : Memref sig .tc .vmem S1x1024 .f32 := win0_5.stage (cfg0.slots t 5)

/-- It is a whole buffer. -/
abbrev hs0_5 (t : Fin cfg0.N) : (ms0_5 t).IsWhole := hstage0_5 ((cfg0.slots t 5).cast nbuf0_5)

/-- The staging buffer of window 6 at a point. -/
abbrev ms0_6 (t : Fin cfg0.N) : Memref sig .tc .vmem S640x2816 .bf16 := win0_6.stage (cfg0.slots t 6)

/-- It is a whole buffer. -/
abbrev hs0_6 (t : Fin cfg0.N) : (ms0_6 t).IsWhole := hstage0_6 ((cfg0.slots t 6).cast nbuf0_6)

/-- The staging buffer of window 7 at a point. -/
abbrev ms0_7 (t : Fin cfg0.N) : Memref sig .tc .vmem S640x2816 .bf16 := win0_7.stage (cfg0.slots t 7)

/-- It is a whole buffer. -/
abbrev hs0_7 (t : Fin cfg0.N) : (ms0_7 t).IsWhole := hstage0_7 ((cfg0.slots t 7).cast nbuf0_7)

/-- The staging buffer of window 8 at a point. -/
abbrev ms0_8 (t : Fin cfg0.N) : Memref sig .tc .vmem S640x2816 .bf16 := win0_8.stage (cfg0.slots t 8)

/-- It is a whole buffer. -/
abbrev hs0_8 (t : Fin cfg0.N) : (ms0_8 t).IsWhole := hstage0_8 ((cfg0.slots t 8).cast nbuf0_8)

/-- The staging buffer of window 9 at a point. -/
abbrev ms0_9 (t : Fin cfg0.N) : Memref sig .tc .vmem S640x1024 .f32 := win0_9.stage (cfg0.slots t 9)

/-- It is a whole buffer. -/
abbrev hs0_9 (t : Fin cfg0.N) : (ms0_9 t).IsWhole := hstage0_9 ((cfg0.slots t 9).cast nbuf0_9)

/-- The staging buffer of window 10 at a point. -/
abbrev ms0_10 (t : Fin cfg0.N) : Memref sig .tc .vmem S8x128 .f32 := win0_10.stage (cfg0.slots t 10)

/-- It is a whole buffer. -/
abbrev hs0_10 (t : Fin cfg0.N) : (ms0_10 t).IsWhole := hstage0_10 ((cfg0.slots t 10).cast nbuf0_10)

/-- The staging buffer of window 11 at a point. -/
abbrev ms0_11 (t : Fin cfg0.N) : Memref sig .tc .vmem S1x1024 .f32 := win0_11.stage (cfg0.slots t 11)

/-- It is a whole buffer. -/
abbrev hs0_11 (t : Fin cfg0.N) : (ms0_11 t).IsWhole := hstage0_11 ((cfg0.slots t 11).cast nbuf0_11)

/-- The scratch that receives the rows of the target. -/
abbrev scM0_0 : Memref sig .tc .vmem S640x1024 .f32 := Memref.whole cc0_scratch0

/-- The target, left in the large memory. -/
abbrev hbM0_0 : Memref sig .tc .hbm S8192x1024 .f32 := Memref.whole main_arg6

/-- The contents of a buffer on a device. -/
abbrev HbBuf0 (c : Dev nD) {sp : Space} {S : Shape} {e : EltTy} (M : Memref sig .tc sp S e) : Type := Buf (Elt F) (M.view.loc (c : Thread nD τ))

/-- A buffer held whole with given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The semaphore of the body's own copies. -/
abbrev osem0 : Fin 1 → SemLoc sig := fun j => (![SemLoc.dma 17] : Fin 1 → SemLoc sig) j

/-- No window uses that semaphore. -/
theorem ownSemFacts0 : Pipeline.OwnSemFacts spec0 osem0 := by decide

/-- That semaphore at zero, spelt out. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0) := by
  rw [Pipeline.ownSems0_eq_of_list c osem0 [0] (by decide) (by decide)]; rfl

/-- The arrays that the body copies from. -/
def H0 : Finset (Ref sig .tc) := {main_arg6}

/-- They are no window's array. -/
theorem H0_sub : H0 ⊆ Pipeline.restRefs sig spec0 := by decide

/-- Holding them, spelt out. -/
theorem hbmPts0_eq (c : Dev nD) :
    (bigSep H0 (fun b => ((c : Thread nD τ).loc b) ↦{fullShare} V m c b) : sProp 𝕄) = iprop(hbPt0 c hbM0_0 (V m c main_arg6)) := by
  rw [BI.bigSep_eq_bigSepL_of_eq [main_arg6] (by decide) (by decide)]; rfl

/-- What the body holds besides its windows, spelt out. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 17) 0) ∗ iprop(hbPt0 c hbM0_0 (V m c main_arg6))) := by
  rw [Pipeline.ΦD_eq, scopedRest0_eq, ownSems00_eq, hbmPts0_eq]; simp only [scM0_0, owns_whole]; try rfl

end Cert.Kernel2Ideal.Fwd

end
-- ==== Proof.Fwd.RunA.lean ====
/-
  The body of the forward call at the first grid point.
-/
module

public import proofs.«01_k».proof.Proof.Fwd.Setup

@[expose] public section

set_option maxRecDepth 16384

noncomputable section

namespace Cert.Kernel2Ideal.Fwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the first grid point: the pieces that its stores leave in every output, with the proof that it runs. -/
noncomputable def kernelRun0_A (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) :
    Σ' (L6 : List (View.Piece (Elt F) S640x2816 .bf16)), Σ' (L7 : List (View.Piece (Elt F) S640x2816 .bf16)), Σ' (L8 : List (View.Piece (Elt F) S640x2816 .bf16)), Σ' (L9 : List (View.Piece (Elt F) S640x1024 .f32)), Σ' (L10 : List (View.Piece (Elt F) S8x128 .f32)), Σ' (L11 : List (View.Piece (Elt F) S1x1024 .f32)), { LT0 : List (View.Piece (Elt F) S640x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 arg3 harg3 arg4 harg4 arg5 harg5 arg6 harg6 (Memref.whole main_arg6) (Memref.isWhole_whole _) arg8 harg8 arg9 harg9 arg10 harg10 arg11 harg11 arg12 harg12 arg13 harg13 arg14 harg14 cc0_scratch1) K } := by
  refine ⟨?_, ?_, ?_, ?_, ?_, ?_, ?_, fun W K => ?run⟩
  case run =>
    simp only [cc0_ffn_fwd_eq_skeleton]; unfold cc0_ffn_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, Hq0, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    have hc3 : ¬ k0_cond4 i = 1#1 := hc2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [Hq0]; · iexact Hq0
    isplitl [Hh0]; · iexact Hh0
    iexists _; iexact HW

end Cert.Kernel2Ideal.Fwd

end
-- ==== Proof.Fwd.RunB.lean ====
/-
  The body of the forward call at a later grid point.
-/
module

public import proofs.«01_k».proof.Proof.Fwd.RunA

@[expose] public section

set_option maxRecDepth 16384

noncomputable section

namespace Cert.Kernel2Ideal.Fwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at a later grid point: the pieces that its stores leave in every output, with the proof that it runs. -/
noncomputable def kernelRun0_B (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) :
    Σ' (L6 : List (View.Piece (Elt F) S640x2816 .bf16)), Σ' (L7 : List (View.Piece (Elt F) S640x2816 .bf16)), Σ' (L8 : List (View.Piece (Elt F) S640x2816 .bf16)), Σ' (L9 : List (View.Piece (Elt F) S640x1024 .f32)), Σ' (L10 : List (View.Piece (Elt F) S8x128 .f32)), Σ' (L11 : List (View.Piece (Elt F) S1x1024 .f32)), { LT0 : List (View.Piece (Elt F) S640x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo10 ∗ owns (c : Thread nD τ) arg13 fullShare xo11 ∗ (∃ d, owns (c : Thread nD τ) arg14 fullShare d) ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 arg3 harg3 arg4 harg4 arg5 harg5 arg6 harg6 (Memref.whole main_arg6) (Memref.isWhole_whole _) arg8 harg8 arg9 harg9 arg10 harg10 arg11 harg11 arg12 harg12 arg13 harg13 arg14 harg14 cc0_scratch1) K } := by
  refine ⟨?_, ?_, ?_, ?_, ?_, ?_, ?_, fun W K => ?run⟩
  case run =>
    simp only [cc0_ffn_fwd_eq_skeleton]; unfold cc0_ffn_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%ds0, %fs0, -, HS0⟩, Hq0, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hf10; obtain rfl := harg13.eq_unread hf11
    have hc3 : k0_cond4 i = 1#1 := hc2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [Hq0]; · iexact Hq0
    isplitl [Hh0]; · iexact Hh0
    iexists _; iexact HW

end Cert.Kernel2Ideal.Fwd

end
-- ==== Proof.Fwd.Frame.lean ====
/-
  The record of the forward call and its run.
-/
module

public import proofs.«01_k».proof.Proof.Fwd.RunB
public import Idealize.ShloMosaic.Lib.Claim

@[expose] public section

set_option maxRecDepth 16384

noncomputable section

namespace Cert.Kernel2Ideal.Fwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pieces of output 6 cover its block (case A). -/
theorem cover0_A_6 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) (y : S640x2816.Idx) :
    ∃ pc ∈ (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).1, y ∈ pc.1.set :=
  View.cover_of_tiledL (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).1 S640x256.size (by sl_kernel_rfl) y

/-- What output 6 holds after the body (case A). -/
def out0_A_6 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) : Vec F S640x2816 .bf16 :=
  VO0_6.read (Elt F) (VO0_6.writes (Elt F) VO0_6.junk (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).1)

/-- The pieces of output 7 cover its block (case A). -/
theorem cover0_A_7 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) (y : S640x2816.Idx) :
    ∃ pc ∈ (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.1, y ∈ pc.1.set :=
  View.cover_of_tiledL (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.1 S640x256.size (by sl_kernel_rfl) y

/-- What output 7 holds after the body (case A). -/
def out0_A_7 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) : Vec F S640x2816 .bf16 :=
  VO0_7.read (Elt F) (VO0_7.writes (Elt F) VO0_7.junk (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.1)

/-- The pieces of output 8 cover its block (case A). -/
theorem cover0_A_8 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) (y : S640x2816.Idx) :
    ∃ pc ∈ (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.1, y ∈ pc.1.set :=
  View.cover_of_tiledL (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.1 S640x256.size (by sl_kernel_rfl) y

/-- What output 8 holds after the body (case A). -/
def out0_A_8 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) : Vec F S640x2816 .bf16 :=
  VO0_8.read (Elt F) (VO0_8.writes (Elt F) VO0_8.junk (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.1)

/-- The pieces of output 9 cover its block (case A). -/
theorem cover0_A_9 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) (y : S640x1024.Idx) :
    ∃ pc ∈ (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.1, y ∈ pc.1.set :=
  View.cover_of_tiledL (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.1 S640x1024.size (by sl_kernel_rfl) y

/-- What output 9 holds after the body (case A). -/
def out0_A_9 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) : Vec F S640x1024 .f32 :=
  VO0_9.read (Elt F) (VO0_9.writes (Elt F) VO0_9.junk (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.1)

/-- The pieces of output 10 cover its block (case A). -/
theorem cover0_A_10 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) (y : S8x128.Idx) :
    ∃ pc ∈ (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.2.1, y ∈ pc.1.set :=
  View.cover_of_tiledL (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.2.1 S8x128.size (by sl_kernel_rfl) y

/-- What output 10 holds after the body (case A). -/
def out0_A_10 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) : Vec F S8x128 .f32 :=
  VO0_10.read (Elt F) (VO0_10.writes (Elt F) VO0_10.junk (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.2.1)

/-- The pieces of output 11 cover its block (case A). -/
theorem cover0_A_11 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) (y : S1x1024.Idx) :
    ∃ pc ∈ (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.2.2.1, y ∈ pc.1.set :=
  View.cover_of_tiledL (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.2.2.1 S1x1024.size (by sl_kernel_rfl) y

/-- What output 11 holds after the body (case A). -/
def out0_A_11 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : cond0_0 i) (hc1 : cond0_1 i) (hc2 : ¬cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (fh0 : HbBuf0 (F := F) c hbM0_0) : Vec F S1x1024 .f32 :=
  VO0_11.read (Elt F) (VO0_11.writes (Elt F) VO0_11.junk (kernelRun0_A c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 fh0).2.2.2.2.2.1)

/-- The pieces of output 6 cover its block (case B). -/
theorem cover0_B_6 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) (y : S640x2816.Idx) :
    ∃ pc ∈ (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).1, y ∈ pc.1.set :=
  View.cover_of_tiledL (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).1 S640x256.size (by sl_kernel_rfl) y

/-- What output 6 holds after the body (case B). -/
def out0_B_6 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) : Vec F S640x2816 .bf16 :=
  VO0_6.read (Elt F) (VO0_6.writes (Elt F) VO0_6.junk (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).1)

/-- The pieces of output 7 cover its block (case B). -/
theorem cover0_B_7 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) (y : S640x2816.Idx) :
    ∃ pc ∈ (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.1, y ∈ pc.1.set :=
  View.cover_of_tiledL (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.1 S640x256.size (by sl_kernel_rfl) y

/-- What output 7 holds after the body (case B). -/
def out0_B_7 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) : Vec F S640x2816 .bf16 :=
  VO0_7.read (Elt F) (VO0_7.writes (Elt F) VO0_7.junk (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.1)

/-- The pieces of output 8 cover its block (case B). -/
theorem cover0_B_8 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) (y : S640x2816.Idx) :
    ∃ pc ∈ (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.1, y ∈ pc.1.set :=
  View.cover_of_tiledL (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.1 S640x256.size (by sl_kernel_rfl) y

/-- What output 8 holds after the body (case B). -/
def out0_B_8 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) : Vec F S640x2816 .bf16 :=
  VO0_8.read (Elt F) (VO0_8.writes (Elt F) VO0_8.junk (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.1)

/-- The pieces of output 9 cover its block (case B). -/
theorem cover0_B_9 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) (y : S640x1024.Idx) :
    ∃ pc ∈ (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.1, y ∈ pc.1.set :=
  View.cover_of_tiledL (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.1 S640x1024.size (by sl_kernel_rfl) y

/-- What output 9 holds after the body (case B). -/
def out0_B_9 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) : Vec F S640x1024 .f32 :=
  VO0_9.read (Elt F) (VO0_9.writes (Elt F) VO0_9.junk (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.1)

/-- The pieces of output 10 cover its block (case B). -/
theorem cover0_B_10 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) (y : S8x128.Idx) :
    ∃ pc ∈ (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.2.1, y ∈ pc.1.set :=
  View.cover_of_tiledL (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.2.1 S8x128.size (by sl_kernel_rfl) y

/-- What output 10 holds after the body (case B). -/
def out0_B_10 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) : Vec F S8x128 .f32 :=
  VO0_10.read (Elt F) (VO0_10.writes (Elt F) VO0_10.junk (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.2.1)

/-- The pieces of output 11 cover its block (case B). -/
theorem cover0_B_11 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) (y : S1x1024.Idx) :
    ∃ pc ∈ (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.2.2.1, y ∈ pc.1.set :=
  View.cover_of_tiledL (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.2.2.1 S1x1024.size (by sl_kernel_rfl) y

/-- What output 11 holds after the body (case B). -/
def out0_B_11 (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg8 : Memref sig .tc .vmem S640x2816 .bf16) (harg8 : arg8.IsWhole) (arg9 : Memref sig .tc .vmem S640x2816 .bf16) (harg9 : arg9.IsWhole) (arg10 : Memref sig .tc .vmem S640x2816 .bf16) (harg10 : arg10.IsWhole) (arg11 : Memref sig .tc .vmem S640x1024 .f32) (harg11 : arg11.IsWhole) (arg12 : Memref sig .tc .vmem S8x128 .f32) (harg12 : arg12.IsWhole) (arg13 : Memref sig .tc .vmem S1x1024 .f32) (harg13 : arg13.IsWhole) (arg14 : Memref sig .tc .vmem S640x1024 .f32) (harg14 : arg14.IsWhole) (hc0 : ¬cond0_0 i) (hc1 : ¬cond0_1 i) (hc2 : cond0_2 i)
    (x0 : Vec F S640x1024 .f32) (x1 : Vec F S1x1024 .f32) (x2 : Vec F S2816x1024 .bf16) (x3 : Vec F S2816x1024 .bf16) (x4 : Vec F S2816x1024 .bf16) (x5 : Vec F S1x1024 .f32) (xo10 : Vec F S8x128 .f32) (xo11 : Vec F S1x1024 .f32) (fh0 : HbBuf0 (F := F) c hbM0_0) : Vec F S1x1024 .f32 :=
  VO0_11.read (Elt F) (VO0_11.writes (Elt F) VO0_11.junk (kernelRun0_B c i arg1 harg1 arg2 harg2 arg3 harg3 arg4 harg4 arg5 harg5 arg6 harg6 arg8 harg8 arg9 harg9 arg10 harg10 arg11 harg11 arg12 harg12 arg13 harg13 arg14 harg14 hc0 hc1 hc2 x0 x1 x2 x3 x4 x5 xo10 xo11 fh0).2.2.2.2.2.1)

/-- What the outputs hold after each grid point. -/
def outsAt0 (c : Dev nD) : (n : ℕ) → n < cfg0.N → Vec F S640x2816 .bf16 × Vec F S640x2816 .bf16 × Vec F S640x2816 .bf16 × Vec F S640x1024 .f32 × Vec F S8x128 .f32 × Vec F S1x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg6), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg6), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg6), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg6), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg6), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg6))
  | n + 1, hn =>
    if h0 : (n + 1) % 13 = 0 then
      if h1 : (n + 1) % 13 = 0 then
        if h2 : 1 ≤ (n + 1) then
          False.elim (by have hN : n + 1 < 13 := lt_of_lt_of_eq hn (show cfg0.N = 13 from N_0); omega)
        else
          (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_arg6), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_arg6), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_arg6), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_arg6), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_arg6), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_arg6))
      else
        False.elim (by have hN : n + 1 < 13 := lt_of_lt_of_eq hn (show cfg0.N = 13 from N_0); omega)
    else
      if h1 : (n + 1) % 13 = 0 then
        False.elim (by have hN : n + 1 < 13 := lt_of_lt_of_eq hn (show cfg0.N = 13 from N_0); omega)
      else
        if h2 : 1 ≤ (n + 1) then
          (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2 (V m c main_arg6), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2 (V m c main_arg6), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2 (V m c main_arg6), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2 (V m c main_arg6), out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2 (V m c main_arg6), out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2 (V m c main_arg6))
        else
          False.elim (by have hN : n + 1 < 13 := lt_of_lt_of_eq hn (show cfg0.N = 13 from N_0); omega)

/-- … at the first point. -/
theorem outsAt0_A (c : Dev nD) (t : Fin cfg0.N) (h0 : t.val % 13 = 0) (h1 : t.val % 13 = 0) (h2 : ¬1 ≤ t.val) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6)) := by
  obtain ⟨n, hn⟩ := t
  cases n with
  | zero => exact rfl
  | succ n => exact (dif_pos h0).trans ((dif_pos h1).trans ((dif_neg h2).trans rfl))

/-- … at a later point. -/
theorem outsAt0_B (c : Dev nD) (t : Fin cfg0.N) (h0 : ¬t.val % 13 = 0) (h1 : ¬t.val % 13 = 0) (h2 : 1 ≤ t.val) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6), out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The record of the run: the arrays at the start, and every window after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
    | ⟨11, _⟩ => (outsAt0 m c t.val t.isLt).2.2.2.2.2
  Φ _ := Pipeline.ΦD osem0 spec0 H0 (V m) c
  q _ := fullShare
  owed _ := 0

/-- The arrays at the start. -/
theorem A_eq (c : Dev nD) (w : Fin cfg0.W) : (dats m 0 c).A w = V m c (Pipeline.arrRef spec0 w) := by
  dsimp only [dats]

/-- What the record says window 0 holds after a point. -/
theorem after0_0 (c : Dev nD) (t : Fin cfg0.N) : (dats m 0 c).after 0 t = iblk m c 0 t := by dsimp only [dats]

/-- What the record says window 1 holds after a point. -/
theorem after0_1 (c : Dev nD) (t : Fin cfg0.N) : (dats m 0 c).after 1 t = iblk m c 1 t := by dsimp only [dats]

/-- What the record says window 2 holds after a point. -/
theorem after0_2 (c : Dev nD) (t : Fin cfg0.N) : (dats m 0 c).after 2 t = iblk m c 2 t := by dsimp only [dats]

/-- What the record says window 3 holds after a point. -/
theorem after0_3 (c : Dev nD) (t : Fin cfg0.N) : (dats m 0 c).after 3 t = iblk m c 3 t := by dsimp only [dats]

/-- What the record says window 4 holds after a point. -/
theorem after0_4 (c : Dev nD) (t : Fin cfg0.N) : (dats m 0 c).after 4 t = iblk m c 4 t := by dsimp only [dats]

/-- What the record says window 5 holds after a point. -/
theorem after0_5 (c : Dev nD) (t : Fin cfg0.N) : (dats m 0 c).after 5 t = iblk m c 5 t := by dsimp only [dats]

/-- What the record says window 6 holds after a point. -/
theorem after0_6 (c : Dev nD) (t : Fin cfg0.N) : (dats m 0 c).after 6 t = (outsAt0 m c t.val t.isLt).1 := by dsimp only [dats]

/-- What the record says window 7 holds after a point. -/
theorem after0_7 (c : Dev nD) (t : Fin cfg0.N) : (dats m 0 c).after 7 t = (outsAt0 m c t.val t.isLt).2.1 := by dsimp only [dats]

/-- What the record says window 8 holds after a point. -/
theorem after0_8 (c : Dev nD) (t : Fin cfg0.N) : (dats m 0 c).after 8 t = (outsAt0 m c t.val t.isLt).2.2.1 := by dsimp only [dats]

/-- What the record says window 9 holds after a point. -/
theorem after0_9 (c : Dev nD) (t : Fin cfg0.N) : (dats m 0 c).after 9 t = (outsAt0 m c t.val t.isLt).2.2.2.1 := by dsimp only [dats]

/-- What the record says window 10 holds after a point. -/
theorem after0_10 (c : Dev nD) (t : Fin cfg0.N) : (dats m 0 c).after 10 t = (outsAt0 m c t.val t.isLt).2.2.2.2.1 := by dsimp only [dats]

/-- What the record says window 11 holds after a point. -/
theorem after0_11 (c : Dev nD) (t : Fin cfg0.N) : (dats m 0 c).after 11 t = (outsAt0 m c t.val t.isLt).2.2.2.2.2 := by dsimp only [dats]

/-- Before every point the staging buffer of input 0 holds its block. -/
theorem before0_0 (c : Dev nD) (t : Fin cfg0.N) (d) : (dats m 0 c).before 0 t d = iblk m c 0 t :=
  before0_0_of m (dats m 0 c) (A_eq m c 0) (after0_0 m c) t d

/-- Before every point the staging buffer of input 1 holds its block. -/
theorem before0_1 (c : Dev nD) (t : Fin cfg0.N) (d) : (dats m 0 c).before 1 t d = iblk m c 1 t :=
  before0_1_of m (dats m 0 c) (A_eq m c 1) (after0_1 m c) t d

/-- Before every point the staging buffer of input 2 holds its block. -/
theorem before0_2 (c : Dev nD) (t : Fin cfg0.N) (d) : (dats m 0 c).before 2 t d = iblk m c 2 t :=
  before0_2_of m (dats m 0 c) (A_eq m c 2) (after0_2 m c) t d

/-- Before every point the staging buffer of input 3 holds its block. -/
theorem before0_3 (c : Dev nD) (t : Fin cfg0.N) (d) : (dats m 0 c).before 3 t d = iblk m c 3 t :=
  before0_3_of m (dats m 0 c) (A_eq m c 3) (after0_3 m c) t d

/-- Before every point the staging buffer of input 4 holds its block. -/
theorem before0_4 (c : Dev nD) (t : Fin cfg0.N) (d) : (dats m 0 c).before 4 t d = iblk m c 4 t :=
  before0_4_of m (dats m 0 c) (A_eq m c 4) (after0_4 m c) t d

/-- Before every point the staging buffer of input 5 holds its block. -/
theorem before0_5 (c : Dev nD) (t : Fin cfg0.N) (d) : (dats m 0 c).before 5 t d = iblk m c 5 t :=
  before0_5_of m (dats m 0 c) (A_eq m c 5) (after0_5 m c) t d

/-- Before a later point the accumulated output 10 holds what the point before left. -/
theorem before0_10_B (c : Dev nD) (t : Fin cfg0.N) (h0 : ¬t.val % 13 = 0) (h1 : ¬t.val % 13 = 0) (h2 : 1 ≤ t.val) (d) :
    (dats m 0 c).before 10 t d = (outsAt0 m c (t.val - 1) (Nat.lt_of_le_of_lt (Nat.sub_le _ _) t.isLt)).2.2.2.2.1 := by
  have hN : t.val < 13 := lt_of_lt_of_eq t.isLt (show cfg0.N = 13 from N_0)
  rw [Dat.before_out_kept _ 10 rfl t (by omega) (Bool.eq_false_iff.mpr fun h => by have := (flush0_10 _).mp h; dsimp only at this; omega)
    (fun _ => rfl) (fun _ _ => rfl)]
  dsimp only [dats]

/-- Before a later point the accumulated output 11 holds what the point before left. -/
theorem before0_11_B (c : Dev nD) (t : Fin cfg0.N) (h0 : ¬t.val % 13 = 0) (h1 : ¬t.val % 13 = 0) (h2 : 1 ≤ t.val) (d) :
    (dats m 0 c).before 11 t d = (outsAt0 m c (t.val - 1) (Nat.lt_of_le_of_lt (Nat.sub_le _ _) t.isLt)).2.2.2.2.2 := by
  have hN : t.val < 13 := lt_of_lt_of_eq t.isLt (show cfg0.N = 13 from N_0)
  rw [Dat.before_out_kept _ 11 rfl t (by omega) (Bool.eq_false_iff.mpr fun h => by have := (flush0_11 _).mp h; dsimp only at this; omega)
    (fun _ => rfl) (fun _ _ => rfl)]
  dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2400000 in
/-- The body keeps the record at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    after0_0, after0_1, after0_2, after0_3, after0_4, after0_5, after0_6, after0_7, after0_8, after0_9, after0_10, after0_11]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 13 := lt_of_lt_of_eq t.isLt (show cfg0.N = 13 from N_0)
  by_cases h0 : t.val % 13 = 0
  · by_cases h1 : t.val % 13 = 0
    · by_cases h2 : 1 ≤ t.val
      · exfalso; omega
      · rw [outsAt0_A m c t h0 h1 h2]
        unfold out0_A_6 out0_A_7 out0_A_8 out0_A_9 out0_A_10 out0_A_11; (try dsimp only)
        iintro ⟨⟨HS0, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6)).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [HS0]; · iexact HS0
        isplitl [Hq0]; · iexact Hq0
        isplitl [Hh0]; · iexact Hh0
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%fT0, HS0⟩, Hq0, Hh0, ⟨%W', HW'⟩⟩
        isplitl [HS0 Hg Hq0 Hh0]
        · isplitl [HS0]
          · iexists _; unfold owns; iexists _; isplitr
            swap; · iexact HS0
            ipureintro; rfl
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _)
    · exfalso; omega
  · by_cases h1 : t.val % 13 = 0
    · exfalso; omega
    · by_cases h2 : 1 ≤ t.val
      · rw [outsAt0_B m c t h0 h1 h2]
        simp only [before0_10_B m c t h0 h1 h2, before0_11_B m c t h0 h1 h2]
        unfold out0_B_6 out0_B_7 out0_B_8 out0_B_9 out0_B_10 out0_B_11; (try dsimp only)
        iintro ⟨⟨HS0, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _ _ (V m c main_arg6)).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexact H10
        isplitl [H11]; · iexact H11
        isplitl [HS0]; · iexact HS0
        isplitl [Hq0]; · iexact Hq0
        isplitl [Hh0]; · iexact Hh0
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%fT0, HS0⟩, Hq0, Hh0, ⟨%W', HW'⟩⟩
        isplitl [HS0 Hg Hq0 Hh0]
        · isplitl [HS0]
          · iexists _; unfold owns; iexists _; isplitr
            swap; · iexact HS0
            ipureintro; rfl
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _)
      · exfalso; omega

/-- The call runs this body. -/
theorem defs₀_row (t : Fin cfg0.N) :
    defs₀ (F := F) .tc cfg0.body (cfg0.bodyArgs t (cfg0.slots t)) = bodyAt0 t := by
  unfold defs₀; rw [Defs.onTc_tc]

/-- The body keeps the record, in the form that the run asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to the end with the arrays as the record says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The program runs to the end with the arrays as the record says. -/
theorem run_main : θ_run defs (onTc (τ := τ) (main (F := F))) (s₀ m ρ) (Pipeline.FramePost cfgs (dats m) 0 (V m)) :=
  (θ_run defs _ _).mono (fun _ h => h.1) (run_main_quiescent m ρ)

/-- … and every semaphore at zero, the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The program runs to the end and leaves its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel2Ideal.Fwd

end
-- ==== Proof.Fwd.Blocks.lean ====
/-
  What every point of the forward call writes back, and the arrays at the end.
-/
module

public import proofs.«01_k».proof.Proof.Fwd.Frame
public import Idealize.ShloMosaic.Lib.Pipeline.Value

@[expose] public section

set_option maxRecDepth 16384

noncomputable section

namespace Cert.Kernel2Ideal.Fwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a point writes back to output 6. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- What the first point writes back to output 6. -/
theorem flushed6_A (c : Dev nD) (t : Fin cfg0.N) (h0 : t.val % 13 = 0) (h1 : t.val % 13 = 0) (h2 : ¬1 ≤ t.val) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6)) := by
  simp only [flushed6, outsAt0_A m c t h0 h1 h2]

/-- What a later point writes back to output 6. -/
theorem flushed6_B (c : Dev nD) (t : Fin cfg0.N) (h0 : ¬t.val % 13 = 0) (h1 : ¬t.val % 13 = 0) (h2 : 1 ≤ t.val) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6)) := by
  simp only [flushed6, outsAt0_B m c t h0 h1 h2]

/-- Different points write different blocks of output 6. -/
theorem idx_inj6 : ∀ t t' : Fin cfg0.N, win0_6.index t = win0_6.index t' → t = t' :=
  (by decide +kernel : ∀ t t' : Fin grid0.N, win0_6.index t = win0_6.index t' → t = t')

/-- Those blocks are disjoint. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- A block of output 6 at the end is what its point wrote back. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- What a point writes back to output 7. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- What the first point writes back to output 7. -/
theorem flushed7_A (c : Dev nD) (t : Fin cfg0.N) (h0 : t.val % 13 = 0) (h1 : t.val % 13 = 0) (h2 : ¬1 ≤ t.val) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6)) := by
  simp only [flushed7, outsAt0_A m c t h0 h1 h2]

/-- What a later point writes back to output 7. -/
theorem flushed7_B (c : Dev nD) (t : Fin cfg0.N) (h0 : ¬t.val % 13 = 0) (h1 : ¬t.val % 13 = 0) (h2 : 1 ≤ t.val) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6)) := by
  simp only [flushed7, outsAt0_B m c t h0 h1 h2]

/-- Different points write different blocks of output 7. -/
theorem idx_inj7 : ∀ t t' : Fin cfg0.N, win0_7.index t = win0_7.index t' → t = t' :=
  (by decide +kernel : ∀ t t' : Fin grid0.N, win0_7.index t = win0_7.index t' → t = t')

/-- Those blocks are disjoint. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- A block of output 7 at the end is what its point wrote back. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- What a point writes back to output 8. -/
theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

/-- What the first point writes back to output 8. -/
theorem flushed8_A (c : Dev nD) (t : Fin cfg0.N) (h0 : t.val % 13 = 0) (h1 : t.val % 13 = 0) (h2 : ¬1 ≤ t.val) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6)) := by
  simp only [flushed8, outsAt0_A m c t h0 h1 h2]

/-- What a later point writes back to output 8. -/
theorem flushed8_B (c : Dev nD) (t : Fin cfg0.N) (h0 : ¬t.val % 13 = 0) (h1 : ¬t.val % 13 = 0) (h2 : 1 ≤ t.val) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6)) := by
  simp only [flushed8, outsAt0_B m c t h0 h1 h2]

/-- Different points write different blocks of output 8. -/
theorem idx_inj8 : ∀ t t' : Fin cfg0.N, win0_8.index t = win0_8.index t' → t = t' :=
  (by decide +kernel : ∀ t t' : Fin grid0.N, win0_8.index t = win0_8.index t' → t = t')

/-- Those blocks are disjoint. -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- A block of output 8 at the end is what its point wrote back. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- What a point writes back to output 9. -/
theorem flushed9 (c : Dev nD) (t : Fin cfg0.N) :
    (dats m 0 c).flushed 9 t = (cfg0.win 9).cut (grid0.coords t) ((outsAt0 m c t.val t.isLt).2.2.2.1) := by
  show (cfg0.win 9).cut (grid0.coords t) ((dats m 0 c).after 9 t) = _
  rw [after0_9]

/-- What the first point writes back to output 9. -/
theorem flushed9_A (c : Dev nD) (t : Fin cfg0.N) (h0 : t.val % 13 = 0) (h1 : t.val % 13 = 0) (h2 : ¬1 ≤ t.val) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6)) := by
  simp only [flushed9, outsAt0_A m c t h0 h1 h2]

/-- What a later point writes back to output 9. -/
theorem flushed9_B (c : Dev nD) (t : Fin cfg0.N) (h0 : ¬t.val % 13 = 0) (h1 : ¬t.val % 13 = 0) (h2 : 1 ≤ t.val) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6)) := by
  simp only [flushed9, outsAt0_B m c t h0 h1 h2]

/-- Different points write different blocks of output 9. -/
theorem idx_inj9 : ∀ t t' : Fin cfg0.N, win0_9.index t = win0_9.index t' → t = t' :=
  (by decide +kernel : ∀ t t' : Fin grid0.N, win0_9.index t = win0_9.index t' → t = t')

/-- Those blocks are disjoint. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- A block of output 9 at the end is what its point wrote back. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- What a point writes back to output 10. -/
theorem flushed10 (c : Dev nD) (t : Fin cfg0.N) :
    (dats m 0 c).flushed 10 t = (cfg0.win 10).cut (grid0.coords t) ((outsAt0 m c t.val t.isLt).2.2.2.2.1) := by
  show (cfg0.win 10).cut (grid0.coords t) ((dats m 0 c).after 10 t) = _
  rw [after0_10]

/-- What the first point writes back to output 10. -/
theorem flushed10_A (c : Dev nD) (t : Fin cfg0.N) (h0 : t.val % 13 = 0) (h1 : t.val % 13 = 0) (h2 : ¬1 ≤ t.val) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6)) := by
  simp only [flushed10, outsAt0_A m c t h0 h1 h2]

/-- What a later point writes back to output 10. -/
theorem flushed10_B (c : Dev nD) (t : Fin cfg0.N) (h0 : ¬t.val % 13 = 0) (h1 : ¬t.val % 13 = 0) (h2 : 1 ≤ t.val) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6)) := by
  simp only [flushed10, outsAt0_B m c t h0 h1 h2]

/-- What a point writes back to output 11. -/
theorem flushed11 (c : Dev nD) (t : Fin cfg0.N) :
    (dats m 0 c).flushed 11 t = (cfg0.win 11).cut (grid0.coords t) ((outsAt0 m c t.val t.isLt).2.2.2.2.2) := by
  show (cfg0.win 11).cut (grid0.coords t) ((dats m 0 c).after 11 t) = _
  rw [after0_11]

/-- What the first point writes back to output 11. -/
theorem flushed11_A (c : Dev nD) (t : Fin cfg0.N) (h0 : t.val % 13 = 0) (h1 : t.val % 13 = 0) (h2 : ¬1 ≤ t.val) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (V m c main_arg6)) := by
  simp only [flushed11, outsAt0_A m c t h0 h1 h2]

/-- What a later point writes back to output 11. -/
theorem flushed11_B (c : Dev nD) (t : Fin cfg0.N) (h0 : ¬t.val % 13 = 0) (h1 : ¬t.val % 13 = 0) (h2 : 1 ≤ t.val) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg6)) := by
  simp only [flushed11, outsAt0_B m c t h0 h1 h2]

/-- Output 6 at the end, by the record. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- Output 7 at the end, by the record. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- Output 8 at the end, by the record. -/
theorem post8 (r : PUnit × MemSt nD τ sig (Elt F)) (h : Pipeline.FramePost cfgs (dats m) 0 (V m) r) (c : Dev nD) :
    r.2.mem ((c : Thread nD τ).loc main_v5_2) = (dats m 0 c).arrAt 8 cfg0.N :=
  (h c).1 8

/-- Output 9 at the end, by the record. -/
theorem post9 (r : PUnit × MemSt nD τ sig (Elt F)) (h : Pipeline.FramePost cfgs (dats m) 0 (V m) r) (c : Dev nD) :
    r.2.mem ((c : Thread nD τ).loc main_v5_3) = (dats m 0 c).arrAt 9 cfg0.N :=
  (h c).1 9

/-- Output 10 at the end, by the record. -/
theorem post10 (r : PUnit × MemSt nD τ sig (Elt F)) (h : Pipeline.FramePost cfgs (dats m) 0 (V m) r) (c : Dev nD) :
    r.2.mem ((c : Thread nD τ).loc main_v5_4) = (dats m 0 c).arrAt 10 cfg0.N :=
  (h c).1 10

/-- Output 11 at the end, by the record. -/
theorem post11 (r : PUnit × MemSt nD τ sig (Elt F)) (h : Pipeline.FramePost cfgs (dats m) 0 (V m) r) (c : Dev nD) :
    r.2.mem ((c : Thread nD τ).loc main_v5_5) = (dats m 0 c).arrAt 11 cfg0.N :=
  (h c).1 11

/-- Argument 0 is unchanged. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 is unchanged. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- Argument 2 is unchanged. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is unchanged. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 is unchanged. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 is unchanged. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- Argument 6 is unchanged. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run with every output named by the record. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_v5_3) = (dats m 0 c).arrAt 9 cfg0.N
      ∧ r.2.mem ((c : Thread nD τ).loc main_v5_4) = (dats m 0 c).arrAt 10 cfg0.N
      ∧ r.2.mem ((c : Thread nD τ).loc main_v5_5) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post6 m r h c,
      post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel2Ideal.Fwd

end
-- ==== Proof.FwdFormulas.lean ====
/-
  The formulas of the forward call over the extended reals: the activation, the residual stream after the block, the
  error of the normalised stream against the target, and the gradients of the loss that the call already computes.
-/
module

public import proofs.«01_k».proof.Proof.Formulas

@[expose] public section

noncomputable section

namespace Cert.Value

open Idealize.ShloMosaic

/-- A projection of the normalised rows by a weight that is stored transposed. -/
def projT {R : Nat} (h : Mat R 1024) (g : Mat 1 1024) (w : Mat 2816 1024) : Mat R 2816 := fun j => rowDot (hnA h g) w (j 0) (j 1)

/-- The activation, from transposed weights. -/
def actT {R : Nat} (h : Mat R 1024) (g : Mat 1 1024) (wg wu : Mat 2816 1024) : Mat R 2816 := times (silu (projT h g wg)) (projT h g wu)

/-- The residual stream after the block: `h + act · wd`. -/
def streamOut {R : Nat} (h : Mat R 1024) (a : Mat R 2816) (wd : Mat 2816 1024) : Mat R 1024 := fun j => h j + matDot a wd (j 0) (j 1)

/-- The stream after the feed-forward block, from the call's arguments. -/
def streamF (h : Mat 8320 1024) (g : Mat 1 1024) (wg wu : Mat 1024 2816) (wd : Mat 2816 1024) : Mat 8320 1024 := streamOut h (actA h g wg wu) wd

/-- The gradient of the loss at the normalised stream: the error times `1/1024`. -/
def dLast {R : Nat} (e : Mat R 1024) : Mat R 1024 := fun j => e j * Ideal.ofBits .f32 0x3A800000#32

/-- The gradient that a normalisation passes on, as the kernel writes it: `r · (t - h · r² · mean (t · h))` with `t = dy · g`. -/
def dThrough {R : Nat} (dy h : Mat R 1024) (g : Mat 1 1024) (i : Fin R) (n : Fin 1024) : EReal :=
  rstd h i * (dy (ix2 i n) * g (ix2 0 n)
    - h (ix2 i n) * (rstd h i * rstd h i)
      * Ideal.div (∑ k : Fin 1024, dy (ix2 i k) * g (ix2 0 k) * h (ix2 i k)) (Ideal.ofBits .f32 0x44800000#32))

/-- What row `i` adds to the gradient of the last gain: `(dy · h) · r`. -/
def dLastGainRow {R : Nat} (dy h : Mat R 1024) (i : Fin R) (n : Fin 1024) : EReal := dy (ix2 i n) * h (ix2 i n) * rstd h i

/-- The sum of the squares of row `i`. -/
def rowSquares {R : Nat} (e : Mat R 1024) (i : Fin R) : EReal := ∑ k : Fin 1024, e (ix2 i k) * e (ix2 i k)

/-- The error of a block of rows, the block's first row being row `base` of the whole: rows before 128 have no target. -/
def errBlock {R : Nat} (base : Nat) (h : Mat R 1024) (g : Mat 1 1024) (tg : Mat R 1024) : Mat R 1024 :=
  fun j => if 128 ≤ base + (j 0).val then normed h g (j 0) (j 1) - tg j else 0

/-- The error of all rows: row `i` has row `i - 128` of the target. -/
def errAll (h : Mat 8320 1024) (g : Mat 1 1024) (tg : Mat 8192 1024) : Mat 8320 1024 :=
  fun j => if hj : 128 ≤ (j 0).val then normed h g (j 0) (j 1) - tg (ix2 ⟨(j 0).val - 128, by have := (j 0).isLt; dsimp at this; omega⟩ (j 1)) else 0

/-! ## The call's results as whole arrays -/

/-- The gradient at the residual stream after the block. -/
def dhA (h : Mat 8320 1024) (g : Mat 1 1024) (tg : Mat 8192 1024) : Mat 8320 1024 :=
  fun j => dThrough (dLast (errAll h g tg)) h g (j 0) (j 1)

/-- The gradient of the last gain. -/
def dLastGainA (h : Mat 8320 1024) (g : Mat 1 1024) (tg : Mat 8192 1024) : Mat 1 1024 :=
  fun j => ∑ i : Fin 8320, dLastGainRow (dLast (errAll h g tg)) h i (j 1)

/-- Row `k` of block `n` among all rows. -/
def rowAt (n : Fin 13) (k : Fin 640) : Fin 8320 := ⟨640 * n.val + k.val, by omega⟩

/-- The loss, as the call sums it: block by block, `1/2048` times the squares of the block's errors. -/
def lossA (h : Mat 8320 1024) (g : Mat 1 1024) (tg : Mat 8192 1024) : EReal :=
  ∑ n : Fin 13, Ideal.ofBits .f32 0x3A000000#32 * ∑ k : Fin 640, rowSquares (errAll h g tg) (rowAt n k)

/-! ## A block of rows computes its rows of the whole -/

/-- `b` is block `n` of the rows of `a`. -/
def IsRows {N : Nat} (n : Fin 13) (b : Mat 640 N) (a : Mat 8320 N) : Prop := ∀ (k : Fin 640) (j : Fin N), b (ix2 k j) = a (ix2 (rowAt n k) j)

section
variable {n : Fin 13} {h : Mat 640 1024} {H : Mat 8320 1024} {g : Mat 1 1024}

theorem IsRows.rstd (hh : IsRows n h H) (k : Fin 640) : rstd h k = rstd H (rowAt n k) := by
  unfold Value.rstd
  simp only [hh k]

theorem IsRows.normed (hh : IsRows n h H) (k : Fin 640) (j : Fin 1024) : normed h g k j = normed H g (rowAt n k) j := by
  unfold Value.normed
  rw [hh k j, hh.rstd k]

theorem IsRows.projT {w : Mat 2816 1024} (hh : IsRows n h H) : IsRows n (projT h g w) (projT H g w) := fun k j => by
  show ∑ q : Fin 1024, Value.normed h g k q * w (ix2 j q) = ∑ q : Fin 1024, Value.normed H g (rowAt n k) q * w (ix2 j q)
  simp only [hh.normed]

theorem IsRows.actT {wg wu : Mat 2816 1024} (hh : IsRows n h H) : IsRows n (actT h g wg wu) (actT H g wg wu) := fun k j => by
  show Value.projT h g wg (ix2 k j) * logis (Value.projT h g wg (ix2 k j)) * Value.projT h g wu (ix2 k j) = _
  rw [hh.projT k j, hh.projT k j]
  rfl

theorem IsRows.streamOut {a : Mat 640 2816} {A : Mat 8320 2816} {wd : Mat 2816 1024} (hh : IsRows n h H) (ha : IsRows n a A) :
    IsRows n (streamOut h a wd) (streamOut H A wd) := fun k j => by
  show h (ix2 k j) + ∑ q : Fin 2816, a (ix2 k q) * wd (ix2 q j) = H (ix2 (rowAt n k) j) + ∑ q : Fin 2816, A (ix2 (rowAt n k) q) * wd (ix2 q j)
  rw [hh k j]
  simp only [ha k]

/-- The block's target rows, where they exist, are the target's. -/
def IsTarget (n : Fin 13) (tb : Mat 640 1024) (tg : Mat 8192 1024) : Prop :=
  ∀ (k : Fin 640) (j : Fin 1024) (hk : 128 ≤ 640 * n.val + k.val), tb (ix2 k j) = tg (ix2 ⟨640 * n.val + k.val - 128, by omega⟩ j)

theorem IsRows.err {tb : Mat 640 1024} {tg : Mat 8192 1024} (hh : IsRows n h H) (ht : IsTarget n tb tg) :
    IsRows n (errBlock (640 * n.val) h g tb) (errAll H g tg) := fun k j => by
  unfold errBlock errAll
  by_cases hk : 128 ≤ 640 * n.val + k.val
  · rw [if_pos (show 128 ≤ 640 * n.val + ((ix2 k j : (⟨2, ![640, 1024]⟩ : Shape).Idx) 0).val from hk),
      dif_pos (show 128 ≤ ((ix2 (rowAt n k) j : (⟨2, ![8320, 1024]⟩ : Shape).Idx) 0).val from hk)]
    show Value.normed h g k j - tb (ix2 k j) = Value.normed H g (rowAt n k) j - _
    rw [hh.normed, ht k j hk]
    rfl
  · rw [if_neg (show ¬128 ≤ 640 * n.val + ((ix2 k j : (⟨2, ![640, 1024]⟩ : Shape).Idx) 0).val from hk),
      dif_neg (show ¬128 ≤ ((ix2 (rowAt n k) j : (⟨2, ![8320, 1024]⟩ : Shape).Idx) 0).val from hk)]

theorem IsRows.dLast {e : Mat 640 1024} {E : Mat 8320 1024} (he : IsRows n e E) : IsRows n (dLast e) (dLast E) := fun k j => by
  unfold Value.dLast
  rw [he k j]

theorem IsRows.dThrough {d : Mat 640 1024} {D : Mat 8320 1024} (hh : IsRows n h H) (hd : IsRows n d D) (k : Fin 640) (j : Fin 1024) :
    dThrough d h g k j = dThrough D H g (rowAt n k) j := by
  unfold Value.dThrough
  simp only [hh.rstd, hh k, hd k]

theorem IsRows.dLastGainRow {d : Mat 640 1024} {D : Mat 8320 1024} (hh : IsRows n h H) (hd : IsRows n d D) (k : Fin 640) (j : Fin 1024) :
    dLastGainRow d h k j = dLastGainRow D H (rowAt n k) j := by
  unfold Value.dLastGainRow
  rw [hh.rstd, hh k j, hd k j]

theorem IsRows.rowSquares {e : Mat 640 1024} {E : Mat 8320 1024} (he : IsRows n e E) (k : Fin 640) :
    rowSquares e k = rowSquares E (rowAt n k) := by
  unfold Value.rowSquares
  simp only [he k]

end

end Cert.Value

end
-- ==== Proof.FwdPay.lean ====
/-
  What the body of the forward call stores, from the blocks that it reads: eleven column tiles each of the gate's
  pre-activation, of the up-projection and of the activation, the gradient at the stream, and the steps of its two sums.
-/
module

public import proofs.«01_k».proof.Proof.Fwd.Blocks
public import Idealize.ShloMosaic.Lib.Pipeline.ValueKit
public import Idealize.ShloMosaic.Lib.Pointwise
public import proofs.«01_k».proof.Proof.FwdFormulas

@[expose] public section

set_option maxRecDepth 16384

noncomputable section

namespace Cert.Kernel2Ideal.Fwd

open Cert.Kernel2Ideal Cert.Kernel2Ideal.Gen Cert.Value
open Idealize.ShloMosaic Idealize.ShloMosaic.TcCoe Idealize.ShloMosaic.Tactic

/-- The stores of the gate's pre-activation. -/
def gatePieces (x0 : Vec Ideal S640x1024 .f32) (x1 : Vec Ideal S1x1024 .f32) (x2 : Vec Ideal S2816x1024 .bf16) : List (View.Piece (Elt Ideal) S640x2816 .bf16) :=
  [⟨Rect.unit ![0, 2560] ![640, 256] inb_S640x2816_S640x256_0_2560,
      k0_pay67 (k0_pay7 x0 x1) (View.ld x2 (Rect.unit ![2560, 0] ![256, 1024] inb_S2816x1024_S256x1024_2560_0))⟩,
   ⟨Rect.unit ![0, 2304] ![640, 256] inb_S640x2816_S640x256_0_2304,
      k0_pay61 (k0_pay7 x0 x1) (View.ld x2 (Rect.unit ![2304, 0] ![256, 1024] inb_S2816x1024_S256x1024_2304_0))⟩,
   ⟨Rect.unit ![0, 2048] ![640, 256] inb_S640x2816_S640x256_0_2048,
      k0_pay56 (k0_pay7 x0 x1) (View.ld x2 (Rect.unit ![2048, 0] ![256, 1024] inb_S2816x1024_S256x1024_2048_0))⟩,
   ⟨Rect.unit ![0, 1792] ![640, 256] inb_S640x2816_S640x256_0_1792,
      k0_pay51 (k0_pay7 x0 x1) (View.ld x2 (Rect.unit ![1792, 0] ![256, 1024] inb_S2816x1024_S256x1024_1792_0))⟩,
   ⟨Rect.unit ![0, 1536] ![640, 256] inb_S640x2816_S640x256_0_1536,
      k0_pay44 (k0_pay7 x0 x1) (View.ld x2 (Rect.unit ![1536, 0] ![256, 1024] inb_S2816x1024_S256x1024_1536_0))⟩,
   ⟨Rect.unit ![0, 1280] ![640, 256] inb_S640x2816_S640x256_0_1280,
      k0_pay39 (k0_pay36 (k0_pay7 x0 x1) (View.ld x2 (Rect.unit ![1280, 0] ![256, 1024] inb_S2816x1024_S256x1024_1280_0)))⟩,
   ⟨Rect.unit ![0, 1024] ![640, 256] inb_S640x2816_S640x256_0_1024,
      k0_pay33 (k0_pay7 x0 x1) (View.ld x2 (Rect.unit ![1024, 0] ![256, 1024] inb_S2816x1024_S256x1024_1024_0))⟩,
   ⟨Rect.unit ![0, 768] ![640, 256] inb_S640x2816_S640x256_0_768,
      k0_pay26 (k0_pay7 x0 x1) (View.ld x2 (Rect.unit ![768, 0] ![256, 1024] inb_S2816x1024_S256x1024_768_0))⟩,
   ⟨Rect.unit ![0, 512] ![640, 256] inb_S640x2816_S640x256_0_512,
      k0_pay21 (k0_pay19 (k0_pay7 x0 x1) (View.ld x2 (Rect.unit ![512, 0] ![256, 1024] inb_S2816x1024_S256x1024_512_0)))⟩,
   ⟨Rect.unit ![0, 256] ![640, 256] inb_S640x2816_S640x256_0_256,
      k0_pay16 (k0_pay7 x0 x1) (View.ld x2 (Rect.unit ![256, 0] ![256, 1024] inb_S2816x1024_S256x1024_256_0))⟩,
   ⟨Rect.unit ![0, 0] ![640, 256] inb_S640x2816_S640x256_0_0,
      k0_pay10 x0 x1 (View.ld x2 (Rect.unit ![0, 0] ![256, 1024] inb_S2816x1024_S256x1024_0_0))⟩]

/-- The stores of the up-projection. -/
def upPieces (x0 : Vec Ideal S640x1024 .f32) (x1 : Vec Ideal S1x1024 .f32) (x3 : Vec Ideal S2816x1024 .bf16) : List (View.Piece (Elt Ideal) S640x2816 .bf16) :=
  [⟨Rect.unit ![0, 2560] ![640, 256] inb_S640x2816_S640x256_0_2560,
      k0_pay68 (k0_pay7 x0 x1) (View.ld x3 (Rect.unit ![2560, 0] ![256, 1024] inb_S2816x1024_S256x1024_2560_0))⟩,
   ⟨Rect.unit ![0, 2304] ![640, 256] inb_S640x2816_S640x256_0_2304,
      k0_pay62 (k0_pay7 x0 x1) (View.ld x3 (Rect.unit ![2304, 0] ![256, 1024] inb_S2816x1024_S256x1024_2304_0))⟩,
   ⟨Rect.unit ![0, 2048] ![640, 256] inb_S640x2816_S640x256_0_2048,
      k0_pay57 (k0_pay55 (k0_pay7 x0 x1) (View.ld x3 (Rect.unit ![2048, 0] ![256, 1024] inb_S2816x1024_S256x1024_2048_0)))⟩,
   ⟨Rect.unit ![0, 1792] ![640, 256] inb_S640x2816_S640x256_0_1792,
      k0_pay52 (k0_pay7 x0 x1) (View.ld x3 (Rect.unit ![1792, 0] ![256, 1024] inb_S2816x1024_S256x1024_1792_0))⟩,
   ⟨Rect.unit ![0, 1536] ![640, 256] inb_S640x2816_S640x256_0_1536,
      k0_pay45 (k0_pay7 x0 x1) (View.ld x3 (Rect.unit ![1536, 0] ![256, 1024] inb_S2816x1024_S256x1024_1536_0))⟩,
   ⟨Rect.unit ![0, 1280] ![640, 256] inb_S640x2816_S640x256_0_1280,
      k0_pay40 (k0_pay7 x0 x1) (k0_pay37 (View.ld x3 (Rect.unit ![1280, 0] ![256, 1024] inb_S2816x1024_S256x1024_1280_0)))⟩,
   ⟨Rect.unit ![0, 1024] ![640, 256] inb_S640x2816_S640x256_0_1024,
      k0_pay34 (k0_pay7 x0 x1) (View.ld x3 (Rect.unit ![1024, 0] ![256, 1024] inb_S2816x1024_S256x1024_1024_0))⟩,
   ⟨Rect.unit ![0, 768] ![640, 256] inb_S640x2816_S640x256_0_768,
      k0_pay27 (k0_pay7 x0 x1) (View.ld x3 (Rect.unit ![768, 0] ![256, 1024] inb_S2816x1024_S256x1024_768_0))⟩,
   ⟨Rect.unit ![0, 512] ![640, 256] inb_S640x2816_S640x256_0_512,
      k0_pay22 (k0_pay7 x0 x1) (View.ld x3 (Rect.unit ![512, 0] ![256, 1024] inb_S2816x1024_S256x1024_512_0))⟩,
   ⟨Rect.unit ![0, 256] ![640, 256] inb_S640x2816_S640x256_0_256,
      k0_pay17 (k0_pay7 x0 x1) (View.ld x3 (Rect.unit ![256, 0] ![256, 1024] inb_S2816x1024_S256x1024_256_0))⟩,
   ⟨Rect.unit ![0, 0] ![640, 256] inb_S640x2816_S640x256_0_0,
      k0_pay11 x0 x1 (View.ld x3 (Rect.unit ![0, 0] ![256, 1024] inb_S2816x1024_S256x1024_0_0))⟩]

/-- The stores of the activation. -/
def actPieces (x0 : Vec Ideal S640x1024 .f32) (x1 : Vec Ideal S1x1024 .f32) (x2 x3 : Vec Ideal S2816x1024 .bf16) : List (View.Piece (Elt Ideal) S640x2816 .bf16) :=
  [⟨Rect.unit ![0, 2560] ![640, 256] inb_S640x2816_S640x256_0_2560,
      k0_pay69 (k0_pay7 x0 x1) (View.ld x2 (Rect.unit ![2560, 0] ![256, 1024] inb_S2816x1024_S256x1024_2560_0)) (View.ld x3 (Rect.unit ![2560, 0] ![256, 1024] inb_S2816x1024_S256x1024_2560_0))⟩,
   ⟨Rect.unit ![0, 2304] ![640, 256] inb_S640x2816_S640x256_0_2304,
      k0_pay64 (k0_pay63 (k0_pay7 x0 x1) (View.ld x2 (Rect.unit ![2304, 0] ![256, 1024] inb_S2816x1024_S256x1024_2304_0)) (View.ld x3 (Rect.unit ![2304, 0] ![256, 1024] inb_S2816x1024_S256x1024_2304_0)))⟩,
   ⟨Rect.unit ![0, 2048] ![640, 256] inb_S640x2816_S640x256_0_2048,
      k0_pay58 (k0_pay54 (k0_pay7 x0 x1) (View.ld x2 (Rect.unit ![2048, 0] ![256, 1024] inb_S2816x1024_S256x1024_2048_0))) (k0_pay55 (k0_pay7 x0 x1) (View.ld x3 (Rect.unit ![2048, 0] ![256, 1024] inb_S2816x1024_S256x1024_2048_0)))⟩,
   ⟨Rect.unit ![0, 1792] ![640, 256] inb_S640x2816_S640x256_0_1792,
      k0_pay53 (k0_pay7 x0 x1) (View.ld x2 (Rect.unit ![1792, 0] ![256, 1024] inb_S2816x1024_S256x1024_1792_0)) (View.ld x3 (Rect.unit ![1792, 0] ![256, 1024] inb_S2816x1024_S256x1024_1792_0))⟩,
   ⟨Rect.unit ![0, 1536] ![640, 256] inb_S640x2816_S640x256_0_1536,
      k0_pay48 (k0_pay42 (k0_pay7 x0 x1) (View.ld x2 (Rect.unit ![1536, 0] ![256, 1024] inb_S2816x1024_S256x1024_1536_0))) (k0_pay43 (k0_pay7 x0 x1) (View.ld x3 (Rect.unit ![1536, 0] ![256, 1024] inb_S2816x1024_S256x1024_1536_0))) (k0_pay46 (k0_pay7 x0 x1) (View.ld x2 (Rect.unit ![1536, 0] ![256, 1024] inb_S2816x1024_S256x1024_1536_0))) k0_pay47⟩,
   ⟨Rect.unit ![0, 1280] ![640, 256] inb_S640x2816_S640x256_0_1280,
      k0_pay41 (k0_pay7 x0 x1) (k0_pay36 (k0_pay7 x0 x1) (View.ld x2 (Rect.unit ![1280, 0] ![256, 1024] inb_S2816x1024_S256x1024_1280_0))) (k0_pay37 (View.ld x3 (Rect.unit ![1280, 0] ![256, 1024] inb_S2816x1024_S256x1024_1280_0)))⟩,
   ⟨Rect.unit ![0, 1024] ![640, 256] inb_S640x2816_S640x256_0_1024,
      k0_pay35 (k0_pay7 x0 x1) (View.ld x2 (Rect.unit ![1024, 0] ![256, 1024] inb_S2816x1024_S256x1024_1024_0)) (View.ld x3 (Rect.unit ![1024, 0] ![256, 1024] inb_S2816x1024_S256x1024_1024_0))⟩,
   ⟨Rect.unit ![0, 768] ![640, 256] inb_S640x2816_S640x256_0_768,
      k0_pay30 (k0_pay24 (k0_pay7 x0 x1) (View.ld x2 (Rect.unit ![768, 0] ![256, 1024] inb_S2816x1024_S256x1024_768_0))) (k0_pay25 (k0_pay7 x0 x1) (View.ld x3 (Rect.unit ![768, 0] ![256, 1024] inb_S2816x1024_S256x1024_768_0))) (k0_pay28 (k0_pay7 x0 x1) (View.ld x2 (Rect.unit ![768, 0] ![256, 1024] inb_S2816x1024_S256x1024_768_0))) k0_pay29⟩,
   ⟨Rect.unit ![0, 512] ![640, 256] inb_S640x2816_S640x256_0_512,
      k0_pay23 (k0_pay7 x0 x1) (k0_pay19 (k0_pay7 x0 x1) (View.ld x2 (Rect.unit ![512, 0] ![256, 1024] inb_S2816x1024_S256x1024_512_0))) (View.ld x3 (Rect.unit ![512, 0] ![256, 1024] inb_S2816x1024_S256x1024_512_0))⟩,
   ⟨Rect.unit ![0, 256] ![640, 256] inb_S640x2816_S640x256_0_256,
      k0_pay18 (k0_pay7 x0 x1) (View.ld x2 (Rect.unit ![256, 0] ![256, 1024] inb_S2816x1024_S256x1024_256_0)) (View.ld x3 (Rect.unit ![256, 0] ![256, 1024] inb_S2816x1024_S256x1024_256_0))⟩,
   ⟨Rect.unit ![0, 0] ![640, 256] inb_S640x2816_S640x256_0_0,
      k0_pay13 (k0_pay8 x0 x1 (View.ld x2 (Rect.unit ![0, 0] ![256, 1024] inb_S2816x1024_S256x1024_0_0))) (k0_pay9 x0 x1 (View.ld x3 (Rect.unit ![0, 0] ![256, 1024] inb_S2816x1024_S256x1024_0_0))) (k0_pay12 x0 x1 (View.ld x2 (Rect.unit ![0, 0] ![256, 1024] inb_S2816x1024_S256x1024_0_0)))⟩]

/-- The normalised rows of a block. -/
theorem normed_pay (h : Vec Ideal S640x1024 .f32) (g : Vec Ideal S1x1024 .f32) (j : S640x1024.Idx) : k0_pay7 h g j = normed h g (j 0) (j 1) := by
  pointwise [k0_pay7, normed, rstd]

/-- The stored tiles make up the gate's pre-activation of the block. -/
theorem gate_canon (x0 : Vec Ideal S640x1024 .f32) (x1 : Vec Ideal S1x1024 .f32) (x2 : Vec Ideal S2816x1024 .bf16) (y : S640x2816.Idx) :
    View.canon (gatePieces x0 x1 x2) y = projT x0 x1 x2 y := by
  unfold gatePieces
  canon_tiles x h
  all_goals unfold projT rowDot hnA normed rstd
  all_goals open_payloads
  all_goals pointwise
  all_goals blk_point [h0, h1]

/-- The stored tiles make up the up-projection of the block. -/
theorem up_canon (x0 : Vec Ideal S640x1024 .f32) (x1 : Vec Ideal S1x1024 .f32) (x3 : Vec Ideal S2816x1024 .bf16) (y : S640x2816.Idx) :
    View.canon (upPieces x0 x1 x3) y = projT x0 x1 x3 y := by
  unfold upPieces
  canon_tiles x h
  all_goals unfold projT rowDot hnA normed rstd
  all_goals open_payloads
  all_goals pointwise
  all_goals blk_point [h0, h1]

/-- The stored tiles make up the activation of the block. -/
theorem act_canon (x0 : Vec Ideal S640x1024 .f32) (x1 : Vec Ideal S1x1024 .f32) (x2 x3 : Vec Ideal S2816x1024 .bf16) (y : S640x2816.Idx) :
    View.canon (actPieces x0 x1 x2 x3) y = actT x0 x1 x2 x3 y := by
  unfold actPieces
  canon_tiles x h
  all_goals unfold actT times silu logis projT rowDot hnA normed rstd
  all_goals open_payloads
  all_goals pointwise
  all_goals blk_point [h0, h1]

/-- The product with the down-projection's weight. -/
theorem down_pay (a : Vec Ideal S640x2816 .bf16) (wd : Vec Ideal S2816x1024 .bf16) (j : S640x1024.Idx) : k0_pay70 a wd j = matDot a wd (j 0) (j 1) := by
  pointwise [k0_pay70, matDot]

/-- The residual stream after the block. -/
theorem stream_pay (h : Vec Ideal S640x1024 .f32) (a : Vec Ideal S640x2816 .bf16) (wd : Vec Ideal S2816x1024 .bf16) :
    k0_pay71 h (k0_pay70 a wd) = streamOut h a wd := by
  funext j
  pointwise [k0_pay71, streamOut, down_pay]

/-- Its row statistic. -/
theorem rstd_pay (h : Vec Ideal S640x1024 .f32) (a : Vec Ideal S640x2816 .bf16) (wd : Vec Ideal S2816x1024 .bf16) (j : S640x1.Idx) :
    k0_pay72 h (k0_pay70 a wd) j = rstd (streamOut h a wd) (j 0) := by
  pointwise [k0_pay72, rstd, stream_pay]

/-- The error of the block. -/
theorem err_pay (n : Nat) (hn : n < 13) (h : Vec Ideal S640x1024 .f32) (a : Vec Ideal S640x2816 .bf16) (wd : Vec Ideal S2816x1024 .bf16)
    (g : Vec Ideal S1x1024 .f32) (tg : Vec Ideal S640x1024 .f32) :
    k0_pay73 (BitVec.ofNat 32 n) h (k0_pay70 a wd) g tg = errBlock (640 * n) (streamOut h a wd) g tg := by
  funext j
  unfold errBlock normed
  pointwise [k0_pay73, stream_pay, rstd_pay]
  have hj : (j 0).val < 640 := (j 0).isLt
  have e : IntOp.addi (BitVec.ofNat 32 (j 0).val) (Scalar.muli (BitVec.ofNat 32 n) 640#32) = BitVec.ofNat 32 (640 * n + (j 0).val) := by
    apply BitVec.eq_of_toNat_eq
    simp only [IntOp.addi, Scalar.muli, IntOp.muli, BitVec.toNat_add, BitVec.toNat_mul, BitVec.toNat_ofNat]
    omega
  rw [e, WordCmp.cmpi_sge_ofNat (by omega) (by omega), WordCmp.select_ofBool]
  simp only [decide_eq_true_eq]

/-- The gradient of the loss at the normalised stream of the block. -/
theorem dLast_pay (b : BitVec 32) (h w : Vec Ideal S640x1024 .f32) (g : Vec Ideal S1x1024 .f32) (tg : Vec Ideal S640x1024 .f32) (j : S640x1024.Idx) :
    k0_pay74 b h w g tg j = dLast (k0_pay73 b h w g tg) j := by
  pointwise [k0_pay74, dLast]

/-- The gradient at the stream of the block. -/
theorem through_pay (b : BitVec 32) (h : Vec Ideal S640x1024 .f32) (a : Vec Ideal S640x2816 .bf16) (wd : Vec Ideal S2816x1024 .bf16)
    (g : Vec Ideal S1x1024 .f32) (tg : Vec Ideal S640x1024 .f32) (j : S640x1024.Idx) :
    k0_pay1 (k0_pay72 h (k0_pay70 a wd)) (k0_pay75 b h (k0_pay70 a wd) g tg) j
      = dThrough (dLast (k0_pay73 b h (k0_pay70 a wd) g tg)) (streamOut h a wd) g (j 0) (j 1) := by
  pointwise [k0_pay1, k0_pay75, dThrough, stream_pay, rstd_pay, dLast_pay]

/-- What the block adds to the gradient of the last gain. -/
theorem gain_pay (h : Vec Ideal S640x1024 .f32) (a : Vec Ideal S640x2816 .bf16) (wd : Vec Ideal S2816x1024 .bf16)
    (d : Vec Ideal S640x1024 .f32) (acc : Vec Ideal S1x1024 .f32) (j : S1x1024.Idx) :
    k0_pay3 (k0_pay71 h (k0_pay70 a wd)) (k0_pay72 h (k0_pay70 a wd)) d acc j
      = acc j + ∑ i : Fin 640, dLastGainRow d (streamOut h a wd) i (j 1) := by
  pointwise [k0_pay3, dLastGainRow, stream_pay, rstd_pay]

/-- What the block adds to the loss. -/
theorem loss_pay (e : Vec Ideal S640x1024 .f32) (acc : Vec Ideal S8x128 .f32) (j : S8x128.Idx) :
    k0_pay2 e acc j = acc j + Ideal.ofBits .f32 0x3A000000#32 * ∑ i : Fin 640, rowSquares e i := by
  unfold rowSquares
  pointwise [k0_pay2]

/-- The blocks that the resets store are zero. -/
theorem zero_loss (j : S8x128.Idx) : k0_pay4 (F := Ideal) j = 0 := by
  pointwise [k0_pay4]

/-- The blocks that the resets store are zero. -/
theorem zero_gain (j : S1x1024.Idx) : k0_pay5 (F := Ideal) j = 0 := by
  pointwise [k0_pay5]

end Cert.Kernel2Ideal.Fwd

end
-- ==== Proof.FwdRows.lean ====
/-
  What the forward call leaves in its outputs after each grid point, from the blocks that it reads there.
-/
module

public import proofs.«01_k».proof.Proof.FwdPay
public import Idealize.ShloMosaic.Lib.VecWindow
public import Idealize.ShloMosaic.Lib.Writes

@[expose] public section

set_option maxRecDepth 16384

noncomputable section

namespace Cert.Kernel2Ideal.Fwd

open Cert.Kernel2Ideal Cert.Kernel2Ideal.Gen Cert.Value
open Idealize.ShloMosaic Idealize.ShloMosaic.TcCoe Idealize.ShloMosaic.Tactic

/-- The activation's staging buffer, read back whole after its eleven stores. -/
theorem act_read {sp : Space} (v : View sig .tc sp S640x2816 .bf16) (x0 : Vec Ideal S640x1024 .f32) (x1 : Vec Ideal S1x1024 .f32) (x2 x3 : Vec Ideal S2816x1024 .bf16) :
    v.readCov (actPieces x0 x1 x2 x3) (Rect.unit ![0, 0] ![640, 2816] inb_S640x2816_S640x2816_0_0).toLoadRect = actT x0 x1 x2 x3 := by
  rw [View.readCov_eq_canon']
  funext j
  refine (congrArg (View.canon (actPieces x0 x1 x2 x3)) ?_).trans (act_canon x0 x1 x2 x3 j)
  exact Rect.emb_unit_full (s := S640x2816) inb_S640x2816_S640x2816_0_0 j

section Blocks

variable (x0 : Vec Ideal S640x1024 .f32) (x1 : Vec Ideal S1x1024 .f32) (x2 x3 : Vec Ideal S2816x1024 .bf16)
  (x4 : Vec Ideal S2816x1024 .bf16) (x5 : Vec Ideal S1x1024 .f32) (T : Vec Ideal S640x1024 .f32)

/-- The residual stream of a block after the feed-forward block. -/
def blkStream : Mat 640 1024 := streamOut (R := 640) x0 (actT x0 x1 x2 x3) x4

/-- The error of the block number `n`. -/
def blkErr (n : Nat) : Mat 640 1024 := errBlock (640 * n) (blkStream x0 x1 x2 x3 x4) x5 T

/-- The gradient at the stream that a point stores. -/
theorem dh_of {sp : Space} (v : View sig .tc sp S640x2816 .bf16) (b : BitVec 32) (n : Nat) (hn : n < 13) (hb : b = BitVec.ofNat 32 n) (y : S640x1024.Idx) :
    k0_pay1 (k0_pay72 x0 (k0_pay70 (v.readCov (actPieces x0 x1 x2 x3) (Rect.unit ![0, 0] ![640, 2816] inb_S640x2816_S640x2816_0_0).toLoadRect :) x4))
      (k0_pay75 b x0 (k0_pay70 (v.readCov (actPieces x0 x1 x2 x3) (Rect.unit ![0, 0] ![640, 2816] inb_S640x2816_S640x2816_0_0).toLoadRect :) x4) x5 T) y
      = dThrough (dLast (blkErr x0 x1 x2 x3 x4 x5 T n)) (blkStream x0 x1 x2 x3 x4) x5 (y 0) (y 1) := by
  rw [hb, act_read, through_pay, err_pay n hn]
  rfl

/-- The step of the loss that a point makes. -/
theorem loss_of {sp : Space} (v : View sig .tc sp S640x2816 .bf16) (b : BitVec 32) (n : Nat) (hn : n < 13) (hb : b = BitVec.ofNat 32 n) (acc : Vec Ideal S8x128 .f32) (y : S8x128.Idx) :
    k0_pay2 (k0_pay73 b x0 (k0_pay70 (v.readCov (actPieces x0 x1 x2 x3) (Rect.unit ![0, 0] ![640, 2816] inb_S640x2816_S640x2816_0_0).toLoadRect :) x4) x5 T) acc y
      = acc y + Ideal.ofBits .f32 0x3A000000#32 * ∑ i : Fin 640, rowSquares (blkErr x0 x1 x2 x3 x4 x5 T n) i := by
  rw [hb, act_read, loss_pay, err_pay n hn]
  rfl

/-- The step of the last gain's gradient that a point makes. -/
theorem gain_of {sp : Space} (v : View sig .tc sp S640x2816 .bf16) (b : BitVec 32) (n : Nat) (hn : n < 13) (hb : b = BitVec.ofNat 32 n) (acc : Vec Ideal S1x1024 .f32) (y : S1x1024.Idx) :
    k0_pay3 (k0_pay71 x0 (k0_pay70 (v.readCov (actPieces x0 x1 x2 x3) (Rect.unit ![0, 0] ![640, 2816] inb_S640x2816_S640x2816_0_0).toLoadRect :) x4))
      (k0_pay72 x0 (k0_pay70 (v.readCov (actPieces x0 x1 x2 x3) (Rect.unit ![0, 0] ![640, 2816] inb_S640x2816_S640x2816_0_0).toLoadRect :) x4))
      (k0_pay74 b x0 (k0_pay70 (v.readCov (actPieces x0 x1 x2 x3) (Rect.unit ![0, 0] ![640, 2816] inb_S640x2816_S640x2816_0_0).toLoadRect :) x4) x5 T) acc y
      = acc y + ∑ i : Fin 640, dLastGainRow (dLast (blkErr x0 x1 x2 x3 x4 x5 T n)) (blkStream x0 x1 x2 x3 x4) i (y 1) := by
  rw [hb, act_read, gain_pay, show k0_pay74 (BitVec.ofNat 32 n) x0 (k0_pay70 (actT x0 x1 x2 x3) x4) x5 T = _ from funext fun j => dLast_pay _ _ _ _ _ j, err_pay n hn]
  rfl

end Blocks

variable (m : (ℓ : Loc nD τ sig) → Buf (Elt Ideal) ℓ)

/-- The rows of the target that the first point's scratch holds: none for the first 128 rows, then the target's first 512. -/
def tgtA (c : Dev nD) : Vec Ideal S640x1024 .f32 :=
  ((View.whole cc0_scratch0).readCov
    [⟨Rect.unit ![128, 0] ![512, 1024] inb_S640x1024_S512x1024_128_0,
        ReadAs.same.apply (View.read (Elt Ideal) ((View.whole main_arg6).slice (Rect.unit ![0, 0] ![512, 1024] inb_S8192x1024_S512x1024_0_0)) (V m c main_arg6))⟩,
      ⟨Rect.unit ![0, 0] ![128, 1024] inb_S640x1024_S128x1024_0_0, (k0_pay6 (F := Ideal) :)⟩]
    (Rect.unit ![0, 0] ![640, 1024] inb_S640x1024_S640x1024_0_0).toLoadRect :)

theorem tgtA_target (c : Dev nD) : IsTarget 0 (tgtA m c) (V m c main_arg6 : Mat 8192 1024) := by
  intro k j hk
  have hk' : 128 ≤ k.val := by simpa using hk
  unfold tgtA
  rw [View.readCov_eq_canon']
  have e : (Rect.unit (s := S640x1024) ![128, 0] ![512, 1024] inb_S640x1024_S512x1024_128_0).emb
      (ix2 (⟨k.val - 128, by omega⟩ : Fin 512) j)
      = (Rect.unit (s := S640x1024) ![0, 0] ![640, 1024] inb_S640x1024_S640x1024_0_0).toLoadRect.idx (ix2 k j) := by
    funext a
    refine Fin.ext ?_
    fin_cases a
    · show 128 + 1 * (k.val - 128) = 0 + 1 * k.val; omega
    · rfl
  refine (congrArg (View.canon _) e.symm).trans ((View.canon_cons_emb _ _ _ _).trans ?_)
  refine congrArg (V m c main_arg6) ?_
  funext a
  refine Fin.ext ?_
  fin_cases a
  · show 0 + 1 * (k.val - 128) = 640 * 0 + k.val - 128; omega
  · show 0 + 1 * j.val = j.val; omega

/-- The rows of the target that a later point's scratch holds: 640 rows of the target from the given offset. -/
def tgtB (c : Dev nD) (off : Fin 2 → ℕ) (inb : ∀ a, off a + (![640, 1024] : Fin 2 → ℕ) a ≤ S8192x1024.size a) : Vec Ideal S640x1024 .f32 :=
  ((View.whole cc0_scratch0).readCov
    [⟨Rect.whole S640x1024,
        ReadAs.same.apply (View.read (Elt Ideal) ((View.whole main_arg6).slice (Rect.unit off ![640, 1024] inb)) (V m c main_arg6))⟩]
    (Rect.unit ![0, 0] ![640, 1024] inb_S640x1024_S640x1024_0_0).toLoadRect :)

theorem coords0 : ∀ t : Fin cfg0.N, BitVec.ofNat 32 (grid0.coords t 0).val = BitVec.ofNat 32 t.val :=
  (by decide +kernel : ∀ t : Fin grid0.N, BitVec.ofNat 32 (grid0.coords t 0).val = BitVec.ofNat 32 t.val)

theorem off1_eq : ∀ t : Fin cfg0.N, 1 ≤ t.val → k0_off1 (grid0.coords t) = ![640 * t.val - 128, 0] :=
  (by decide +kernel : ∀ t : Fin grid0.N, 1 ≤ t.val → k0_off1 (grid0.coords t) = ![640 * t.val - 128, 0])

theorem tgtB_target (c : Dev nD) (n : Fin 13) (hn : 1 ≤ n.val) (off : Fin 2 → ℕ) (inb : ∀ a, off a + (![640, 1024] : Fin 2 → ℕ) a ≤ S8192x1024.size a)
    (h : off = ![640 * n.val - 128, 0]) : IsTarget n (tgtB m c off inb) (V m c main_arg6 : Mat 8192 1024) := by
  subst h
  intro k j hk
  unfold tgtB
  rw [View.readCov_eq_canon']
  have e : (Rect.whole S640x1024).emb (ix2 k j)
      = (Rect.unit (s := S640x1024) ![0, 0] ![640, 1024] inb_S640x1024_S640x1024_0_0).toLoadRect.idx (ix2 k j) := by
    funext a
    refine Fin.ext ?_
    fin_cases a <;> rfl
  refine (congrArg (View.canon _) e.symm).trans ((View.canon_cons_emb _ _ _ _).trans ?_)
  refine congrArg (V m c main_arg6) ?_
  funext a
  refine Fin.ext ?_
  fin_cases a
  · show (640 * n.val - 128) + 1 * k.val = 640 * n.val + k.val - 128; omega
  · show 0 + 1 * j.val = j.val; omega

variable (c : Dev nD) (t : Fin cfg0.N)

/-- The stream after the feed-forward block, in the block of a point. -/
def streamAt : Mat 640 1024 := blkStream (iblk m c 0 t) (iblk m c 1 t) (iblk m c 2 t) (iblk m c 3 t) (iblk m c 4 t)

/-- The target rows that the scratch holds at a point. -/
def tgtAt : Vec Ideal S640x1024 .f32 :=
  if h2 : 1 ≤ t.val then tgtB m c (k0_off1 (grid0.coords t)) (k0_off1_inb _ ((hcond0_2 t).mpr h2)) else tgtA m c

theorem tgtAt_target (n : Fin 13) (hn : n.val = t.val) : IsTarget n (tgtAt m c t) (V m c main_arg6 : Mat 8192 1024) := by
  unfold tgtAt
  split
  · next h2 => exact tgtB_target m c n (hn ▸ h2) _ _ (hn ▸ off1_eq t h2)
  · next h2 =>
    obtain rfl : n = 0 := Fin.ext (by simp only [Fin.val_zero]; omega)
    exact tgtA_target m c

/-- The error in the block of a point. -/
def errAt : Mat 640 1024 := blkErr (iblk m c 0 t) (iblk m c 1 t) (iblk m c 2 t) (iblk m c 3 t) (iblk m c 4 t) (iblk m c 5 t) (tgtAt m c t) t.val

theorem cases_t : 1 ≤ t.val ∧ ¬t.val % 13 = 0 ∧ t.val < 13 ∨ ¬1 ≤ t.val ∧ t.val % 13 = 0 ∧ t = ⟨0, by decide⟩ := by
  have hN : t.val < 13 := lt_of_lt_of_eq t.isLt (by decide)
  by_cases h2 : 1 ≤ t.val
  · exact .inl ⟨h2, by omega, hN⟩
  · exact .inr ⟨h2, by omega, Fin.ext (by simpa using h2)⟩

theorem out_gate (y : S640x2816.Idx) :
    (outsAt0 m c t.val t.isLt).1 y = projT (iblk m c 0 t : Mat 640 1024) (iblk m c 1 t : Mat 1 1024) (iblk m c 2 t : Mat 2816 1024) y := by
  obtain ⟨h2, h0, -⟩ | ⟨h2, h0, -⟩ := cases_t t
  · rw [outsAt0_B m c t h0 h0 h2]; frame_out
    exact gate_canon _ _ _ y
  · rw [outsAt0_A m c t h0 h0 h2]; frame_out
    exact gate_canon _ _ _ y

theorem out_up (y : S640x2816.Idx) :
    (outsAt0 m c t.val t.isLt).2.1 y = projT (iblk m c 0 t : Mat 640 1024) (iblk m c 1 t : Mat 1 1024) (iblk m c 3 t : Mat 2816 1024) y := by
  obtain ⟨h2, h0, -⟩ | ⟨h2, h0, -⟩ := cases_t t
  · rw [outsAt0_B m c t h0 h0 h2]; frame_out
    exact up_canon _ _ _ y
  · rw [outsAt0_A m c t h0 h0 h2]; frame_out
    exact up_canon _ _ _ y

theorem out_act (y : S640x2816.Idx) :
    (outsAt0 m c t.val t.isLt).2.2.1 y = actT (iblk m c 0 t : Mat 640 1024) (iblk m c 1 t : Mat 1 1024) (iblk m c 2 t : Mat 2816 1024) (iblk m c 3 t : Mat 2816 1024) y := by
  obtain ⟨h2, h0, -⟩ | ⟨h2, h0, -⟩ := cases_t t
  · rw [outsAt0_B m c t h0 h0 h2]; frame_out
    exact act_canon _ _ _ _ y
  · rw [outsAt0_A m c t h0 h0 h2]; frame_out
    exact act_canon _ _ _ _ y

theorem out_dh (y : S640x1024.Idx) :
    (outsAt0 m c t.val t.isLt).2.2.2.1 y = dThrough (dLast (errAt m c t)) (streamAt m c t) (iblk m c 5 t) (y 0) (y 1) := by
  unfold errAt tgtAt
  obtain ⟨h2, h0, hN⟩ | ⟨h2, h0, e⟩ := cases_t t
  · rw [outsAt0_B m c t h0 h0 h2, dif_pos h2]; frame_out
    exact dh_of _ _ _ _ _ _ (tgtB m c (k0_off1 (grid0.coords t)) (k0_off1_inb _ ((hcond0_2 t).mpr h2))) _ _ t.val hN (coords0 t) y
  · rw [outsAt0_A m c t h0 h0 h2, dif_neg h2]; frame_out
    subst e
    exact dh_of _ _ _ _ _ _ (tgtA m c) _ _ 0 (by decide) rfl y

/-- What a point adds to the loss. -/
def lossStep : Ideal .f32 := Ideal.ofBits .f32 0x3A000000#32 * ∑ i : Fin 640, rowSquares (errAt m c t) i

theorem out_loss_A (h : t.val % 13 = 0) (y : S8x128.Idx) :
    (outsAt0 m c t.val t.isLt).2.2.2.2.1 y = 0 + lossStep m c t := by
  unfold lossStep errAt tgtAt
  obtain ⟨h2, h0, hN⟩ | ⟨h2, h0, e⟩ := cases_t t
  · exact absurd h h0
  · rw [outsAt0_A m c t h0 h0 h2, dif_neg h2]; frame_out
    subst e
    refine (loss_of _ _ _ _ _ _ (tgtA m c) _ _ 0 (by decide) rfl _ y).trans ?_
    rw [zero_loss]

/-- What a point adds to the last gain's gradient. -/
def gainStep (j : Fin 1024) : Ideal .f32 := ∑ i : Fin 640, dLastGainRow (dLast (errAt m c t)) (streamAt m c t) i j

theorem out_gain_A (h : t.val % 13 = 0) (y : S1x1024.Idx) :
    (outsAt0 m c t.val t.isLt).2.2.2.2.2 y = 0 + gainStep m c t (y 1) := by
  unfold gainStep errAt tgtAt
  obtain ⟨h2, h0, hN⟩ | ⟨h2, h0, e⟩ := cases_t t
  · exact absurd h h0
  · rw [outsAt0_A m c t h0 h0 h2, dif_neg h2]; frame_out
    subst e
    refine (gain_of _ _ _ _ _ _ (tgtA m c) _ _ 0 (by decide) rfl _ y).trans ?_
    rw [zero_gain]
    rfl

theorem out_loss_B (h : ¬t.val % 13 = 0) (y : S8x128.Idx) :
    (outsAt0 m c t.val t.isLt).2.2.2.2.1 y = (outsAt0 m c (t.val - 1) (by omega)).2.2.2.2.1 y + lossStep m c t := by
  unfold lossStep errAt tgtAt
  obtain ⟨h2, h0, hN⟩ | ⟨h2, h0, e⟩ := cases_t t
  · rw [outsAt0_B m c t h0 h0 h2, dif_pos h2]; frame_out
    exact (loss_of _ _ _ _ _ _ (tgtB m c (k0_off1 (grid0.coords t)) (k0_off1_inb _ ((hcond0_2 t).mpr h2))) _ _ t.val hN (coords0 t) _ y)
  · exact absurd h0 h

theorem out_gain_B (h : ¬t.val % 13 = 0) (y : S1x1024.Idx) :
    (outsAt0 m c t.val t.isLt).2.2.2.2.2 y = (outsAt0 m c (t.val - 1) (by omega)).2.2.2.2.2 y + gainStep m c t (y 1) := by
  unfold gainStep errAt tgtAt
  obtain ⟨h2, h0, hN⟩ | ⟨h2, h0, e⟩ := cases_t t
  · rw [outsAt0_B m c t h0 h0 h2, dif_pos h2]; frame_out
    exact (gain_of _ _ _ _ _ _ (tgtB m c (k0_off1 (grid0.coords t)) (k0_off1_inb _ ((hcond0_2 t).mpr h2))) _ _ t.val hN (coords0 t) _ y)
  · exact absurd h0 h

end Cert.Kernel2Ideal.Fwd

end
-- ==== Proof.FwdValue.lean ====
/-
  What the forward call leaves in its six results: the projections, the activation, the gradient at the stream after
  the block, and, summed over the thirteen row tiles, the loss and the last gain's gradient.
-/
module

public import proofs.«01_k».proof.Proof.FwdRows
public import proofs.«01_k».proof.Proof.Fwd.Blocks
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel2Ideal.Fwd

open Cert.Kernel2Ideal Cert.Kernel2Ideal.Gen Cert.Value
open Idealize.ShloMosaic Idealize.ShloMosaic.TcCoe Idealize.ShloMosaic.Tactic

/-- The block index of every window of the call at a point: the row tile is the point. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0])

variable (m : (ℓ : Loc nD τ sig) → Buf (Elt Ideal) ℓ) (ρ : Dev nD → PrngReg) (c : Dev nD) (t : Fin cfg0.N)

/-- The number of a point, as the number of a row tile. -/
def tile (t : Fin cfg0.N) : Fin 13 := ⟨t.val, lt_of_lt_of_eq t.isLt N_0⟩

theorem rows0 : IsRows (tile t) (iblk m c 0 t : Mat 640 1024) (V m c main_arg0 : Mat 8320 1024) := fun k j => by
  unfold rowAt tile
  blk_point [iblk, idx0 t]

theorem blk1 : (iblk m c 1 t : Mat 1 1024) = (V m c main_arg1 : Mat 1 1024) := by
  funext j
  blk_point [iblk, idx0 t]

theorem blk2 : (iblk m c 2 t : Mat 2816 1024) = (V m c main_v1 : Mat 2816 1024) := by
  funext j
  blk_point [iblk, idx0 t]

theorem blk3 : (iblk m c 3 t : Mat 2816 1024) = (V m c main_v3 : Mat 2816 1024) := by
  funext j
  blk_point [iblk, idx0 t]

theorem blk4 : (iblk m c 4 t : Mat 2816 1024) = (V m c main_v4 : Mat 2816 1024) := by
  funext j
  blk_point [iblk, idx0 t]

theorem blk5 : (iblk m c 5 t : Mat 1 1024) = (V m c main_arg5 : Mat 1 1024) := by
  funext j
  blk_point [iblk, idx0 t]

/-- The stream after the block, all rows. -/
def streamV : Mat 8320 1024 := streamOut (V m c main_arg0 : Mat 8320 1024) (actT (V m c main_arg0 : Mat 8320 1024) (V m c main_arg1 : Mat 1 1024) (V m c main_v1 : Mat 2816 1024) (V m c main_v3 : Mat 2816 1024)) (V m c main_v4 : Mat 2816 1024)

/-- The error, all rows. -/
def errV : Mat 8320 1024 := errAll (streamV m c) (V m c main_arg5 : Mat 1 1024) (V m c main_arg6 : Mat 8192 1024)

theorem rows_stream : IsRows (tile t) (streamAt m c t) (streamV m c) := by
  unfold streamAt blkStream streamV
  rw [show (iblk m c 1 t : Mat 1 1024) = _ from blk1 m c t, show (iblk m c 2 t : Mat 2816 1024) = _ from blk2 m c t,
    show (iblk m c 3 t : Mat 2816 1024) = _ from blk3 m c t, show (iblk m c 4 t : Mat 2816 1024) = _ from blk4 m c t]
  exact (rows0 m c t).streamOut (rows0 m c t).actT

theorem rows_err : IsRows (tile t) (errAt m c t) (errV m c) := by
  have h := (rows_stream m c t).err (g := (V m c main_arg5 : Mat 1 1024)) (tgtAt_target m c t (tile t) rfl)
  rw [← blk5 m c t] at h
  unfold errV
  rw [← blk5 m c t]
  exact h

theorem emb6 (y : S640x2816.Idx) : (win0_6.blk t).view.emb y = (ix2 (rowAt (tile t) (y 0)) (y 1) : S8320x2816.Idx) := by
  unfold rowAt tile
  blk_ext [idx0 t]

theorem emb7 (y : S640x2816.Idx) : (win0_7.blk t).view.emb y = (ix2 (rowAt (tile t) (y 0)) (y 1) : S8320x2816.Idx) := by
  unfold rowAt tile
  blk_ext [idx0 t]

theorem emb8 (y : S640x2816.Idx) : (win0_8.blk t).view.emb y = (ix2 (rowAt (tile t) (y 0)) (y 1) : S8320x2816.Idx) := by
  unfold rowAt tile
  blk_ext [idx0 t]

theorem emb9 (y : S640x1024.Idx) : (win0_9.blk t).view.emb y = (ix2 (rowAt (tile t) (y 0)) (y 1) : S8320x1024.Idx) := by
  unfold rowAt tile
  blk_ext [idx0 t]

theorem emb11 (y : S1x1024.Idx) : (win0_11.blk t).view.emb y = (ix2 0 (y 1) : S1x1024.Idx) := by
  blk_ext [idx0 t]

theorem arr6 : (dats m 0 c).arrAt 6 cfg0.N
    = projT (V m c main_arg0 : Mat 8320 1024) (V m c main_arg1 : Mat 1 1024) (V m c main_v1 : Mat 2816 1024) := by
  refine (dats m 0 c).arrAt_eq_of_covers 6 _ (by decide +kernel) fun t hf y => ?_
  blk_simp
  rw [after0_6, out_gate]
  refine Eq.trans ?_ (congrArg _ (emb6 t y).symm)
  rw [show (iblk m c 1 t : Mat 1 1024) = _ from blk1 m c t, show (iblk m c 2 t : Mat 2816 1024) = _ from blk2 m c t]
  exact (congrArg _ (ix2_eta y).symm).trans ((rows0 m c t).projT (y 0) (y 1))

theorem arr7 : (dats m 0 c).arrAt 7 cfg0.N
    = projT (V m c main_arg0 : Mat 8320 1024) (V m c main_arg1 : Mat 1 1024) (V m c main_v3 : Mat 2816 1024) := by
  refine (dats m 0 c).arrAt_eq_of_covers 7 _ (by decide +kernel) fun t hf y => ?_
  blk_simp
  rw [after0_7, out_up]
  refine Eq.trans ?_ (congrArg _ (emb7 t y).symm)
  rw [show (iblk m c 1 t : Mat 1 1024) = _ from blk1 m c t, show (iblk m c 3 t : Mat 2816 1024) = _ from blk3 m c t]
  exact (congrArg _ (ix2_eta y).symm).trans ((rows0 m c t).projT (y 0) (y 1))

theorem arr8 : (dats m 0 c).arrAt 8 cfg0.N
    = actT (V m c main_arg0 : Mat 8320 1024) (V m c main_arg1 : Mat 1 1024) (V m c main_v1 : Mat 2816 1024) (V m c main_v3 : Mat 2816 1024) := by
  refine (dats m 0 c).arrAt_eq_of_covers 8 _ (by decide +kernel) fun t hf y => ?_
  blk_simp
  rw [after0_8, out_act]
  refine Eq.trans ?_ (congrArg _ (emb8 t y).symm)
  rw [show (iblk m c 1 t : Mat 1 1024) = _ from blk1 m c t, show (iblk m c 2 t : Mat 2816 1024) = _ from blk2 m c t,
    show (iblk m c 3 t : Mat 2816 1024) = _ from blk3 m c t]
  exact (congrArg _ (ix2_eta y).symm).trans ((rows0 m c t).actT (y 0) (y 1))

theorem arr9 : (dats m 0 c).arrAt 9 cfg0.N
    = dhA (streamV m c) (V m c main_arg5 : Mat 1 1024) (V m c main_arg6 : Mat 8192 1024) := by
  refine (dats m 0 c).arrAt_eq_of_covers 9 _ (by decide +kernel) fun t hf y => ?_
  blk_simp
  rw [after0_9, out_dh]
  refine Eq.trans ?_ (congrArg _ (emb9 t y).symm)
  rw [show (iblk m c 5 t : Mat 1 1024) = _ from blk5 m c t]
  exact (rows_stream m c t).dThrough (rows_err m c t).dLast (y 0) (y 1)

theorem arr10 : (dats m 0 c).arrAt 10 cfg0.N
    = fun _ : S8x128.Idx => lossA (streamV m c) (V m c main_arg5 : Mat 1 1024) (V m c main_arg6 : Mat 8192 1024) := by
  refine (dats m 0 c).arrAt_eq_of_covers 10 _ (by decide +kernel) fun t hf y => ?_
  blk_simp
  rw [after0_10, Pipeline.eq_sum_fin_of_reset_step_apply_of_flush (fun n h => (outsAt0 m c n h).2.2.2.2.1) 13 (fun _ => 0) (fun t _ => lossStep m c t)
    (fun t h j => out_loss_A m c t h j) (fun t h j => out_loss_B m c t h j) t ((flush0_10 t).mp hf) y, zero_add]
  have hN : t.val < 13 := lt_of_lt_of_eq t.isLt N_0
  refine Finset.sum_congr (M := EReal) rfl fun s _ => ?_
  have e0 : 13 * (t.val / 13) + s.val = s.val := by omega
  unfold lossStep
  refine congrArg _ (Finset.sum_congr rfl fun k _ => ?_)
  rw [(rows_err m c _).rowSquares k]
  exact congrArg _ (congrArg (fun n => rowAt n k) (Fin.ext e0))

theorem arr11 : (dats m 0 c).arrAt 11 cfg0.N
    = dLastGainA (streamV m c) (V m c main_arg5 : Mat 1 1024) (V m c main_arg6 : Mat 8192 1024) := by
  refine (dats m 0 c).arrAt_eq_of_covers 11 _ (by decide +kernel) fun t hf y => ?_
  blk_simp
  rw [after0_11, Pipeline.eq_sum_fin_of_reset_step_apply_of_flush (fun n h => (outsAt0 m c n h).2.2.2.2.2) 13 (fun _ => 0) (fun t j => gainStep m c t (j 1))
    (fun t h j => out_gain_A m c t h j) (fun t h j => out_gain_B m c t h j) t ((flush0_11 t).mp hf) y, zero_add]
  have hN : t.val < 13 := lt_of_lt_of_eq t.isLt N_0
  refine Eq.trans ?_ (congrArg _ (emb11 t y).symm)
  unfold dLastGainA gainStep
  refine Fin.sum_mul_add_congr fun s k hl => ?_
  have e0 : 13 * (t.val / 13) + s.val = s.val := by omega
  rw [(rows_stream m c _).dLastGainRow (rows_err m c _).dLast k (y 1)]
  refine congrArg (fun n => dLastGainRow _ _ n _) (Fin.ext ?_)
  show 640 * (13 * (t.val / 13) + s.val) + k.val = s.val * 640 + k.val
  omega

/-! ## The host lines before the call, and the run's end -/

/-- The gate's weight as the call takes it is the argument's transpose. -/
theorem wg_of : V m c main_v1 = tr (m ((c : Thread nD τ).loc main_arg2) : Mat 1024 2816) := by
  funext j
  unfold V tr
  after_reads_at

/-- The up-projection's weight as the call takes it is the argument's transpose. -/
theorem wu_of : V m c main_v3 = tr (m ((c : Thread nD τ).loc main_arg3) : Mat 1024 2816) := by
  funext j
  unfold V tr
  after_reads_at

/-- The down-projection's weight as the call takes it is the argument. -/
theorem wd_of : V m c main_v4 = (m ((c : Thread nD τ).loc main_arg4) : Mat 2816 1024) := by
  funext j
  unfold V
  after_reads_at

theorem streamV_eq : streamV m c = streamF (m ((c : Thread nD τ).loc main_arg0)) (m ((c : Thread nD τ).loc main_arg1))
    (m ((c : Thread nD τ).loc main_arg2)) (m ((c : Thread nD τ).loc main_arg3)) (m ((c : Thread nD τ).loc main_arg4)) := by
  unfold streamV
  rw [wg_of, wu_of, wd_of, V_main_arg0, V_main_arg1]
  rfl

/-- Every run ends with the formulas of the arguments in the six results, and with the arguments unchanged. -/
theorem run : θ_run defs (onTc (τ := τ) (main (F := Ideal))) ⟨m, fun _ => 0, ρ⟩ fun r => ∀ c : Dev nD,
      r.2.mem ((c : Thread nD τ).loc main_v5_0) = projA (R := 8320) (m ((c : Thread nD τ).loc main_arg0)) (m ((c : Thread nD τ).loc main_arg1)) (m ((c : Thread nD τ).loc main_arg2))
      ∧ r.2.mem ((c : Thread nD τ).loc main_v5_1) = projA (R := 8320) (m ((c : Thread nD τ).loc main_arg0)) (m ((c : Thread nD τ).loc main_arg1)) (m ((c : Thread nD τ).loc main_arg3))
      ∧ r.2.mem ((c : Thread nD τ).loc main_v5_2) = actA (R := 8320) (m ((c : Thread nD τ).loc main_arg0)) (m ((c : Thread nD τ).loc main_arg1)) (m ((c : Thread nD τ).loc main_arg2)) (m ((c : Thread nD τ).loc main_arg3))
      ∧ r.2.mem ((c : Thread nD τ).loc main_v5_3) = dhA (streamF (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))
      ∧ r.2.mem ((c : Thread nD τ).loc main_v5_4) = (fun _ : S8x128.Idx => lossA (streamF (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)))
      ∧ r.2.mem ((c : Thread nD τ).loc main_v5_5) = dLastGainA (streamF (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_blocks m ρ)
  obtain ⟨h6, h7, h8, h9, h10, h11, hrest⟩ := h c
  refine ⟨h6.trans ((arr6 m c).trans ?_), h7.trans ((arr7 m c).trans ?_), h8.trans ((arr8 m c).trans ?_), h9.trans ((arr9 m c).trans ?_),
    h10.trans ((arr10 m c).trans ?_), h11.trans ((arr11 m c).trans ?_), hrest⟩
  · rw [V_main_arg0, V_main_arg1, wg_of]; rfl
  · rw [V_main_arg0, V_main_arg1, wu_of]; rfl
  · rw [V_main_arg0, V_main_arg1, wg_of, wu_of]; rfl
  · rw [streamV_eq, V_main_arg5, V_main_arg6]
  · rw [streamV_eq, V_main_arg5, V_main_arg6]
  · rw [streamV_eq, V_main_arg5, V_main_arg6]

end Cert.Kernel2Ideal.Fwd

end
-- ==== Proof.FwdRef.lean ====
/-
  What the reference of the forward call computes, line by line, in the formulas' terms.
-/
module

public import proofs.«01_k».proof.Proof.Gen.Reference2Ideal.Read
public import Idealize.ShloMosaic.Lib.Pointwise
public import Idealize.ShloMosaic.Lib.Pipeline.ValueKit
public import proofs.«01_k».proof.Proof.FwdFormulas

@[expose] public section

set_option maxRecDepth 16384

noncomputable section

namespace Cert.Reference2Ideal.Stages

open Idealize.ShloMosaic Idealize.ShloMosaic.TcCoe Idealize.ShloMosaic.Tactic
open Cert.Reference2Ideal Cert.Reference2Ideal.Read Cert.Value

variable (h : Mat 8320 1024) (g : Mat 1 1024) (wg wu : Mat 1024 2816) (wd : Mat 2816 1024) (gf : Mat 1 1024) (tg : Mat 8192 1024)

/-- The reciprocal root mean square of a row. -/
theorem rstd_eq (i : S8320x1.Idx) : val_main_v7 (F := Ideal) h i = rstd h (i 0) := by
  unfold rstd
  pointwise [val_main_v7, val_main_v6, val_main_v5, val_main_v4, val_main_v3, val_main_v2, val_main_v1, val_main_v0, val_main_cst,
    val_main_cst_0, val_main_cst_1]

/-- The normalised rows. -/
theorem hn_eq : val_main_v11 (F := Ideal) h g = hnA h g := by
  funext i
  unfold hnA normed
  pointwise [val_main_v11, val_main_v10, val_main_v9, val_main_v8, rstd_eq]

/-- The gate's pre-activation. -/
theorem gate_eq : val_main_v12 (F := Ideal) h g wg = projA h g wg := by
  funext i
  unfold projA matDot val_main_v12
  rw [hn_eq]
  pointwise

/-- The up-projection. -/
theorem up_eq : val_main_v13 (F := Ideal) h g wu = projA h g wu := by
  funext i
  unfold projA matDot val_main_v13
  rw [hn_eq]
  pointwise

/-- The logistic function of the gate. -/
theorem logis_eq (i : S8320x2816.Idx) : val_main_call0_v5 (F := Ideal) h g wg i = logis (projA h g wg i) := by
  unfold logis
  rw [zero_sub]
  pointwise [val_main_call0_v5, val_main_call0_v4, val_main_call0_v3, val_main_call0_v2, val_main_call0_v1, val_main_call0_v0,
    val_main_call0_cst, val_main_call0_cst_0, gate_eq]

/-- The activation. -/
theorem act_eq : val_main_v15 (F := Ideal) h g wg wu = actA h g wg wu := by
  funext i
  show val_main_v12 (F := Ideal) h g wg i * val_main_call0_v5 (F := Ideal) h g wg i * val_main_v13 (F := Ideal) h g wu i = _
  rw [gate_eq, logis_eq, up_eq]
  rfl

/-- The stream after the block. -/
theorem stream_eq : val_main_v17 (F := Ideal) h g wg wu wd = streamF h g wg wu wd := by
  funext i
  show h i + val_main_v16 (F := Ideal) h g wg wu wd i = h i + matDot (actA h g wg wu) wd (i 0) (i 1)
  refine congrArg _ ?_
  unfold matDot val_main_v16
  rw [act_eq]
  pointwise

/-- The mean of the squares of a row of the stream, plus `ε`. -/
theorem var2_eq (i : S8320x1.Idx) : val_main_v24 (F := Ideal) h g wg wu wd i
    = Ideal.div (∑ k : Fin 1024, streamF h g wg wu wd (ix2 (i 0) k) * streamF h g wg wu wd (ix2 (i 0) k)) (Ideal.ofBits .f32 0x44800000#32) + Ideal.ofBits .f32 0x3727C5AC#32 := by
  pointwise [val_main_v24, val_main_v23, val_main_v22, val_main_v21, val_main_v20, val_main_v19, val_main_v18, val_main_cst_2,
    val_main_cst_3, val_main_cst_4, stream_eq]

/-- The reciprocal root mean square of a row of the stream. -/
theorem rstd2_eq (i : S8320x1.Idx) : val_main_v25 (F := Ideal) h g wg wu wd i = rstd (streamF h g wg wu wd) (i 0) := by
  unfold rstd
  pointwise [val_main_v25, var2_eq]

/-- The normalised stream. -/
theorem norm2_eq (i : S8320x1024.Idx) : val_main_v32 (F := Ideal) h g wg wu wd gf i = normed (streamF h g wg wu wd) gf (i 0) (i 1) := by
  unfold normed
  pointwise [val_main_v32, val_main_v31, val_main_v30, val_main_v29, stream_eq, rstd2_eq]

/-- The error of a target row. -/
theorem err_eq (i : S8192x1024.Idx) : val_main_v34 (F := Ideal) h g wg wu wd gf tg i
    = normed (streamF h g wg wu wd) gf (⟨128 + (i 0).val, by have h := (i 0).isLt; change (i 0).val < 8192 at h; omega⟩ : Fin 8320) (i 1) - tg i := by
  pointwise [val_main_v34, val_main_v33, norm2_eq]

/-- The gradient of the loss at the normalised stream, as the reference computes it: rows without a target have none. -/
theorem dy_eq (i : S8320x1024.Idx) : val_main_v50 (F := Ideal) h g wg wu wd gf tg i
    = Ideal.div (Ideal.ofBits .f32 0x3F000000#32) (Ideal.ofBits .f32 0x44800000#32)
        * (Ideal.ofBits .f32 0x40000000#32 * errAll (streamF h g wg wu wd) gf tg i) := by
  have hi : (i 0).val < 8320 := (i 0).isLt
  unfold val_main_v50 errAll
  by_cases hj : 128 ≤ (i 0).val
  · rw [dif_pos hj]
    pointwise [val_main_v48, val_main_v47, val_main_v46, val_main_v45, val_main_v44, val_main_v43, val_main_v37, val_main_v36,
      val_main_cst_6, val_main_cst_11, val_main_cst_12, val_main_cst_13, err_eq]
    rw [dif_pos ⟨hj, by omega⟩]
    have e : (⟨128 + ((i 0).val - 128), by omega⟩ : Fin 8320) = i 0 := Fin.ext (by simp only; omega)
    rw [e]
  · rw [dif_neg hj, mul_zero, mul_zero]
    pointwise [val_main_cst_14]
    rw [dif_neg fun h => hj h.1]

/-- The loss, as the reference computes it. -/
theorem loss_eq (i : S8x128.Idx) : val_main_v73 (F := Ideal) h g wg wu wd gf tg i
    = Ideal.ofBits .f32 0x3F000000#32 * ∑ n : Fin 8192, Ideal.div (rowSquares (errAll (streamF h g wg wu wd) gf tg) (⟨128 + n.val, by omega⟩ : Fin 8320)) (Ideal.ofBits .f32 0x44800000#32) := by
  unfold rowSquares errAll
  pointwise [val_main_v73, val_main_v42, val_main_v41, val_main_v40, val_main_v39, val_main_v38, val_main_v35, val_main_cst_7, val_main_cst_8, val_main_cst_9,
    val_main_cst_10, err_eq]

/-- The gradient of the last gain, from the gradient at the normalised stream. -/
theorem dg_eq (D : Mat 8320 1024) (hD : ∀ j, val_main_v50 (F := Ideal) h g wg wu wd gf tg j = D j) (i : S1x1024.Idx) :
    val_main_v53 (F := Ideal) h g wg wu wd gf tg i = ∑ n : Fin 8320, dLastGainRow D (streamF h g wg wu wd) n (i 1) := by
  unfold dLastGainRow
  pointwise [val_main_v53, val_main_v52, val_main_v51, val_main_cst_15, val_main_v30, val_main_v29, stream_eq, rstd2_eq, hD]
  exact Finset.sum_congr rfl fun k _ => by rw [mul_comm, mul_assoc]

/-- The gradient at the stream, from the gradient at the normalised stream. -/
theorem dh_eq (D : Mat 8320 1024) (hD : ∀ j, val_main_v50 (F := Ideal) h g wg wu wd gf tg j = D j) (i : S8320x1024.Idx) (q : EReal)
    (hq : Ideal.div (∑ k : Fin 1024, streamF h g wg wu wd (ix2 (i 0) k) * streamF h g wg wu wd (ix2 (i 0) k)) (Ideal.ofBits .f32 0x44800000#32)
      + Ideal.ofBits .f32 0x3727C5AC#32 = q)
    (S : EReal) (hS : ∑ k : Fin 1024, D (ix2 (i 0) k) * gf (ix2 0 k) * streamF h g wg wu wd (ix2 (i 0) k) = S) :
    val_main_v69 (F := Ideal) h g wg wu wd gf tg i
      = D i * gf (ix2 0 (i 1)) * rstd (streamF h g wg wu wd) (i 0)
        + streamF h g wg wu wd i * Ideal.div (S * (Ideal.ofBits .f32 0xBF000000#32 * Ideal.div (rstd (streamF h g wg wu wd) (i 0)) q)) (Ideal.ofBits .f32 0x44800000#32)
        + Ideal.div (S * (Ideal.ofBits .f32 0xBF000000#32 * Ideal.div (rstd (streamF h g wg wu wd) (i 0)) q)) (Ideal.ofBits .f32 0x44800000#32) * streamF h g wg wu wd i := by
  rw [← hS, ← hq, show ∑ k : Fin 1024, D (ix2 (i 0) k) * gf (ix2 0 k) * streamF h g wg wu wd (ix2 (i 0) k)
    = ∑ k : Fin 1024, streamF h g wg wu wd (ix2 (i 0) k) * (D (ix2 (i 0) k) * gf (ix2 0 k)) from Finset.sum_congr rfl fun k _ => mul_comm _ _]
  pointwise [val_main_v69, val_main_v68, val_main_v67, val_main_v66, val_main_v65, val_main_v64, val_main_cst_18, val_main_v63, val_main_v62,
    val_main_cst_17, val_main_v61, val_main_v60, val_main_v59, val_main_v58, val_main_v57, val_main_cst_16, val_main_v56, val_main_v55,
    val_main_v54, val_main_v28, val_main_v27, val_main_cst_5, val_main_v26, rstd2_eq, var2_eq, stream_eq, hD]
  simp only [Fin.sum_univ_one]

end Cert.Reference2Ideal.Stages

end
-- ==== Proof.FwdEquation.lean ====
/-
  On finite arguments the reference of the forward call computes the formulas: the sums that it and the kernel order or
  scale differently.
-/
module

public import proofs.«01_k».proof.Proof.FwdRef
public import proofs.«01_k».proof.Proof.Equation
public import Idealize.ShloMosaic.Lib.Pipeline.ValueKit

@[expose] public section

set_option maxRecDepth 16384

noncomputable section

namespace Cert.Value

open Idealize.ShloMosaic

/-- One half. -/
theorem ofBits_half : Ideal.ofBits .f32 0x3F000000#32 = ((1 / 2 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- One over 1024. -/
theorem ofBits_inv_1024 : Ideal.ofBits .f32 0x3A800000#32 = ((1 / 1024 : ℝ) : EReal) := by
  simp [Ideal.ofBits, Ideal.ieee, -EReal.coe_mul]; norm_num

/-- One over 2048. -/
theorem ofBits_inv_2048 : Ideal.ofBits .f32 0x3A000000#32 = ((1 / 2048 : ℝ) : EReal) := by
  simp [Ideal.ofBits, Ideal.ieee, -EReal.coe_mul]; norm_num

/-- Half the mean of twice an error is the error over 1024. -/
theorem dLast_identity {e : EReal} (he : IsReal e) :
    Ideal.div (Ideal.ofBits .f32 0x3F000000#32) (Ideal.ofBits .f32 0x44800000#32) * (Ideal.ofBits .f32 0x40000000#32 * e)
      = e * Ideal.ofBits .f32 0x3A800000#32 := by
  obtain ⟨e, rfl⟩ := he
  rw [ofBits_half, ofBits_1024, ofBits_two, ofBits_inv_1024, Ideal.div_coe (by norm_num)]
  norm_cast
  ring

/-- The sum over the row tiles is the sum over all rows. -/
theorem sum_tiles (a : Fin 8320 → ℝ) : ∑ n : Fin 13, ∑ k : Fin 640, a (rowAt n k) = ∑ i : Fin 8320, a i :=
  Fin.sum_mul_add_congr fun n k hl => congrArg a (Fin.ext (by show 640 * n.val + k.val = n.val * 640 + k.val; omega))

/-- The rows without a target add nothing. -/
theorem sum_target (a : Fin 8320 → ℝ) (ha : ∀ i : Fin 8320, i.val < 128 → a i = 0) :
    ∑ i : Fin 8320, a i = ∑ n : Fin 8192, a ⟨128 + n.val, by omega⟩ := by
  refine (Fin.sum_univ_add (fun i : Fin (128 + 8192) => a i)).trans ?_
  rw [Finset.sum_eq_zero fun i _ => ha _ i.isLt, zero_add]
  rfl

section
variable {h : Mat 8320 1024} {g : Mat 1 1024} {wg wu : Mat 1024 2816} {wd : Mat 2816 1024} {gf : Mat 1 1024} {tg : Mat 8192 1024}

/-- The stream after the block is finite. -/
theorem streamF_real (hh : AllReal h) (hg : AllReal g) (hwg : AllReal wg) (hwu : AllReal wu) (hwd : AllReal wd) : AllReal (streamF h g wg wu wd) := fun j => by
  have ha : AllReal (actA h g wg wu) := fun i => ((projA_real hh hg hwg i).mul (projA_real hh hg hwg i).logis).mul (projA_real hh hg hwu i)
  exact (hh j).add (ha.matDot hwd _ _)

/-- The error is finite. -/
theorem errAll_real (hh : AllReal h) (hg : AllReal gf) (ht : AllReal tg) : AllReal (errAll h gf tg) := fun j => by
  unfold errAll
  split
  · exact (hnA_real hh hg j).sub (ht _)
  · exact ⟨0, by norm_cast⟩

/-- The two ways to sum the loss agree on finite errors. -/
theorem loss_identity (hh : AllReal h) (hg : AllReal gf) (ht : AllReal tg) :
    Ideal.ofBits .f32 0x3F000000#32 * ∑ n : Fin 8192, Ideal.div (rowSquares (errAll h gf tg) (⟨128 + n.val, by omega⟩ : Fin 8320)) (Ideal.ofBits .f32 0x44800000#32)
      = lossA h gf tg := by
  have he := errAll_real hh hg ht
  have hs : ∀ i, IsReal (rowSquares (errAll h gf tg) i) := fun i => IsReal.sum fun k => (he _).mul (he _)
  choose a ha using hs
  have hz : ∀ i : Fin 8320, i.val < 128 → a i = 0 := fun i hi => by
    have e : rowSquares (errAll h gf tg) i = 0 := Finset.sum_eq_zero fun k _ => by
      unfold errAll
      rw [dif_neg (show ¬128 ≤ ((ix2 i k : (⟨2, ![8320, 1024]⟩ : Shape).Idx) 0).val from Nat.not_le.mpr hi), mul_zero]
    rw [ha i] at e
    exact_mod_cast e
  unfold lossA
  rw [ofBits_half, ofBits_1024, ofBits_inv_2048,
    IsReal.sum_coe (fun n : Fin 8192 => Ideal.div (rowSquares (errAll h gf tg) (⟨128 + n.val, by omega⟩ : Fin 8320)) ((1024 : ℝ) : EReal))
      (fun n => a ⟨128 + n.val, by omega⟩ * (1 / 1024)) (fun n => by rw [ha, Ideal.div_coe (by norm_num)]; norm_cast),
    IsReal.sum_coe (fun n : Fin 13 => ((1 / 2048 : ℝ) : EReal) * ∑ k : Fin 640, rowSquares (errAll h gf tg) (rowAt n k))
      (fun n => 1 / 2048 * ∑ k : Fin 640, a (rowAt n k)) (fun n => by
        rw [IsReal.sum_coe _ (fun k : Fin 640 => a (rowAt n k)) (fun k => ha _)]; norm_cast)]
  rw [← Finset.mul_sum, sum_tiles, sum_target a hz, ← Finset.sum_mul]
  norm_cast
  ring

end

end Cert.Value

namespace Cert.Reference2Ideal.Stages

open Idealize.ShloMosaic Idealize.ShloMosaic.Tactic Cert.Reference2Ideal Cert.Reference2Ideal.Read Cert.Value

variable {h : Mat 8320 1024} {g : Mat 1 1024} {wg wu : Mat 1024 2816} {wd : Mat 2816 1024} {gf : Mat 1 1024} {tg : Mat 8192 1024}
  (hh : AllReal h) (hg : AllReal g) (hwg : AllReal wg) (hwu : AllReal wu) (hwd : AllReal wd) (hgf : AllReal gf) (htg : AllReal tg)
include hh hg hwg hwu hwd hgf htg

/-- The reference's gradient at the normalised stream is the kernel's. -/
theorem dy_real (j : S8320x1024.Idx) : val_main_v50 (F := Ideal) h g wg wu wd gf tg j = dLast (errAll (streamF h g wg wu wd) gf tg) j :=
  (dy_eq h g wg wu wd gf tg j).trans (dLast_identity (errAll_real (streamF_real hh hg hwg hwu hwd) hgf htg j))

/-- The reference's loss is the kernel's. -/
theorem loss_real : val_main_v73 (F := Ideal) h g wg wu wd gf tg = fun _ => lossA (streamF h g wg wu wd) gf tg :=
  funext fun i => (loss_eq h g wg wu wd gf tg i).trans (loss_identity (streamF_real hh hg hwg hwu hwd) hgf htg)

/-- The reference's gradient of the last gain is the kernel's. -/
theorem dg_real : val_main_v53 (F := Ideal) h g wg wu wd gf tg = dLastGainA (streamF h g wg wu wd) gf tg :=
  funext fun i => dg_eq h g wg wu wd gf tg _ (dy_real hh hg hwg hwu hwd hgf htg) i

/-- The reference's gradient at the stream is the kernel's. -/
theorem dh_real : val_main_v69 (F := Ideal) h g wg wu wd gf tg = dhA (streamF h g wg wu wd) gf tg := by
  funext i
  have hs := streamF_real hh hg hwg hwu hwd
  have hd : AllReal (dLast (errAll (streamF h g wg wu wd) gf tg)) := fun j =>
    (errAll_real hs hgf htg j).mul ⟨_, ofBits_inv_1024⟩
  obtain ⟨q, r, hq, hr, hv, hrs⟩ := rstd_real (streamF h g wg wu wd) (i 0) fun k => hs _
  rw [dh_eq h g wg wu wd gf tg _ (dy_real hh hg hwg hwu hwd hgf htg) i q hv _ rfl, hrs]
  refine (congrArg (· + _) (congrArg (· + _) (zero_add _).symm)).trans ?_
  refine (stream_identity hq hr (⟨0, by norm_cast⟩ : IsReal 0) ((hd i).mul (hgf _)) (hs i)
    (IsReal.sum fun k => ((hd _).mul (hgf _)).mul (hs _))).trans ?_
  rw [zero_add]
  unfold dhA dThrough
  rw [hrs]
  idx_vars i

end Cert.Reference2Ideal.Stages

end
-- ==== Proof.FwdFinite.lean ====
/-
  What the forward call's precondition says: every element of each of the seven arguments is a finite number.
-/
module

public import proofs.«01_k».proof.Pre_finite2
public import proofs.«01_k».proof.Proof.Finite

@[expose] public section

set_option maxRecDepth 16384

noncomputable section

namespace Cert.Value

open Idealize.ShloMosaic Cert.Pre_finite2 Cert.Pre_finite2.Facts

/-- The side conditions of the precondition's operations. -/
theorem preFacts2 : Cert.Pre_finite2.Facts where
  bcast_S_S8320x1024 := by decide
  reducesTo_S8320x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide
  bcast_S_S8192x1024 := by decide
  reducesTo_S8192x1024_S_d0_1 := by decide

/-- Where the precondition holds, every element of every argument is finite. -/
theorem real_of_finite2 [Cert.Pre_finite2.Facts] (h : FVec Ideal S8320x1024 .f32) (g : FVec Ideal S1x1024 .f32) (wg wu : FVec Ideal S1024x2816 .f32)
    (wd : FVec Ideal S2816x1024 .f32) (gf : FVec Ideal S1x1024 .f32) (tg : FVec Ideal S8192x1024 .f32)
    (hp : Cert.Pre_finite2.fn (F := Ideal) h g wg wu wd gf tg = fun _ => 1#1) :
    (∀ i, IsReal (h i)) ∧ (∀ i, IsReal (g i)) ∧ (∀ i, IsReal (wg i)) ∧ (∀ i, IsReal (wu i)) ∧ (∀ i, IsReal (wd i)) ∧ (∀ i, IsReal (gf i)) ∧ (∀ i, IsReal (tg i)) := by
  let j : S_.Idx := fun k => k.elim0
  have e : andi (andi (andi (andi (andi (andi (tested bcast_S_S8320x1024 reducesTo_S8320x1024_S_d0_1 h_S_ h)
      (tested bcast_S_S1x1024 reducesTo_S1x1024_S_d0_1 h_S_ g)) (tested bcast_S_S1024x2816 reducesTo_S1024x2816_S_d0_1 h_S_ wg))
      (tested bcast_S_S1024x2816 reducesTo_S1024x2816_S_d0_1 h_S_ wu)) (tested bcast_S_S2816x1024 reducesTo_S2816x1024_S_d0_1 h_S_ wd))
      (tested bcast_S_S1x1024 reducesTo_S1x1024_S_d0_1 h_S_ gf)) (tested bcast_S_S8192x1024 reducesTo_S8192x1024_S_d0_1 h_S_ tg) j = 1#1 := congrFun hp j
  obtain ⟨e, e6⟩ := andi_split _ _ j e
  obtain ⟨e, e5⟩ := andi_split _ _ j e
  obtain ⟨e, e4⟩ := andi_split _ _ j e
  obtain ⟨e, e3⟩ := andi_split _ _ j e
  obtain ⟨e, e2⟩ := andi_split _ _ j e
  obtain ⟨e0, e1⟩ := andi_split _ _ j e
  exact ⟨fun i => real_of_test _ _ _ _ h _ j e0 i, fun i => real_of_test _ _ _ _ g _ j e1 i, fun i => real_of_test _ _ _ _ wg _ j e2 i,
    fun i => real_of_test _ _ _ _ wu _ j e3 i, fun i => real_of_test _ _ _ _ wd _ j e4 i, fun i => real_of_test _ _ _ _ gf _ j e5 i,
    fun i => real_of_test _ _ _ _ tg _ j e6 i⟩

end Cert.Value

end
-- ==== Proof.WOut.lean ====
/-
  What the call `wgrad_out` leaves in its result, and what the reference of that call computes: both are the product of
  the transpose of the mixed heads with the gradient of the residual stream. The call sums 1664 rows at a time.
-/
module

public import proofs.«01_k».proof.Defs
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.Pointwise
public import Idealize.ShloMosaic.Lib.StableHlo.ReadAt
public import proofs.«01_k».proof.Proof.Formulas

@[expose] public section

set_option maxRecDepth 16384

noncomputable section

namespace Cert.Kernel3Ideal.Out

open Idealize.ShloMosaic Idealize.ShloMosaic.TcCoe Idealize.ShloMosaic.Tactic
open Cert.Kernel3Ideal Cert.Kernel3Ideal.Gen Cert.Value

variable (m : (ℓ : Loc nD τ sig) → Buf (Elt Ideal) ℓ) (ρ : Dev nD → PrngReg)

/-- The block index of every window of the call at a point: the row tile of the operands is the point's number. -/
theorem idx0 : ∀ t : Fin cfg0.N, win0_0.index t = ![t.val % 5, t.val / 5] ∧ win0_1.index t = ![t.val % 5, 0]
    ∧ win0_2.index t = ![t.val / 5, 0] :=
  (by decide +kernel : ∀ t : Fin grid0.N, win0_0.index t = ![t.val % 5, t.val / 5] ∧ win0_1.index t = ![t.val % 5, 0]
    ∧ win0_2.index t = ![t.val / 5, 0])

/-- The block that the reset stores is zero. -/
theorem zero0 (j : S1024x1024.Idx) : k0_pay1 (F := Ideal) j = 0 := by
  pointwise [k0_pay1]

/-- What one point adds: the product of the transposed first block with the second, read at an element. -/
theorem pay0 (acc : Vec Ideal S1024x1024 .f32) (a : Vec Ideal S1664x1024 .bf16) (b : Vec Ideal S1664x1024 .f32) (j : S1024x1024.Idx) :
    k0_pay2 acc a b j = acc j + ∑ k : Fin 1664, a (ix2 k (j 0)) * b (ix2 k (j 1)) := by
  pointwise [k0_pay2]

/-- The result array: element `(m, n)` is the sum over the rows of the products of the operands' elements. -/
theorem arr0 (c : Dev nD) : (dats m 0 c).arrAt 2 cfg0.N
    = fun j : S1024x1024.Idx => colDot (V m c main_v0 : Mat 8320 1024) (V m c main_arg2 : Mat 8320 1024) (j 0) (j 1) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h]; frame_out; rw [pay0, zero0])
    (fun t h j => by rw [outsAt0_B m c t h]; frame_out; rw [pay0]) t ((flush0_2 t).mp hf) y, zero_add]
  unfold colDot
  refine Fin.sum_mul_add_congr fun s k hl => ?_
  have hN : t.val < 5 := lt_of_lt_of_eq t.isLt (by decide)
  have e0 : (5 * (t.val / 5) + s.val) % 5 = s.val := by omega
  have e1 : (5 * (t.val / 5) + s.val) / 5 = t.val / 5 := by omega
  congr 1
  · blk_ext [iblk, idx0 t, (idx0 ⟨5 * (t.val / 5) + s.val, Pipeline.run_point_lt_of_flush t ((flush0_2 t).mp hf) s⟩), e0, e1]
  · blk_ext [iblk, idx0 t, (idx0 ⟨5 * (t.val / 5) + s.val, Pipeline.run_point_lt_of_flush t ((flush0_2 t).mp hf) s⟩), e0, e1]

/-- The first operand as the call takes it is the first argument. -/
theorem mixed_of (c : Dev nD) : V m c main_v0 = (m ((c : Thread nD τ).loc main_arg0) : Mat 8320 1024) := by
  funext j
  unfold V
  after_reads_at

/-- The gradient of the output projection's weight, from the two operands. -/
def dWOut (mixed dh : Mat 8320 1024) : Mat 1024 1024 := fun j => colDot mixed dh (j 0) (j 1)

/-- Every run of the call ends with that gradient and with the arguments unchanged. -/
theorem run : θ_run defs (onTc (τ := τ) (main (F := Ideal))) ⟨m, fun _ => 0, ρ⟩ fun r => ∀ c : Dev nD,
      r.2.mem ((c : Thread nD τ).loc main_v1) = dWOut (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((arr0 m c).trans (by rw [mixed_of, V_main_arg2]; rfl)), (h c).2⟩)
    (Cert.Kernel3Ideal.Value.run_blocks m ρ)

/-- The reference computes the same gradient. -/
theorem reference_eq (x0 x2 : Mat 8320 1024) :
    Cert.Reference3Ideal.Read.val_main_v2 (F := Ideal) x0 x2 = dWOut x0 x2 := by
  funext i
  unfold dWOut colDot
  pointwise [Cert.Reference3Ideal.Read.val_main_v2, Cert.Reference3Ideal.Read.val_main_v1]
  exact Finset.sum_congr rfl fun k _ => mul_comm _ _

end Cert.Kernel3Ideal.Out

end
-- ==== Proof.Adamw.lean ====
/-
  What the optimiser's call `adamw_gate` leaves in its results, and what the reference of that call computes: the sum of
  a device's own partial gradient and the three received ones, and AdamW's step of the weight with that sum.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Reference4Ideal.Run
public import Idealize.ShloMosaic.Lib.ReduceAll
public import Idealize.ShloMosaic.Lib.DynamicIndex
public import Idealize.ShloMosaic.Lib.WordCmp
public import Idealize.ShloMosaic.Lib.Pipeline.ValueKit
public import Idealize.ShloMosaic.Lib.Pointwise
public import Idealize.ShloMosaic.Lib.StableHlo.ReadAt
public import proofs.«01_k».proof.Proof.Formulas

@[expose] public section

set_option maxRecDepth 16384

noncomputable section

namespace Cert.Value

open Idealize.ShloMosaic Cert.Pre_in_range Cert.Pre_in_range.Facts

/-- The side conditions of the precondition's operations. -/
theorem preFacts4 : Cert.Pre_in_range.Facts where
  bcast_S_S1 := by decide
  reducesTo_S1_S_d0 := by decide
  h_S_ := by decide

/-- A 32-bit word that is at least zero and below four, read signed, is one of 0, 1, 2, 3. -/
theorem toNat_lt_four {x : BitVec 32} (h0 : IntOp.cmpi .sge x 0#32 = 1#1) (h4 : IntOp.cmpi .slt x 4#32 = 1#1) : x.toNat < 4 := by
  have a : BitVec.ofBool ((0#32).sle x) = 1#1 := h0
  have b : BitVec.ofBool (x.slt 4#32) = 1#1 := h4
  have a' : (0#32).sle x = true := by cases h : (0#32).sle x <;> simp_all
  have b' : x.slt 4#32 = true := by cases h : x.slt 4#32 <;> simp_all
  rw [BitVec.sle_iff_toInt_le] at a'
  rw [BitVec.slt_iff_toInt_lt] at b'
  have e0 : (0#32 : BitVec 32).toInt = 0 := by decide
  have e4 : (4#32 : BitVec 32).toInt = 4 := by decide
  rw [e0] at a'; rw [e4] at b'
  rw [BitVec.toInt_eq_toNat_cond] at a' b'
  have := x.isLt
  split at a' <;> split at b' <;> omega

/-- Where the precondition holds, the slot is one of 0, 1, 2, 3. -/
theorem slot_lt [Cert.Pre_in_range.Facts] {F : FTy → Type} [FloatOps F] (s : IVec S1 32) (p : FVec F S4x352x1024 .f32) (r : FVec F S3x352x1024 .f32)
    (w m v : FVec F S352x1024 .f32) (hp : Cert.Pre_in_range.fn (F := F) s p r w m v = fun _ => 1#1) (i : S1.Idx) : (s i).toNat < 4 := by
  haveI : Subsingleton S_.Idx := ⟨fun a b => funext fun k => k.elim0⟩
  let j : S_.Idx := fun k => k.elim0
  have h := Host.reduce_andi_all _ _ reducesTo_S1_S_d0 h_S_ j (congrFun hp j) i
  obtain ⟨h0, h4⟩ := IntOp.andi_eq_one.1 h
  exact toNat_lt_four h0 h4

/-- The slot's array has one element. -/
theorem one_idx (i : S1.Idx) : i = ix1 0 :=
  funext fun a => match a with | ⟨0, _⟩ => Subsingleton.elim (α := Fin 1) _ _

/-- The one element of the slot's array. -/
abbrev slotWord (s : IVec S1 32) : BitVec 32 := s (ix1 0)

/-- The slot as one of four positions. -/
def slotOf (s : IVec S1 32) : Fin 4 := Fin.ofNat 4 (slotWord s).toNat

theorem slotOf_val {s : IVec S1 32} (h : (slotWord s).toNat < 4) : (slotOf s).val = (slotWord s).toNat :=
  Nat.mod_eq_of_lt h

/-- The summed gradient: the block of the partial gradients at the slot, and the three received blocks. -/
def gradOf (s : IVec S1 32) (p : FVec Ideal S4x352x1024 .f32) (r : FVec Ideal S3x352x1024 .f32) : Mat 352 1024 :=
  fun j => p (ix3 (slotOf s) (j 0) (j 1)) + r (ix3 0 (j 0) (j 1)) + r (ix3 1 (j 0) (j 1)) + r (ix3 2 (j 0) (j 1))

/-- The next first moment. -/
def moment1 (m g : EReal) : EReal := Ideal.ofBits .f32 0x3F666666#32 * m + Ideal.ofBits .f32 0x3DCCCCCD#32 * g

/-- The next second moment. -/
def moment2 (v g : EReal) : EReal := Ideal.ofBits .f32 0x3F7FBE77#32 * v + Ideal.ofBits .f32 0x3A83126F#32 * (g * g)

/-- What AdamW adds to a weight, from the next moments and the weight. -/
def stepOf (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
    + Ideal.ofBits .f32 0x3C23D70A#32 * w)

end Cert.Value

namespace Cert.Kernel4Ideal.Step

open Idealize.ShloMosaic Idealize.ShloMosaic.TcCoe Idealize.ShloMosaic.Tactic
open Cert.Kernel4Ideal Cert.Kernel4Ideal.Gen Cert.Value

/-- The word that the block index of the first window reads is the slot. -/
theorem table {F : FTy → Type} [FloatOps F] (m : (ℓ : Loc nD τ sig) → Buf (Elt F) ℓ) :
    (tbl m).at 0 (Rect.unit (s := S1) ![0] S1.size inb_S1_S1_0) numel1_S1 = slotWord (m (((0 : Dev nD) : Thread nD τ).loc main_arg0)) :=
  congrArg (m (((0 : Dev nD) : Thread nD τ).loc main_arg0)) (one_idx _)

/-- The call may run where the slot is one of four: the block it names lies in the array. -/
theorem ok {F : FTy → Type} [FloatOps F] (m : (ℓ : Loc nD τ sig) → Buf (Elt F) ℓ)
    (h : (slotWord (m (((0 : Dev nD) : Thread nD τ).loc main_arg0))).toNat < 4) : Ok m := by
  intro i
  refine ⟨fun a => ?_, .inl rfl⟩
  unfold cc0_transform_0
  simp only [table m]
  fin_cases a
  · show ((slotWord (m (((0 : Dev nD) : Thread nD τ).loc main_arg0))).toNat + 1) * 1 ≤ 4
    omega
  · show (0 + 1) * 352 ≤ 352
    omega
  · show (0 + 1) * 1024 ≤ 1024
    omega

/-- The first stored block, read at an element: the sum of the four blocks. -/
theorem pay_g (a b c d : Vec Ideal S1x352x1024 .f32) (j : S352x1024.Idx) :
    k0_pay2 (F := Ideal) a b c d j = a (ix3 0 (j 0) (j 1)) + b (ix3 0 (j 0) (j 1)) + c (ix3 0 (j 0) (j 1)) + d (ix3 0 (j 0) (j 1)) := by
  pointwise [k0_pay2]

/-- The next first moment, read at an element. -/
theorem pay_m (a b c d : Vec Ideal S1x352x1024 .f32) (e : Vec Ideal S352x1024 .f32) (j : S352x1024.Idx) :
    k0_pay3 (F := Ideal) a b c d e j = moment1 (e j) (k0_pay2 (F := Ideal) a b c d j) := by
  unfold moment1
  pointwise [k0_pay3]

/-- The next second moment, read at an element. -/
theorem pay_v (a b c d : Vec Ideal S1x352x1024 .f32) (e : Vec Ideal S352x1024 .f32) (j : S352x1024.Idx) :
    k0_pay4 (F := Ideal) a b c d e j = moment2 (e j) (k0_pay2 (F := Ideal) a b c d j) := by
  unfold moment2
  pointwise [k0_pay4]

/-- The step of the weight, read at an element. -/
theorem pay_d (a b c d : Vec Ideal S1x352x1024 .f32) (w e f : Vec Ideal S352x1024 .f32) (j : S352x1024.Idx) :
    k0_pay1 (F := Ideal) w (k0_pay5 (F := Ideal) a b c d e) (k0_pay6 (F := Ideal) a b c d f) (Scalar.ofBits .f32 0x322BCC77#32) j
      = stepOf (w j) (k0_pay3 (F := Ideal) a b c d e j) (k0_pay4 (F := Ideal) a b c d f j) := by
  unfold stepOf
  pointwise [k0_pay1, k0_pay5, k0_pay6]

/-- A load of one of the three blocks, read at an element. -/
theorem row_of (r : Vec Ideal S3x352x1024 .f32) (k : Fin 3) (hk : ∀ a, (![k.val, 0, 0] : Fin 3 → Nat) a + S1x352x1024.size a ≤ S3x352x1024.size a)
    (a : Fin 352) (b : Fin 1024) : View.ld r (Rect.unit (s := S3x352x1024) ![k.val, 0, 0] S1x352x1024.size hk) (ix3 0 a b) = r (ix3 k a b) := by
  refine congrArg r (funext fun x => Fin.ext ?_)
  match x with
  | ⟨0, _⟩ => rfl
  | ⟨1, _⟩ => show 0 + 1 * a.val = a.val; omega
  | ⟨2, _⟩ => show 0 + 1 * b.val = b.val; omega

/-- The sum of one block and three others, element by element. -/
def blockSum (p : Vec Ideal S1x352x1024 .f32) (r : Vec Ideal S3x352x1024 .f32) : Mat 352 1024 :=
  fun j => p (ix3 0 (j 0) (j 1)) + r (ix3 0 (j 0) (j 1)) + r (ix3 1 (j 0) (j 1)) + r (ix3 2 (j 0) (j 1))

/-- The first stored block is that sum of the own block and the received ones. -/
theorem pay_sum (p : Vec Ideal S1x352x1024 .f32) (r : Vec Ideal S3x352x1024 .f32) (j : S352x1024.Idx) :
    k0_pay2 (F := Ideal) p (View.ld r (Rect.unit (s := S3x352x1024) ![0, 0, 0] S1x352x1024.size inb_S3x352x1024_S1x352x1024_0_0_0))
      (View.ld r (Rect.unit (s := S3x352x1024) ![1, 0, 0] S1x352x1024.size inb_S3x352x1024_S1x352x1024_1_0_0))
      (View.ld r (Rect.unit (s := S3x352x1024) ![2, 0, 0] S1x352x1024.size inb_S3x352x1024_S1x352x1024_2_0_0)) j = blockSum p r j :=
  (pay_g _ _ _ _ j).trans (congrArg₂ (· + ·) (congrArg₂ (· + ·) (congrArg (p (ix3 0 (j 0) (j 1)) + ·) (row_of r 0 _ (j 0) (j 1)))
    (row_of r 1 _ (j 0) (j 1))) (row_of r 2 _ (j 0) (j 1)))

section Body

variable (c : Dev nD) (i : grid0.Coords) (arg2 : Memref sig .tc .vmem S1x352x1024 .f32) (harg2 : arg2.IsWhole)
  (arg3 : Memref sig .tc .vmem S3x352x1024 .f32) (harg3 : arg3.IsWhole) (arg4 : Memref sig .tc .vmem S352x1024 .f32) (harg4 : arg4.IsWhole)
  (arg5 : Memref sig .tc .vmem S352x1024 .f32) (harg5 : arg5.IsWhole) (arg6 : Memref sig .tc .vmem S352x1024 .f32) (harg6 : arg6.IsWhole)
  (arg7 : Memref sig .tc .vmem S352x1024 .f32) (harg7 : arg7.IsWhole) (arg8 : Memref sig .tc .vmem S352x1024 .f32) (harg8 : arg8.IsWhole)
  (arg9 : Memref sig .tc .vmem S352x1024 .f32) (harg9 : arg9.IsWhole) (arg10 : Memref sig .tc .vmem S352x1024 .f32) (harg10 : arg10.IsWhole)
  (p : Vec Ideal S1x352x1024 .f32) (r : Vec Ideal S3x352x1024 .f32) (w m v : Vec Ideal S352x1024 .f32) (s : TbBuf0 (F := Ideal) c tbM0_0) (j : S352x1024.Idx)

/-- What the body leaves in the first result's buffer: the sum of the four blocks. -/
theorem out_g : out0_A_5 c i arg2 harg2 arg3 harg3 arg4 harg4 arg5 harg5 arg6 harg6 arg7 harg7 arg8 harg8 arg9 harg9 arg10 harg10 p r w m v s j
    = blockSum p r j := by
  unfold out0_A_5
  frame_out
  exact pay_sum p r j

/-- What it leaves in the second: the step of the weight. -/
theorem out_d : out0_A_6 c i arg2 harg2 arg3 harg3 arg4 harg4 arg5 harg5 arg6 harg6 arg7 harg7 arg8 harg8 arg9 harg9 arg10 harg10 p r w m v s j
    = stepOf (w j) (moment1 (m j) (blockSum p r j)) (moment2 (v j) (blockSum p r j)) := by
  unfold out0_A_6
  frame_out
  rw [← pay_sum]
  exact (pay_d _ _ _ _ w m v j).trans (congrArg₂ (stepOf (w j)) (pay_m _ _ _ _ m j) (pay_v _ _ _ _ v j))

/-- What it leaves in the third: the next first moment. -/
theorem out_m : out0_A_7 c i arg2 harg2 arg3 harg3 arg4 harg4 arg5 harg5 arg6 harg6 arg7 harg7 arg8 harg8 arg9 harg9 arg10 harg10 p r w m v s j
    = moment1 (m j) (blockSum p r j) := by
  unfold out0_A_7
  frame_out
  rw [← pay_sum]
  exact pay_m _ _ _ _ m j

/-- What it leaves in the fourth: the next second moment. -/
theorem out_v : out0_A_8 c i arg2 harg2 arg3 harg3 arg4 harg4 arg5 harg5 arg6 harg6 arg7 harg7 arg8 harg8 arg9 harg9 arg10 harg10 p r w m v s j
    = moment2 (v j) (blockSum p r j) := by
  unfold out0_A_8
  frame_out
  rw [← pay_sum]
  exact pay_v _ _ _ _ v j

end Body

/-- Row `k` of the first block of an axis is row `k` of the axis. -/
theorem same_place (n k : Nat) : 0 * n + k = k := by omega

section Value

variable (m : (ℓ : Loc nD τ sig) → Buf (Elt Ideal) ℓ) (ρ : Dev nD → PrngReg) (hO : Ok m)
  (h : (slotWord (m (((0 : Dev nD) : Thread nD τ).loc main_arg0))).toNat < 4)

/-- The summed gradient of the launch's arguments. -/
abbrev gAt (c : Dev nD) : Mat 352 1024 :=
  gradOf (m ((c : Thread nD τ).loc main_arg0)) (m ((c : Thread nD τ).loc main_arg1)) (m ((c : Thread nD τ).loc main_arg2))

include h in
/-- The first window's block is the slot's block of the partial gradients. -/
theorem blk_own (c : Dev nD) (t : Fin (cfgM m hO).N) (a : Fin 352) (b : Fin 1024) :
    iblk m hO c 0 t (ix3 0 a b) = m ((c : Thread nD τ).loc main_arg1) (ix3 (slotOf (m ((c : Thread nD τ).loc main_arg0))) a b) := by
  obtain rfl : c = 0 := Subsingleton.elim _ _
  refine congrArg (m (((0 : Dev nD) : Thread nD τ).loc main_arg1)) (funext fun k => Fin.ext ?_)
  have e : ((cfgM m hO).win 0).index t = ![(slotWord (m (((0 : Dev nD) : Thread nD τ).loc main_arg0))).toNat, 0, 0] := by
    show cc0_transform_0 inb_S1_S1_0 numel1_S1 (tbl m) (grid0.coords t) = _
    unfold cc0_transform_0
    rw [table m]
    rfl
  blk_simp
  rw [e]
  match k with
  | ⟨0, _⟩ =>
    show (slotWord (m (((0 : Dev nD) : Thread nD τ).loc main_arg0))).toNat * 1 + 0 = (slotOf (m (((0 : Dev nD) : Thread nD τ).loc main_arg0))).val
    rw [slotOf_val h]; omega
  | ⟨1, _⟩ => show 0 * 352 + a.val = a.val; omega
  | ⟨2, _⟩ => show 0 * 1024 + b.val = b.val; omega

/-- The second window's block is the array of received blocks. -/
theorem blk_received (c : Dev nD) (t : Fin (cfgM m hO).N) : iblk m hO c 1 t = m ((c : Thread nD τ).loc main_arg2) := by
  refine funext fun (y : S3x352x1024.Idx) => congrArg (m ((c : Thread nD τ).loc main_arg2)) (funext fun k => Fin.ext ?_)
  blk_simp
  match k with
  | ⟨0, _⟩ => show 0 * 3 + (y 0).val = (y 0).val; omega
  | ⟨1, _⟩ => show 0 * 352 + (y 1).val = (y 1).val; omega
  | ⟨2, _⟩ => show 0 * 1024 + (y 2).val = (y 2).val; omega

/-- The third window's block is the weight. -/
theorem blk_w (c : Dev nD) (t : Fin (cfgM m hO).N) : iblk m hO c 2 t = m ((c : Thread nD τ).loc main_arg3) := by
  refine funext fun (y : S352x1024.Idx) => congrArg (m ((c : Thread nD τ).loc main_arg3)) (funext fun k => Fin.ext ?_)
  blk_simp
  match k with
  | ⟨0, _⟩ => exact same_place 352 (y 0).val
  | ⟨1, _⟩ => exact same_place 1024 (y 1).val

/-- The fourth window's block is the first moment. -/
theorem blk_m (c : Dev nD) (t : Fin (cfgM m hO).N) : iblk m hO c 3 t = m ((c : Thread nD τ).loc main_arg4) := by
  refine funext fun (y : S352x1024.Idx) => congrArg (m ((c : Thread nD τ).loc main_arg4)) (funext fun k => Fin.ext ?_)
  blk_simp
  match k with
  | ⟨0, _⟩ => exact same_place 352 (y 0).val
  | ⟨1, _⟩ => exact same_place 1024 (y 1).val

/-- The fifth window's block is the second moment. -/
theorem blk_v (c : Dev nD) (t : Fin (cfgM m hO).N) : iblk m hO c 4 t = m ((c : Thread nD τ).loc main_arg5) := by
  refine funext fun (y : S352x1024.Idx) => congrArg (m ((c : Thread nD τ).loc main_arg5)) (funext fun k => Fin.ext ?_)
  blk_simp
  match k with
  | ⟨0, _⟩ => exact same_place 352 (y 0).val
  | ⟨1, _⟩ => exact same_place 1024 (y 1).val

include h in
/-- The sum of the blocks that the windows hold is the summed gradient. -/
theorem sum_eq (c : Dev nD) (t : Fin (cfgM m hO).N) (j : S352x1024.Idx) : blockSum (iblk m hO c 0 t) (iblk m hO c 1 t) j = gAt m c j := by
  rw [blk_received]
  exact congrArg (· + _ + _ + _) (blk_own m hO h c t (j 0) (j 1))

/-- The one point of the call. -/
abbrev pt : Fin grid0.N := ⟨0, by decide⟩

/-- A window whose one block is its array writes the array back whole. -/
theorem whole_of {W : Pipeline.Window sig grid0} (hf : W.flush pt = true)
    (ha : ∀ a, W.index pt a = 0 ∧ W.xsize (grid0.coords pt) a = W.shape.size a) : W.WholeAt pt :=
  ⟨hf, fun t _ => Fin.ext (Nat.lt_one_iff.mp (lt_of_lt_of_eq t.isLt (by decide))), ha⟩

/-- The step of the weight, of the launch's arguments. -/
abbrev dAt (c : Dev nD) : Mat 352 1024 := fun j => stepOf (m ((c : Thread nD τ).loc main_arg3) j)
  (moment1 (m ((c : Thread nD τ).loc main_arg4) j) (gAt m c j)) (moment2 (m ((c : Thread nD τ).loc main_arg5) j) (gAt m c j))

/-- The next first moment, of the launch's arguments. -/
abbrev mAt (c : Dev nD) : Mat 352 1024 := fun j => moment1 (m ((c : Thread nD τ).loc main_arg4) j) (gAt m c j)

/-- The next second moment, of the launch's arguments. -/
abbrev vAt (c : Dev nD) : Mat 352 1024 := fun j => moment2 (m ((c : Thread nD τ).loc main_arg5) j) (gAt m c j)

include h in
/-- What the body leaves for the first result. -/
theorem after_g (c : Dev nD) (t : Fin (cfgM m hO).N) (j : S352x1024.Idx) : (outsAt0 m hO c t).1 j = gAt m c j := by
  unfold outsAt0
  dsimp only
  refine Eq.trans (out_g c (grid0.coords t) _ _ _ _ _ _ _ _ _ _ _ _ _ _ _ _ _ _ (iblk m hO c 0 t) (iblk m hO c 1 t) (iblk m hO c 2 t) (iblk m hO c 3 t) (iblk m hO c 4 t) _ j) ?_
  exact sum_eq m hO h c t j

include h in
/-- What the body leaves for the second result. -/
theorem after_d (c : Dev nD) (t : Fin (cfgM m hO).N) (j : S352x1024.Idx) : (outsAt0 m hO c t).2.1 j = dAt m c j := by
  unfold outsAt0
  dsimp only
  refine Eq.trans (out_d c (grid0.coords t) _ _ _ _ _ _ _ _ _ _ _ _ _ _ _ _ _ _ (iblk m hO c 0 t) (iblk m hO c 1 t) (iblk m hO c 2 t) (iblk m hO c 3 t) (iblk m hO c 4 t) _ j) ?_
  rw [sum_eq m hO h c t j, blk_w, blk_m, blk_v]

include h in
/-- What the body leaves for the third result. -/
theorem after_m (c : Dev nD) (t : Fin (cfgM m hO).N) (j : S352x1024.Idx) : (outsAt0 m hO c t).2.2.1 j = mAt m c j := by
  unfold outsAt0
  dsimp only
  refine Eq.trans (out_m c (grid0.coords t) _ _ _ _ _ _ _ _ _ _ _ _ _ _ _ _ _ _ (iblk m hO c 0 t) (iblk m hO c 1 t) (iblk m hO c 2 t) (iblk m hO c 3 t) (iblk m hO c 4 t) _ j) ?_
  rw [sum_eq m hO h c t j, blk_m]

include h in
/-- What the body leaves for the fourth result. -/
theorem after_v (c : Dev nD) (t : Fin (cfgM m hO).N) (j : S352x1024.Idx) : (outsAt0 m hO c t).2.2.2 j = vAt m c j := by
  unfold outsAt0
  dsimp only
  refine Eq.trans (out_v c (grid0.coords t) _ _ _ _ _ _ _ _ _ _ _ _ _ _ _ _ _ _ (iblk m hO c 0 t) (iblk m hO c 1 t) (iblk m hO c 2 t) (iblk m hO c 3 t) (iblk m hO c 4 t) _ j) ?_
  rw [sum_eq m hO h c t j, blk_v]

/-- Each result is written back whole, once. -/
theorem whole : ((cfgM m hO).win 5).WholeAt pt ∧ ((cfgM m hO).win 6).WholeAt pt ∧ ((cfgM m hO).win 7).WholeAt pt ∧ ((cfgM m hO).win 8).WholeAt pt :=
  ⟨whole_of rfl fun a => match a with | ⟨0, _⟩ => ⟨rfl, rfl⟩ | ⟨1, _⟩ => ⟨rfl, rfl⟩,
    whole_of rfl fun a => match a with | ⟨0, _⟩ => ⟨rfl, rfl⟩ | ⟨1, _⟩ => ⟨rfl, rfl⟩,
    whole_of rfl fun a => match a with | ⟨0, _⟩ => ⟨rfl, rfl⟩ | ⟨1, _⟩ => ⟨rfl, rfl⟩,
    whole_of rfl fun a => match a with | ⟨0, _⟩ => ⟨rfl, rfl⟩ | ⟨1, _⟩ => ⟨rfl, rfl⟩⟩

include h in
/-- The four result arrays. -/
theorem arrays (c : Dev nD) : (dats m hO 0 c).arrAt 5 (cfgM m hO).N = gAt m c ∧ (dats m hO 0 c).arrAt 6 (cfgM m hO).N = dAt m c
    ∧ (dats m hO 0 c).arrAt 7 (cfgM m hO).N = mAt m c ∧ (dats m hO 0 c).arrAt 8 (cfgM m hO).N = vAt m c := by
  refine ⟨(dats m hO 0 c).arrAt_eq_of_after_last 5 pt (whole m hO).1 _ fun j => ?_,
    (dats m hO 0 c).arrAt_eq_of_after_last 6 pt (whole m hO).2.1 _ fun j => ?_,
    (dats m hO 0 c).arrAt_eq_of_after_last 7 pt (whole m hO).2.2.1 _ fun j => ?_,
    (dats m hO 0 c).arrAt_eq_of_after_last 8 pt (whole m hO).2.2.2 _ fun j => ?_⟩
  · rw [after0_5]; exact after_g m hO h c pt j
  · rw [after0_6]; exact after_d m hO h c pt j
  · rw [after0_7]; exact after_m m hO h c pt j
  · rw [after0_8]; exact after_v m hO h c pt j

include h in
/-- Every run of the call ends with those four arrays and with the arguments unchanged. -/
theorem run : θ_run defs (onTc (τ := τ) (main (F := Ideal))) ⟨m, fun _ => 0, ρ⟩ fun r => ∀ c : Dev nD,
      r.2.mem ((c : Thread nD τ).loc main_v0_0) = gAt m c ∧ r.2.mem ((c : Thread nD τ).loc main_v0_1) = dAt m c
      ∧ r.2.mem ((c : Thread nD τ).loc main_v0_2) = mAt m c ∧ r.2.mem ((c : Thread nD τ).loc main_v0_3) = vAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r q c => ⟨(q.1 c).1 5 |>.trans (arrays m (ok m h) h c).1, (q.1 c).1 6 |>.trans (arrays m (ok m h) h c).2.1,
      (q.1 c).1 7 |>.trans (arrays m (ok m h) h c).2.2.1, (q.1 c).1 8 |>.trans (arrays m (ok m h) h c).2.2.2, q.2 c⟩)
    (θ_run_and (run_main m ρ (ok m h)) (unchanged m ρ (ok m h)))

end Value

end Cert.Kernel4Ideal.Step

namespace Cert.Reference4Ideal.Step

open Idealize.ShloMosaic Idealize.ShloMosaic.Tactic
open Cert.Reference4Ideal Cert.Reference4Ideal.Read Cert.Value

/-- The masked partial gradients, read at an element: the block at the slot, and zero in the other blocks. -/
theorem masked_eq (s : IVec S1 32) (p : FVec Ideal S4x352x1024 .f32) (h : (slotWord s).toNat < 4) (k : Fin 4) (a : Fin 352) (b : Fin 1024) :
    val_main_v4 (F := Ideal) s p (ix3 k a b) = if k = slotOf s then p (ix3 k a b) else 0 := by
  have e : val_main_call0_v1 (F := Ideal) s (ix3 k a b) = IntOp.cmpi .eq (BitVec.ofNat 32 k.val) (slotWord s) := by
    rw [val_main_call0_v1_apply, val_main_v3_apply, val_main_v2_apply, val_main_v1_apply]
    exact congrArg (fun i => IntOp.cmpi .eq (BitVec.ofNat 32 k.val) (s i)) (one_idx _)
  have z : val_main_call0_v2 (F := Ideal) (ix3 k a b) = 0 := by
    rw [val_main_call0_v2_apply, val_main_call0_v0_apply]
    pointwise [val_main_cst]
  rw [val_main_v4_apply, e, z]
  have hv := slotOf_val h
  by_cases hk : k = slotOf s
  · have : BitVec.ofNat 32 k.val = slotWord s := by rw [hk, hv, BitVec.ofNat_toNat]; simp
    rw [if_pos hk, this]
    simp [Scalar.select, IntOp.cmpi]
  · have : BitVec.ofNat 32 k.val ≠ slotWord s := fun q => hk (Fin.ext (by
      rw [hv, ← q, BitVec.toNat_ofNat]; omega))
    rw [if_neg hk, WordCmp.cmpi_eq_eq, decide_eq_false this]
    rfl

/-- The reference's summed gradient is the same sum, where the slot is one of four. -/
theorem grad_eq (s : IVec S1 32) (p : FVec Ideal S4x352x1024 .f32) (r : FVec Ideal S3x352x1024 .f32) (h : (slotWord s).toNat < 4) :
    val_main_v7 (F := Ideal) s p r = gradOf s p r := by
  funext j
  unfold gradOf
  pointwise [val_main_v7, val_main_v5, val_main_v6, val_main_cst_0, val_main_cst_1]
  rw [Finset.sum_congr (M := EReal) rfl fun k _ => masked_eq s p h k (j 0) (j 1), Finset.sum_ite_eq' Finset.univ (slotOf s), if_pos (Finset.mem_univ _),
    Fin.sum_univ_three]
  simp only [add_assoc]

/-- The reference's next first moment. -/
theorem m_eq (s : IVec S1 32) (p : FVec Ideal S4x352x1024 .f32) (r : FVec Ideal S3x352x1024 .f32) (m : FVec Ideal S352x1024 .f32) (j : S352x1024.Idx) :
    val_main_v12 (F := Ideal) s p r m j = moment1 (m j) (val_main_v7 (F := Ideal) s p r j) := by
  unfold moment1
  pointwise [val_main_v12, val_main_v9, val_main_v11, val_main_v8, val_main_v10, val_main_cst_2, val_main_cst_3]

/-- The reference's next second moment. -/
theorem v_eq (s : IVec S1 32) (p : FVec Ideal S4x352x1024 .f32) (r : FVec Ideal S3x352x1024 .f32) (v : FVec Ideal S352x1024 .f32) (j : S352x1024.Idx) :
    val_main_v18 (F := Ideal) s p r v j = moment2 (v j) (val_main_v7 (F := Ideal) s p r j) := by
  unfold moment2
  pointwise [val_main_v18, val_main_v14, val_main_v17, val_main_v13, val_main_v16, val_main_v15, val_main_cst_4, val_main_cst_5]

/-- The reference's step of the weight. -/
theorem d_eq (s : IVec S1 32) (p : FVec Ideal S4x352x1024 .f32) (r : FVec Ideal S3x352x1024 .f32) (w m v : FVec Ideal S352x1024 .f32) (j : S352x1024.Idx) :
    val_main_v31 (F := Ideal) s p r w m v j
      = stepOf (w j) (val_main_v12 (F := Ideal) s p r m j) (val_main_v18 (F := Ideal) s p r v j) := by
  unfold stepOf
  pointwise [val_main_v31, val_main_v30, val_main_v29, val_main_v28, val_main_v27, val_main_v26, val_main_v25, val_main_v24, val_main_v23, val_main_v22,
    val_main_v21, val_main_v20, val_main_v19, val_main_cst_6, val_main_cst_7, val_main_cst_8, val_main_cst_9, val_main_cst_10]

end Cert.Reference4Ideal.Step

end
-- ==== Proof.Proj.Setup.lean ====
/-
  The input projection's backward call: its buffers, and the places its own copies read and write.
-/
module

public import proofs.«01_k».proof.Proof.Gen.Kernel5Ideal.Frame
public import proofs.«01_k».proof.Proof.Gen.Kernel5Ideal.Skeleton
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two tiles, as one buffer. -/
abbrev scM : Memref sig .tc .vmem S2x640x1024 .f32 := Memref.whole cc0_scratch0

/-- The main result's buffer. -/
abbrev hbM : Memref sig .tc .hbm S8192x1024 .f32 := Memref.whole main_v6_0

theorem inb_tile (g : Fin 2) : ∀ a, (![g.val, 0, 0] : Fin 3 → Nat) a + S1x640x1024.size a ≤ S2x640x1024.size a := by
  have := g.isLt; intro a; fin_cases a <;> simp <;> omega

theorem inb_piece (u : Fin 13) : ∀ a, (![640 * u.val - 128, 0] : Fin 2 → Nat) a + S640x1024.size a ≤ S8192x1024.size a := by
  have := u.isLt; intro a; fin_cases a <;> simp <;> omega

theorem inb_cell (g : Fin 2) : ∀ a, (![g.val] : Fin 1 → Nat) a + S1.size a ≤ S2.size a := by
  have := g.isLt; intro a; fin_cases a <;> simp <;> omega

/-- Tile `g`. -/
def tileM (g : Fin 2) : Memref sig .tc .vmem S640x1024 .f32 :=
  (scM.slice (Rect.unit (s := S2x640x1024) ![g.val, 0, 0] S1x640x1024.size (inb_tile g)) (fun _ => rfl)).squeeze S640x1024 squeezes_S1x640x1024_S640x1024

/-- The rows of tile 0 that the first point copies out. -/
abbrev lowM : Memref sig .tc .vmem S512x1024 .f32 :=
  (scM.slice (Rect.unit (s := S2x640x1024) ![0, 128, 0] S1x512x1024.size inb_S2x640x1024_S1x512x1024_0_128_0) (fun _ => rfl)).squeeze S512x1024 squeezes_S1x512x1024_S512x1024

/-- What the copy of point `u` writes, after the first point. -/
def pieceM (u : Fin 13) : Memref sig .tc .hbm S640x1024 .f32 :=
  hbM.slice (Rect.unit (s := S8192x1024) ![640 * u.val - 128, 0] S640x1024.size (inb_piece u)) (fun _ => rfl)

/-- What the copy of the first point writes. -/
abbrev headM : Memref sig .tc .hbm S512x1024 .f32 :=
  hbM.slice (Rect.unit (s := S8192x1024) ![0, 0] S512x1024.size inb_S8192x1024_S512x1024_0_0) (fun _ => rfl)

/-- The semaphore that counts the copies of tile `g`. -/
def cellA (g : Fin 2) : DmaSems sig S_ := (cc0_scratch1.slice (Rect.unit (s := S2) ![g.val] S1.size (inb_cell g))).squeeze S_ squeezes_S1_S_

abbrev cellR (g : Fin 2) : SemLoc sig := SemLoc.dma (cellA g).sem

theorem cellR_0 : cellR 0 = SemLoc.dma 21 := by decide
theorem cellR_1 : cellR 1 = SemLoc.dma 22 := by decide

abbrev tileP (c : Dev nD) (g : Fin 2) (e : Buf (Elt F) ((tileM g).view.loc (c : Thread nD τ))) : sProp 𝕄 :=
  (tileM g).view.loc (c : Thread nD τ) ↦[(tileM g).view.set]{fullShare} e

abbrev pieceP (c : Dev nD) (u : Fin 13) (f : Buf (Elt F) ((pieceM u).view.loc (c : Thread nD τ))) : sProp 𝕄 :=
  (pieceM u).view.loc (c : Thread nD τ) ↦[(pieceM u).view.set]{fullShare} f

abbrev headP (c : Dev nD) (f : Buf (Elt F) (headM.view.loc (c : Thread nD τ))) : sProp 𝕄 :=
  headM.view.loc (c : Thread nD τ) ↦[headM.view.set]{fullShare} f

abbrev cellP (c : Dev nD) (g : Fin 2) : sProp 𝕄 := semVal ((c : Thread nD τ), cellR g) 0

/-- The part of tile 0 that the first point copies out. -/
abbrev lowP (c : Dev nD) (e : Buf (Elt F) (lowM.view.loc (c : Thread nD τ))) : sProp 𝕄 :=
  lowM.view.loc (c : Thread nD τ) ↦[lowM.view.set]{fullShare} e

/-- The rest of tile 0. -/
abbrev restP (c : Dev nD) (e : Buf (Elt F) (lowM.view.loc (c : Thread nD τ))) : sProp 𝕄 :=
  lowM.view.loc (c : Thread nD τ) ↦[((tileM 0).view.set : Finset S2x640x1024.Idx) \ lowM.view.set]{fullShare} e

theorem tile_set (g : Fin 2) : (tileM g).view.set = (Rect.unit (s := S2x640x1024) ![g.val, 0, 0] S1x640x1024.size (inb_tile g)).set := by
  simp only [tileM, Memref.view_squeeze, View.set_reshape]; exact View.set_slice_whole _ _

theorem low_set : lowM.view.set = (Rect.unit (s := S2x640x1024) ![0, 128, 0] S1x512x1024.size inb_S2x640x1024_S1x512x1024_0_128_0).set := by
  simp only [Memref.view_squeeze, View.set_reshape]; exact View.set_slice_whole _ _

theorem low_sub : (lowM.view.set : Finset S2x640x1024.Idx) ⊆ (tileM 0).view.set := by
  intro i hi
  rw [tile_set, Rect.mem_set_unit]
  rw [low_set, Rect.mem_set_unit] at hi
  intro a
  have h := hi a
  fin_cases a <;> simp at h ⊢ <;> omega

omit [FloatOps F] in
/-- Tile 0, as the part copied out first and the rest. -/
theorem tile0_split (c : Dev nD) (e : Buf (Elt F) ((tileM 0).view.loc (c : Thread nD τ))) :
    (tileP c 0 e : sProp 𝕄) ⊢ iprop(lowP c e ∗ restP c e) :=
  (pointsTo_split_subset low_sub).1

omit [FloatOps F] in
/-- The two parts, as tile 0. -/
theorem tile0_join (c : Dev nD) (e e' : Buf (Elt F) (lowM.view.loc (c : Thread nD τ))) :
    (iprop(lowP c e ∗ restP c e') : sProp 𝕄) ⊢ iprop(∃ e, tileP c 0 e) := by
  iintro H
  iexists _
  iapply (pointsTo_join_subset (low_sub))
  iexact H

/-- The buffers the body reads through its windows. -/
abbrev insP (c : Dev nD) (arg1 : Memref sig .tc .vmem S640x1024 .f32) (arg2 : Memref sig .tc .vmem S640x1024 .f32) (arg3 : Memref sig .tc .vmem S1x1024 .f32) (arg4 : Memref sig .tc .vmem S640x512 .bf16) (arg5 : Memref sig .tc .vmem S640x256 .bf16) (arg6 : Memref sig .tc .vmem S16x256 .f32) (arg7 : Memref sig .tc .vmem S640x512 .bf16) (arg8 : Memref sig .tc .vmem S640x512 .bf16) (arg9 : Memref sig .tc .vmem S1792x1024 .bf16)
    (x0 : Vec F S640x1024 .f32) (x1 : Vec F S640x1024 .f32) (x2 : Vec F S1x1024 .f32) (x3 : Vec F S640x512 .bf16) (x4 : Vec F S640x256 .bf16) (x5 : Vec F S16x256 .f32) (x6 : Vec F S640x512 .bf16) (x7 : Vec F S640x512 .bf16) (x8 : Vec F S1792x1024 .bf16) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)

theorem off1_eq : ∀ t : Fin grid0.N, k0_off1 (grid0.coords t) = ![(Ring.sl 2 t.val).val] := by decide +kernel
theorem off3_eq : ∀ t : Fin grid0.N, k0_off3 (grid0.coords t) = ![(Ring.sl 2 t.val).val, 0, 0] := by decide +kernel
theorem off4_eq : ∀ t : Fin grid0.N, k0_off4 (grid0.coords t) = ![(Ring.sl 2 t.val).val, 0, 0] := by decide +kernel
theorem off5_eq : ∀ t : Fin grid0.N, k0_off5 (grid0.coords t) = ![(Ring.sl 2 t.val).val] := by decide +kernel
theorem off7_eq : ∀ t : Fin grid0.N, k0_off7 (grid0.coords t) = ![(Ring.sl 2 t.val).val, 0, 0] := by decide +kernel
theorem off6_eq : ∀ t : Fin grid0.N, 0 < t.val → k0_off6 (grid0.coords t) = ![640 * (Ring.bk 13 t.val).val - 128, 0] := by decide +kernel
theorem off2_eq : ∀ t : Fin grid0.N, 2 < t.val → k0_off2 (grid0.coords t) = ![640 * (Ring.bk 13 (t.val - 2)).val - 128, 0] := by decide +kernel

/-- The store into a tile, by the tile's own offset. -/
@[reducible] def closedOff4 (t : Fin grid0.N) : ClosedOff (k0_off4 (grid0.coords t)) := ⟨![(Ring.sl 2 t.val).val, 0, 0], off4_eq t⟩

/-- The condition under which the body is at the first point. -/
abbrev isFirst (i : grid0.Coords) : Prop := (Scalar.cmpi .ne (Scalar.extui (Scalar.cmpi .eq (BitVec.ofNat 32 (i 0).val) 0#32)) 0#32) = 1#1

/-- The condition under which the body is at the third point. -/
abbrev isThird (i : grid0.Coords) : Prop := (Scalar.cmpi .ne (Scalar.extui (Scalar.cmpi .eq (BitVec.ofNat 32 (i 0).val) 2#32)) 0#32) = 1#1

theorem isFirst_iff : ∀ t : Fin grid0.N, isFirst (grid0.coords t) ↔ t.val = 0 := by decide +kernel
theorem isThird_iff : ∀ t : Fin grid0.N, isThird (grid0.coords t) ↔ t.val = 2 := by decide +kernel
theorem cond4_iff : ∀ t : Fin grid0.N, k0_cond4 (grid0.coords t) = 1#1 ↔ 2 < t.val := by decide +kernel
theorem cond5_iff : ∀ t : Fin grid0.N, k0_cond5 (grid0.coords t) = 1#1 ↔ t.val = 0 := by decide +kernel
theorem cond6_iff : ∀ t : Fin grid0.N, k0_cond6 (grid0.coords t) = 1#1 ↔ 0 < t.val := by decide +kernel
theorem cond7_iff : ∀ t : Fin grid0.N, k0_cond7 (grid0.coords t) = 1#1 ↔ t.val = 12 := by decide +kernel

section Names
omit [FloatOps F]

/-! ### The places the body names, in terms of the grid point -/

@[sl_canon] theorem cell_wait (t : Fin grid0.N) (h : k0_cond4 (grid0.coords t) = 1#1) :
    (cc0_scratch1.slice (Rect.unit (s := S2) (k0_off1 (grid0.coords t)) S1.size (k0_off1_inb (grid0.coords t) h))).squeeze S_ squeezes_S1_S_ = cellA (Ring.sl 2 t.val) :=
  congrArg (fun A : DmaSems sig S1 => A.squeeze S_ squeezes_S1_S_) (SemArray.slice_unit_congr _ (off1_eq t) _ _)

@[sl_canon] theorem cell_wait' (t : Fin grid0.N) (h : k0_cond4 (grid0.coords t) = 1#1) :
    (cc0_scratch1.slice (Rect.unit (s := S2) (k0_off1 (grid0.coords t)) ![1] (k0_off1_inb (grid0.coords t) h))).squeeze S_ squeezes_S1_S_ = cellA (Ring.sl 2 t.val) :=
  cell_wait t h

@[sl_canon] theorem piece_wait (t : Fin grid0.N) (h : k0_cond4 (grid0.coords t) = 1#1) :
    hbM.slice (Rect.unit (s := S8192x1024) (k0_off2 (grid0.coords t)) S640x1024.size (k0_off2_inb (grid0.coords t) h)) (fun _ => rfl) = pieceM (Ring.bk 13 (t.val - 2)) :=
  congrArg (fun M : Memref sig .tc .hbm S640x1024 .f32 => M) (Memref.slice_unit_congr _ (off2_eq t ((cond4_iff t).mp h)) _ _ (fun _ => rfl) (fun _ => rfl))

@[sl_canon] theorem piece_wait' (t : Fin grid0.N) (h : k0_cond4 (grid0.coords t) = 1#1) :
    hbM.slice (Rect.unit (s := S8192x1024) (k0_off2 (grid0.coords t)) ![640, 1024] (k0_off2_inb (grid0.coords t) h)) (fun _ => rfl) = pieceM (Ring.bk 13 (t.val - 2)) :=
  piece_wait t h

@[sl_canon] theorem tile_wait (t : Fin grid0.N) (h : k0_cond4 (grid0.coords t) = 1#1) :
    (scM.slice (Rect.unit (s := S2x640x1024) (k0_off3 (grid0.coords t)) S1x640x1024.size (k0_off3_inb (grid0.coords t) h)) (fun _ => rfl)).squeeze S640x1024 squeezes_S1x640x1024_S640x1024 = tileM (Ring.sl 2 t.val) :=
  congrArg (fun M : Memref sig .tc .vmem S1x640x1024 .f32 => M.squeeze S640x1024 squeezes_S1x640x1024_S640x1024) (Memref.slice_unit_congr _ (off3_eq t) _ _ (fun _ => rfl) (fun _ => rfl))

@[sl_canon] theorem tile_wait' (t : Fin grid0.N) (h : k0_cond4 (grid0.coords t) = 1#1) :
    (scM.slice (Rect.unit (s := S2x640x1024) (k0_off3 (grid0.coords t)) ![1, 640, 1024] (k0_off3_inb (grid0.coords t) h)) (fun _ => rfl)).squeeze S640x1024 squeezes_S1x640x1024_S640x1024 = tileM (Ring.sl 2 t.val) :=
  tile_wait t h

@[sl_canon] theorem cell_start (t : Fin grid0.N) (h : k0_cond6 (grid0.coords t) = 1#1) :
    (cc0_scratch1.slice (Rect.unit (s := S2) (k0_off5 (grid0.coords t)) S1.size (k0_off5_inb (grid0.coords t) h))).squeeze S_ squeezes_S1_S_ = cellA (Ring.sl 2 t.val) :=
  congrArg (fun A : DmaSems sig S1 => A.squeeze S_ squeezes_S1_S_) (SemArray.slice_unit_congr _ (off5_eq t) _ _)

@[sl_canon] theorem cell_start' (t : Fin grid0.N) (h : k0_cond6 (grid0.coords t) = 1#1) :
    (cc0_scratch1.slice (Rect.unit (s := S2) (k0_off5 (grid0.coords t)) ![1] (k0_off5_inb (grid0.coords t) h))).squeeze S_ squeezes_S1_S_ = cellA (Ring.sl 2 t.val) :=
  cell_start t h

@[sl_canon] theorem piece_start (t : Fin grid0.N) (h : k0_cond6 (grid0.coords t) = 1#1) :
    hbM.slice (Rect.unit (s := S8192x1024) (k0_off6 (grid0.coords t)) S640x1024.size (k0_off6_inb (grid0.coords t) h)) (fun _ => rfl) = pieceM (Ring.bk 13 t.val) :=
  congrArg (fun M : Memref sig .tc .hbm S640x1024 .f32 => M) (Memref.slice_unit_congr _ (off6_eq t ((cond6_iff t).mp h)) _ _ (fun _ => rfl) (fun _ => rfl))

@[sl_canon] theorem piece_start' (t : Fin grid0.N) (h : k0_cond6 (grid0.coords t) = 1#1) :
    hbM.slice (Rect.unit (s := S8192x1024) (k0_off6 (grid0.coords t)) ![640, 1024] (k0_off6_inb (grid0.coords t) h)) (fun _ => rfl) = pieceM (Ring.bk 13 t.val) :=
  piece_start t h

@[sl_canon] theorem tile_start (t : Fin grid0.N) (h : k0_cond6 (grid0.coords t) = 1#1) :
    (scM.slice (Rect.unit (s := S2x640x1024) (k0_off7 (grid0.coords t)) S1x640x1024.size (k0_off7_inb (grid0.coords t) h)) (fun _ => rfl)).squeeze S640x1024 squeezes_S1x640x1024_S640x1024 = tileM (Ring.sl 2 t.val) :=
  congrArg (fun M : Memref sig .tc .vmem S1x640x1024 .f32 => M.squeeze S640x1024 squeezes_S1x640x1024_S640x1024) (Memref.slice_unit_congr _ (off7_eq t) _ _ (fun _ => rfl) (fun _ => rfl))

@[sl_canon] theorem tile_start' (t : Fin grid0.N) (h : k0_cond6 (grid0.coords t) = 1#1) :
    (scM.slice (Rect.unit (s := S2x640x1024) (k0_off7 (grid0.coords t)) ![1, 640, 1024] (k0_off7_inb (grid0.coords t) h)) (fun _ => rfl)).squeeze S640x1024 squeezes_S1x640x1024_S640x1024 = tileM (Ring.sl 2 t.val) :=
  tile_start t h

theorem third_off : ∀ t : Fin grid0.N, isThird (grid0.coords t) → (![0] : Fin 1 → Nat) = ![(Ring.sl 2 t.val).val] := by decide +kernel

@[sl_canon] theorem cell_third (t : Fin grid0.N) (h : isThird (grid0.coords t)) :
    (cc0_scratch1.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (third_off t h) _ _)

@[sl_canon] theorem cell_third' (t : Fin grid0.N) (h : isThird (grid0.coords t)) :
    (cc0_scratch1.slice (Rect.unit (s := S2) ![0] ![1] inb_S2_S1_0)).squeeze S_ squeezes_S1_S_ = cellA (Ring.sl 2 t.val) :=
  cell_third t h

theorem last_cell_off : ∀ t : Fin grid0.N, k0_cond7 (grid0.coords t) = 1#1 → (![1] : Fin 1 → Nat) = ![(Ring.sl 2 (t.val + 1)).val] := by decide +kernel

theorem last_piece_off : ∀ t : Fin grid0.N, k0_cond7 (grid0.coords t) = 1#1 → (![6912, 0] : Fin 2 → Nat) = ![640 * (Ring.bk 13 (t.val - 1)).val - 128, 0] := by decide +kernel

theorem last_tile_off : ∀ t : Fin grid0.N, k0_cond7 (grid0.coords t) = 1#1 → (![1, 0, 0] : Fin 3 → Nat) = ![(Ring.sl 2 (t.val + 1)).val, 0, 0] := by decide +kernel

theorem last_cell0_off : ∀ t : Fin grid0.N, k0_cond7 (grid0.coords t) = 1#1 → (![0] : Fin 1 → Nat) = ![(Ring.sl 2 t.val).val] := by decide +kernel

theorem last_piece0_off : ∀ t : Fin grid0.N, k0_cond7 (grid0.coords t) = 1#1 → (![7552, 0] : Fin 2 → Nat) = ![640 * (Ring.bk 13 t.val).val - 128, 0] := by decide +kernel

theorem last_tile0_off : ∀ t : Fin grid0.N, k0_cond7 (grid0.coords t) = 1#1 → (![0, 0, 0] : Fin 3 → Nat) = ![(Ring.sl 2 t.val).val, 0, 0] := by decide +kernel

@[sl_canon] theorem cell_last (t : Fin grid0.N) (h : k0_cond7 (grid0.coords t) = 1#1) :
    (cc0_scratch1.slice (Rect.unit (s := S2) ![1] S1.size inb_S2_S1_1)).squeeze S_ squeezes_S1_S_ = cellA (Ring.sl 2 (t.val + 1)) :=
  congrArg (fun A : DmaSems sig S1 => A.squeeze S_ squeezes_S1_S_) (SemArray.slice_unit_congr _ (last_cell_off t h) _ _)

@[sl_canon] theorem cell_last' (t : Fin grid0.N) (h : k0_cond7 (grid0.coords t) = 1#1) :
    (cc0_scratch1.slice (Rect.unit (s := S2) ![1] ![1] inb_S2_S1_1)).squeeze S_ squeezes_S1_S_ = cellA (Ring.sl 2 (t.val + 1)) :=
  cell_last t h

@[sl_canon] theorem piece_last (t : Fin grid0.N) (h : k0_cond7 (grid0.coords t) = 1#1) :
    hbM.slice (Rect.unit (s := S8192x1024) ![6912, 0] S640x1024.size inb_S8192x1024_S640x1024_6912_0) (fun _ => rfl) = pieceM (Ring.bk 13 (t.val - 1)) :=
  congrArg (fun M : Memref sig .tc .hbm S640x1024 .f32 => M) (Memref.slice_unit_congr _ (last_piece_off t h) _ _ (fun _ => rfl) (fun _ => rfl))

@[sl_canon] theorem piece_last' (t : Fin grid0.N) (h : k0_cond7 (grid0.coords t) = 1#1) :
    hbM.slice (Rect.unit (s := S8192x1024) ![6912, 0] ![640, 1024] inb_S8192x1024_S640x1024_6912_0) (fun _ => rfl) = pieceM (Ring.bk 13 (t.val - 1)) :=
  piece_last t h

@[sl_canon] theorem tile_last (t : Fin grid0.N) (h : k0_cond7 (grid0.coords t) = 1#1) :
    (scM.slice (Rect.unit (s := S2x640x1024) ![1, 0, 0] S1x640x1024.size inb_S2x640x1024_S1x640x1024_1_0_0) (fun _ => rfl)).squeeze S640x1024 squeezes_S1x640x1024_S640x1024 = tileM (Ring.sl 2 (t.val + 1)) :=
  congrArg (fun M : Memref sig .tc .vmem S1x640x1024 .f32 => M.squeeze S640x1024 squeezes_S1x640x1024_S640x1024) (Memref.slice_unit_congr _ (last_tile_off t h) _ _ (fun _ => rfl) (fun _ => rfl))

@[sl_canon] theorem tile_last' (t : Fin grid0.N) (h : k0_cond7 (grid0.coords t) = 1#1) :
    (scM.slice (Rect.unit (s := S2x640x1024) ![1, 0, 0] ![1, 640, 1024] inb_S2x640x1024_S1x640x1024_1_0_0) (fun _ => rfl)).squeeze S640x1024 squeezes_S1x640x1024_S640x1024 = tileM (Ring.sl 2 (t.val + 1)) :=
  tile_last t h

@[sl_canon] theorem cell_last0 (t : Fin grid0.N) (h : k0_cond7 (grid0.coords t) = 1#1) :
    (cc0_scratch1.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (last_cell0_off t h) _ _)

@[sl_canon] theorem cell_last0' (t : Fin grid0.N) (h : k0_cond7 (grid0.coords t) = 1#1) :
    (cc0_scratch1.slice (Rect.unit (s := S2) ![0] ![1] inb_S2_S1_0)).squeeze S_ squeezes_S1_S_ = cellA (Ring.sl 2 t.val) :=
  cell_last0 t h

@[sl_canon] theorem piece_last0 (t : Fin grid0.N) (h : k0_cond7 (grid0.coords t) = 1#1) :
    hbM.slice (Rect.unit (s := S8192x1024) ![7552, 0] S640x1024.size inb_S8192x1024_S640x1024_7552_0) (fun _ => rfl) = pieceM (Ring.bk 13 t.val) :=
  congrArg (fun M : Memref sig .tc .hbm S640x1024 .f32 => M) (Memref.slice_unit_congr _ (last_piece0_off t h) _ _ (fun _ => rfl) (fun _ => rfl))

@[sl_canon] theorem piece_last0' (t : Fin grid0.N) (h : k0_cond7 (grid0.coords t) = 1#1) :
    hbM.slice (Rect.unit (s := S8192x1024) ![7552, 0] ![640, 1024] inb_S8192x1024_S640x1024_7552_0) (fun _ => rfl) = pieceM (Ring.bk 13 t.val) :=
  piece_last0 t h

@[sl_canon] theorem tile_last0 (t : Fin grid0.N) (h : k0_cond7 (grid0.coords t) = 1#1) :
    (scM.slice (Rect.unit (s := S2x640x1024) ![0, 0, 0] S1x640x1024.size inb_S2x640x1024_S1x640x1024_0_0_0) (fun _ => rfl)).squeeze S640x1024 squeezes_S1x640x1024_S640x1024 = tileM (Ring.sl 2 t.val) :=
  congrArg (fun M : Memref sig .tc .vmem S1x640x1024 .f32 => M.squeeze S640x1024 squeezes_S1x640x1024_S640x1024) (Memref.slice_unit_congr _ (last_tile0_off t h) _ _ (fun _ => rfl) (fun _ => rfl))

@[sl_canon] theorem tile_last0' (t : Fin grid0.N) (h : k0_cond7 (grid0.coords t) = 1#1) :
    (scM.slice (Rect.unit (s := S2x640x1024) ![0, 0, 0] ![1, 640, 1024] inb_S2x640x1024_S1x640x1024_0_0_0) (fun _ => rfl)).squeeze S640x1024 squeezes_S1x640x1024_S640x1024 = tileM (Ring.sl 2 t.val) :=
  tile_last0 t h

end Names

end Cert.Kernel5Ideal.Proj

end
-- ==== Proof.Proj.Vals.lean ====
/-
  What the input projection's backward call writes at a grid point, as vectors.
-/
module

public import proofs.«01_k».proof.Proof.Proj.Setup
public import Idealize.ShloMosaic.Lib.VecWindow
public import Idealize.ShloMosaic.Lib.ViewIndex
public import Idealize.ShloMosaic.Lib.ValueLayout

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

section Views

variable {Val : EltTy → Type}

/-- Contents that a view reads alike agree under it. -/
theorem eq_on_set {κ : Kind} {sp : Space} {s : Shape} {e : EltTy} (v : View sig κ sp s e) {f g : v.ty.Contents Val} (h : v.read Val f = v.read Val g) :
    ∀ i ∈ v.set, f i = g i := by
  intro i hi
  obtain ⟨x, -, rfl⟩ := Finset.mem_map.mp hi
  exact View.eq_of_read_eq (congrFun h x)

/-- What a view reads of a write made through another, where the two lie on one element. -/
theorem read_write_at {κ : Kind} {sp sp' : Space} {s s' : Shape} {e : EltTy} (v : View sig κ sp s e) (f : v.ty.Contents Val) (w : s.Idx → Val e) (x : s.Idx) :
    v.read Val (v.write Val f w Finset.univ) x = w x := congrFun (View.read_write_univ f w) x

end Views

/-- A whole buffer's contents, read with a window of the buffer's own sizes. -/
theorem ra_full {sp : Space} {s : Shape} {e : EltTy} {M : Memref sig .tc sp s e} (h : M.IsWhole) (X : Vec F s e) {off : Fin s.rank → ℕ} (inb : ∀ a, off a + s.size a ≤ s.size a) :
    M.view.readAt (Elt F) (Rect.unit off s.size inb).toLoadRect (h.unread X) = X := by
  rw [View.readAt_full, h.read_unread]

/-- The columns of the projection's gradient, side by side. -/
abbrev dpL (x3 : Vec F S640x512 .bf16) (x4 : Vec F S640x256 .bf16) (x6 : Vec F S640x512 .bf16) (x7 : Vec F S640x512 .bf16) : List (View.Piece (Elt F) S640x1792 .bf16) :=
  [⟨Rect.unit (s := S640x1792) ![0, 1280] S640x512.size inb_S640x1792_S640x512_0_1280, k0_pay7 x7⟩,
   ⟨Rect.unit (s := S640x1792) ![0, 768] S640x512.size inb_S640x1792_S640x512_0_768, k0_pay6 x6⟩,
   ⟨Rect.unit (s := S640x1792) ![0, 512] S640x256.size inb_S640x1792_S640x256_0_512, k0_pay5 x4⟩,
   ⟨Rect.unit (s := S640x1792) ![0, 0] S640x512.size inb_S640x1792_S640x512_0_0, k0_pay4 x3⟩]

/-- At the first point the rows of the small gradient are written over them. -/
abbrev dpL0 (x3 : Vec F S640x512 .bf16) (x4 : Vec F S640x256 .bf16) (x5 : Vec F S16x256 .f32) (x6 : Vec F S640x512 .bf16) (x7 : Vec F S640x512 .bf16) : List (View.Piece (Elt F) S640x1792 .bf16) :=
  ⟨Rect.unit (s := S640x1792) ![112, 512] S16x256.size inb_S640x1792_S16x256_112_512, k0_pay8 x5⟩ :: dpL x3 x4 x6 x7

abbrev VP : View sig .tc .vmem S640x1792 .bf16 := (Memref.whole cc0_stg10_0 : Memref sig .tc .vmem S640x1792 .bf16).view

theorem dpL_cover (x3 : Vec F S640x512 .bf16) (x4 : Vec F S640x256 .bf16) (x6 : Vec F S640x512 .bf16) (x7 : Vec F S640x512 .bf16) (y : S640x1792.Idx) :
    ∃ pc ∈ dpL x3 x4 x6 x7, y ∈ pc.1.set := by
  have h0 : (y 0).val < 640 := (y 0).isLt
  have h1 : (y 1).val < 1792 := (y 1).isLt
  by_cases a : (y 1).val < 512
  · refine ⟨(⟨Rect.unit (s := S640x1792) ![0, 0] S640x512.size inb_S640x1792_S640x512_0_0, k0_pay4 x3⟩ : View.Piece (Elt F) S640x1792 .bf16), List.mem_cons_of_mem _ (List.mem_cons_of_mem _ (List.mem_cons_of_mem _ List.mem_cons_self)), ?_⟩
    rw [Rect.mem_set_unit]; intro i; fin_cases i <;> simp <;> omega
  by_cases b : (y 1).val < 768
  · refine ⟨_, List.mem_cons_of_mem _ (List.mem_cons_of_mem _ List.mem_cons_self), ?_⟩
    rw [Rect.mem_set_unit]; intro i; fin_cases i <;> simp <;> omega
  by_cases d : (y 1).val < 1280
  · refine ⟨_, List.mem_cons_of_mem _ List.mem_cons_self, ?_⟩
    rw [Rect.mem_set_unit]; intro i; fin_cases i <;> simp <;> omega
  · refine ⟨_, List.mem_cons_self, ?_⟩
    rw [Rect.mem_set_unit]; intro i; fin_cases i <;> simp <;> omega

theorem dpL0_cover (x3 : Vec F S640x512 .bf16) (x4 : Vec F S640x256 .bf16) (x5 : Vec F S16x256 .f32) (x6 : Vec F S640x512 .bf16) (x7 : Vec F S640x512 .bf16) (y : S640x1792.Idx) :
    ∃ pc ∈ dpL0 x3 x4 x5 x6 x7, y ∈ pc.1.set := by
  obtain ⟨pc, h, hy⟩ := dpL_cover x3 x4 x6 x7 y
  exact ⟨pc, List.mem_cons_of_mem _ h, hy⟩

/-- The projection's gradient at a point after the first, -/
def dpF (x3 : Vec F S640x512 .bf16) (x4 : Vec F S640x256 .bf16) (x6 : Vec F S640x512 .bf16) (x7 : Vec F S640x512 .bf16) : Vec F S640x1792 .bf16 :=
  VP.read (Elt F) (VP.writes (Elt F) VP.junk (dpL x3 x4 x6 x7))

/-- and at the first. -/
def dpF0 (x3 : Vec F S640x512 .bf16) (x4 : Vec F S640x256 .bf16) (x5 : Vec F S16x256 .f32) (x6 : Vec F S640x512 .bf16) (x7 : Vec F S640x512 .bf16) : Vec F S640x1792 .bf16 :=
  VP.read (Elt F) (VP.writes (Elt F) VP.junk (dpL0 x3 x4 x5 x6 x7))

/-- What a buffer holds after a list of writes that covers it. -/
theorem read_list (v : View sig .tc .vmem S640x1792 .bf16) (f : v.ty.Contents (Elt F)) (L : List (View.Piece (Elt F) S640x1792 .bf16)) (h : ∀ y : S640x1792.Idx, ∃ pc ∈ L, y ∈ pc.1.set) :
    v.read (Elt F) (v.writes (Elt F) f L) = VP.read (Elt F) (VP.writes (Elt F) VP.junk L) :=
  View.read_writes_of_cover v f VP VP.junk L h

theorem readCov_list (v : View sig .tc .vmem S640x1792 .bf16) (L : List (View.Piece (Elt F) S640x1792 .bf16)) (h : ∀ y : S640x1792.Idx, ∃ pc ∈ L, y ∈ pc.1.set) {off : Fin 2 → ℕ} (inb : ∀ a, off a + S640x1792.size a ≤ S640x1792.size a) :
    v.readCov L (Rect.unit (s := S640x1792) off S640x1792.size inb).toLoadRect = VP.read (Elt F) (VP.writes (Elt F) VP.junk L) := by
  unfold View.readCov
  rw [View.readAt_full]
  exact read_list v _ L h

/-- The residual gradient with the normalisation's gradient added. -/
def txF (dp : Vec F S640x1792 .bf16) (x0 x1 : Vec F S640x1024 .f32) (x2 : Vec F S1x1024 .f32) (x8 : Vec F S1792x1024 .bf16) : Vec F S640x1024 .f32 :=
  addf x0 (k0_pay13 (k0_pay9 dp x8) x1 (k0_pay10 x1) x2)

/-- The normalised rows. -/
def hnF (x1 : Vec F S640x1024 .f32) (x2 : Vec F S1x1024 .f32) : Vec F S640x1024 .bf16 := k0_pay12 x1 (k0_pay10 x1) x2

/-- The scale's gradient, with the rows of one more block added. -/
def dgF (dp : Vec F S640x1792 .bf16) (x1 : Vec F S640x1024 .f32) (x8 : Vec F S1792x1024 .bf16) (g : Vec F S1x1024 .f32) : Vec F S1x1024 .f32 :=
  k0_pay14 (k0_pay9 dp x8) x1 (k0_pay10 x1) g

/-- The rows of a block from row 128 on, -/
def lowRows (w : Vec F S640x1024 .f32) : Vec F S512x1024 .f32 := fun y => w (ix2 ⟨(y 0).val + 128, by have := (y 0).isLt; simp at this; omega⟩ (y 1))

/-- and the sixteen rows from row 112 on. -/
def midRows (w : Vec F S640x1024 .f32) : Vec F S16x1024 .f32 := fun y => w (ix2 ⟨(y 0).val + 112, by have := (y 0).isLt; simp at this; omega⟩ (y 1))

/-- A tile, after a block is written over it. -/
def tileW (off : Fin 3 → ℕ) (inb : ∀ a, off a + S1x640x1024.size a ≤ S2x640x1024.size a) (e : scM.view.ty.Contents (Elt F)) (w : Vec F S640x1024 .f32) : scM.view.ty.Contents (Elt F) :=
  View.write (Elt F) (scM.access (Rect.unit (s := S2x640x1024) off S1x640x1024.size inb)) e (shapeCast S1x640x1024 w shapeCasts_S640x1024_S1x640x1024) Finset.univ

theorem tile_read (g : Fin 2) {off : Fin 3 → ℕ} (ho : off = ![g.val, 0, 0]) (inb : ∀ a, off a + S1x640x1024.size a ≤ S2x640x1024.size a)
    (e : scM.view.ty.Contents (Elt F)) (w : Vec F S640x1024 .f32) : (tileM g).view.read (Elt F) (tileW off inb e w) = w := by
  subst ho
  funext y
  obtain ⟨a, b, rfl⟩ : ∃ a b, y = ix2 a b := ⟨y 0, y 1, by funext i; fin_cases i <;> rfl⟩
  refine (congrFun (View.read_write_univ (v := scM.access (Rect.unit (s := S2x640x1024) ![g.val, 0, 0] S1x640x1024.size inb)) e _)
    (Shape.reshapeEquiv (s := S1x640x1024) (s' := S640x1024) squeezes_S1x640x1024_S640x1024.numel_eq (ix2 a b))).trans ?_
  show w (Shape.reshapeEquiv _ (Shape.reshapeEquiv _ _)) = _
  rw [Shape.reshapeEquiv_reshapeEquiv, Shape.reshapeEquiv_self]

/-- Row `a` of the part of tile 0 from row `o` on is the tile's row `a + o`. -/
theorem tile0_emb {n : ℕ} (o : ℕ) (inb : ∀ a, (![0, o, 0] : Fin 3 → ℕ) a + (![1, n, 1024] : Fin 3 → ℕ) a ≤ S2x640x1024.size a)
    (inb' : ∀ a, (![0, 0, 0] : Fin 3 → ℕ) a + S1x640x1024.size a ≤ S2x640x1024.size a) (a : Fin n) (b : Fin 1024) (h : a.val + o < 640) (z z' : Fin 1) :
    (Rect.unit (s := S2x640x1024) ![0, o, 0] ![1, n, 1024] inb).emb (ix3 z a b) = (Rect.unit (s := S2x640x1024) ![0, 0, 0] S1x640x1024.size inb').emb (ix3 z' (⟨a.val + o, h⟩ : Fin 640) b) := by
  obtain rfl := Subsingleton.elim z z'
  funext i
  match i with
  | ⟨0, _⟩ => rfl
  | ⟨1, _⟩ => exact Fin.ext (by show o + 1 * a.val = 0 + 1 * (a.val + o); omega)
  | ⟨2, _⟩ => rfl

/-- A block as a tile of one, at an index of the block. -/
theorem cast_ix3 (w : Vec F S640x1024 .f32) (z : Fin 1) (a : Fin 640) (b : Fin 1024) :
    shapeCast S1x640x1024 w shapeCasts_S640x1024_S1x640x1024 (ix3 z a b) = w (ix2 a b) := by
  obtain rfl := Subsingleton.elim z ⟨0, Nat.one_pos⟩
  show w (Shape.reshapeEquiv _ _) = _
  rw [← reshapeEquiv_ix2_1ab (a := 640) (b := 1024) (by decide) a b, Shape.reshapeEquiv_reshapeEquiv, Shape.reshapeEquiv_self]

theorem low_read {off : Fin 3 → ℕ} (ho : off = ![0, 0, 0]) (inb : ∀ a, off a + S1x640x1024.size a ≤ S2x640x1024.size a)
    (e : scM.view.ty.Contents (Elt F)) (w : Vec F S640x1024 .f32) : lowM.view.read (Elt F) (tileW off inb e w) = lowRows w := by
  subst ho
  funext y
  obtain ⟨a, b, rfl⟩ : ∃ a b, y = ix2 a b := ⟨y 0, y 1, by funext i; fin_cases i <;> rfl⟩
  have ha : a.val + 128 < 640 := by have := a.isLt; simp at this; omega
  have hx : lowM.view.emb (ix2 a b) = (scM.access (Rect.unit (s := S2x640x1024) ![0, 0, 0] S1x640x1024.size inb)).emb
      (ix3 (0 : Fin 1) (⟨a.val + 128, ha⟩ : Fin 640) b) := by
    show (Rect.unit (s := S2x640x1024) ![0, 128, 0] S1x512x1024.size inb_S2x640x1024_S1x512x1024_0_128_0).emb (Shape.reshapeEquiv _ (ix2 a b)) = _
    rw [reshapeEquiv_ix2_1ab]
    exact tile0_emb 128 _ inb a b ha _ 0
  rw [View.read_apply, hx]
  unfold tileW
  rw [View.write_emb_of_mem _ _ (Finset.mem_univ _)]
  exact cast_ix3 w 0 _ b

theorem mid_read {off : Fin 3 → ℕ} (ho : off = ![0, 0, 0]) (inb : ∀ a, off a + S1x640x1024.size a ≤ S2x640x1024.size a)
    (e : scM.view.ty.Contents (Elt F)) (w : Vec F S640x1024 .f32) :
    k0_pay2 (scM.view.readAt (Elt F) (Rect.unit (s := S2x640x1024) ![0, 112, 0] S1x16x1024.size inb_S2x640x1024_S1x16x1024_0_112_0).toLoadRect (tileW off inb e w)) = midRows w := by
  subst ho
  funext y
  obtain ⟨a, b, rfl⟩ : ∃ a b, y = ix2 a b := ⟨y 0, y 1, by funext i; fin_cases i <;> rfl⟩
  have ha : a.val + 112 < 640 := by have := a.isLt; simp at this; omega
  have hx : (scM.view.slice (Rect.unit (s := S2x640x1024) ![0, 112, 0] S1x16x1024.size inb_S2x640x1024_S1x16x1024_0_112_0)).emb (ix3 (⟨0, Nat.one_pos⟩ : Fin 1) a b) = (scM.access (Rect.unit (s := S2x640x1024) ![0, 0, 0] S1x640x1024.size inb)).emb
      (ix3 (0 : Fin 1) (⟨a.val + 112, ha⟩ : Fin 640) b) :=
    tile0_emb 112 inb_S2x640x1024_S1x16x1024_0_112_0 inb a b ha _ 0
  unfold k0_pay2 shapeCast
  rw [View.readAt_rect]
  dsimp only
  rw [reshapeEquiv_ix2_1ab, View.read_apply, hx]
  unfold tileW
  rw [View.write_emb_of_mem _ _ (Finset.mem_univ _)]
  exact cast_ix3 w 0 _ b

theorem read_store {sp : Space} {s : Shape} {e : EltTy} (v : View sig .tc sp s e) (f : v.ty.Contents (Elt F)) {off : Fin s.rank → ℕ} (inb : ∀ a, off a + s.size a ≤ s.size a) (w : Vec F s e) (L : List (View.Piece (Elt F) s e)) :
    v.read (Elt F) (v.writes (Elt F) f (⟨Rect.unit off s.size inb, w⟩ :: L)) = w := View.read_writes_full v f inb w L

/-- A copy of a tile under way, to a piece of the result. -/
abbrev flightW (c : Dev nD) (g : Fin 2) (u : Fin 13) (f : Buf (Elt F) ((pieceM u).view.loc (c : Thread nD τ))) (e : Buf (Elt F) ((tileM g).view.loc (c : Thread nD τ))) : sProp 𝕄 :=
  Transfers.Flight countersEmb (c : Thread nD τ) (cellR g) default ((pieceM u).view.amount (cellR g)) iprop(pieceP (F := F) c u f ∗ tileP (F := F) c g e)

/-- The first point's copy under way. -/
abbrev flightH (c : Dev nD) (f : Buf (Elt F) (headM.view.loc (c : Thread nD τ))) (e : Buf (Elt F) (lowM.view.loc (c : Thread nD τ))) : sProp 𝕄 :=
  Transfers.Flight countersEmb (c : Thread nD τ) (cellR 0) default (headM.view.amount (cellR 0)) iprop(headP (F := F) c f ∗ lowP (F := F) c e)

/-- A copy under way, by what the piece holds once it is done. -/
theorem flight_to (c : Dev nD) (g : Fin 2) (u : Fin 13) (G : Buf (Elt F) ((pieceM u).view.loc (c : Thread nD τ))) :
    (iprop(∃ fp V e, ⌜(pieceM u).view.read (Elt F) G = V⌝ ∗ flightW c g u ((pieceM u).view.writes (Elt F) fp [⟨Rect.whole S640x1024, V⟩]) e) : sProp 𝕄) ⊢ iprop(∃ e, flightW c g u G e) := by
  iintro ⟨%fp, %V, %e, %h, H⟩
  iexists e
  unfold flightW
  rw [show pieceP (F := F) c u G = pieceP c u ((pieceM u).view.writes (Elt F) fp [⟨Rect.whole S640x1024, V⟩]) from
    pointsTo_congr (eq_on_set _ (h.trans (View.read_writes_whole _ fp V).symm))]
  iexact H

theorem flight_to_head (c : Dev nD) (G : Buf (Elt F) (headM.view.loc (c : Thread nD τ))) :
    (iprop(∃ fp V e, ⌜headM.view.read (Elt F) G = V⌝ ∗ flightH c (headM.view.writes (Elt F) fp [⟨Rect.whole S512x1024, V⟩]) e) : sProp 𝕄) ⊢ iprop(∃ e, flightH c G e) := by
  iintro ⟨%fp, %V, %e, %h, H⟩
  iexists e
  unfold flightH
  rw [show headP (F := F) c G = headP c (headM.view.writes (Elt F) fp [⟨Rect.whole S512x1024, V⟩]) from
    pointsTo_congr (eq_on_set _ (h.trans (View.read_writes_whole _ fp V).symm))]
  iexact H

omit [FloatOps F] in
/-- The two parts, as tile 0 under another name. -/
theorem tile0_join' (c : Dev nD) (g : Fin 2) (hg : g = 0) (e e' : Buf (Elt F) (lowM.view.loc (c : Thread nD τ))) :
    (iprop(lowP c e ∗ restP c e') : sProp 𝕄) ⊢ iprop(∃ e, tileP c g e) := by
  subst hg; exact tile0_join c e e'

/-- A piece of the result, by what it holds. -/
theorem piece_to (c : Dev nD) (u : Fin 13) (G : Buf (Elt F) ((pieceM u).view.loc (c : Thread nD τ))) :
    (iprop(∃ fp V, ⌜(pieceM u).view.read (Elt F) G = V⌝ ∗ pieceP c u ((pieceM u).view.writes (Elt F) fp [⟨Rect.whole S640x1024, V⟩])) : sProp 𝕄) ⊢ pieceP c u G := by
  iintro ⟨%fp, %V, %h, H⟩
  rw [show pieceP (F := F) c u G = pieceP c u ((pieceM u).view.writes (Elt F) fp [⟨Rect.whole S640x1024, V⟩]) from
    pointsTo_congr (eq_on_set _ (h.trans (View.read_writes_whole _ fp V).symm))]
  iexact H

end Cert.Kernel5Ideal.Proj

end
-- ==== Proof.Proj.Hold.lean ====
/-
  What the input projection's backward call holds between grid points.
-/
module

public import proofs.«01_k».proof.Proof.Gen.Kernel5Ideal.Points
public import proofs.«01_k».proof.Proof.Gen.Kernel5Ideal.Launch
public import proofs.«01_k».proof.Proof.Proj.Vals

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

/-! ### The program up to the call -/

set_option maxHeartbeats 800000 in
/-- The program up to the call, over the resources of a body that starts transfers of its own. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ### The values at a grid point -/

/-- The projection's gradients at a point, -/
def dpAt (c : Dev nD) (t : Fin cfg0.N) : Vec F S640x1792 .bf16 :=
  if t.val = 0 then dpF0 (iblk m c 3 t) (iblk m c 4 t) (iblk m c 5 t) (iblk m c 6 t) (iblk m c 7 t)
  else dpF (iblk m c 3 t) (iblk m c 4 t) (iblk m c 6 t) (iblk m c 7 t)

/-- the input's gradient, -/
def txAt (c : Dev nD) (t : Fin cfg0.N) : Vec F S640x1024 .f32 :=
  txF (dpAt m c t) (iblk m c 0 t) (iblk m c 1 t) (iblk m c 2 t) (iblk m c 8 t)

/-- the normalised rows, -/
def hnAt (c : Dev nD) (t : Fin cfg0.N) : Vec F S640x1024 .bf16 := hnF (iblk m c 1 t) (iblk m c 2 t)

/-- the scale's gradient, added up to a point, -/
def dgAt (c : Dev nD) : (n : ℕ) → n < cfg0.N → Vec F S1x1024 .f32
  | 0, h => dgF (dpAt m c ⟨0, h⟩) (iblk m c 1 ⟨0, h⟩) (iblk m c 8 ⟨0, h⟩) k0_pay3
  | n + 1, h => dgF (dpAt m c ⟨n + 1, h⟩) (iblk m c 1 ⟨n + 1, h⟩) (iblk m c 8 ⟨n + 1, h⟩) (dgAt c n (by omega))

/-- A grid point by its number. -/
def pt (n : ℕ) (h : n < 13) : Fin cfg0.N := ⟨n, lt_of_lt_of_eq h (show 13 = cfg0.N from N_0.symm)⟩

/-- and the rows of the memory slots, which the first point finds. -/
def dmAt (c : Dev nD) : Vec F S16x1024 .f32 := midRows (txAt m c (pt 0 (by norm_num)))

/-- The main result, whole. -/
def resG (c : Dev nD) : Buf (Elt F) ((c : Thread nD τ).loc main_v6_0) := fun (i : S8192x1024.Idx) =>
  txAt m c (pt (((i 0).val + 128) / 640) (by have := (i 0).isLt; simp at this; omega)) (ix2 (⟨((i 0).val + 128) % 640, Nat.mod_lt _ (by norm_num)⟩ : Fin 640) (i 1))

theorem resG_apply (c : Dev nD) (i : S8192x1024.Idx) (t : Fin cfg0.N) (a : Fin 640) (b : Fin 1024) (h0 : (i 0).val + 128 = 640 * t.val + a.val) (h1 : i 1 = b) :
    resG m c i = txAt m c t (ix2 a b) := by
  have ha := a.isLt
  unfold resG
  have e1 : ∀ h, pt (((i 0).val + 128) / 640) h = t := fun h => Fin.ext (by show ((i 0).val + 128) / 640 = t.val; omega)
  have e2 : ∀ h, (⟨((i 0).val + 128) % 640, h⟩ : Fin 640) = a := fun h => Fin.ext (by show ((i 0).val + 128) % 640 = a.val; omega)
  rw [e1, e2, h1]

theorem piece_resG (c : Dev nD) (t : Fin cfg0.N) (ht : 0 < t.val) : (pieceM (Ring.bk 13 t.val)).view.read (Elt F) (resG m c) = txAt m c t := by
  have hN : t.val < 13 := lt_of_lt_of_eq t.isLt (show cfg0.N = 13 from N_0)
  have hb : (Ring.bk 13 t.val).val = t.val := Ring.bk_val hN
  funext y
  obtain ⟨a, b, rfl⟩ : ∃ a b, y = ix2 a b := ⟨y 0, y 1, by funext i; fin_cases i <;> rfl⟩
  show resG m c ((Rect.unit (s := S8192x1024) ![640 * (Ring.bk 13 t.val).val - 128, 0] S640x1024.size (inb_piece _)).emb (ix2 a b)) = _
  refine resG_apply m c _ t a b ?_ (Fin.ext ?_)
  · show (640 * (Ring.bk 13 t.val).val - 128) + 1 * a.val + 128 = _
    rw [hb]; omega
  · show 0 + 1 * b.val = _; omega

theorem head_resG (c : Dev nD) : headM.view.read (Elt F) (resG m c) = lowRows (txAt m c (pt 0 (by norm_num))) := by
  funext y
  obtain ⟨a, b, rfl⟩ : ∃ a b, y = ix2 a b := ⟨y 0, y 1, by funext i; fin_cases i <;> rfl⟩
  show resG m c ((Rect.unit (s := S8192x1024) ![0, 0] S512x1024.size inb_S8192x1024_S512x1024_0_0).emb (ix2 a b)) = _
  have ha : a.val + 128 < 640 := by have := a.isLt; simp at this; omega
  refine (resG_apply m c _ (pt 0 (by norm_num)) ⟨a.val + 128, ha⟩ b ?_ (Fin.ext ?_)).trans rfl
  · show 0 + 1 * a.val + 128 = 640 * 0 + (a.val + 128); omega
  · show 0 + 1 * b.val = _; omega

/-! ### The main result's pieces -/

/-- The rows of the main result that a point writes. -/
def pSet (u : Fin 13) : Finset S8192x1024.Idx := Finset.univ.filter fun i => ((i 0).val + 128) / 640 = u.val

theorem pSet_disjoint (u u' : Fin 13) (h : u ≠ u') : Disjoint (pSet u) (pSet u') := by
  rw [Finset.disjoint_left]
  intro i hi hi'
  exact h (Fin.ext ((Finset.mem_filter.mp hi).2.symm.trans (Finset.mem_filter.mp hi').2))

theorem pSet_cover : Finset.univ.biUnion pSet = Finset.univ := by
  ext i
  simp only [Finset.mem_biUnion, Finset.mem_univ, true_and, iff_true]
  exact ⟨⟨((i 0).val + 128) / 640, by have := (i 0).isLt; simp at this; omega⟩, Finset.mem_filter.mpr ⟨Finset.mem_univ _, rfl⟩⟩

theorem head_set : (headM.view.set : Finset S8192x1024.Idx) = pSet 0 := by
  have h : headM.view.set = (Rect.unit (s := S8192x1024) ![0, 0] S512x1024.size inb_S8192x1024_S512x1024_0_0).set := View.set_slice_whole _ _
  rw [h]
  ext i
  rw [Rect.mem_set_unit]
  have h1 := (i 1).isLt
  simp only [pSet, Finset.mem_filter, Finset.mem_univ, true_and]
  constructor
  · intro hi
    have := hi 0
    simp at this ⊢; omega
  · intro hi a
    fin_cases a <;> simp at hi h1 ⊢ <;> omega

theorem piece_set (u : Fin 13) (hu : u.val ≠ 0) : ((pieceM u).view.set : Finset S8192x1024.Idx) = pSet u := by
  have h : (pieceM u).view.set = (Rect.unit (s := S8192x1024) ![640 * u.val - 128, 0] S640x1024.size (inb_piece u)).set := View.set_slice_whole _ _
  rw [h]
  ext i
  rw [Rect.mem_set_unit]
  have h1 := (i 1).isLt
  have h0 := (i 0).isLt
  simp only [pSet, Finset.mem_filter, Finset.mem_univ, true_and]
  constructor
  · intro hi
    have := hi 0
    simp at this ⊢; omega
  · intro hi a
    fin_cases a <;> simp at hi h0 h1 ⊢ <;> omega

/-- A part of the main result, held. -/
abbrev resP (c : Dev nD) (S : Finset S8192x1024.Idx) (f : Buf (Elt F) ((c : Thread nD τ).loc main_v6_0)) : sProp 𝕄 :=
  ((c : Thread nD τ).loc main_v6_0) ↦[S]{fullShare} f

omit [FloatOps F] in
theorem headP_eq (c : Dev nD) (f : Buf (Elt F) ((c : Thread nD τ).loc main_v6_0)) : (headP c f : sProp 𝕄) = resP c (pSet 0) f :=
  congrArg (fun S : Finset S8192x1024.Idx => resP (F := F) c S f) head_set

omit [FloatOps F] in
theorem pieceP_eq (c : Dev nD) (u : Fin 13) (hu : u.val ≠ 0) (f : Buf (Elt F) ((c : Thread nD τ).loc main_v6_0)) : (pieceP c u f : sProp 𝕄) = resP c (pSet u) f :=
  congrArg (fun S : Finset S8192x1024.Idx => resP (F := F) c S f) (piece_set u hu)

/-! ### The tiles -/

/-- Tile `g`'s places. -/
def tSet (g : Fin 2) : Finset S2x640x1024.Idx := Finset.univ.filter fun i => (i 0).val = g.val

theorem tSet_disjoint (g g' : Fin 2) (h : g ≠ g') : Disjoint (tSet g) (tSet g') := by
  rw [Finset.disjoint_left]
  intro i hi hi'
  exact h (Fin.ext ((Finset.mem_filter.mp hi).2.symm.trans (Finset.mem_filter.mp hi').2))

theorem tSet_cover : Finset.univ.biUnion tSet = Finset.univ := by
  ext i
  simp only [Finset.mem_biUnion, Finset.mem_univ, true_and, iff_true]
  exact ⟨⟨(i 0).val, (i 0).isLt⟩, Finset.mem_filter.mpr ⟨Finset.mem_univ _, rfl⟩⟩

theorem tile_set' (g : Fin 2) : ((tileM g).view.set : Finset S2x640x1024.Idx) = tSet g := by
  rw [tile_set]
  ext i
  rw [Rect.mem_set_unit]
  have h1 := (i 1).isLt
  have h2 := (i 2).isLt
  simp only [tSet, Finset.mem_filter, Finset.mem_univ, true_and]
  constructor
  · intro hi
    have := hi 0
    simp at this ⊢; omega
  · intro hi a
    fin_cases a <;> simp at hi h1 h2 ⊢ <;> omega

omit [FloatOps F] in
theorem tileP_eq (c : Dev nD) (g : Fin 2) (e : Buf (Elt F) ((c : Thread nD τ).loc cc0_scratch0)) :
    (tileP c g e : sProp 𝕄) = (((c : Thread nD τ).loc cc0_scratch0) ↦[tSet g]{fullShare} e) :=
  congrArg (fun S : Finset S2x640x1024.Idx => (((c : Thread nD τ).loc cc0_scratch0) ↦[S]{fullShare} e : sProp 𝕄)) (tile_set' g)

/-! ### The two tiles in turn -/

/-- A tile that no copy is reading, -/
abbrev freeP (c : Dev nD) (g : Fin 2) : sProp 𝕄 := iprop(cellP (F := F) c g ∗ ∃ e, tileP (F := F) c g e)

/-- a tile that a point's copy is reading, -/
def inflP (c : Dev nD) (g : Fin 2) (u : Fin 13) : sProp 𝕄 :=
  if u.val = 0 then iprop((∃ e, flightH (F := F) c (resG m c) e) ∗ (∃ e, restP (F := F) c e)) else iprop(∃ e, flightW (F := F) c g u (resG m c) e)

/-- a piece not yet written, -/
abbrev aheadP (c : Dev nD) (u : Fin 13) : sProp 𝕄 := iprop(∃ f, resP (F := F) c (pSet u) f)

/-- and a piece written. -/
abbrev behindP (c : Dev nD) (u : Fin 13) : sProp 𝕄 := resP (F := F) c (pSet u) (resG m c)

theorem inflP_zero (c : Dev nD) (g : Fin 2) (u : Fin 13) (hu : u.val = 0) :
    inflP m c g u = iprop((∃ e, flightH (F := F) c (resG m c) e) ∗ (∃ e, restP (F := F) c e)) := if_pos hu

theorem inflP_pos (c : Dev nD) (g : Fin 2) (u : Fin 13) (hu : u.val ≠ 0) :
    inflP m c g u = iprop(∃ e, flightW (F := F) c g u (resG m c) e) := if_neg hu

/-- The tiles and the pieces before point `k`. -/
def ringAt (c : Dev nD) (k : ℕ) : sProp 𝕄 := Ring.AtBΦ 2 (freeP c) (inflP m c) (aheadP c) (behindP m c) k

omit [FloatOps F] in
theorem frees_eq (c : Dev nD) : (bigSep Finset.univ (freeP (F := F) c) : sProp 𝕄)
    = iprop((semVal ((c : Thread nD τ), SemLoc.dma 21) 0 ∗ ∃ e, tileP (F := F) c 0 e) ∗ (semVal ((c : Thread nD τ), SemLoc.dma 22) 0 ∗ ∃ e, tileP (F := F) c 1 e)) := by
  rw [BI.bigSep_eq_bigSepL_of_eq [0, 1] (by decide) (by decide)]
  simp only [BI.bigSepL_cons_cons, BI.bigSepL_singleton, freeP, cellP, cellR_0, cellR_1]
  rfl

omit [FloatOps F] in
theorem tiles_in (c : Dev nD) : iprop(∃ f : Buf (Elt F) ((c : Thread nD τ).loc cc0_scratch0), ((c : Thread nD τ).loc cc0_scratch0) ↦{fullShare} f)
    ⊢ (iprop((∃ e, tileP (F := F) c 0 e) ∗ ∃ e, tileP (F := F) c 1 e) : sProp 𝕄) := by
  refine (Ring.pieces_split (U := Pipeline.UD sig nD τ) (ℓ := (c : Thread nD τ).loc cc0_scratch0) (q := fullShare) tSet tSet_disjoint tSet_cover
    (fun g e => tileP (F := F) c g e) (fun g e => tileP_eq c g e)).trans ?_
  rw [BI.bigSep_eq_bigSepL_of_eq [0, 1] (by decide) (by decide)]
  simp only [BI.bigSepL_cons_cons, BI.bigSepL_singleton]
  exact .rfl

omit [FloatOps F] in
theorem tiles_out (c : Dev nD) : (iprop((∃ e, tileP (F := F) c 0 e) ∗ ∃ e, tileP (F := F) c 1 e) : sProp 𝕄)
    ⊢ iprop(∃ f : Buf (Elt F) ((c : Thread nD τ).loc cc0_scratch0), ((c : Thread nD τ).loc cc0_scratch0) ↦{fullShare} f) := by
  have key : (bigSep Finset.univ (fun g : Fin 2 => iprop(∃ e, tileP (F := F) c g e)) : sProp 𝕄) = iprop((∃ e, tileP (F := F) c 0 e) ∗ ∃ e, tileP (F := F) c 1 e) := by
    rw [BI.bigSep_eq_bigSepL_of_eq [0, 1] (by decide) (by decide)]; rfl
  iintro ⟨⟨%e, He⟩, ⟨%e', He'⟩⟩
  iapply (Ring.pieces_join (U := Pipeline.UD sig nD τ) (ℓ := (c : Thread nD τ).loc cc0_scratch0) (q := fullShare) tSet tSet_disjoint tSet_cover
    (fun g e => tileP (F := F) c g e) (fun g e => tileP_eq c g e) e)
  iapply (Entails.of_eq key.symm)
  isplitl [He]
  · iexists e; iexact He
  iexists e'; iexact He'

/-- What the call starts from, as the tiles and the pieces before the first point. -/
theorem ring_in (c : Dev nD) (f : Buf (Elt F) ((c : Thread nD τ).loc main_v6_0)) :
    iprop((∃ f : Buf (Elt F) ((c : Thread nD τ).loc cc0_scratch0), ((c : Thread nD τ).loc cc0_scratch0) ↦{fullShare} f)
        ∗ (semVal ((c : Thread nD τ), SemLoc.dma 21) 0 ∗ semVal ((c : Thread nD τ), SemLoc.dma 22) 0) ∗ ((c : Thread nD τ).loc main_v6_0) ↦{fullShare} f)
      ⊢ (ringAt m c 0 : sProp 𝕄) := by
  unfold ringAt
  rw [Ring.AtBΦ_lt _ _ _ _ _ 0 (by decide), Ring.AtB_zero]; unfold Ring.AtB₀
  rw [frees_eq]
  iintro ⟨HS, ⟨Hq0, Hq1⟩, HD⟩
  ihave HS' := (tiles_in (F := F) c) $$ HS
  icases HS' with ⟨HT0, HT1⟩
  isplitl [HD]
  · iapply (Ring.pieces_split (U := Pipeline.UD sig nD τ) (ℓ := (c : Thread nD τ).loc main_v6_0) (q := fullShare) pSet pSet_disjoint pSet_cover
      (fun u f => resP (F := F) c (pSet u) f) (fun u f => rfl))
    iexists f; iexact HD
  isplitl [Hq0 HT0]
  · isplitl [Hq0]; · iexact Hq0
    iexact HT0
  isplitl [Hq1]; · iexact Hq1
  iexact HT1

/-- What the tiles and the pieces after the last point give back: the main result whole. -/
theorem ring_out (c : Dev nD) :
    (ringAt m c 13 : sProp 𝕄) ⊢ iprop((∃ f : Buf (Elt F) ((c : Thread nD τ).loc cc0_scratch0), ((c : Thread nD τ).loc cc0_scratch0) ↦{fullShare} f)
        ∗ (semVal ((c : Thread nD τ), SemLoc.dma 21) 0 ∗ semVal ((c : Thread nD τ), SemLoc.dma 22) 0) ∗ ((c : Thread nD τ).loc main_v6_0) ↦{fullShare} (resG m c)) := by
  unfold ringAt
  rw [Ring.AtBΦ_ge _ _ _ _ _ 13 (by decide)]; unfold Ring.AtBEnd
  rw [frees_eq]
  iintro ⟨HP, ⟨Hq0, HT0⟩, ⟨Hq1, HT1⟩⟩
  isplitl [HT0 HT1]
  · iapply (tiles_out (F := F) c)
    isplitl [HT0]; · iexact HT0
    iexact HT1
  isplitl [Hq0 Hq1]
  · isplitl [Hq0]; · iexact Hq0
    iexact Hq1
  iapply (Entails.of_eq (Ring.pointsTo_blocks (Ix := Unit) (Name := ℕ) (U := Pipeline.UD sig nD τ) (Lvl := ℕ) (q := fullShare) pSet pSet_disjoint pSet_cover (resG m c)).symm)
  iexact HP

/-! ### What the call hands over -/

/-- The two semaphores that the body counts its copies on. -/
abbrev osem0 : Fin 2 → SemLoc sig := fun j => (![SemLoc.dma 21, SemLoc.dma 22] : Fin 2 → SemLoc sig) j

theorem ownSemFacts0 : Pipeline.OwnSemFacts spec0 osem0 := by decide

omit [FloatOps F] in
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 21) 0 ∗ semVal ((c : Thread nD τ), SemLoc.dma 22) 0) := by
  rw [Pipeline.ownSems0_eq_of_list c osem0 [0, 1] (by decide) (by decide)]; rfl

/-- The arrays the body only reads by copies of its own: none. -/
def H0 : Finset (Ref sig .tc) := {}

/-- The one that it writes by copies of its own. -/
def R0 : Finset (Ref sig .tc) := {main_v6_0}

theorem H0_sub : H0 ⊆ Pipeline.restRefs sig spec0 := by decide
theorem R0_sub : R0 ⊆ Pipeline.restRefs sig spec0 \ H0 := by decide

/-- What every array holds at the end. -/
def endG (c : Dev nD) : (b : Ref sig .tc) → Buf (Elt F) ((c : Thread nD τ).loc b) := Function.update (V m c) main_v6_0 (resG m c)

theorem endG_res (c : Dev nD) : endG m c main_v6_0 = resG m c := Function.update_self _ _ _

/-- What the body holds besides its windows, spelt out. -/
theorem held_eq (U G : (c : Dev nD) → (b : Ref sig .tc) → Buf (Elt F) ((c : Thread nD τ).loc b)) (c : Dev nD) :
    (Pipeline.ΦDRG osem0 spec0 H0 R0 U G c : sProp 𝕄)
      = iprop((∃ f : Buf (Elt F) ((c : Thread nD τ).loc cc0_scratch0), ((c : Thread nD τ).loc cc0_scratch0) ↦{fullShare} f) ∗ (∃ r, prngReg c r)
        ∗ (semVal ((c : Thread nD τ), SemLoc.dma 21) 0 ∗ semVal ((c : Thread nD τ), SemLoc.dma 22) 0) ∗ emp ∗ ((c : Thread nD τ).loc main_v6_0) ↦{fullShare} G c main_v6_0) := by
  rw [Pipeline.ΦDRG_eq, scopedRest0_eq, ownSems00_eq]
  unfold Pipeline.routed
  rw [BI.bigSep_eq_bigSepL_of_eq (S := H0) [] (by decide) (by decide), BI.bigSep_eq_bigSepL_of_eq (S := R0) [main_v6_0] (by decide) (by decide)]; rfl

end Cert.Kernel5Ideal.Proj

end
-- ==== Proof.Proj.RunA.lean ====
/-
  The body of the input projection's backward call at the first grid point.
-/
module

public import proofs.«01_k».proof.Proof.Proj.Vals

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
theorem runA (c : Dev nD) (arg1 : Memref sig .tc .vmem S640x1024 .f32) (harg1 : arg1.IsWhole) (arg2 : Memref sig .tc .vmem S640x1024 .f32) (harg2 : arg2.IsWhole) (arg3 : Memref sig .tc .vmem S1x1024 .f32) (harg3 : arg3.IsWhole) (arg4 : Memref sig .tc .vmem S640x512 .bf16) (harg4 : arg4.IsWhole) (arg5 : Memref sig .tc .vmem S640x256 .bf16) (harg5 : arg5.IsWhole) (arg6 : Memref sig .tc .vmem S16x256 .f32) (harg6 : arg6.IsWhole) (arg7 : Memref sig .tc .vmem S640x512 .bf16) (harg7 : arg7.IsWhole) (arg8 : Memref sig .tc .vmem S640x512 .bf16) (harg8 : arg8.IsWhole) (arg9 : Memref sig .tc .vmem S1792x1024 .bf16) (harg9 : arg9.IsWhole) (arg11 : Memref sig .tc .vmem S16x1024 .f32) (harg11 : arg11.IsWhole) (arg12 : Memref sig .tc .vmem S640x1792 .bf16) (harg12 : arg12.IsWhole) (arg13 : Memref sig .tc .vmem S640x1024 .bf16) (harg13 : arg13.IsWhole) (arg14 : Memref sig .tc .vmem S1x1024 .f32) (harg14 : arg14.IsWhole)
    (x0 : Vec F S640x1024 .f32) (x1 : Vec F S640x1024 .f32) (x2 : Vec F S1x1024 .f32) (x3 : Vec F S640x512 .bf16) (x4 : Vec F S640x256 .bf16) (x5 : Vec F S16x256 .f32) (x6 : Vec F S640x512 .bf16) (x7 : Vec F S640x512 .bf16) (x8 : Vec F S1792x1024 .bf16)
    (G : Buf (Elt F) (headM.view.loc (c : Thread nD τ))) (hG : headM.view.read (Elt F) G = lowRows (txF (dpF0 x3 x4 x5 x6 x7) x0 x1 x2 x8)) (W : Waits sig Unit) (K : PUnit → sProp 𝕄) :
    iprop(insP c arg1 arg2 arg3 arg4 arg5 arg6 arg7 arg8 arg9 x0 x1 x2 x3 x4 x5 x6 x7 x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (∃ f, headP (F := F) c f) ∗ semVal ((c : Thread nD τ), SemLoc.dma ((cc0_scratch1.slice (Rect.unit (s := S2) ![0] S1.size inb_S2_S1_0)).squeeze S_ squeezes_S1_S_).sem) 0 ∗ (∃ e, tileP (F := F) c 0 e) ∗ owes (c : Thread nD τ) 0 W
        ∗ (iprop(insP c arg1 arg2 arg3 arg4 arg5 arg6 arg7 arg8 arg9 x0 x1 x2 x3 x4 x5 x6 x7 x8 ∗ owns (c : Thread nD τ) arg11 fullShare (midRows (txF (dpF0 x3 x4 x5 x6 x7) x0 x1 x2 x8)) ∗ owns (c : Thread nD τ) arg12 fullShare (dpF0 x3 x4 x5 x6 x7) ∗ owns (c : Thread nD τ) arg13 fullShare (hnF x1 x2) ∗ owns (c : Thread nD τ) arg14 fullShare (dgF (dpF0 x3 x4 x5 x6 x7) x1 x8 k0_pay3)
          ∗ (∃ e, flightH (F := F) c G e) ∗ (∃ e, restP (F := F) c e) ∗ (∃ W', owes (c : Thread nD τ) 0 W')) -∗ K ⟨⟩))
      ⊢ wp frame (wpE (defs₀ (F := F)) Variants.none c none) Set.univ (cc0_inproj_bwd (grid0.coords t0_0) arg1 harg1 arg2 harg2 arg3 harg3 arg4 harg4 arg5 harg5 arg6 harg6 arg7 harg7 arg8 harg8 arg9 harg9 hbM (Memref.isWhole_whole _) arg11 harg11 arg12 harg12 arg13 harg13 arg14 harg14 scM (Memref.isWhole_whole _) cc0_scratch1) K := by
    have hc1 : isFirst (grid0.coords t0_0) := by decide +kernel
    have hc3 : ¬ isThird (grid0.coords t0_0) := by decide +kernel
    have hc4 : ¬ k0_cond4 (grid0.coords t0_0) = 1#1 := by decide +kernel
    have hc5 : k0_cond5 (grid0.coords t0_0) = 1#1 := by decide +kernel
    have hc6 : ¬ k0_cond6 (grid0.coords t0_0) = 1#1 := by decide +kernel
    have hc7 : ¬ k0_cond7 (grid0.coords t0_0) = 1#1 := by decide +kernel
    have e4 : k0_off4 (grid0.coords t0_0) = ![0, 0, 0] := by decide +kernel
    haveI : ClosedOff (k0_off4 (grid0.coords t0_0)) := ⟨![0, 0, 0], e4⟩
    simp only [cc0_inproj_bwd_eq_skeleton]; unfold cc0_inproj_bwd_skel
    simp only [k0_part1_eq_skeleton, k0_part2_eq_skeleton]
    unfold insP owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%d12, %f12, -, H12⟩, ⟨%fp, Hp⟩, Hq, ⟨%et, Ht⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc1 | sl_exact hc3 | sl_exact hc4 | sl_exact hc5 | sl_exact hc6 | sl_exact hc7)
    ihave Hs := (tile0_split (F := F) c (runA.sl.Ht_w1 c arg1 harg1 arg2 harg2 arg3 harg3 arg4 harg4 arg5 harg5 arg6 harg6 arg7 harg7 arg8 harg8 arg9 harg9 arg12 x0 x1 x2 x3 x4 x5 x6 x7 x8 et)) $$ Ht
    icases Hs with ⟨Hlow, Hrest⟩
    sl_exec (disch := first | sl_exact hc1 | sl_exact hc3 | sl_exact hc4 | sl_exact hc5 | sl_exact hc6 | sl_exact hc7)
    have e18 : runA.sl.v18 c arg4 harg4 arg5 harg5 arg6 harg6 arg7 harg7 arg8 harg8 arg12 x3 x4 x5 x6 x7 = dpF0 x3 x4 x5 x6 x7 := by
      unfold runA.sl.v18 runA.sl.H10_5; rw [ra_full harg4, ra_full harg5, ra_full harg6, ra_full harg7, ra_full harg8]; exact readCov_list _ _ (dpL0_cover x3 x4 x5 x6 x7) _
    have er : runA.sl.r c arg4 harg4 arg5 harg5 arg6 harg6 arg7 harg7 arg8 harg8 arg9 harg9 arg12 x3 x4 x5 x6 x7 x8 = k0_pay9 (dpF0 x3 x4 x5 x6 x7) x8 := by
      unfold runA.sl.r; rw [e18, ra_full]
    have e1 : runA.sl.r_1 c arg2 harg2 x1 = x1 := by unfold runA.sl.r_1; rw [ra_full]
    have e2 : runA.sl.r_2 c arg2 harg2 x1 = k0_pay10 x1 := by unfold runA.sl.r_2; rw [ra_full]
    sl_step
    iapply Hk
    isplitl [H0 H1 H2 H3 H4 H5 H6 H7 H8]
    · isplitl [H0]; · iexists _; isplitr; swap; (· iexact H0); ipureintro; exact harg1.read_unread _
      isplitl [H1]; · iexists _; isplitr; swap; (· iexact H1); ipureintro; exact harg2.read_unread _
      isplitl [H2]; · iexists _; isplitr; swap; (· iexact H2); ipureintro; exact harg3.read_unread _
      isplitl [H3]; · iexists _; isplitr; swap; (· iexact H3); ipureintro; exact harg4.read_unread _
      isplitl [H4]; · iexists _; isplitr; swap; (· iexact H4); ipureintro; exact harg5.read_unread _
      isplitl [H5]; · iexists _; isplitr; swap; (· iexact H5); ipureintro; exact harg6.read_unread _
      isplitl [H6]; · iexists _; isplitr; swap; (· iexact H6); ipureintro; exact harg7.read_unread _
      isplitl [H7]; · iexists _; isplitr; swap; (· iexact H7); ipureintro; exact harg8.read_unread _
      iexists _; isplitr; swap; (· iexact H8); ipureintro; exact harg9.read_unread _
    isplitl [H9]
    · iexists _; isplitr; swap; (· iexact H9); ipureintro
      refine (read_store _ _ _ _ _).trans ?_
      unfold runA.sl.v94 runA.sl.Ht_w1 runA.sl.r_3
      rw [er, e1, e2, ra_full, ra_full]
      exact mid_read e4 _ _ _
    isplitl [H10]
    · iexists _; isplitr; swap; (· iexact H10); ipureintro
      unfold runA.sl.H10_5; rw [ra_full harg4, ra_full harg5, ra_full harg6, ra_full harg7, ra_full harg8]; exact read_list _ _ _ (dpL0_cover x3 x4 x5 x6 x7)
    isplitl [H11]
    · iexists _; isplitr; swap; (· iexact H11); ipureintro
      rw [e1, e2, ra_full]; exact read_store _ _ _ _ _
    isplitl [H12]
    · iexists _; isplitr; swap; (· iexact H12); ipureintro
      refine (read_store _ _ _ _ _).trans ?_
      unfold runA.sl.v59 runA.sl.H12_1 dgF
      rw [er, e1, e2, View.readCov_full]
    isplitl [Hq]
    · iapply (flight_to_head c G)
      iexists _; iexists _; iexists _; isplitr; swap; (· iexact Hq); ipureintro
      unfold runA.sl.dma0 runA.sl.Ht_w1 runA.sl.r_3
      rw [er, e1, e2, ra_full, ra_full]
      exact hG.trans (low_read e4 _ _ _).symm
    isplitl [Hrest]; · iexists _; iexact Hrest
    iexists _; iexact HW

end Cert.Kernel5Ideal.Proj

end
-- ==== Proof.Proj.RunB.lean ====
/-
  The body of the input projection's backward call at the second grid point.
-/
module

public import proofs.«01_k».proof.Proof.Proj.Vals

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local instance] closedOff4 in
set_option maxHeartbeats 4000000 in
theorem runB (c : Dev nD) (t : Fin grid0.N) (ht : t.val = 1) (arg1 : Memref sig .tc .vmem S640x1024 .f32) (harg1 : arg1.IsWhole) (arg2 : Memref sig .tc .vmem S640x1024 .f32) (harg2 : arg2.IsWhole) (arg3 : Memref sig .tc .vmem S1x1024 .f32) (harg3 : arg3.IsWhole) (arg4 : Memref sig .tc .vmem S640x512 .bf16) (harg4 : arg4.IsWhole) (arg5 : Memref sig .tc .vmem S640x256 .bf16) (harg5 : arg5.IsWhole) (arg6 : Memref sig .tc .vmem S16x256 .f32) (harg6 : arg6.IsWhole) (arg7 : Memref sig .tc .vmem S640x512 .bf16) (harg7 : arg7.IsWhole) (arg8 : Memref sig .tc .vmem S640x512 .bf16) (harg8 : arg8.IsWhole) (arg9 : Memref sig .tc .vmem S1792x1024 .bf16) (harg9 : arg9.IsWhole) (arg11 : Memref sig .tc .vmem S16x1024 .f32) (harg11 : arg11.IsWhole) (arg12 : Memref sig .tc .vmem S640x1792 .bf16) (harg12 : arg12.IsWhole) (arg13 : Memref sig .tc .vmem S640x1024 .bf16) (harg13 : arg13.IsWhole) (arg14 : Memref sig .tc .vmem S1x1024 .f32) (harg14 : arg14.IsWhole)
    (x0 : Vec F S640x1024 .f32) (x1 : Vec F S640x1024 .f32) (x2 : Vec F S1x1024 .f32) (x3 : Vec F S640x512 .bf16) (x4 : Vec F S640x256 .bf16) (x5 : Vec F S16x256 .f32) (x6 : Vec F S640x512 .bf16) (x7 : Vec F S640x512 .bf16) (x8 : Vec F S1792x1024 .bf16) (xo : Vec F S1x1024 .f32)
    (G : Buf (Elt F) ((pieceM (Ring.bk 13 t.val)).view.loc (c : Thread nD τ))) (hG : (pieceM (Ring.bk 13 t.val)).view.read (Elt F) G = txF (dpF x3 x4 x6 x7) x0 x1 x2 x8)
    (W : Waits sig Unit) (K : PUnit → sProp 𝕄) :
    iprop(insP c arg1 arg2 arg3 arg4 arg5 arg6 arg7 arg8 arg9 x0 x1 x2 x3 x4 x5 x6 x7 x8 ∗ (∃ d, owns (c : Thread nD τ) arg12 fullShare d) ∗ (∃ d, owns (c : Thread nD τ) arg13 fullShare d) ∗ owns (c : Thread nD τ) arg14 fullShare xo
        ∗ (∃ f, pieceP (F := F) c (Ring.bk 13 t.val) f) ∗ cellP (F := F) c (Ring.sl 2 t.val) ∗ (∃ e, tileP (F := F) c (Ring.sl 2 t.val) e) ∗ owes (c : Thread nD τ) 0 W
        ∗ (iprop(insP c arg1 arg2 arg3 arg4 arg5 arg6 arg7 arg8 arg9 x0 x1 x2 x3 x4 x5 x6 x7 x8 ∗ owns (c : Thread nD τ) arg12 fullShare (dpF x3 x4 x6 x7) ∗ owns (c : Thread nD τ) arg13 fullShare (hnF x1 x2) ∗ owns (c : Thread nD τ) arg14 fullShare (dgF (dpF x3 x4 x6 x7) x1 x8 xo)
          ∗ (∃ e, flightW (F := F) c (Ring.sl 2 t.val) (Ring.bk 13 t.val) G e) ∗ (∃ W', owes (c : Thread nD τ) 0 W')) -∗ K ⟨⟩))
      ⊢ wp frame (wpE (defs₀ (F := F)) Variants.none c none) Set.univ (cc0_inproj_bwd (grid0.coords t) arg1 harg1 arg2 harg2 arg3 harg3 arg4 harg4 arg5 harg5 arg6 harg6 arg7 harg7 arg8 harg8 arg9 harg9 hbM (Memref.isWhole_whole _) arg11 harg11 arg12 harg12 arg13 harg13 arg14 harg14 scM (Memref.isWhole_whole _) cc0_scratch1) K := by
    have hc1 : ¬ isFirst (grid0.coords t) := fun h => by have := (isFirst_iff t).mp h; omega
    have hc3 : ¬ isThird (grid0.coords t) := fun h => by have := (isThird_iff t).mp h; omega
    have hc4 : ¬ k0_cond4 (grid0.coords t) = 1#1 := fun h => by have := (cond4_iff t).mp h; omega
    have hc5 : ¬ k0_cond5 (grid0.coords t) = 1#1 := fun h => by have := (cond5_iff t).mp h; omega
    have hc6 : k0_cond6 (grid0.coords t) = 1#1 := (cond6_iff t).mpr (by omega)
    have hc7 : ¬ k0_cond7 (grid0.coords t) = 1#1 := fun h => by have := (cond7_iff t).mp h; omega
    haveI : Fact (k0_cond6 (grid0.coords t) = 1#1) := ⟨hc6⟩
    simp only [cc0_inproj_bwd_eq_skeleton]; unfold cc0_inproj_bwd_skel
    simp only [k0_part1_eq_skeleton, k0_part2_eq_skeleton]
    unfold insP owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d10, %f10, -, H10⟩, ⟨%d11, %f11, -, H11⟩, ⟨%f12, %hf12, H12⟩, ⟨%fp, Hp⟩, HF, ⟨%et, Ht⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hf12
    sl_exec (disch := first | sl_exact hc1 | sl_exact hc3 | sl_exact hc4 | sl_exact hc5 | sl_exact hc6 | sl_exact hc7)
    have e18 : runB.sl.v18 c arg4 harg4 arg5 harg5 arg7 harg7 arg8 harg8 arg12 x3 x4 x6 x7 = dpF x3 x4 x6 x7 := by
      unfold runB.sl.v18 runB.sl.H10_4; rw [ra_full harg4, ra_full harg5, ra_full harg7, ra_full harg8]; exact readCov_list _ _ (dpL_cover x3 x4 x6 x7) _
    have er : runB.sl.r c arg4 harg4 arg5 harg5 arg7 harg7 arg8 harg8 arg9 harg9 arg12 x3 x4 x6 x7 x8 = k0_pay9 (dpF x3 x4 x6 x7) x8 := by
      unfold runB.sl.r; rw [e18, ra_full]
    have e1 : runB.sl.r_1 c arg2 harg2 x1 = x1 := by unfold runB.sl.r_1; rw [ra_full]
    have e2 : runB.sl.r_2 c arg2 harg2 x1 = k0_pay10 x1 := by unfold runB.sl.r_2; rw [ra_full]
    sl_step
    iapply Hk
    isplitl [H0 H1 H2 H3 H4 H5 H6 H7 H8]
    · isplitl [H0]; · iexists _; isplitr; swap; (· iexact H0); ipureintro; exact harg1.read_unread _
      isplitl [H1]; · iexists _; isplitr; swap; (· iexact H1); ipureintro; exact harg2.read_unread _
      isplitl [H2]; · iexists _; isplitr; swap; (· iexact H2); ipureintro; exact harg3.read_unread _
      isplitl [H3]; · iexists _; isplitr; swap; (· iexact H3); ipureintro; exact harg4.read_unread _
      isplitl [H4]; · iexists _; isplitr; swap; (· iexact H4); ipureintro; exact harg5.read_unread _
      isplitl [H5]; · iexists _; isplitr; swap; (· iexact H5); ipureintro; exact harg6.read_unread _
      isplitl [H6]; · iexists _; isplitr; swap; (· iexact H6); ipureintro; exact harg7.read_unread _
      isplitl [H7]; · iexists _; isplitr; swap; (· iexact H7); ipureintro; exact harg8.read_unread _
      iexists _; isplitr; swap; (· iexact H8); ipureintro; exact harg9.read_unread _
    isplitl [H10]
    · iexists _; isplitr; swap; (· iexact H10); ipureintro
      unfold runB.sl.H10_4; rw [ra_full harg4, ra_full harg5, ra_full harg7, ra_full harg8]; exact read_list _ _ _ (dpL_cover x3 x4 x6 x7)
    isplitl [H11]
    · iexists _; isplitr; swap; (· iexact H11); ipureintro
      rw [e1, e2, ra_full]; exact read_store _ _ _ _ _
    isplitl [H12]
    · iexists _; isplitr; swap; (· iexact H12); ipureintro
      rw [er, e1, e2, ra_full]; exact read_store _ _ _ _ _
    isplitl [HF]
    · iapply (flight_to c (Ring.sl 2 t.val) (Ring.bk 13 t.val) G)
      iexists _; iexists _; iexists _; isplitr; swap; (· iexact HF); ipureintro
      unfold runB.sl.dma24 runB.sl.Ht_w1 runB.sl.r_3
      rw [er, e1, e2, ra_full, ra_full]
      exact hG.trans (tile_read (Ring.sl 2 t.val) (off4_eq t) _ _ _).symm
    iexists _; iexact HW

end Cert.Kernel5Ideal.Proj

end
-- ==== Proof.Proj.RunC.lean ====
/-
  The body of the input projection's backward call at the third grid point.
-/
module

public import proofs.«01_k».proof.Proof.Proj.Vals

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local instance] closedOff4 in
set_option maxHeartbeats 4000000 in
theorem runC (c : Dev nD) (t : Fin grid0.N) (ht : t.val = 2) (arg1 : Memref sig .tc .vmem S640x1024 .f32) (harg1 : arg1.IsWhole) (arg2 : Memref sig .tc .vmem S640x1024 .f32) (harg2 : arg2.IsWhole) (arg3 : Memref sig .tc .vmem S1x1024 .f32) (harg3 : arg3.IsWhole) (arg4 : Memref sig .tc .vmem S640x512 .bf16) (harg4 : arg4.IsWhole) (arg5 : Memref sig .tc .vmem S640x256 .bf16) (harg5 : arg5.IsWhole) (arg6 : Memref sig .tc .vmem S16x256 .f32) (harg6 : arg6.IsWhole) (arg7 : Memref sig .tc .vmem S640x512 .bf16) (harg7 : arg7.IsWhole) (arg8 : Memref sig .tc .vmem S640x512 .bf16) (harg8 : arg8.IsWhole) (arg9 : Memref sig .tc .vmem S1792x1024 .bf16) (harg9 : arg9.IsWhole) (arg11 : Memref sig .tc .vmem S16x1024 .f32) (harg11 : arg11.IsWhole) (arg12 : Memref sig .tc .vmem S640x1792 .bf16) (harg12 : arg12.IsWhole) (arg13 : Memref sig .tc .vmem S640x1024 .bf16) (harg13 : arg13.IsWhole) (arg14 : Memref sig .tc .vmem S1x1024 .f32) (harg14 : arg14.IsWhole)
    (x0 : Vec F S640x1024 .f32) (x1 : Vec F S640x1024 .f32) (x2 : Vec F S1x1024 .f32) (x3 : Vec F S640x512 .bf16) (x4 : Vec F S640x256 .bf16) (x5 : Vec F S16x256 .f32) (x6 : Vec F S640x512 .bf16) (x7 : Vec F S640x512 .bf16) (x8 : Vec F S1792x1024 .bf16) (xo : Vec F S1x1024 .f32)
    (G : Buf (Elt F) ((pieceM (Ring.bk 13 t.val)).view.loc (c : Thread nD τ))) (hG : (pieceM (Ring.bk 13 t.val)).view.read (Elt F) G = txF (dpF x3 x4 x6 x7) x0 x1 x2 x8)
    (ff : Buf (Elt F) (headM.view.loc (c : Thread nD τ))) (W : Waits sig Unit) (K : PUnit → sProp 𝕄) :
    iprop(insP c arg1 arg2 arg3 arg4 arg5 arg6 arg7 arg8 arg9 x0 x1 x2 x3 x4 x5 x6 x7 x8 ∗ (∃ d, owns (c : Thread nD τ) arg12 fullShare d) ∗ (∃ d, owns (c : Thread nD τ) arg13 fullShare d) ∗ owns (c : Thread nD τ) arg14 fullShare xo
        ∗ (∃ f, pieceP (F := F) c (Ring.bk 13 t.val) f) ∗ (∃ e, Transfers.Flight countersEmb (c : Thread nD τ) (cellR (Ring.sl 2 t.val)) default (headM.view.amount (cellR (Ring.sl 2 t.val))) iprop(headP (F := F) c ff ∗ lowP (F := F) c e)) ∗ (∃ e, restP (F := F) c e) ∗ owes (c : Thread nD τ) 0 W
        ∗ (iprop(insP c arg1 arg2 arg3 arg4 arg5 arg6 arg7 arg8 arg9 x0 x1 x2 x3 x4 x5 x6 x7 x8 ∗ owns (c : Thread nD τ) arg12 fullShare (dpF x3 x4 x6 x7) ∗ owns (c : Thread nD τ) arg13 fullShare (hnF x1 x2) ∗ owns (c : Thread nD τ) arg14 fullShare (dgF (dpF x3 x4 x6 x7) x1 x8 xo)
          ∗ (∃ e, flightW (F := F) c (Ring.sl 2 t.val) (Ring.bk 13 t.val) G e) ∗ headP (F := F) c ff ∗ (∃ W', owes (c : Thread nD τ) 0 W')) -∗ K ⟨⟩))
      ⊢ wp frame (wpE (defs₀ (F := F)) Variants.none c none) Set.univ (cc0_inproj_bwd (grid0.coords t) arg1 harg1 arg2 harg2 arg3 harg3 arg4 harg4 arg5 harg5 arg6 harg6 arg7 harg7 arg8 harg8 arg9 harg9 hbM (Memref.isWhole_whole _) arg11 harg11 arg12 harg12 arg13 harg13 arg14 harg14 scM (Memref.isWhole_whole _) cc0_scratch1) K := by
    have hc1 : ¬ isFirst (grid0.coords t) := fun h => by have := (isFirst_iff t).mp h; omega
    have hc3 : isThird (grid0.coords t) := (isThird_iff t).mpr ht
    have hc4 : ¬ k0_cond4 (grid0.coords t) = 1#1 := fun h => by have := (cond4_iff t).mp h; omega
    have hc5 : ¬ k0_cond5 (grid0.coords t) = 1#1 := fun h => by have := (cond5_iff t).mp h; omega
    have hc6 : k0_cond6 (grid0.coords t) = 1#1 := (cond6_iff t).mpr (by omega)
    have hc7 : ¬ k0_cond7 (grid0.coords t) = 1#1 := fun h => by have := (cond7_iff t).mp h; omega
    haveI : Fact (isThird (grid0.coords t)) := ⟨hc3⟩
    haveI : Fact (k0_cond6 (grid0.coords t) = 1#1) := ⟨hc6⟩
    simp only [cc0_inproj_bwd_eq_skeleton]; unfold cc0_inproj_bwd_skel
    simp only [k0_part1_eq_skeleton, k0_part2_eq_skeleton]
    unfold insP owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d10, %f10, -, H10⟩, ⟨%d11, %f11, -, H11⟩, ⟨%f12, %hf12, H12⟩, ⟨%fp, Hp⟩, ⟨%fe, HF⟩, ⟨%fr, Hrest⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hf12
    sl_exec (disch := first | sl_exact hc1 | sl_exact hc3 | sl_exact hc4 | sl_exact hc5 | sl_exact hc6 | sl_exact hc7)
    ihave Hj := (tile0_join' (F := F) c (Ring.sl 2 t.val) (by rw [ht]; decide) fe fr) $$ [HF_src Hrest]
    · isplitl [HF_src]; · iexact HF_src
      iexact Hrest
    icases Hj with ⟨%et, Ht⟩
    sl_exec (disch := first | sl_exact hc1 | sl_exact hc3 | sl_exact hc4 | sl_exact hc5 | sl_exact hc6 | sl_exact hc7)
    have e18 : runC.sl.v18 c arg4 harg4 arg5 harg5 arg7 harg7 arg8 harg8 arg12 x3 x4 x6 x7 = dpF x3 x4 x6 x7 := by
      unfold runC.sl.v18 runC.sl.H10_4; rw [ra_full harg4, ra_full harg5, ra_full harg7, ra_full harg8]; exact readCov_list _ _ (dpL_cover x3 x4 x6 x7) _
    have er : runC.sl.r c arg4 harg4 arg5 harg5 arg7 harg7 arg8 harg8 arg9 harg9 arg12 x3 x4 x6 x7 x8 = k0_pay9 (dpF x3 x4 x6 x7) x8 := by
      unfold runC.sl.r; rw [e18, ra_full]
    have e1 : runC.sl.r_1 c arg2 harg2 x1 = x1 := by unfold runC.sl.r_1; rw [ra_full]
    have e2 : runC.sl.r_2 c arg2 harg2 x1 = k0_pay10 x1 := by unfold runC.sl.r_2; rw [ra_full]
    sl_step
    iapply Hk
    isplitl [H0 H1 H2 H3 H4 H5 H6 H7 H8]
    · isplitl [H0]; · iexists _; isplitr; swap; (· iexact H0); ipureintro; exact harg1.read_unread _
      isplitl [H1]; · iexists _; isplitr; swap; (· iexact H1); ipureintro; exact harg2.read_unread _
      isplitl [H2]; · iexists _; isplitr; swap; (· iexact H2); ipureintro; exact harg3.read_unread _
      isplitl [H3]; · iexists _; isplitr; swap; (· iexact H3); ipureintro; exact harg4.read_unread _
      isplitl [H4]; · iexists _; isplitr; swap; (· iexact H4); ipureintro; exact harg5.read_unread _
      isplitl [H5]; · iexists _; isplitr; swap; (· iexact H5); ipureintro; exact harg6.read_unread _
      isplitl [H6]; · iexists _; isplitr; swap; (· iexact H6); ipureintro; exact harg7.read_unread _
      isplitl [H7]; · iexists _; isplitr; swap; (· iexact H7); ipureintro; exact harg8.read_unread _
      iexists _; isplitr; swap; (· iexact H8); ipureintro; exact harg9.read_unread _
    isplitl [H10]
    · iexists _; isplitr; swap; (· iexact H10); ipureintro
      unfold runC.sl.H10_4; rw [ra_full harg4, ra_full harg5, ra_full harg7, ra_full harg8]; exact read_list _ _ _ (dpL_cover x3 x4 x6 x7)
    isplitl [H11]
    · iexists _; isplitr; swap; (· iexact H11); ipureintro
      rw [e1, e2, ra_full]; exact read_store _ _ _ _ _
    isplitl [H12]
    · iexists _; isplitr; swap; (· iexact H12); ipureintro
      rw [er, e1, e2, ra_full]; exact read_store _ _ _ _ _
    isplitl [HF]
    · iapply (flight_to c (Ring.sl 2 t.val) (Ring.bk 13 t.val) G)
      iexists _; iexists _; iexists _; isplitr; swap; (· iexact HF); ipureintro
      unfold runC.sl.dma2 runC.sl.Ht_w1 runC.sl.r_3
      rw [er, e1, e2, ra_full, ra_full]
      exact hG.trans (tile_read (Ring.sl 2 t.val) (off4_eq t) _ _ _).symm
    isplitl [HF_dst]; · iexact HF_dst
    iexists _; iexact HW

end Cert.Kernel5Ideal.Proj

end
-- ==== Proof.Proj.RunD.lean ====
/-
  The body of the input projection's backward call between the first points and the last.
-/
module

public import proofs.«01_k».proof.Proof.Proj.Vals

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local instance] closedOff4 in
set_option maxHeartbeats 4000000 in
theorem runD (c : Dev nD) (t : Fin grid0.N) (ht : 2 < t.val) (ht' : t.val < 12) (arg1 : Memref sig .tc .vmem S640x1024 .f32) (harg1 : arg1.IsWhole) (arg2 : Memref sig .tc .vmem S640x1024 .f32) (harg2 : arg2.IsWhole) (arg3 : Memref sig .tc .vmem S1x1024 .f32) (harg3 : arg3.IsWhole) (arg4 : Memref sig .tc .vmem S640x512 .bf16) (harg4 : arg4.IsWhole) (arg5 : Memref sig .tc .vmem S640x256 .bf16) (harg5 : arg5.IsWhole) (arg6 : Memref sig .tc .vmem S16x256 .f32) (harg6 : arg6.IsWhole) (arg7 : Memref sig .tc .vmem S640x512 .bf16) (harg7 : arg7.IsWhole) (arg8 : Memref sig .tc .vmem S640x512 .bf16) (harg8 : arg8.IsWhole) (arg9 : Memref sig .tc .vmem S1792x1024 .bf16) (harg9 : arg9.IsWhole) (arg11 : Memref sig .tc .vmem S16x1024 .f32) (harg11 : arg11.IsWhole) (arg12 : Memref sig .tc .vmem S640x1792 .bf16) (harg12 : arg12.IsWhole) (arg13 : Memref sig .tc .vmem S640x1024 .bf16) (harg13 : arg13.IsWhole) (arg14 : Memref sig .tc .vmem S1x1024 .f32) (harg14 : arg14.IsWhole)
    (x0 : Vec F S640x1024 .f32) (x1 : Vec F S640x1024 .f32) (x2 : Vec F S1x1024 .f32) (x3 : Vec F S640x512 .bf16) (x4 : Vec F S640x256 .bf16) (x5 : Vec F S16x256 .f32) (x6 : Vec F S640x512 .bf16) (x7 : Vec F S640x512 .bf16) (x8 : Vec F S1792x1024 .bf16) (xo : Vec F S1x1024 .f32)
    (G : Buf (Elt F) ((pieceM (Ring.bk 13 t.val)).view.loc (c : Thread nD τ))) (hG : (pieceM (Ring.bk 13 t.val)).view.read (Elt F) G = txF (dpF x3 x4 x6 x7) x0 x1 x2 x8)
    (ff : Buf (Elt F) ((pieceM (Ring.bk 13 (t.val - 2))).view.loc (c : Thread nD τ))) (W : Waits sig Unit) (K : PUnit → sProp 𝕄) :
    iprop(insP c arg1 arg2 arg3 arg4 arg5 arg6 arg7 arg8 arg9 x0 x1 x2 x3 x4 x5 x6 x7 x8 ∗ (∃ d, owns (c : Thread nD τ) arg12 fullShare d) ∗ (∃ d, owns (c : Thread nD τ) arg13 fullShare d) ∗ owns (c : Thread nD τ) arg14 fullShare xo
        ∗ (∃ f, pieceP (F := F) c (Ring.bk 13 t.val) f) ∗ (∃ e, flightW (F := F) c (Ring.sl 2 t.val) (Ring.bk 13 (t.val - 2)) ff e) ∗ owes (c : Thread nD τ) 0 W
        ∗ (iprop(insP c arg1 arg2 arg3 arg4 arg5 arg6 arg7 arg8 arg9 x0 x1 x2 x3 x4 x5 x6 x7 x8 ∗ owns (c : Thread nD τ) arg12 fullShare (dpF x3 x4 x6 x7) ∗ owns (c : Thread nD τ) arg13 fullShare (hnF x1 x2) ∗ owns (c : Thread nD τ) arg14 fullShare (dgF (dpF x3 x4 x6 x7) x1 x8 xo)
          ∗ (∃ e, flightW (F := F) c (Ring.sl 2 t.val) (Ring.bk 13 t.val) G e) ∗ pieceP (F := F) c (Ring.bk 13 (t.val - 2)) ff ∗ (∃ W', owes (c : Thread nD τ) 0 W')) -∗ K ⟨⟩))
      ⊢ wp frame (wpE (defs₀ (F := F)) Variants.none c none) Set.univ (cc0_inproj_bwd (grid0.coords t) arg1 harg1 arg2 harg2 arg3 harg3 arg4 harg4 arg5 harg5 arg6 harg6 arg7 harg7 arg8 harg8 arg9 harg9 hbM (Memref.isWhole_whole _) arg11 harg11 arg12 harg12 arg13 harg13 arg14 harg14 scM (Memref.isWhole_whole _) cc0_scratch1) K := by
    have hc1 : ¬ isFirst (grid0.coords t) := fun h => by have := (isFirst_iff t).mp h; omega
    have hc3 : ¬ isThird (grid0.coords t) := fun h => by have := (isThird_iff t).mp h; omega
    have hc4 : k0_cond4 (grid0.coords t) = 1#1 := (cond4_iff t).mpr ht
    have hc5 : ¬ k0_cond5 (grid0.coords t) = 1#1 := fun h => by have := (cond5_iff t).mp h; omega
    have hc6 : k0_cond6 (grid0.coords t) = 1#1 := (cond6_iff t).mpr (by omega)
    have hc7 : ¬ k0_cond7 (grid0.coords t) = 1#1 := fun h => by have := (cond7_iff t).mp h; omega
    haveI : Fact (k0_cond4 (grid0.coords t) = 1#1) := ⟨hc4⟩
    haveI : Fact (k0_cond6 (grid0.coords t) = 1#1) := ⟨hc6⟩
    simp only [cc0_inproj_bwd_eq_skeleton]; unfold cc0_inproj_bwd_skel
    simp only [k0_part1_eq_skeleton, k0_part2_eq_skeleton]
    unfold insP owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d10, %f10, -, H10⟩, ⟨%d11, %f11, -, H11⟩, ⟨%f12, %hf12, H12⟩, ⟨%fp, Hp⟩, ⟨%fe, HF⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hf12
    sl_exec (disch := first | sl_exact hc1 | sl_exact hc3 | sl_exact hc4 | sl_exact hc5 | sl_exact hc6 | sl_exact hc7)
    have e18 : runD.sl.v18 c arg4 harg4 arg5 harg5 arg7 harg7 arg8 harg8 arg12 x3 x4 x6 x7 = dpF x3 x4 x6 x7 := by
      unfold runD.sl.v18 runD.sl.H10_4; rw [ra_full harg4, ra_full harg5, ra_full harg7, ra_full harg8]; exact readCov_list _ _ (dpL_cover x3 x4 x6 x7) _
    have er : runD.sl.r c arg4 harg4 arg5 harg5 arg7 harg7 arg8 harg8 arg9 harg9 arg12 x3 x4 x6 x7 x8 = k0_pay9 (dpF x3 x4 x6 x7) x8 := by
      unfold runD.sl.r; rw [e18, ra_full]
    have e1 : runD.sl.r_1 c arg2 harg2 x1 = x1 := by unfold runD.sl.r_1; rw [ra_full]
    have e2 : runD.sl.r_2 c arg2 harg2 x1 = k0_pay10 x1 := by unfold runD.sl.r_2; rw [ra_full]
    sl_step
    iapply Hk
    isplitl [H0 H1 H2 H3 H4 H5 H6 H7 H8]
    · isplitl [H0]; · iexists _; isplitr; swap; (· iexact H0); ipureintro; exact harg1.read_unread _
      isplitl [H1]; · iexists _; isplitr; swap; (· iexact H1); ipureintro; exact harg2.read_unread _
      isplitl [H2]; · iexists _; isplitr; swap; (· iexact H2); ipureintro; exact harg3.read_unread _
      isplitl [H3]; · iexists _; isplitr; swap; (· iexact H3); ipureintro; exact harg4.read_unread _
      isplitl [H4]; · iexists _; isplitr; swap; (· iexact H4); ipureintro; exact harg5.read_unread _
      isplitl [H5]; · iexists _; isplitr; swap; (· iexact H5); ipureintro; exact harg6.read_unread _
      isplitl [H6]; · iexists _; isplitr; swap; (· iexact H6); ipureintro; exact harg7.read_unread _
      isplitl [H7]; · iexists _; isplitr; swap; (· iexact H7); ipureintro; exact harg8.read_unread _
      iexists _; isplitr; swap; (· iexact H8); ipureintro; exact harg9.read_unread _
    isplitl [H10]
    · iexists _; isplitr; swap; (· iexact H10); ipureintro
      unfold runD.sl.H10_4; rw [ra_full harg4, ra_full harg5, ra_full harg7, ra_full harg8]; exact read_list _ _ _ (dpL_cover x3 x4 x6 x7)
    isplitl [H11]
    · iexists _; isplitr; swap; (· iexact H11); ipureintro
      rw [e1, e2, ra_full]; exact read_store _ _ _ _ _
    isplitl [H12]
    · iexists _; isplitr; swap; (· iexact H12); ipureintro
      rw [er, e1, e2, ra_full]; exact read_store _ _ _ _ _
    isplitl [HF]
    · iapply (flight_to c (Ring.sl 2 t.val) (Ring.bk 13 t.val) G)
      iexists _; iexists _; iexists _; isplitr; swap; (· iexact HF); ipureintro
      unfold runD.sl.dma24 runD.sl.HF_src_w1 runD.sl.r_3
      rw [er, e1, e2, ra_full, ra_full]
      exact hG.trans (tile_read (Ring.sl 2 t.val) (off4_eq t) _ _ _).symm
    isplitl [HF_dst]; · iexact HF_dst
    iexists _; iexact HW

end Cert.Kernel5Ideal.Proj

end
-- ==== Proof.Proj.RunE.lean ====
/-
  The body of the input projection's backward call at the last grid point.
-/
module

public import proofs.«01_k».proof.Proof.Proj.Vals

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local instance] closedOff4 in
set_option maxHeartbeats 4000000 in
theorem runE (c : Dev nD) (t : Fin grid0.N) (ht : t.val = 12) (arg1 : Memref sig .tc .vmem S640x1024 .f32) (harg1 : arg1.IsWhole) (arg2 : Memref sig .tc .vmem S640x1024 .f32) (harg2 : arg2.IsWhole) (arg3 : Memref sig .tc .vmem S1x1024 .f32) (harg3 : arg3.IsWhole) (arg4 : Memref sig .tc .vmem S640x512 .bf16) (harg4 : arg4.IsWhole) (arg5 : Memref sig .tc .vmem S640x256 .bf16) (harg5 : arg5.IsWhole) (arg6 : Memref sig .tc .vmem S16x256 .f32) (harg6 : arg6.IsWhole) (arg7 : Memref sig .tc .vmem S640x512 .bf16) (harg7 : arg7.IsWhole) (arg8 : Memref sig .tc .vmem S640x512 .bf16) (harg8 : arg8.IsWhole) (arg9 : Memref sig .tc .vmem S1792x1024 .bf16) (harg9 : arg9.IsWhole) (arg11 : Memref sig .tc .vmem S16x1024 .f32) (harg11 : arg11.IsWhole) (arg12 : Memref sig .tc .vmem S640x1792 .bf16) (harg12 : arg12.IsWhole) (arg13 : Memref sig .tc .vmem S640x1024 .bf16) (harg13 : arg13.IsWhole) (arg14 : Memref sig .tc .vmem S1x1024 .f32) (harg14 : arg14.IsWhole)
    (x0 : Vec F S640x1024 .f32) (x1 : Vec F S640x1024 .f32) (x2 : Vec F S1x1024 .f32) (x3 : Vec F S640x512 .bf16) (x4 : Vec F S640x256 .bf16) (x5 : Vec F S16x256 .f32) (x6 : Vec F S640x512 .bf16) (x7 : Vec F S640x512 .bf16) (x8 : Vec F S1792x1024 .bf16) (xo : Vec F S1x1024 .f32)
    (G : Buf (Elt F) ((pieceM (Ring.bk 13 t.val)).view.loc (c : Thread nD τ))) (hG : (pieceM (Ring.bk 13 t.val)).view.read (Elt F) G = txF (dpF x3 x4 x6 x7) x0 x1 x2 x8)
    (ff : Buf (Elt F) ((pieceM (Ring.bk 13 (t.val - 2))).view.loc (c : Thread nD τ))) (fg : Buf (Elt F) ((pieceM (Ring.bk 13 (t.val - 1))).view.loc (c : Thread nD τ))) (W : Waits sig Unit) (K : PUnit → sProp 𝕄) :
    iprop(insP c arg1 arg2 arg3 arg4 arg5 arg6 arg7 arg8 arg9 x0 x1 x2 x3 x4 x5 x6 x7 x8 ∗ (∃ d, owns (c : Thread nD τ) arg12 fullShare d) ∗ (∃ d, owns (c : Thread nD τ) arg13 fullShare d) ∗ owns (c : Thread nD τ) arg14 fullShare xo
        ∗ (∃ f, pieceP (F := F) c (Ring.bk 13 t.val) f) ∗ (∃ e, flightW (F := F) c (Ring.sl 2 t.val) (Ring.bk 13 (t.val - 2)) ff e) ∗ (∃ e, flightW (F := F) c (Ring.sl 2 (t.val + 1)) (Ring.bk 13 (t.val - 1)) fg e) ∗ owes (c : Thread nD τ) 0 W
        ∗ (iprop(insP c arg1 arg2 arg3 arg4 arg5 arg6 arg7 arg8 arg9 x0 x1 x2 x3 x4 x5 x6 x7 x8 ∗ owns (c : Thread nD τ) arg12 fullShare (dpF x3 x4 x6 x7) ∗ owns (c : Thread nD τ) arg13 fullShare (hnF x1 x2) ∗ owns (c : Thread nD τ) arg14 fullShare (dgF (dpF x3 x4 x6 x7) x1 x8 xo)
          ∗ pieceP (F := F) c (Ring.bk 13 t.val) G ∗ pieceP (F := F) c (Ring.bk 13 (t.val - 2)) ff ∗ pieceP (F := F) c (Ring.bk 13 (t.val - 1)) fg
          ∗ (cellP (F := F) c (Ring.sl 2 t.val) ∗ (∃ e, tileP (F := F) c (Ring.sl 2 t.val) e)) ∗ (cellP (F := F) c (Ring.sl 2 (t.val + 1)) ∗ (∃ e, tileP (F := F) c (Ring.sl 2 (t.val + 1)) e)) ∗ (∃ W', owes (c : Thread nD τ) 0 W')) -∗ K ⟨⟩))
      ⊢ wp frame (wpE (defs₀ (F := F)) Variants.none c none) Set.univ (cc0_inproj_bwd (grid0.coords t) arg1 harg1 arg2 harg2 arg3 harg3 arg4 harg4 arg5 harg5 arg6 harg6 arg7 harg7 arg8 harg8 arg9 harg9 hbM (Memref.isWhole_whole _) arg11 harg11 arg12 harg12 arg13 harg13 arg14 harg14 scM (Memref.isWhole_whole _) cc0_scratch1) K := by
    have hc1 : ¬ isFirst (grid0.coords t) := fun h => by have := (isFirst_iff t).mp h; omega
    have hc3 : ¬ isThird (grid0.coords t) := fun h => by have := (isThird_iff t).mp h; omega
    have hc4 : k0_cond4 (grid0.coords t) = 1#1 := (cond4_iff t).mpr (by omega)
    have hc5 : ¬ k0_cond5 (grid0.coords t) = 1#1 := fun h => by have := (cond5_iff t).mp h; omega
    have hc6 : k0_cond6 (grid0.coords t) = 1#1 := (cond6_iff t).mpr (by omega)
    have hc7 : k0_cond7 (grid0.coords t) = 1#1 := (cond7_iff t).mpr ht
    haveI : Fact (k0_cond7 (grid0.coords t) = 1#1) := ⟨hc7⟩
    haveI : Fact (k0_cond4 (grid0.coords t) = 1#1) := ⟨hc4⟩
    haveI : Fact (k0_cond6 (grid0.coords t) = 1#1) := ⟨hc6⟩
    simp only [cc0_inproj_bwd_eq_skeleton]; unfold cc0_inproj_bwd_skel
    simp only [k0_part1_eq_skeleton, k0_part2_eq_skeleton]
    unfold insP owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d10, %f10, -, H10⟩, ⟨%d11, %f11, -, H11⟩, ⟨%f12, %hf12, H12⟩, ⟨%fp, Hp⟩, ⟨%fe, HF⟩, ⟨%fe2, HF2⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hf12
    sl_exec (disch := first | sl_exact hc1 | sl_exact hc3 | sl_exact hc4 | sl_exact hc5 | sl_exact hc6 | sl_exact hc7)
    have e18 : runE.sl.v18 c arg4 harg4 arg5 harg5 arg7 harg7 arg8 harg8 arg12 x3 x4 x6 x7 = dpF x3 x4 x6 x7 := by
      unfold runE.sl.v18 runE.sl.H10_4; rw [ra_full harg4, ra_full harg5, ra_full harg7, ra_full harg8]; exact readCov_list _ _ (dpL_cover x3 x4 x6 x7) _
    have er : runE.sl.r c arg4 harg4 arg5 harg5 arg7 harg7 arg8 harg8 arg9 harg9 arg12 x3 x4 x6 x7 x8 = k0_pay9 (dpF x3 x4 x6 x7) x8 := by
      unfold runE.sl.r; rw [e18, ra_full]
    have e1 : runE.sl.r_1 c arg2 harg2 x1 = x1 := by unfold runE.sl.r_1; rw [ra_full]
    have e2 : runE.sl.r_2 c arg2 harg2 x1 = k0_pay10 x1 := by unfold runE.sl.r_2; rw [ra_full]
    sl_step
    iapply Hk
    isplitl [H0 H1 H2 H3 H4 H5 H6 H7 H8]
    · isplitl [H0]; · iexists _; isplitr; swap; (· iexact H0); ipureintro; exact harg1.read_unread _
      isplitl [H1]; · iexists _; isplitr; swap; (· iexact H1); ipureintro; exact harg2.read_unread _
      isplitl [H2]; · iexists _; isplitr; swap; (· iexact H2); ipureintro; exact harg3.read_unread _
      isplitl [H3]; · iexists _; isplitr; swap; (· iexact H3); ipureintro; exact harg4.read_unread _
      isplitl [H4]; · iexists _; isplitr; swap; (· iexact H4); ipureintro; exact harg5.read_unread _
      isplitl [H5]; · iexists _; isplitr; swap; (· iexact H5); ipureintro; exact harg6.read_unread _
      isplitl [H6]; · iexists _; isplitr; swap; (· iexact H6); ipureintro; exact harg7.read_unread _
      isplitl [H7]; · iexists _; isplitr; swap; (· iexact H7); ipureintro; exact harg8.read_unread _
      iexists _; isplitr; swap; (· iexact H8); ipureintro; exact harg9.read_unread _
    isplitl [H10]
    · iexists _; isplitr; swap; (· iexact H10); ipureintro
      unfold runE.sl.H10_4; rw [ra_full harg4, ra_full harg5, ra_full harg7, ra_full harg8]; exact read_list _ _ _ (dpL_cover x3 x4 x6 x7)
    isplitl [H11]
    · iexists _; isplitr; swap; (· iexact H11); ipureintro
      rw [e1, e2, ra_full]; exact read_store _ _ _ _ _
    isplitl [H12]
    · iexists _; isplitr; swap; (· iexact H12); ipureintro
      rw [er, e1, e2, ra_full]; exact read_store _ _ _ _ _
    isplitl [Hp]
    · iapply (piece_to c (Ring.bk 13 t.val) G)
      iexists _; iexists _; isplitr; swap; (· iexact Hp); ipureintro
      unfold runE.sl.dma24 runE.sl.HF_src_w1 runE.sl.r_3
      rw [er, e1, e2, ra_full, ra_full]
      exact hG.trans (tile_read (Ring.sl 2 t.val) (off4_eq t) _ _ _).symm
    isplitl [HF_dst]; · iexact HF_dst
    isplitl [HF2_dst]; · iexact HF2_dst
    isplitl [HF HF_src]
    · isplitl [HF]; · iexact HF
      iexists _; iexact HF_src
    isplitl [HF2 HF2_src]
    · isplitl [HF2]; · iexact HF2
      iexists _; iexact HF2_src
    iexists _; iexact HW

end Cert.Kernel5Ideal.Proj

end
-- ==== Proof.Proj.Frame.lean ====
/-
  The input projection's backward call, point by point and as a whole.
-/
module

public import proofs.«01_k».proof.Proof.Proj.Hold
public import proofs.«01_k».proof.Proof.Proj.RunA
public import proofs.«01_k».proof.Proof.Proj.RunB
public import proofs.«01_k».proof.Proof.Proj.RunC
public import proofs.«01_k».proof.Proof.Proj.RunD
public import proofs.«01_k».proof.Proof.Proj.RunE
public import Idealize.ShloMosaic.Lib.Claim

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

/-- Window 0's staging buffer at a point, -/
abbrev ms0_0 (t : Fin cfg0.N) : Memref sig .tc .vmem S640x1024 .f32 := win0_0.stage (cfg0.slots t 0)

/-- which is whole. -/
abbrev hs0_0 (t : Fin cfg0.N) : (ms0_0 t).IsWhole := hstage0_0 ((cfg0.slots t 0).cast nbuf0_0)

/-- Window 1's staging buffer at a point, -/
abbrev ms0_1 (t : Fin cfg0.N) : Memref sig .tc .vmem S640x1024 .f32 := win0_1.stage (cfg0.slots t 1)

/-- which is whole. -/
abbrev hs0_1 (t : Fin cfg0.N) : (ms0_1 t).IsWhole := hstage0_1 ((cfg0.slots t 1).cast nbuf0_1)

/-- Window 2's staging buffer at a point, -/
abbrev ms0_2 (t : Fin cfg0.N) : Memref sig .tc .vmem S1x1024 .f32 := win0_2.stage (cfg0.slots t 2)

/-- which is whole. -/
abbrev hs0_2 (t : Fin cfg0.N) : (ms0_2 t).IsWhole := hstage0_2 ((cfg0.slots t 2).cast nbuf0_2)

/-- Window 3's staging buffer at a point, -/
abbrev ms0_3 (t : Fin cfg0.N) : Memref sig .tc .vmem S640x512 .bf16 := win0_3.stage (cfg0.slots t 3)

/-- which is whole. -/
abbrev hs0_3 (t : Fin cfg0.N) : (ms0_3 t).IsWhole := hstage0_3 ((cfg0.slots t 3).cast nbuf0_3)

/-- Window 4's staging buffer at a point, -/
abbrev ms0_4 (t : Fin cfg0.N) : Memref sig .tc .vmem S640x256 .bf16 := win0_4.stage (cfg0.slots t 4)

/-- which is whole. -/
abbrev hs0_4 (t : Fin cfg0.N) : (ms0_4 t).IsWhole := hstage0_4 ((cfg0.slots t 4).cast nbuf0_4)

/-- Window 5's staging buffer at a point, -/
abbrev ms0_5 (t : Fin cfg0.N) : Memref sig .tc .vmem S16x256 .f32 := win0_5.stage (cfg0.slots t 5)

/-- which is whole. -/
abbrev hs0_5 (t : Fin cfg0.N) : (ms0_5 t).IsWhole := hstage0_5 ((cfg0.slots t 5).cast nbuf0_5)

/-- Window 6's staging buffer at a point, -/
abbrev ms0_6 (t : Fin cfg0.N) : Memref sig .tc .vmem S640x512 .bf16 := win0_6.stage (cfg0.slots t 6)

/-- which is whole. -/
abbrev hs0_6 (t : Fin cfg0.N) : (ms0_6 t).IsWhole := hstage0_6 ((cfg0.slots t 6).cast nbuf0_6)

/-- Window 7's staging buffer at a point, -/
abbrev ms0_7 (t : Fin cfg0.N) : Memref sig .tc .vmem S640x512 .bf16 := win0_7.stage (cfg0.slots t 7)

/-- which is whole. -/
abbrev hs0_7 (t : Fin cfg0.N) : (ms0_7 t).IsWhole := hstage0_7 ((cfg0.slots t 7).cast nbuf0_7)

/-- Window 8's staging buffer at a point, -/
abbrev ms0_8 (t : Fin cfg0.N) : Memref sig .tc .vmem S1792x1024 .bf16 := win0_8.stage (cfg0.slots t 8)

/-- which is whole. -/
abbrev hs0_8 (t : Fin cfg0.N) : (ms0_8 t).IsWhole := hstage0_8 ((cfg0.slots t 8).cast nbuf0_8)

/-- Window 9's staging buffer at a point, -/
abbrev ms0_9 (t : Fin cfg0.N) : Memref sig .tc .vmem S16x1024 .f32 := win0_9.stage (cfg0.slots t 9)

/-- which is whole. -/
abbrev hs0_9 (t : Fin cfg0.N) : (ms0_9 t).IsWhole := hstage0_9 ((cfg0.slots t 9).cast nbuf0_9)

/-- Window 10's staging buffer at a point, -/
abbrev ms0_10 (t : Fin cfg0.N) : Memref sig .tc .vmem S640x1792 .bf16 := win0_10.stage (cfg0.slots t 10)

/-- which is whole. -/
abbrev hs0_10 (t : Fin cfg0.N) : (ms0_10 t).IsWhole := hstage0_10 ((cfg0.slots t 10).cast nbuf0_10)

/-- Window 11's staging buffer at a point, -/
abbrev ms0_11 (t : Fin cfg0.N) : Memref sig .tc .vmem S640x1024 .bf16 := win0_11.stage (cfg0.slots t 11)

/-- which is whole. -/
abbrev hs0_11 (t : Fin cfg0.N) : (ms0_11 t).IsWhole := hstage0_11 ((cfg0.slots t 11).cast nbuf0_11)

/-- Window 12's staging buffer at a point, -/
abbrev ms0_12 (t : Fin cfg0.N) : Memref sig .tc .vmem S1x1024 .f32 := win0_12.stage (cfg0.slots t 12)

/-- which is whole. -/
abbrev hs0_12 (t : Fin cfg0.N) : (ms0_12 t).IsWhole := hstage0_12 ((cfg0.slots t 12).cast nbuf0_12)

/-- The buffers that the body reads through its windows, at a point. -/
abbrev insAt (c : Dev nD) (t : Fin cfg0.N) : sProp 𝕄 :=
  insP c (ms0_0 t) (ms0_1 t) (ms0_2 t) (ms0_3 t) (ms0_4 t) (ms0_5 t) (ms0_6 t) (ms0_7 t) (ms0_8 t) (iblk m c 0 t) (iblk m c 1 t) (iblk m c 2 t) (iblk m c 3 t) (iblk m c 4 t) (iblk m c 5 t) (iblk m c 6 t) (iblk m c 7 t) (iblk m c 8 t)

/-- What the body holds before point `k`, besides its windows. -/
def PhiR (c : Dev nD) (k : ℕ) : sProp 𝕄 := iprop((∃ r, prngReg c r) ∗ ringAt m c k)

/-- The record of the run: what every window holds after every point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dmAt m c
    | ⟨10, _⟩ => dpAt m c t
    | ⟨11, _⟩ => hnAt m c t
    | ⟨12, _⟩ => dgAt m c t.val t.isLt
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]

theorem PhiR_succ (c : Dev nD) (t : Fin cfg0.N) : (dats m 0 c).Φ t.succ = PhiR m c (t.val + 1) := by
  dsimp only [dats]; simp only [Fin.val_succ]

/-! ### What each window holds -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dmAt m c := by dsimp only [dats]
theorem after0_10 (c : Dev nD) (t : Fin cfg0.N) : (dats m 0 c).after 10 t = dpAt m c t := by dsimp only [dats]
theorem after0_11 (c : Dev nD) (t : Fin cfg0.N) : (dats m 0 c).after 11 t = hnAt m c t := by dsimp only [dats]
theorem after0_12 (c : Dev nD) (t : Fin cfg0.N) : (dats m 0 c).after 12 t = dgAt m c t.val t.isLt := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

/-- The scale's gradient, before a later point: what the point before left. -/
theorem before0_12 (c : Dev nD) (t : Fin cfg0.N) (ht : t.val ≠ 0) (d) :
    (dats m 0 c).before 12 t d = dgAt m c (t.val - 1) (Nat.lt_of_le_of_lt (Nat.sub_le _ _) t.isLt) := by
  have hN : t.val < 13 := lt_of_lt_of_eq t.isLt (show cfg0.N = 13 from N_0)
  rw [Dat.before_out_kept _ 12 rfl t ht (Bool.eq_false_iff.mpr fun h => by have := (flush0_12 _).mp h; dsimp only at this; omega)
    (fun _ => rfl) (fun _ _ => rfl)]
  dsimp only [dats]

theorem idle9 (t : Fin cfg0.N) : cfg0.idle 9 (cfg0.grid.coords t) = !decide (t.val = 0) := by
  show (!(k0_cond5 (grid0.coords t) == 1#1)) = _
  by_cases h : t.val = 0
  · simp [h, (cond5_iff t).mpr h]
  · have : ¬ k0_cond5 (grid0.coords t) = 1#1 := fun e => h ((cond5_iff t).mp e)
    simp [h, this]

/-- The memory slots' rows, before a later point: what the first point left. -/
theorem before0_9 (c : Dev nD) : ∀ (n : ℕ) (h : n + 1 < cfg0.N) (d), (dats m 0 c).before 9 ⟨n + 1, h⟩ d = dmAt m c := by
  intro n
  induction n with
  | zero =>
    intro h d
    rw [Dat.before_of_pos _ 9 _ (Nat.succ_ne_zero _) ((cfg0.win 9).fetch_out rfl _), if_neg (fun e => by have := (flush0_9 _).mp e; simp at this)]
    unfold Dat.left
    rw [show cfg0.idle 9 (cfg0.grid.coords ⟨0 + 1 - 1, Nat.lt_of_le_of_lt (Nat.sub_le _ _) h⟩) = false from by rw [idle9]; rfl]
    dsimp only
    unfold Dat.kept
    rw [Pipeline.fill_of_clip_none 9 _ (fun _ => rfl) d ((dats m 0 c).after 9 _), Pipeline.Window.fill_cut, after0_9]
  | succ n ih =>
    intro h d
    have hN : n + 1 + 1 < 13 := lt_of_lt_of_eq h (show cfg0.N = 13 from N_0)
    rw [Dat.before_of_pos _ 9 _ (Nat.succ_ne_zero _) ((cfg0.win 9).fetch_out rfl _), if_neg (fun e => by have := (flush0_9 _).mp e; simp at this; omega)]
    unfold Dat.left
    rw [show cfg0.idle 9 (cfg0.grid.coords ⟨n + 1 + 1 - 1, Nat.lt_of_le_of_lt (Nat.sub_le _ _) h⟩) = true from by rw [idle9]; rfl]
    exact ih _ d

theorem before0_9' (c : Dev nD) (t : Fin cfg0.N) (ht : t.val ≠ 0) (d) : (dats m 0 c).before 9 t d = dmAt m c := by
  obtain ⟨n, hn⟩ := t
  obtain ⟨k, rfl⟩ := Nat.exists_eq_succ_of_ne_zero ht
  exact before0_9 m c k hn d

/-- What the body leaves of the memory slots' rows at the first point and at the last, -/
theorem leaves9_out (c : Dev nD) (t : Fin cfg0.N) (ht : t.val = 0 ∨ t.val = 12) :
    (dats m 0 c).leavesExact 9 t = owns (c : Thread nD τ) (ms0_9 t) fullShare (dmAt m c) := by
  unfold Dat.leavesExact
  rw [idle9]
  rcases ht with ht | ht
  · simp only [ht, decide_true, Bool.not_true]; rw [after0_9]
  · rw [show (cfg0.win 9).flush t = true from (flush0_9 t).mpr (by omega)]
    simp only [ht]; rw [after0_9]; rfl

/-- and at the points between. -/
theorem leaves9_mid (c : Dev nD) (t : Fin cfg0.N) (ht : t.val ≠ 0) (ht' : t.val ≠ 12) :
    (dats m 0 c).leavesExact 9 t = iprop(∃ d, owns (c : Thread nD τ) (ms0_9 t) fullShare ((dats m 0 c).before 9 t d)) := by
  have hN : t.val < 13 := lt_of_lt_of_eq t.isLt (show cfg0.N = 13 from N_0)
  exact Dat.leavesExact_idle _ 9 t (by rw [idle9]; simp [ht]) (Bool.eq_false_iff.mpr fun h => by have := (flush0_9 _).mp h; omega)

theorem dpAt_pos (c : Dev nD) (t : Fin cfg0.N) (ht : t.val ≠ 0) : dpAt m c t = dpF (iblk m c 3 t) (iblk m c 4 t) (iblk m c 6 t) (iblk m c 7 t) := if_neg ht

theorem dgAt_pos (c : Dev nD) (t : Fin cfg0.N) (ht : t.val ≠ 0) :
    dgAt m c t.val t.isLt = dgF (dpAt m c t) (iblk m c 1 t) (iblk m c 8 t) (dgAt m c (t.val - 1) (Nat.lt_of_le_of_lt (Nat.sub_le _ _) t.isLt)) := by
  obtain ⟨n, hn⟩ := t
  obtain ⟨k, rfl⟩ := Nat.exists_eq_succ_of_ne_zero ht
  rfl

/-! ### What the body is given and gives back -/

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (dats m 0 c).leavesExact 9 t
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

/-- What the body is given, in the order that its runs take it. -/
theorem pre_open (c : Dev nD) (t : Fin cfg0.N) :
    bodyPre m c t ⊢ (iprop(insAt m c t ∗ (∃ d, owns (c : Thread nD τ) (ms0_10 t) fullShare d) ∗ (∃ d, owns (c : Thread nD τ) (ms0_11 t) fullShare d)
      ∗ (∃ W, owes (c : Thread nD τ) 0 W) ∗ (∃ r, prngReg c r) ∗ ringAt m c t.val
      ∗ (∃ d, owns (c : Thread nD τ) (ms0_9 t) fullShare ((dats m 0 c).before 9 t d)) ∗ (∃ d, owns (c : Thread nD τ) (ms0_12 t) fullShare ((dats m 0 c).before 12 t d))) : sProp 𝕄) := by
  unfold bodyPre
  simp only [before0_0, before0_1, before0_2, before0_3, before0_4, before0_5, before0_6, before0_7, before0_8]
  rw [PhiR_castSucc]
  unfold Dat.owesAt Pipeline.owesWithin PhiR insAt insP
  rw [show (dats m 0 c).owed t.castSucc = 0 from rfl]
  iintro ⟨⟨Hg, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩, ⟨%d11, H11⟩, H12⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H10]; · iexists _; iexact H10
  isplitl [H11]; · iexists _; iexact H11
  isplitl [HW]; · iexists W; iexact HW
  isplitl [Hg]; · iexact Hg
  isplitl [HR]; · iexact HR
  isplitl [H9]; · iexact H9
  iexact H12

/-- What the body gives back, from what its runs leave. -/
theorem post_close (c : Dev nD) (t : Fin cfg0.N) :
    (iprop(insAt m c t ∗ owns (c : Thread nD τ) (ms0_10 t) fullShare (dpAt m c t) ∗ owns (c : Thread nD τ) (ms0_11 t) fullShare (hnAt m c t)
      ∗ owns (c : Thread nD τ) (ms0_12 t) fullShare (dgAt m c t.val t.isLt)
      ∗ (∃ W, owes (c : Thread nD τ) 0 W) ∗ (∃ r, prngReg c r) ∗ ringAt m c (t.val + 1) ∗ (dats m 0 c).leavesExact 9 t) : sProp 𝕄) ⊢ bodyPost m c t := by
  unfold bodyPost
  rw [after0_0, after0_1, after0_2, after0_3, after0_4, after0_5, after0_6, after0_7, after0_8, after0_10, after0_11, after0_12, PhiR_succ]
  unfold Dat.owesAt Pipeline.owesWithin PhiR insAt insP
  rw [show (dats m 0 c).owed t.succ = 0 from rfl]
  iintro ⟨⟨H0, H1, H2, H3, H4, H5, H6, H7, H8⟩, H10, H11, H12, ⟨%W, HW⟩, Hg, HR, H9⟩
  isplitl [Hg HR]
  · isplitl [Hg]; · iexact Hg
    iexact HR
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-! ### The body at each kind of point -/

set_option maxHeartbeats 2000000 in
/-- At the first point. -/
theorem body_first (c : Dev nD) : bodyPre m c t0_0 ⊢ wp frame (wpE (defs₀ (F := F)) Variants.none c none) Set.univ (bodyAt0 t0_0) (fun _ => bodyPost m c t0_0) := by
  have e1 : ringAt m c t0_0.val = _ := (Ring.AtBΦ_lt 2 (freeP c) (inflP m c) (aheadP c) (behindP m c) t0_0.val (by decide)).trans
    (Ring.AtB2_zero' 2 (freeP c) (inflP m c) (aheadP c) (behindP m c) t0_0.val rfl)
  have e2 : ringAt m c (t0_0.val + 1) = _ := (Ring.AtBΦ_lt 2 (freeP c) (inflP m c) (aheadP c) (behindP m c) (t0_0.val + 1) (by decide)).trans
    (Ring.AtB22_next_zero' (freeP c) (inflP m c) (aheadP c) (behindP m c) t0_0.val rfl)
  have hG : headM.view.read (Elt F) (resG m c) = lowRows (txF (dpF0 (iblk m c 3 t0_0) (iblk m c 4 t0_0) (iblk m c 5 t0_0) (iblk m c 6 t0_0) (iblk m c 7 t0_0)) (iblk m c 0 t0_0) (iblk m c 1 t0_0) (iblk m c 2 t0_0) (iblk m c 8 t0_0)) := head_resG m c
  refine (pre_open m c t0_0).trans ?_
  iintro ⟨Hi, H10, H11, ⟨%W, HW⟩, Hg, HR, ⟨%d9, H9⟩, ⟨%d12, H12⟩⟩
  ihave HR' := (Entails.of_eq e1) $$ HR
  icases HR' with ⟨⟨⟨%fa, Ha⟩, HA⟩, ⟨Hq, Ht⟩, Hf1⟩
  iapply (runA c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (resG m c) hG W _)
  isplitl [Hi]; · iexact Hi
  isplitl [H9]; · iexists _; iexact H9
  isplitl [H10]; · iexact H10
  isplitl [H11]; · iexact H11
  isplitl [H12]; · iexists _; iexact H12
  isplitl [Ha]
  · iexists fa; iapply (Entails.of_eq (headP_eq (F := F) c fa).symm); iexact Ha
  isplitl [Hq]; · iexact Hq
  isplitl [Ht]; · iexact Ht
  isplitl [HW]; · iexact HW
  iintro ⟨Hi, H9, H10, H11, H12, HF, Hrest, HW⟩
  iapply (post_close m c t0_0)
  isplitl [Hi]; · iexact Hi
  isplitl [H10]; · iexact H10
  isplitl [H11]; · iexact H11
  isplitl [H12]; · iexact H12
  isplitl [HW]; · iexact HW
  isplitl [Hg]; · iexact Hg
  isplitl [HA Hf1 HF Hrest]
  · iapply (Entails.of_eq e2.symm)
    isplitl [HA]; · iexact HA
    isplitl [Hf1]; · iexact Hf1
    iapply (Entails.of_eq (inflP_zero m c _ (Ring.bk 13 t0_0.val) rfl).symm)
    isplitl [HF]; · iexact HF
    iexact Hrest
  iapply (Entails.of_eq (leaves9_out m c t0_0 (Or.inl rfl)).symm)
  iexact H9

set_option maxHeartbeats 2000000 in
/-- At the second point. -/
theorem body_second (c : Dev nD) (t : Fin cfg0.N) (ht : t.val = 1) : bodyPre m c t ⊢ wp frame (wpE (defs₀ (F := F)) Variants.none c none) Set.univ (bodyAt0 t) (fun _ => bodyPost m c t) := by
  have hN : t.val < 13 := lt_of_lt_of_eq t.isLt (show cfg0.N = 13 from N_0)
  have h0 : t.val ≠ 0 := by omega
  have hb : (Ring.bk 13 t.val).val ≠ 0 := by rw [Ring.bk_val hN]; exact h0
  have e1 : ringAt m c t.val = _ := (Ring.AtBΦ_lt 2 (freeP c) (inflP m c) (aheadP c) (behindP m c) t.val (by omega)).trans
    (Ring.AtB22_one' (freeP c) (inflP m c) (aheadP c) (behindP m c) t.val ht (by decide))
  have e2 : ringAt m c (t.val + 1) = _ := (Ring.AtBΦ_lt 2 (freeP c) (inflP m c) (aheadP c) (behindP m c) (t.val + 1) (by omega)).trans (Ring.AtB22_next_one' (freeP c) (inflP m c) (aheadP c) (behindP m c) t.val ht)
  have hG : (pieceM (Ring.bk 13 t.val)).view.read (Elt F) (resG m c) = txF (dpF (iblk m c 3 t) (iblk m c 4 t) (iblk m c 6 t) (iblk m c 7 t)) (iblk m c 0 t) (iblk m c 1 t) (iblk m c 2 t) (iblk m c 8 t) :=
    (piece_resG m c t (by omega)).trans (by unfold txAt; rw [dpAt_pos m c t h0])
  have hg : dgAt m c t.val t.isLt = dgF (dpF (iblk m c 3 t) (iblk m c 4 t) (iblk m c 6 t) (iblk m c 7 t)) (iblk m c 1 t) (iblk m c 8 t) (dgAt m c (t.val - 1) (Nat.lt_of_le_of_lt (Nat.sub_le _ _) t.isLt)) := by
    rw [dgAt_pos m c t h0, dpAt_pos m c t h0]
  refine (pre_open m c t).trans ?_
  simp only [before0_12 m c t h0]
  iintro ⟨Hi, H10, H11, ⟨%W, HW⟩, Hg, HR, ⟨%d9, H9⟩, ⟨%d12, H12⟩⟩
  ihave HR' := (Entails.of_eq e1) $$ HR
  icases HR' with ⟨⟨⟨%fa, Ha⟩, HA⟩, ⟨Hq, Ht⟩, Hc⟩
  iapply (runB c t ht (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (dgAt m c (t.val - 1) (Nat.lt_of_le_of_lt (Nat.sub_le _ _) t.isLt)) (resG m c) hG W _)
  isplitl [Hi]; · iexact Hi
  isplitl [H10]; · iexact H10
  isplitl [H11]; · iexact H11
  isplitl [H12]; · iexact H12
  isplitl [Ha]
  · iexists fa; iapply (Entails.of_eq (pieceP_eq (F := F) c _ hb fa).symm); iexact Ha
  isplitl [Hq]; · iexact Hq
  isplitl [Ht]; · iexact Ht
  isplitl [HW]; · iexact HW
  iintro ⟨Hi, H10, H11, H12, HF, HW⟩
  iapply (post_close m c t)
  isplitl [Hi]; · iexact Hi
  isplitl [H10]; · iapply (Entails.of_eq (congrArg (owns (c : Thread nD τ) (ms0_10 t) fullShare) (dpAt_pos m c t h0)).symm); iexact H10
  isplitl [H11]; · iexact H11
  isplitl [H12]; · iapply (Entails.of_eq (congrArg (owns (c : Thread nD τ) (ms0_12 t) fullShare) hg).symm); iexact H12
  isplitl [HW]; · iexact HW
  isplitl [Hg]; · iexact Hg
  isplitl [HA Hc HF]
  · iapply (Entails.of_eq e2.symm)
    isplitl [HA]; · iexact HA
    isplitl [Hc]; · iexact Hc
    iapply (Entails.of_eq (inflP_pos m c _ _ hb).symm)
    iexact HF
  iapply (Entails.of_eq (leaves9_mid m c t h0 (by omega)).symm)
  iexists d9; iexact H9

set_option maxHeartbeats 2000000 in
/-- At the third point. -/
theorem body_third (c : Dev nD) (t : Fin cfg0.N) (ht : t.val = 2) : bodyPre m c t ⊢ wp frame (wpE (defs₀ (F := F)) Variants.none c none) Set.univ (bodyAt0 t) (fun _ => bodyPost m c t) := by
  have hN : t.val < 13 := lt_of_lt_of_eq t.isLt (show cfg0.N = 13 from N_0)
  have h0 : t.val ≠ 0 := by omega
  have hb : (Ring.bk 13 t.val).val ≠ 0 := by rw [Ring.bk_val hN]; exact h0
  have e1 : ringAt m c t.val = _ := (Ring.AtBΦ_lt 2 (freeP c) (inflP m c) (aheadP c) (behindP m c) t.val (by omega)).trans
    (Ring.AtB22_here (freeP c) (inflP m c) (aheadP c) (behindP m c) t.val (by omega) (by omega))
  have e2 : ringAt m c (t.val + 1) = _ := (Ring.AtBΦ_lt 2 (freeP c) (inflP m c) (aheadP c) (behindP m c) (t.val + 1) (by omega)).trans (Ring.AtB22_next (freeP c) (inflP m c) (aheadP c) (behindP m c) t.val (by omega) (by omega))
  have hb2 : (Ring.bk 13 (t.val - 2)).val = 0 := by rw [Ring.bk_val (by omega)]; omega
  have hbz : Ring.bk 13 (t.val - 2) = 0 := Fin.ext hb2
  have hs : Ring.sl 2 t.val = 0 := by rw [ht]; rfl
  have hG : (pieceM (Ring.bk 13 t.val)).view.read (Elt F) (resG m c) = txF (dpF (iblk m c 3 t) (iblk m c 4 t) (iblk m c 6 t) (iblk m c 7 t)) (iblk m c 0 t) (iblk m c 1 t) (iblk m c 2 t) (iblk m c 8 t) :=
    (piece_resG m c t (by omega)).trans (by unfold txAt; rw [dpAt_pos m c t h0])
  have hg : dgAt m c t.val t.isLt = dgF (dpF (iblk m c 3 t) (iblk m c 4 t) (iblk m c 6 t) (iblk m c 7 t)) (iblk m c 1 t) (iblk m c 8 t) (dgAt m c (t.val - 1) (Nat.lt_of_le_of_lt (Nat.sub_le _ _) t.isLt)) := by
    rw [dgAt_pos m c t h0, dpAt_pos m c t h0]
  refine (pre_open m c t).trans ?_
  simp only [before0_12 m c t h0]
  iintro ⟨Hi, H10, H11, ⟨%W, HW⟩, Hg, HR, ⟨%d9, H9⟩, ⟨%d12, H12⟩⟩
  ihave HR' := (Entails.of_eq e1) $$ HR
  icases HR' with ⟨⟨⟨%fa, Ha⟩, HA⟩, HB, Hw, Hc⟩
  ihave Hw' := (Entails.of_eq (inflP_zero m c _ _ hb2)) $$ Hw
  icases Hw' with ⟨Hf, Hr⟩
  iapply (runC c t ht (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (dgAt m c (t.val - 1) (Nat.lt_of_le_of_lt (Nat.sub_le _ _) t.isLt)) (resG m c) hG (resG m c) W _)
  isplitl [Hi]; · iexact Hi
  isplitl [H10]; · iexact H10
  isplitl [H11]; · iexact H11
  isplitl [H12]; · iexact H12
  isplitl [Ha]
  · iexists fa; iapply (Entails.of_eq (pieceP_eq (F := F) c _ hb fa).symm); iexact Ha
  isplitl [Hf]; · rw [hs]; iexact Hf
  isplitl [Hr]; · iexact Hr
  isplitl [HW]; · iexact HW
  iintro ⟨Hi, H10, H11, H12, HF, Hl, HW⟩
  iapply (post_close m c t)
  isplitl [Hi]; · iexact Hi
  isplitl [H10]; · iapply (Entails.of_eq (congrArg (owns (c : Thread nD τ) (ms0_10 t) fullShare) (dpAt_pos m c t h0)).symm); iexact H10
  isplitl [H11]; · iexact H11
  isplitl [H12]; · iapply (Entails.of_eq (congrArg (owns (c : Thread nD τ) (ms0_12 t) fullShare) hg).symm); iexact H12
  isplitl [HW]; · iexact HW
  isplitl [Hg]; · iexact Hg
  isplitl [HA HB Hl Hc HF]
  · iapply (Entails.of_eq e2.symm)
    isplitl [HA]; · iexact HA
    isplitl [Hl HB]
    · isplitl [Hl]
      · rw [hbz]; iapply (Entails.of_eq (headP_eq (F := F) c (resG m c))); iexact Hl
      iexact HB
    isplitl [Hc]; · iexact Hc
    iapply (Entails.of_eq (inflP_pos m c _ _ hb).symm)
    iexact HF
  iapply (Entails.of_eq (leaves9_mid m c t h0 (by omega)).symm)
  iexists d9; iexact H9

set_option maxHeartbeats 2000000 in
/-- At the points between. -/
theorem body_mid (c : Dev nD) (t : Fin cfg0.N) (ht : 2 < t.val) (ht' : t.val < 12) : bodyPre m c t ⊢ wp frame (wpE (defs₀ (F := F)) Variants.none c none) Set.univ (bodyAt0 t) (fun _ => bodyPost m c t) := by
  have hN : t.val < 13 := lt_of_lt_of_eq t.isLt (show cfg0.N = 13 from N_0)
  have h0 : t.val ≠ 0 := by omega
  have hb : (Ring.bk 13 t.val).val ≠ 0 := by rw [Ring.bk_val hN]; exact h0
  have e1 : ringAt m c t.val = _ := (Ring.AtBΦ_lt 2 (freeP c) (inflP m c) (aheadP c) (behindP m c) t.val (by omega)).trans
    (Ring.AtB22_here (freeP c) (inflP m c) (aheadP c) (behindP m c) t.val (by omega) (by omega))
  have e2 : ringAt m c (t.val + 1) = _ := (Ring.AtBΦ_lt 2 (freeP c) (inflP m c) (aheadP c) (behindP m c) (t.val + 1) (by omega)).trans (Ring.AtB22_next (freeP c) (inflP m c) (aheadP c) (behindP m c) t.val (by omega) (by omega))
  have hb2 : (Ring.bk 13 (t.val - 2)).val ≠ 0 := by rw [Ring.bk_val (by omega)]; omega
  have hG : (pieceM (Ring.bk 13 t.val)).view.read (Elt F) (resG m c) = txF (dpF (iblk m c 3 t) (iblk m c 4 t) (iblk m c 6 t) (iblk m c 7 t)) (iblk m c 0 t) (iblk m c 1 t) (iblk m c 2 t) (iblk m c 8 t) :=
    (piece_resG m c t (by omega)).trans (by unfold txAt; rw [dpAt_pos m c t h0])
  have hg : dgAt m c t.val t.isLt = dgF (dpF (iblk m c 3 t) (iblk m c 4 t) (iblk m c 6 t) (iblk m c 7 t)) (iblk m c 1 t) (iblk m c 8 t) (dgAt m c (t.val - 1) (Nat.lt_of_le_of_lt (Nat.sub_le _ _) t.isLt)) := by
    rw [dgAt_pos m c t h0, dpAt_pos m c t h0]
  refine (pre_open m c t).trans ?_
  simp only [before0_12 m c t h0]
  iintro ⟨Hi, H10, H11, ⟨%W, HW⟩, Hg, HR, ⟨%d9, H9⟩, ⟨%d12, H12⟩⟩
  ihave HR' := (Entails.of_eq e1) $$ HR
  icases HR' with ⟨⟨⟨%fa, Ha⟩, HA⟩, HB, Hw, Hc⟩
  ihave Hf := (Entails.of_eq (inflP_pos m c _ _ hb2)) $$ Hw
  iapply (runD c t ht ht' (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (dgAt m c (t.val - 1) (Nat.lt_of_le_of_lt (Nat.sub_le _ _) t.isLt)) (resG m c) hG (resG m c) W _)
  isplitl [Hi]; · iexact Hi
  isplitl [H10]; · iexact H10
  isplitl [H11]; · iexact H11
  isplitl [H12]; · iexact H12
  isplitl [Ha]
  · iexists fa; iapply (Entails.of_eq (pieceP_eq (F := F) c _ hb fa).symm); iexact Ha
  isplitl [Hf]; · iexact Hf
  isplitl [HW]; · iexact HW
  iintro ⟨Hi, H10, H11, H12, HF, Hl, HW⟩
  iapply (post_close m c t)
  isplitl [Hi]; · iexact Hi
  isplitl [H10]; · iapply (Entails.of_eq (congrArg (owns (c : Thread nD τ) (ms0_10 t) fullShare) (dpAt_pos m c t h0)).symm); iexact H10
  isplitl [H11]; · iexact H11
  isplitl [H12]; · iapply (Entails.of_eq (congrArg (owns (c : Thread nD τ) (ms0_12 t) fullShare) hg).symm); iexact H12
  isplitl [HW]; · iexact HW
  isplitl [Hg]; · iexact Hg
  isplitl [HA HB Hl Hc HF]
  · iapply (Entails.of_eq e2.symm)
    isplitl [HA]; · iexact HA
    isplitl [Hl HB]
    · isplitl [Hl]
      · iapply (Entails.of_eq (pieceP_eq (F := F) c _ hb2 (resG m c))); iexact Hl
      iexact HB
    isplitl [Hc]; · iexact Hc
    iapply (Entails.of_eq (inflP_pos m c _ _ hb).symm)
    iexact HF
  iapply (Entails.of_eq (leaves9_mid m c t h0 (by omega)).symm)
  iexists d9; iexact H9

set_option maxHeartbeats 2000000 in
/-- At the last point. -/
theorem body_last (c : Dev nD) (t : Fin cfg0.N) (ht : t.val = 12) : bodyPre m c t ⊢ wp frame (wpE (defs₀ (F := F)) Variants.none c none) Set.univ (bodyAt0 t) (fun _ => bodyPost m c t) := by
  have hN : t.val < 13 := lt_of_lt_of_eq t.isLt (show cfg0.N = 13 from N_0)
  have h0 : t.val ≠ 0 := by omega
  have hb : (Ring.bk 13 t.val).val ≠ 0 := by rw [Ring.bk_val hN]; exact h0
  have e1 : ringAt m c t.val = _ := (Ring.AtBΦ_lt 2 (freeP c) (inflP m c) (aheadP c) (behindP m c) t.val (by omega)).trans
    (Ring.AtB22_here_last (freeP c) (inflP m c) (aheadP c) (behindP m c) t.val (by omega) (by omega))
  have e2 : ringAt m c (t.val + 1) = _ := (Ring.AtBΦ_end 2 (freeP c) (inflP m c) (aheadP c) (behindP m c) (t.val + 1) (by omega)).trans (Ring.AtB22_drained (freeP c) (behindP m c) t.val (by omega) (by omega))
  have hb2 : (Ring.bk 13 (t.val - 2)).val ≠ 0 := by rw [Ring.bk_val (by omega)]; omega
  have hb3 : (Ring.bk 13 (t.val - 1)).val ≠ 0 := by rw [Ring.bk_val (by omega)]; omega
  have hG : (pieceM (Ring.bk 13 t.val)).view.read (Elt F) (resG m c) = txF (dpF (iblk m c 3 t) (iblk m c 4 t) (iblk m c 6 t) (iblk m c 7 t)) (iblk m c 0 t) (iblk m c 1 t) (iblk m c 2 t) (iblk m c 8 t) :=
    (piece_resG m c t (by omega)).trans (by unfold txAt; rw [dpAt_pos m c t h0])
  have hg : dgAt m c t.val t.isLt = dgF (dpF (iblk m c 3 t) (iblk m c 4 t) (iblk m c 6 t) (iblk m c 7 t)) (iblk m c 1 t) (iblk m c 8 t) (dgAt m c (t.val - 1) (Nat.lt_of_le_of_lt (Nat.sub_le _ _) t.isLt)) := by
    rw [dgAt_pos m c t h0, dpAt_pos m c t h0]
  refine (pre_open m c t).trans ?_
  simp only [before0_12 m c t h0]
  iintro ⟨Hi, H10, H11, ⟨%W, HW⟩, Hg, HR, ⟨%d9, H9⟩, ⟨%d12, H12⟩⟩
  ihave HR' := (Entails.of_eq e1) $$ HR
  icases HR' with ⟨⟨%fa, Ha⟩, HB, Hw, Hc⟩
  ihave Hf := (Entails.of_eq (inflP_pos m c _ _ hb2)) $$ Hw
  ihave Hf' := (Entails.of_eq (inflP_pos m c _ _ hb3)) $$ Hc
  iapply (runE c t ht (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (dgAt m c (t.val - 1) (Nat.lt_of_le_of_lt (Nat.sub_le _ _) t.isLt)) (resG m c) hG (resG m c) (resG m c) W _)
  isplitl [Hi]; · iexact Hi
  isplitl [H10]; · iexact H10
  isplitl [H11]; · iexact H11
  isplitl [H12]; · iexact H12
  isplitl [Ha]
  · iexists fa; iapply (Entails.of_eq (pieceP_eq (F := F) c _ hb fa).symm); iexact Ha
  isplitl [Hf]; · iexact Hf
  isplitl [Hf']; · iexact Hf'
  isplitl [HW]; · iexact HW
  iintro ⟨Hi, H10, H11, H12, Hl, Hl2, Hl1, Hq, Hq', HW⟩
  iapply (post_close m c t)
  isplitl [Hi]; · iexact Hi
  isplitl [H10]; · iapply (Entails.of_eq (congrArg (owns (c : Thread nD τ) (ms0_10 t) fullShare) (dpAt_pos m c t h0)).symm); iexact H10
  isplitl [H11]; · iexact H11
  isplitl [H12]; · iapply (Entails.of_eq (congrArg (owns (c : Thread nD τ) (ms0_12 t) fullShare) hg).symm); iexact H12
  isplitl [HW]; · iexact HW
  isplitl [Hg]; · iexact Hg
  isplitl [HB Hl Hl2 Hl1 Hq Hq']
  · iapply (Entails.of_eq e2.symm)
    isplitl [HB Hl Hl2 Hl1]
    · isplitl [Hl]
      · iapply (Entails.of_eq (pieceP_eq (F := F) c _ hb (resG m c))); iexact Hl
      isplitl [Hl2]
      · iapply (Entails.of_eq (pieceP_eq (F := F) c _ hb2 (resG m c))); iexact Hl2
      isplitl [Hl1]
      · iapply (Entails.of_eq (pieceP_eq (F := F) c _ hb3 (resG m c))); iexact Hl1
      iexact HB
    isplitl [Hq]; · iexact Hq
    iexact Hq'
  iapply (Entails.of_eq (leaves9_out m c t (Or.inr ht)).symm)
  iapply (Entails.of_eq (congrArg (owns (c : Thread nD τ) (ms0_9 t) fullShare) (before0_9' m c t h0 d9)))
  iexact H9

/-- The body keeps the record at every point. -/
theorem sound_body (c : Dev nD) (t : Fin cfg0.N) : bodyPre m c t ⊢ wp frame (wpE (defs₀ (F := F)) Variants.none c none) Set.univ (bodyAt0 t) (fun _ => bodyPost m c t) := by
  have hN : t.val < 13 := lt_of_lt_of_eq t.isLt (show cfg0.N = 13 from N_0)
  by_cases h0 : t.val = 0
  · obtain rfl : t = t0_0 := Fin.ext h0
    exact body_first m c
  by_cases h1 : t.val = 1
  · exact body_second m c t h1
  by_cases h2 : t.val = 2
  · exact body_third m c t h2
  by_cases h12 : t.val = 12
  · exact body_last m c t h12
  exact body_mid m c t (by omega) (by omega)

/-- The call runs this body. -/
theorem defs₀_row (t : Fin cfg0.N) :
    defs₀ (F := F) .tc cfg0.body (cfg0.bodyArgs t (cfg0.slots t)) = bodyAt0 t := by
  unfold defs₀; rw [Defs.onTc_tc]

/-- The body keeps the record, in the form that the run asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦDRG osem0 spec0 H0 R0 (V m) (V m) c ⊢ (dats m 0 c).Φ 0 := by
  rw [held_eq, show (dats m 0 c).Φ 0 = PhiR m c 0 from rfl]
  unfold PhiR
  iintro ⟨HS, Hg, Hq, -, Ho⟩
  isplitl [Hg]; · iexact Hg
  iapply (ring_in m c (V m c main_v6_0))
  isplitl [HS]; · iexact HS
  isplitl [Hq]; · iexact Hq
  iexact Ho

theorem hout (c : Dev nD) : (dats m 0 c).Φ (Fin.last cfg0.N) ⊢ Pipeline.ΦDRG osem0 spec0 H0 R0 (V m) (endG m) c := by
  rw [held_eq, endG_res, show (dats m 0 c).Φ (Fin.last cfg0.N) = PhiR m c grid0.N from rfl]
  unfold PhiR
  rw [show grid0.N = 13 by rw [N_0]]
  iintro ⟨Hg, HR⟩
  ihave HX := (ring_out m c) $$ HR
  icases HX with ⟨HS, Hq, Ho⟩
  isplitl [HS]; · iexact HS
  isplitl [Hg]; · iexact Hg
  isplitl [Hq]; · iexact Hq
  isplitr; · iempintro
  iexact Ho

set_option backward.isDefEq.respectTransparency.types false in
/-- The program runs to the end with the arrays as the record says and every semaphore at zero. -/
theorem run_main_quiescent : θ_run defs (onTc (τ := τ) (main (F := F))) (s₀ m ρ) (fun r => (Pipeline.FramePostRG cfgs (dats m) 0 R0 (V m) (endG m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (G := endG m) (hin := hin m) (hout := hout m)

/-- The program runs to the end with the arrays as the record says. -/
theorem run_main : θ_run defs (onTc (τ := τ) (main (F := F))) (s₀ m ρ) (Pipeline.FramePostRG cfgs (dats m) 0 R0 (V m) (endG m)) :=
  (θ_run defs _ _).mono (fun _ h => h.1) (run_main_quiescent m ρ)

/-- The program runs to the end and leaves its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and ((θ_run defs _ _).mono (fun _ h c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).1 5).trans (((dats m 0 c).arrAt_in 5 rfl _).trans ((A_eq m c 5).trans (V_main_arg5 m c))),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩) (run_main m ρ)) ((θ_run defs _ _).mono (fun _ h => h.2) (run_main_quiescent m ρ))

end Cert.Kernel5Ideal.Proj

end
-- ==== Proof.Proj.Formulas.lean ====
/-
  The formulas of the input projection's backward call over the extended reals: the projection's gradient, put together from
  the gradients of its parts, and what it gives for the rows that were normalised and for the normalisation's scale.
-/
module

public import proofs.«01_k».proof.Proof.FwdFormulas
public import proofs.«01_k».proof.Proof.Equation

@[expose] public section

noncomputable section

namespace Cert.Value

open Idealize.ShloMosaic

/-- Four matrices side by side, at a row and a column. -/
def sideAt {R : Nat} (a : Mat R 512) (b : Mat R 256) (c d : Mat R 512) (i : Fin R) (k : Fin 1792) : EReal :=
  if h : k.val < 512 then a (ix2 i ⟨k.val, h⟩)
  else if h' : k.val < 768 then b (ix2 i ⟨k.val - 512, by omega⟩)
  else if h'' : k.val < 1280 then c (ix2 i ⟨k.val - 768, by omega⟩)
  else d (ix2 i ⟨k.val - 1280, by omega⟩)

/-- Four matrices side by side. -/
def side {R : Nat} (a : Mat R 512) (b : Mat R 256) (c d : Mat R 512) : Mat R 1792 := fun j => sideAt a b c d (j 0) (j 1)

/-- A matrix with rows 112 to 127 replaced, at a row and a column. -/
def patchAt {R : Nat} (b : Mat R 256) (s : Mat 16 256) (i : Fin R) (k : Fin 256) : EReal :=
  if h : 112 ≤ i.val ∧ i.val < 128 then s (ix2 ⟨i.val - 112, by omega⟩ k) else b (ix2 i k)

/-- A matrix with rows 112 to 127 replaced. -/
def patch {R : Nat} (b : Mat R 256) (s : Mat 16 256) : Mat R 256 := fun j => patchAt b s (j 0) (j 1)

/-- The gradient of the input projection's result. -/
def dProjA {R : Nat} (dq : Mat R 512) (dkv : Mat R 256) (dkvm : Mat 16 256) (dca dcg : Mat R 512) : Mat R 1792 :=
  side dq (patch dkv dkvm) dca dcg

/-- The gradient that reaches the normalised rows, from the transposed weight. -/
def dInA {R : Nat} (d : Mat R 1792) (wt : Mat 1792 1024) : Mat R 1024 := fun j => matDot d wt (j 0) (j 1)

/-- The gradient of the residual stream: what came from above, and what the normalisation passes on. -/
def dInStream {R : Nat} (dh h : Mat R 1024) (g : Mat 1 1024) (d : Mat R 1792) (wt : Mat 1792 1024) : Mat R 1024 :=
  fun j => dh j + dThrough (dInA d wt) h g (j 0) (j 1)

/-- The gradient of the normalisation's scale: every row's share, summed. -/
def dInGain {R : Nat} (h : Mat R 1024) (d : Mat R 1792) (wt : Mat 1792 1024) : Mat 1 1024 :=
  fun j => ∑ i : Fin R, dLastGainRow (dInA d wt) h i (j 1)

/-- The rows from row 128 on, -/
def lowA (a : Mat 8320 1024) : Mat 8192 1024 := fun j => a (ix2 ⟨128 + (j 0).val, by have := (j 0).isLt; dsimp at this; omega⟩ (j 1))

/-- and the sixteen rows from row 112 on. -/
def midA (a : Mat 8320 1024) : Mat 16 1024 := fun j => a (ix2 ⟨112 + (j 0).val, by have := (j 0).isLt; dsimp at this; omega⟩ (j 1))

/-! ## A block of rows computes its rows of the whole -/

section
variable {n : Fin 13}

theorem IsRows.side {a : Mat 640 512} {b : Mat 640 256} {c d : Mat 640 512} {A : Mat 8320 512} {B : Mat 8320 256} {C D : Mat 8320 512}
    (ha : IsRows n a A) (hb : IsRows n b B) (hc : IsRows n c C) (hd : IsRows n d D) : IsRows n (side a b c d) (side A B C D) := fun k j => by
  show sideAt a b c d k j = sideAt A B C D (rowAt n k) j
  unfold sideAt
  split
  · exact ha k _
  split
  · exact hb k _
  split
  · exact hc k _
  · exact hd k _

/-- The first block holds the replaced rows, -/
theorem IsRows.patch0 {b : Mat 640 256} {B : Mat 8320 256} {s : Mat 16 256} (hn : n.val = 0) (hb : IsRows n b B) :
    IsRows n (patch b s) (patch B s) := fun k j => by
  show patchAt b s k j = patchAt B s (rowAt n k) j
  have e : (rowAt n k).val = k.val := by unfold rowAt; dsimp only; omega
  unfold patchAt
  by_cases h : 112 ≤ k.val ∧ k.val < 128
  · rw [dif_pos h, dif_pos (by rw [e]; exact h)]
    exact congrArg (fun z => s (ix2 z j)) (Fin.ext (by show k.val - 112 = (rowAt n k).val - 112; rw [e]))
  · rw [dif_neg h, dif_neg (by rw [e]; exact h)]
    exact hb k j

/-- and the later ones do not. -/
theorem IsRows.patch1 {b : Mat 640 256} {B : Mat 8320 256} {s : Mat 16 256} (hn : n.val ≠ 0) (hb : IsRows n b B) :
    IsRows n b (patch B s) := fun k j => by
  show b (ix2 k j) = patchAt B s (rowAt n k) j
  unfold patchAt
  rw [dif_neg (by unfold rowAt; dsimp only; omega)]
  exact hb k j

theorem IsRows.dInA {d : Mat 640 1792} {D : Mat 8320 1792} {wt : Mat 1792 1024} (hd : IsRows n d D) :
    IsRows n (dInA d wt) (dInA D wt) := fun k j => by
  show ∑ q : Fin 1792, d (ix2 k q) * wt (ix2 q j) = ∑ q : Fin 1792, D (ix2 (rowAt n k) q) * wt (ix2 q j)
  simp only [hd k]

theorem IsRows.dInStream {dh h : Mat 640 1024} {DH H : Mat 8320 1024} {g : Mat 1 1024} {d : Mat 640 1792} {D : Mat 8320 1792} {wt : Mat 1792 1024}
    (h0 : IsRows n dh DH) (hh : IsRows n h H) (hd : IsRows n d D) : IsRows n (dInStream dh h g d wt) (dInStream DH H g D wt) := fun k j => by
  show dh (ix2 k j) + Value.dThrough (Value.dInA d wt) h g k j = DH (ix2 (rowAt n k) j) + Value.dThrough (Value.dInA D wt) H g (rowAt n k) j
  rw [h0 k j, hh.dThrough hd.dInA]

end

/-! ## Finite arguments -/

theorem dProjA_real {R : Nat} {dq : Mat R 512} {dkv : Mat R 256} {dkvm : Mat 16 256} {dca dcg : Mat R 512} (h3 : AllReal dq) (h4 : AllReal dkv)
    (h5 : AllReal dkvm) (h6 : AllReal dca) (h7 : AllReal dcg) : AllReal (dProjA dq dkv dkvm dca dcg) := fun j => by
  unfold dProjA side sideAt
  split
  · exact h3 _
  split
  · unfold patch patchAt
    split
    · exact h5 _
    · exact h4 _
  split
  · exact h6 _
  · exact h7 _

end Cert.Value

end
-- ==== Proof.Proj.Pay.lean ====
/-
  What the body of the input projection's backward call stores at a grid point, as formulas of the blocks that it reads.
-/
module

public import proofs.«01_k».proof.Proof.Proj.Hold
public import proofs.«01_k».proof.Proof.Proj.Formulas
public import Idealize.ShloMosaic.Lib.Pipeline.ValueKit
public import Idealize.ShloMosaic.Lib.Pointwise
public import Idealize.ShloMosaic.Lib.WritesUnit

@[expose] public section

set_option maxRecDepth 16384

noncomputable section

namespace Cert.Kernel5Ideal.Proj

open Cert.Kernel5Ideal Cert.Kernel5Ideal.Gen Cert.Value
open Idealize.ShloMosaic Idealize.ShloMosaic.TcCoe Idealize.ShloMosaic.Tactic

/-- The row statistic of a block. -/
theorem rstd_pay (h : Vec Ideal S640x1024 .f32) (j : S640x1.Idx) : k0_pay11 (k0_pay10 h) j = rstd h (j 0) := by
  pointwise [k0_pay11, k0_pay10, rstd]

/-- The gradient at the normalised rows of a block. -/
theorem din_pay (d : Vec Ideal S640x1792 .bf16) (w : Vec Ideal S1792x1024 .bf16) (j : S640x1024.Idx) : k0_pay9 d w j = matDot d w (j 0) (j 1) := by
  pointwise [k0_pay9, matDot]

/-- The gradient of the residual stream in a block. -/
theorem tx_pay (d : Vec Ideal S640x1792 .bf16) (x0 x1 : Vec Ideal S640x1024 .f32) (x2 : Vec Ideal S1x1024 .f32) (w : Vec Ideal S1792x1024 .bf16) :
    txF d x0 x1 x2 w = dInStream (R := 640) x0 x1 x2 d w := by
  funext j
  unfold txF dInStream dThrough dInA
  pointwise [k0_pay13, rstd_pay, din_pay]

/-- The normalised rows of a block. -/
theorem hn_pay (x1 : Vec Ideal S640x1024 .f32) (x2 : Vec Ideal S1x1024 .f32) (j : S640x1024.Idx) : hnF x1 x2 j = normed x1 x2 (j 0) (j 1) := by
  unfold hnF
  pointwise [k0_pay12, normed, rstd_pay]

/-- What a block adds to the gradient of the scale. -/
theorem dg_pay (d : Vec Ideal S640x1792 .bf16) (x1 : Vec Ideal S640x1024 .f32) (w : Vec Ideal S1792x1024 .bf16) (acc : Vec Ideal S1x1024 .f32) (j : S1x1024.Idx) :
    dgF d x1 w acc j = acc j + ∑ i : Fin 640, dLastGainRow (dInA (R := 640) d w) x1 i (j 1) := by
  unfold dgF dLastGainRow dInA
  pointwise [k0_pay14, rstd_pay, din_pay]

/-- The block that the reset stores is zero. -/
theorem zero_pay (j : S1x1024.Idx) : k0_pay3 (F := Ideal) j = 0 := by
  pointwise [k0_pay3]

/-- The block of the projection's gradient after the first point: the four parts side by side, -/
theorem dp_side (x3 : Vec Ideal S640x512 .bf16) (x4 : Vec Ideal S640x256 .bf16) (x6 x7 : Vec Ideal S640x512 .bf16) :
    dpF x3 x4 x6 x7 = side (R := 640) x3 x4 x6 x7 := by
  funext j
  have h0 : (j 0).val < 640 := (j 0).isLt
  have h1 : (j 1).val < 1792 := (j 1).isLt
  unfold dpF dpL side sideAt
  split
  · next h =>
    rw [View.read_writes_cons_unit_of_not_mem _ _ _ _ _ _ rfl 1 (.inl (by show (j 1).val < 1280; omega)),
      View.read_writes_cons_unit_of_not_mem _ _ _ _ _ _ rfl 1 (.inl (by show (j 1).val < 768; omega)),
      View.read_writes_cons_unit_of_not_mem _ _ _ _ _ _ rfl 1 (.inl (by show (j 1).val < 512; omega)),
      View.read_writes_cons_unit_of_mem _ _ _ _ _ _ (ix2 (⟨(j 0).val, h0⟩ : Fin 640) (⟨(j 1).val, h⟩ : Fin 512)) rfl (Fin.forall_fin_two.mpr
        ⟨by show (j 0).val = 0 + (j 0).val; omega, by show (j 1).val = 0 + (j 1).val; omega⟩)]
    pointwise [k0_pay4]
  split
  · next h h' =>
    rw [View.read_writes_cons_unit_of_not_mem _ _ _ _ _ _ rfl 1 (.inl (by show (j 1).val < 1280; omega)),
      View.read_writes_cons_unit_of_not_mem _ _ _ _ _ _ rfl 1 (.inl (by show (j 1).val < 768; omega)),
      View.read_writes_cons_unit_of_mem _ _ _ _ _ _ (ix2 (⟨(j 0).val, h0⟩ : Fin 640) (⟨(j 1).val - 512, by omega⟩ : Fin 256)) rfl (Fin.forall_fin_two.mpr
        ⟨by show (j 0).val = 0 + (j 0).val; omega, by show (j 1).val = 512 + ((j 1).val - 512); omega⟩)]
    pointwise [k0_pay5]
  split
  · next h h' h'' =>
    rw [View.read_writes_cons_unit_of_not_mem _ _ _ _ _ _ rfl 1 (.inl (by show (j 1).val < 1280; omega)),
      View.read_writes_cons_unit_of_mem _ _ _ _ _ _ (ix2 (⟨(j 0).val, h0⟩ : Fin 640) (⟨(j 1).val - 768, by omega⟩ : Fin 512)) rfl (Fin.forall_fin_two.mpr
        ⟨by show (j 0).val = 0 + (j 0).val; omega, by show (j 1).val = 768 + ((j 1).val - 768); omega⟩)]
    pointwise [k0_pay6]
  · next h h' h'' =>
    rw [View.read_writes_cons_unit_of_mem _ _ _ _ _ _ (ix2 (⟨(j 0).val, h0⟩ : Fin 640) (⟨(j 1).val - 1280, by omega⟩ : Fin 512)) rfl (Fin.forall_fin_two.mpr
        ⟨by show (j 0).val = 0 + (j 0).val; omega, by show (j 1).val = 1280 + ((j 1).val - 1280); omega⟩)]
    pointwise [k0_pay7]

/-- and at the first point, where the second part has the sixteen rows replaced. -/
theorem dp0_side (x3 : Vec Ideal S640x512 .bf16) (x4 : Vec Ideal S640x256 .bf16) (x5 : Vec Ideal S16x256 .f32) (x6 x7 : Vec Ideal S640x512 .bf16) :
    dpF0 x3 x4 x5 x6 x7 = side (R := 640) x3 (patch x4 x5) x6 x7 := by
  funext j
  have h0 : (j 0).val < 640 := (j 0).isLt
  have h1 : (j 1).val < 1792 := (j 1).isLt
  have hrest : VP.read (Elt Ideal) (VP.writes (Elt Ideal) VP.junk (dpL x3 x4 x6 x7)) j = side (R := 640) x3 x4 x6 x7 j := congrFun (dp_side x3 x4 x6 x7) j
  unfold dpF0 dpL0
  by_cases hk : 512 ≤ (j 1).val ∧ (j 1).val < 768
  · by_cases hr : 112 ≤ (j 0).val ∧ (j 0).val < 128
    · rw [View.read_writes_cons_unit_of_mem _ _ _ _ _ _ (ix2 (⟨(j 0).val - 112, by omega⟩ : Fin 16) (⟨(j 1).val - 512, by omega⟩ : Fin 256)) rfl (Fin.forall_fin_two.mpr
        ⟨by show (j 0).val = 112 + ((j 0).val - 112); omega, by show (j 1).val = 512 + ((j 1).val - 512); omega⟩)]
      refine Eq.trans (b := patchAt x4 x5 (⟨(j 0).val, h0⟩ : Fin 640) ⟨(j 1).val - 512, by omega⟩) ?_ ?_
      · unfold patchAt
        rw [dif_pos hr]
        rfl
      · symm
        unfold side sideAt
        rw [dif_neg (by omega), dif_pos (by omega)]
        rfl
    · rw [View.read_writes_cons_unit_of_not_mem _ _ _ _ _ _ rfl 0 (by show (j 0).val < 112 ∨ 112 + 16 ≤ (j 0).val; omega), hrest]
      refine Eq.trans (b := patchAt x4 x5 (⟨(j 0).val, h0⟩ : Fin 640) ⟨(j 1).val - 512, by omega⟩) ?_ ?_
      · unfold patchAt
        rw [dif_neg hr]
        unfold side sideAt
        rw [dif_neg (by omega), dif_pos (by omega)]
        rfl
      · symm
        unfold side sideAt
        rw [dif_neg (by omega), dif_pos (by omega)]
        rfl
  · rw [View.read_writes_cons_unit_of_not_mem _ _ _ _ _ _ rfl 1 (by show (j 1).val < 512 ∨ 512 + 256 ≤ (j 1).val; omega), hrest]
    unfold side sideAt
    by_cases h : (j 1).val < 512
    · rw [dif_pos h, dif_pos h]
    · have hm : ¬(j 1).val < 768 := by omega
      rw [dif_neg h, dif_neg h, dif_neg hm, dif_neg hm]

end Cert.Kernel5Ideal.Proj

end
-- ==== Proof.Proj.Value.lean ====
/-
  What the input projection's backward call leaves in its five results: the gradient of the stream in two pieces, the gradient
  of the projection, the normalised rows, and, summed over the thirteen row tiles, the gradient of the normalisation's scale.
-/
module

public import proofs.«01_k».proof.Proof.Proj.Frame
public import proofs.«01_k».proof.Proof.Proj.Pay
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel5Ideal.Proj

open Cert.Kernel5Ideal Cert.Kernel5Ideal.Gen Cert.Value
open Idealize.ShloMosaic Idealize.ShloMosaic.TcCoe Idealize.ShloMosaic.Tactic

/-- The block index of every window of the call at a point: the row tile is the point. -/
theorem idx0 : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] ∧ win0_10.index t = ![t.val, 0]
    ∧ win0_11.index t = ![t.val, 0] ∧ win0_12.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] ∧ win0_10.index t = ![t.val, 0]
    ∧ win0_11.index t = ![t.val, 0] ∧ win0_12.index t = ![0, 0])

variable (m : (ℓ : Loc nD τ sig) → Buf (Elt Ideal) ℓ) (ρ : Dev nD → PrngReg) (c : Dev nD) (t : Fin cfg0.N)

/-- The number of a point, as the number of a row tile. -/
def tile (t : Fin cfg0.N) : Fin 13 := ⟨t.val, lt_of_lt_of_eq t.isLt N_0⟩

theorem rows0 : IsRows (tile t) (iblk m c 0 t : Mat 640 1024) (V m c main_arg0 : Mat 8320 1024) := fun k j => by
  unfold rowAt tile
  blk_point [iblk, idx0 t]

theorem rows1 : IsRows (tile t) (iblk m c 1 t : Mat 640 1024) (V m c main_arg1 : Mat 8320 1024) := fun k j => by
  unfold rowAt tile
  blk_point [iblk, idx0 t]

theorem blk2 : (iblk m c 2 t : Mat 1 1024) = (V m c main_arg2 : Mat 1 1024) := by
  funext j
  blk_point [iblk, idx0 t]

theorem rows3 : IsRows (tile t) (iblk m c 3 t : Mat 640 512) (V m c main_v0 : Mat 8320 512) := fun k j => by
  unfold rowAt tile
  blk_point [iblk, idx0 t]

theorem rows4 : IsRows (tile t) (iblk m c 4 t : Mat 640 256) (V m c main_v1 : Mat 8320 256) := fun k j => by
  unfold rowAt tile
  blk_point [iblk, idx0 t]

theorem blk5 : (iblk m c 5 t : Mat 16 256) = (V m c main_arg5 : Mat 16 256) := by
  funext j
  blk_point [iblk, idx0 t]

theorem rows6 : IsRows (tile t) (iblk m c 6 t : Mat 640 512) (V m c main_v2 : Mat 8320 512) := fun k j => by
  unfold rowAt tile
  blk_point [iblk, idx0 t]

theorem rows7 : IsRows (tile t) (iblk m c 7 t : Mat 640 512) (V m c main_v3 : Mat 8320 512) := fun k j => by
  unfold rowAt tile
  blk_point [iblk, idx0 t]

theorem blk8 : (iblk m c 8 t : Mat 1792 1024) = (V m c main_v5 : Mat 1792 1024) := by
  funext j
  blk_point [iblk, idx0 t]

/-- The gradient of the projection, all rows. -/
def dpV : Mat 8320 1792 := dProjA (V m c main_v0 : Mat 8320 512) (V m c main_v1 : Mat 8320 256) (V m c main_arg5 : Mat 16 256)
  (V m c main_v2 : Mat 8320 512) (V m c main_v3 : Mat 8320 512)

/-- The gradient of the stream, all rows. -/
def txV : Mat 8320 1024 := dInStream (V m c main_arg0 : Mat 8320 1024) (V m c main_arg1 : Mat 8320 1024) (V m c main_arg2 : Mat 1 1024)
  (dpV m c) (V m c main_v5 : Mat 1792 1024)

theorem rows_dp : IsRows (tile t) (dpAt m c t : Mat 640 1792) (dpV m c) := by
  unfold dpAt dpV dProjA
  split
  · next h =>
    rw [dp0_side, show (iblk m c 5 t : Mat 16 256) = _ from blk5 m c t]
    exact IsRows.side (rows3 m c t) (IsRows.patch0 h (rows4 m c t)) (rows6 m c t) (rows7 m c t)
  · next h =>
    rw [dp_side]
    exact IsRows.side (rows3 m c t) (IsRows.patch1 h (rows4 m c t)) (rows6 m c t) (rows7 m c t)

theorem rows_tx : IsRows (tile t) (txAt m c t : Mat 640 1024) (txV m c) := by
  unfold txAt txV
  rw [tx_pay, show (iblk m c 2 t : Mat 1 1024) = _ from blk2 m c t, show (iblk m c 8 t : Mat 1792 1024) = _ from blk8 m c t]
  exact IsRows.dInStream (rows0 m c t) (rows1 m c t) (rows_dp m c t)

theorem emb9 (y : S16x1024.Idx) : (win0_9.blk t).view.emb y = (ix2 (y 0) (y 1) : S16x1024.Idx) := by
  blk_ext [idx0 t]

theorem emb10 (y : S640x1792.Idx) : (win0_10.blk t).view.emb y = (ix2 (rowAt (tile t) (y 0)) (y 1) : S8320x1792.Idx) := by
  unfold rowAt tile
  blk_ext [idx0 t]

theorem emb11 (y : S640x1024.Idx) : (win0_11.blk t).view.emb y = (ix2 (rowAt (tile t) (y 0)) (y 1) : S8320x1024.Idx) := by
  unfold rowAt tile
  blk_ext [idx0 t]

theorem emb12 (y : S1x1024.Idx) : (win0_12.blk t).view.emb y = (ix2 0 (y 1) : S1x1024.Idx) := by
  blk_ext [idx0 t]

theorem arr9 : (dats m 0 c).arrAt 9 cfg0.N = midA (txV m c) := by
  refine (dats m 0 c).arrAt_eq_of_covers 9 _ (by decide +kernel) fun t hf y => ?_
  blk_simp
  rw [after0_9]
  refine Eq.trans ?_ (congrArg _ (emb9 t y).symm)
  have h0 : (y 0).val < 16 := (y 0).isLt
  unfold dmAt midRows
  refine (rows_tx m c (pt 0 (by norm_num)) ⟨(y 0).val + 112, by omega⟩ (y 1)).trans ?_
  refine congrArg (fun n => txV m c (ix2 n (y 1))) (Fin.ext ?_)
  show 640 * 0 + ((y 0).val + 112) = 112 + (y 0).val
  omega

theorem arr10 : (dats m 0 c).arrAt 10 cfg0.N = dpV m c := by
  refine (dats m 0 c).arrAt_eq_of_covers 10 _ (by decide +kernel) fun t hf y => ?_
  blk_simp
  rw [after0_10]
  refine Eq.trans ?_ (congrArg _ (emb10 t y).symm)
  exact (congrArg _ (ix2_eta y).symm).trans (rows_dp m c t (y 0) (y 1))

theorem arr11 : (dats m 0 c).arrAt 11 cfg0.N = hnA (V m c main_arg1 : Mat 8320 1024) (V m c main_arg2 : Mat 1 1024) := by
  refine (dats m 0 c).arrAt_eq_of_covers 11 _ (by decide +kernel) fun t hf y => ?_
  blk_simp
  rw [after0_11]
  refine Eq.trans ?_ (congrArg _ (emb11 t y).symm)
  unfold hnAt
  rw [hn_pay, show (iblk m c 2 t : Mat 1 1024) = _ from blk2 m c t]
  exact (rows1 m c t).normed (y 0) (y 1)

theorem arr12 : (dats m 0 c).arrAt 12 cfg0.N = dInGain (V m c main_arg1 : Mat 8320 1024) (dpV m c) (V m c main_v5 : Mat 1792 1024) := by
  refine (dats m 0 c).arrAt_eq_of_covers 12 _ (by decide +kernel) fun t hf y => ?_
  blk_simp
  rw [after0_12, Pipeline.eq_sum_fin_of_reset_step_apply_of_flush (fun n h => dgAt m c n h) 13 (fun _ => 0)
    (fun t j => ∑ i : Fin 640, dLastGainRow (dInA (R := 640) (dpAt m c t) (iblk m c 8 t)) (iblk m c 1 t) i (j 1))
    (fun t h j => by
      have hN : t.val < 13 := lt_of_lt_of_eq t.isLt N_0
      obtain ⟨n, hn⟩ := t
      have h' : n % 13 = 0 := h
      have hN' : n < 13 := hN
      obtain rfl : n = 0 := by omega
      show dgF _ _ _ k0_pay3 j = _
      rw [dg_pay, zero_pay])
    (fun t h j => by
      have e := dgAt_pos m c t (fun h0 => h (by rw [h0]))
      show dgAt m c t.val t.isLt j = _
      rw [e, dg_pay]) t ((flush0_12 t).mp hf) y, zero_add]
  have hN : t.val < 13 := lt_of_lt_of_eq t.isLt N_0
  refine Eq.trans ?_ (congrArg _ (emb12 t y).symm)
  unfold dInGain
  refine Fin.sum_mul_add_congr fun s k hl => ?_
  have e0 : 13 * (t.val / 13) + s.val = s.val := by omega
  rw [show (iblk m c 8 _ : Mat 1792 1024) = _ from blk8 m c _, (rows1 m c _).dLastGainRow (rows_dp m c _).dInA k (y 1)]
  refine congrArg (fun n => dLastGainRow _ _ n _) (Fin.ext ?_)
  show 640 * (13 * (t.val / 13) + s.val) + k.val = s.val * 640 + k.val
  omega

theorem res_eq : resG m c = lowA (txV m c) := by
  funext (j : S8192x1024.Idx)
  have h0 : (j 0).val < 8192 := (j 0).isLt
  unfold resG
  refine (rows_tx m c _ _ (j 1)).trans ?_
  refine congrArg (fun n => txV m c (ix2 n (j 1))) (Fin.ext ?_)
  show 640 * (((j 0).val + 128) / 640) + ((j 0).val + 128) % 640 = 128 + (j 0).val
  omega

/-! ## The host lines before the call, and the run's end -/

/-- The four parts of the projection's gradient as the call takes them are the arguments, -/
theorem dq_of : V m c main_v0 = (m ((c : Thread nD τ).loc main_arg3) : Mat 8320 512) := by
  funext j
  unfold V
  after_reads_at

theorem dkv_of : V m c main_v1 = (m ((c : Thread nD τ).loc main_arg4) : Mat 8320 256) := by
  funext j
  unfold V
  after_reads_at

theorem dca_of : V m c main_v2 = (m ((c : Thread nD τ).loc main_arg6) : Mat 8320 512) := by
  funext j
  unfold V
  after_reads_at

theorem dcg_of : V m c main_v3 = (m ((c : Thread nD τ).loc main_arg7) : Mat 8320 512) := by
  funext j
  unfold V
  after_reads_at

/-- and the weight is the argument's transpose. -/
theorem w_of : V m c main_v5 = tr (m ((c : Thread nD τ).loc main_arg8) : Mat 1024 1792) := by
  funext j
  unfold V tr
  after_reads_at

theorem dpV_eq : dpV m c = dProjA (m ((c : Thread nD τ).loc main_arg3)) (m ((c : Thread nD τ).loc main_arg4)) (m ((c : Thread nD τ).loc main_arg5))
    (m ((c : Thread nD τ).loc main_arg6)) (m ((c : Thread nD τ).loc main_arg7)) := by
  unfold dpV
  rw [dq_of, dkv_of, dca_of, dcg_of, V_main_arg5]

theorem txV_eq : txV m c = dInStream (m ((c : Thread nD τ).loc main_arg0)) (m ((c : Thread nD τ).loc main_arg1)) (m ((c : Thread nD τ).loc main_arg2))
    (dProjA (m ((c : Thread nD τ).loc main_arg3)) (m ((c : Thread nD τ).loc main_arg4)) (m ((c : Thread nD τ).loc main_arg5))
      (m ((c : Thread nD τ).loc main_arg6)) (m ((c : Thread nD τ).loc main_arg7))) (tr (m ((c : Thread nD τ).loc main_arg8))) := by
  unfold txV
  rw [dpV_eq, w_of, V_main_arg0, V_main_arg1, V_main_arg2]

/-- Every run ends with the formulas of the arguments in the five results, and with the arguments unchanged. -/
theorem run : θ_run defs (onTc (τ := τ) (main (F := Ideal))) ⟨m, fun _ => 0, ρ⟩ fun r => ∀ c : Dev nD,
      r.2.mem ((c : Thread nD τ).loc main_v6_0) = lowA (dInStream (m ((c : Thread nD τ).loc main_arg0)) (m ((c : Thread nD τ).loc main_arg1)) (m ((c : Thread nD τ).loc main_arg2))
        (dProjA (m ((c : Thread nD τ).loc main_arg3)) (m ((c : Thread nD τ).loc main_arg4)) (m ((c : Thread nD τ).loc main_arg5)) (m ((c : Thread nD τ).loc main_arg6)) (m ((c : Thread nD τ).loc main_arg7))) (tr (m ((c : Thread nD τ).loc main_arg8))))
      ∧ r.2.mem ((c : Thread nD τ).loc main_v6_1) = midA (dInStream (m ((c : Thread nD τ).loc main_arg0)) (m ((c : Thread nD τ).loc main_arg1)) (m ((c : Thread nD τ).loc main_arg2))
        (dProjA (m ((c : Thread nD τ).loc main_arg3)) (m ((c : Thread nD τ).loc main_arg4)) (m ((c : Thread nD τ).loc main_arg5)) (m ((c : Thread nD τ).loc main_arg6)) (m ((c : Thread nD τ).loc main_arg7))) (tr (m ((c : Thread nD τ).loc main_arg8))))
      ∧ r.2.mem ((c : Thread nD τ).loc main_v6_2) = dProjA (R := 8320) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v6_3) = hnA (R := 8320) (m ((c : Thread nD τ).loc main_arg1)) (m ((c : Thread nD τ).loc main_arg2))
      ∧ r.2.mem ((c : Thread nD τ).loc main_v6_4) = dInGain (R := 8320) (m ((c : Thread nD τ).loc main_arg1))
        (dProjA (m ((c : Thread nD τ).loc main_arg3)) (m ((c : Thread nD τ).loc main_arg4)) (m ((c : Thread nD τ).loc main_arg5)) (m ((c : Thread nD τ).loc main_arg6)) (m ((c : Thread nD τ).loc main_arg7))) (tr (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (θ_run_and (run_main m ρ) (frame m ρ))
  obtain ⟨h, hf, -⟩ := h
  refine ⟨(h.2 c main_v6_0 (by decide)).trans ((endG_res m c).trans ((res_eq m c).trans ?_)), ((h.1 c).1 9).trans ((arr9 m c).trans ?_),
    ((h.1 c).1 10).trans ((arr10 m c).trans ?_), ((h.1 c).1 11).trans ((arr11 m c).trans ?_), ((h.1 c).1 12).trans ((arr12 m c).trans ?_), hf c⟩
  · rw [txV_eq]
  · rw [txV_eq]
  · rw [dpV_eq]
  · rw [V_main_arg1, V_main_arg2]
  · rw [dpV_eq, w_of, V_main_arg1]

end Cert.Kernel5Ideal.Proj

end
-- ==== Proof.Proj.Ref.lean ====
/-
  What the reference of the input projection's backward call computes, over the extended reals: the projection's gradient put
  together, and, of finite arguments, the formulas that the kernel computes.
-/
module

public import proofs.«01_k».proof.Proof.Gen.Reference5Ideal.Read
public import Idealize.ShloMosaic.Lib.Pointwise
public import Idealize.ShloMosaic.Lib.Pipeline.ValueKit
public import Idealize.ShloMosaic.Lib.Pipeline.Value
public import proofs.«01_k».proof.Proof.Proj.Formulas

@[expose] public section

set_option maxRecDepth 16384

noncomputable section

namespace Cert.Reference5Ideal.Stages

open Idealize.ShloMosaic Idealize.ShloMosaic.TcCoe Idealize.ShloMosaic.Tactic
open Cert.Reference5Ideal Cert.Reference5Ideal.Read Cert.Value

variable (dh h : Mat 8320 1024) (g : Mat 1 1024) (dq : Mat 8320 512) (dkv : Mat 8320 256) (dkvm : Mat 16 256) (dca dcg : Mat 8320 512) (w : Mat 1024 1792)

/-- The second part with the sixteen rows replaced. -/
theorem patch_eq : val_main_v2 (F := Ideal) dkv dkvm = patch dkv dkvm := by
  funext j
  have h0 : (j 0).val < 8320 := (j 0).isLt
  unfold val_main_v2 patch patchAt
  split
  · next hr =>
    exact concatenate_apply_piece 0 _ _ j 1 (by show 1 < 3; decide) S16x256 dkvm rfl rfl 112 rfl (ix2 (⟨(j 0).val - 112, by omega⟩ : Fin 16) (j 1))
      (Fin.forall_fin_two.mpr ⟨fun hb => absurd rfl hb, fun _ => rfl⟩) (by show 112 + ((j 0).val - 112) = (j 0).val; omega)
  · next hr =>
    by_cases hl : (j 0).val < 112
    · refine (concatenate_apply_piece 0 _ _ j 0 (by show 0 < 3; decide) S112x256 (val_main_v0 (F := Ideal) dkv) rfl rfl 0 rfl (ix2 (⟨(j 0).val, hl⟩ : Fin 112) (j 1))
        (Fin.forall_fin_two.mpr ⟨fun hb => absurd rfl hb, fun _ => rfl⟩) (by show 0 + (j 0).val = (j 0).val; omega)).trans ?_
      rw [val_main_v0_apply]
      refine congrArg dkv (funext fun a => ?_)
      match a with
      | ⟨0, _⟩ => rfl
      | ⟨1, _⟩ => rfl
    · refine (concatenate_apply_piece 0 _ _ j 2 (by show 2 < 3; decide) S8192x256 (val_main_v1 (F := Ideal) dkv) rfl rfl 128 rfl (ix2 (⟨(j 0).val - 128, by omega⟩ : Fin 8192) (j 1))
        (Fin.forall_fin_two.mpr ⟨fun hb => absurd rfl hb, fun _ => rfl⟩) (by show 128 + ((j 0).val - 128) = (j 0).val; omega)).trans ?_
      rw [val_main_v1_apply]
      refine congrArg dkv (funext fun a => Fin.ext ?_)
      match a with
      | ⟨0, _⟩ => show 128 + ((j 0).val - 128) = (j 0).val; omega
      | ⟨1, _⟩ => rfl

/-- The gradient of the projection's result. -/
theorem dproj_eq : val_main_v3 (F := Ideal) dq dkv dkvm dca dcg = dProjA dq dkv dkvm dca dcg := by
  funext j
  have h1 : (j 1).val < 1792 := (j 1).isLt
  unfold val_main_v3 dProjA
  rw [← patch_eq]
  unfold side sideAt
  split
  · next hk =>
    exact concatenate_apply_piece 1 _ _ j 0 (by show 0 < 4; decide) S8320x512 dq rfl rfl 0 rfl (ix2 (j 0) (⟨(j 1).val, hk⟩ : Fin 512))
      (Fin.forall_fin_two.mpr ⟨fun _ => rfl, fun hb => absurd rfl hb⟩) (by show 0 + (j 1).val = (j 1).val; omega)
  split
  · exact concatenate_apply_piece 1 _ _ j 1 (by show 1 < 4; decide) S8320x256 (val_main_v2 (F := Ideal) dkv dkvm) rfl rfl 512 rfl (ix2 (j 0) (⟨(j 1).val - 512, by omega⟩ : Fin 256))
      (Fin.forall_fin_two.mpr ⟨fun _ => rfl, fun hb => absurd rfl hb⟩) (by show 512 + ((j 1).val - 512) = (j 1).val; omega)
  split
  · exact concatenate_apply_piece 1 _ _ j 2 (by show 2 < 4; decide) S8320x512 dca rfl rfl 768 rfl (ix2 (j 0) (⟨(j 1).val - 768, by omega⟩ : Fin 512))
      (Fin.forall_fin_two.mpr ⟨fun _ => rfl, fun hb => absurd rfl hb⟩) (by show 768 + ((j 1).val - 768) = (j 1).val; omega)
  · exact concatenate_apply_piece 1 _ _ j 3 (by show 3 < 4; decide) S8320x512 dcg rfl rfl 1280 rfl (ix2 (j 0) (⟨(j 1).val - 1280, by omega⟩ : Fin 512))
      (Fin.forall_fin_two.mpr ⟨fun _ => rfl, fun hb => absurd rfl hb⟩) (by show 1280 + ((j 1).val - 1280) = (j 1).val; omega)

/-- The result that holds it. -/
theorem dproj_res : val_main_v43 (F := Ideal) dq dkv dkvm dca dcg = dProjA dq dkv dkvm dca dcg := by
  rw [← dproj_eq]
  rfl

/-- The reciprocal root mean square of a row. -/
theorem rstd_eq (i : S8320x1.Idx) : val_main_v11 (F := Ideal) h i = rstd h (i 0) := by
  unfold rstd
  pointwise [val_main_v11, val_main_v10, val_main_v9, val_main_v8, val_main_v7, val_main_v6, val_main_v5, val_main_v4, val_main_cst,
    val_main_cst_0, val_main_cst_1]

/-- The mean of a row's squares plus `ε`. -/
theorem var_eq (i : S8320x1.Idx) : val_main_v10 (F := Ideal) h i
    = Ideal.div (∑ k : Fin 1024, h (ix2 (i 0) k) * h (ix2 (i 0) k)) (Ideal.ofBits .f32 0x44800000#32) + Ideal.ofBits .f32 0x3727C5AC#32 := by
  pointwise [val_main_v10, val_main_v9, val_main_v8, val_main_v7, val_main_v6, val_main_v5, val_main_v4, val_main_cst,
    val_main_cst_0, val_main_cst_1]

/-- The reciprocal root mean square again, as the lines of the second normalisation compute it, -/
theorem rstd_eq' (i : S8320x1.Idx) : val_main_v51 (F := Ideal) h i = rstd h (i 0) := by
  unfold rstd
  pointwise [val_main_v51, val_main_v50, val_main_v49, val_main_v48, val_main_v47, val_main_v46, val_main_v45, val_main_v44, val_main_cst_7,
    val_main_cst_8, val_main_cst_9]

/-- and the normalised rows. -/
theorem hn_eq : val_main_v56 (F := Ideal) h g = hnA h g := by
  funext i
  unfold hnA normed
  pointwise [val_main_v56, val_main_v55, val_main_v54, val_main_v53, val_main_v52, rstd_eq']

/-- The gradient that reaches the normalised rows. -/
theorem din_eq (i : S8320x1024.Idx) : val_main_v20 (F := Ideal) dq dkv dkvm dca dcg w i
    = matDot (dProjA dq dkv dkvm dca dcg) (tr w) (i 0) (i 1) := by
  unfold matDot val_main_v20 tr
  rw [dproj_eq]
  pointwise

/-- The gradient of the scale. -/
theorem dg_eq : val_main_v23 (F := Ideal) h dq dkv dkvm dca dcg w = dInGain h (dProjA dq dkv dkvm dca dcg) (tr w) := by
  funext i
  unfold dInGain dLastGainRow dInA
  pointwise [val_main_v23, val_main_v22, val_main_cst_3, val_main_v21, val_main_v16, val_main_v15, rstd_eq, din_eq]
  exact Finset.sum_congr rfl fun k _ => by rw [mul_comm, mul_assoc]

/-- The gradient of the residual stream, as the reference computes it. -/
theorem dh_eq (i : S8320x1024.Idx) (q : EReal)
    (hq : Ideal.div (∑ k : Fin 1024, h (ix2 (i 0) k) * h (ix2 (i 0) k)) (Ideal.ofBits .f32 0x44800000#32) + Ideal.ofBits .f32 0x3727C5AC#32 = q)
    (S : EReal)
    (hS : ∑ k : Fin 1024, matDot (dProjA dq dkv dkvm dca dcg) (tr w) (i 0) k * g (ix2 0 k) * h (ix2 (i 0) k) = S) :
    val_main_v40 (F := Ideal) dh h g dq dkv dkvm dca dcg w i
      = dh i + matDot (dProjA dq dkv dkvm dca dcg) (tr w) (i 0) (i 1) * g (ix2 0 (i 1)) * rstd h (i 0)
        + h i * Ideal.div (S * (Ideal.ofBits .f32 0xBF000000#32 * Ideal.div (rstd h (i 0)) q)) (Ideal.ofBits .f32 0x44800000#32)
        + Ideal.div (S * (Ideal.ofBits .f32 0xBF000000#32 * Ideal.div (rstd h (i 0)) q)) (Ideal.ofBits .f32 0x44800000#32) * h i := by
  rw [← hS, ← hq, show ∑ k : Fin 1024, matDot (dProjA dq dkv dkvm dca dcg) (tr w) (i 0) k * g (ix2 0 k) * h (ix2 (i 0) k)
    = ∑ k : Fin 1024, h (ix2 (i 0) k) * (matDot (dProjA dq dkv dkvm dca dcg) (tr w) (i 0) k * g (ix2 0 k))
    from Finset.sum_congr rfl fun k _ => mul_comm _ _]
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_cst_4,
    val_main_cst_5, val_main_cst_6, val_main_v14, val_main_v13, val_main_v12, val_main_cst_2, rstd_eq, var_eq, din_eq]
  simp only [Fin.sum_univ_one]

variable {dh h g dq dkv dkvm dca dcg w}

/-- Of finite arguments the reference computes the kernel's formula. -/
theorem dh_real (r0 : AllReal dh) (r1 : AllReal h) (r2 : AllReal g) (r3 : AllReal dq) (r4 : AllReal dkv) (r5 : AllReal dkvm)
    (r6 : AllReal dca) (r7 : AllReal dcg) (r8 : AllReal w) :
    val_main_v40 (F := Ideal) dh h g dq dkv dkvm dca dcg w = dInStream dh h g (dProjA dq dkv dkvm dca dcg) (tr w) := by
  funext i
  obtain ⟨q, r, hq, hr, hv, hs⟩ := rstd_real h (i 0) fun k => r1 _
  have hd : ∀ k, IsReal (matDot (dProjA dq dkv dkvm dca dcg) (tr w) (i 0) k) := fun k => (dProjA_real r3 r4 r5 r6 r7).matDot r8.tr _ _
  rw [dh_eq dh h g dq dkv dkvm dca dcg w i q hv _ rfl, hs]
  refine (stream_identity hq hr (r0 i) ((hd _).mul (r2 _)) (r1 i) (IsReal.sum fun k => ((hd k).mul (r2 _)).mul (r1 _))).trans ?_
  unfold dInStream dThrough dInA
  rw [hs]
  idx_vars i

/-- The rows from row 128 on, -/
theorem low_real (r0 : AllReal dh) (r1 : AllReal h) (r2 : AllReal g) (r3 : AllReal dq) (r4 : AllReal dkv) (r5 : AllReal dkvm)
    (r6 : AllReal dca) (r7 : AllReal dcg) (r8 : AllReal w) :
    val_main_v41 (F := Ideal) dh h g dq dkv dkvm dca dcg w = lowA (dInStream dh h g (dProjA dq dkv dkvm dca dcg) (tr w)) := by
  funext j
  rw [val_main_v41_apply, dh_real r0 r1 r2 r3 r4 r5 r6 r7 r8]
  unfold lowA
  refine congrArg _ (funext fun a => ?_)
  match a with
  | ⟨0, _⟩ => rfl
  | ⟨1, _⟩ => rfl

/-- and the sixteen rows from row 112 on. -/
theorem mid_real (r0 : AllReal dh) (r1 : AllReal h) (r2 : AllReal g) (r3 : AllReal dq) (r4 : AllReal dkv) (r5 : AllReal dkvm)
    (r6 : AllReal dca) (r7 : AllReal dcg) (r8 : AllReal w) :
    val_main_v42 (F := Ideal) dh h g dq dkv dkvm dca dcg w = midA (dInStream dh h g (dProjA dq dkv dkvm dca dcg) (tr w)) := by
  funext j
  rw [val_main_v42_apply, dh_real r0 r1 r2 r3 r4 r5 r6 r7 r8]
  unfold midA
  refine congrArg _ (funext fun a => ?_)
  match a with
  | ⟨0, _⟩ => rfl
  | ⟨1, _⟩ => rfl

end Cert.Reference5Ideal.Stages

end
-- ==== Proof.Proj.Finite.lean ====
/-
  What the precondition of the input projection's backward call says: every element of each of the nine arguments is a
  finite number.
-/
module

public import proofs.«01_k».proof.Pre_finite5
public import proofs.«01_k».proof.Proof.Finite

@[expose] public section

set_option maxRecDepth 16384

noncomputable section

namespace Cert.Value

open Idealize.ShloMosaic Cert.Pre_finite5 Cert.Pre_finite5.Facts

/-- The side conditions of the precondition's operations. -/
theorem preFacts5 : Cert.Pre_finite5.Facts where
  bcast_S_S8320x1024 := by decide
  reducesTo_S8320x1024_S_d0_1 := by decide
  h_S_ := by decide
  bcast_S_S1x1024 := by decide
  reducesTo_S1x1024_S_d0_1 := by decide
  bcast_S_S8320x512 := by decide
  reducesTo_S8320x512_S_d0_1 := by decide
  bcast_S_S8320x256 := by decide
  reducesTo_S8320x256_S_d0_1 := by decide
  bcast_S_S16x256 := by decide
  reducesTo_S16x256_S_d0_1 := by decide
  bcast_S_S1024x1792 := by decide
  reducesTo_S1024x1792_S_d0_1 := by decide

/-- Where the precondition holds, every element of every argument is finite. -/
theorem real_of_finite5 [Cert.Pre_finite5.Facts] (dh h : FVec Ideal S8320x1024 .f32) (g : FVec Ideal S1x1024 .f32) (dq : FVec Ideal S8320x512 .f32)
    (dkv : FVec Ideal S8320x256 .f32) (dkvm : FVec Ideal S16x256 .f32) (dca dcg : FVec Ideal S8320x512 .f32) (w : FVec Ideal S1024x1792 .f32)
    (hp : Cert.Pre_finite5.fn (F := Ideal) dh h g dq dkv dkvm dca dcg w = fun _ => 1#1) :
    (∀ i, IsReal (dh i)) ∧ (∀ i, IsReal (h i)) ∧ (∀ i, IsReal (g i)) ∧ (∀ i, IsReal (dq i)) ∧ (∀ i, IsReal (dkv i)) ∧ (∀ i, IsReal (dkvm i))
      ∧ (∀ i, IsReal (dca i)) ∧ (∀ i, IsReal (dcg i)) ∧ (∀ i, IsReal (w i)) := by
  let j : S_.Idx := fun k => k.elim0
  have e : andi (andi (andi (andi (andi (andi (andi (andi (tested bcast_S_S8320x1024 reducesTo_S8320x1024_S_d0_1 h_S_ dh)
      (tested bcast_S_S8320x1024 reducesTo_S8320x1024_S_d0_1 h_S_ h)) (tested bcast_S_S1x1024 reducesTo_S1x1024_S_d0_1 h_S_ g))
      (tested bcast_S_S8320x512 reducesTo_S8320x512_S_d0_1 h_S_ dq)) (tested bcast_S_S8320x256 reducesTo_S8320x256_S_d0_1 h_S_ dkv))
      (tested bcast_S_S16x256 reducesTo_S16x256_S_d0_1 h_S_ dkvm)) (tested bcast_S_S8320x512 reducesTo_S8320x512_S_d0_1 h_S_ dca))
      (tested bcast_S_S8320x512 reducesTo_S8320x512_S_d0_1 h_S_ dcg)) (tested bcast_S_S1024x1792 reducesTo_S1024x1792_S_d0_1 h_S_ w) j = 1#1 := congrFun hp j
  obtain ⟨e, e8⟩ := andi_split _ _ j e
  obtain ⟨e, e7⟩ := andi_split _ _ j e
  obtain ⟨e, e6⟩ := andi_split _ _ j e
  obtain ⟨e, e5⟩ := andi_split _ _ j e
  obtain ⟨e, e4⟩ := andi_split _ _ j e
  obtain ⟨e, e3⟩ := andi_split _ _ j e
  obtain ⟨e, e2⟩ := andi_split _ _ j e
  obtain ⟨e0, e1⟩ := andi_split _ _ j e
  exact ⟨fun i => real_of_test _ _ _ _ dh _ j e0 i, fun i => real_of_test _ _ _ _ h _ j e1 i, fun i => real_of_test _ _ _ _ g _ j e2 i,
    fun i => real_of_test _ _ _ _ dq _ j e3 i, fun i => real_of_test _ _ _ _ dkv _ j e4 i, fun i => real_of_test _ _ _ _ dkvm _ j e5 i,
    fun i => real_of_test _ _ _ _ dca _ j e6 i, fun i => real_of_test _ _ _ _ dcg _ j e7 i, fun i => real_of_test _ _ _ _ w _ j e8 i⟩

end Cert.Value

end
-- ==== Proof.Up.Setup.lean ====
/-
  The input projection's forward call: what the body's conditions say, the two tiles and the copies into them, and the
  names of the places the body reads and writes.
-/
module

public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdx

@[expose] public section

set_option maxRecDepth 16384

noncomputable section

namespace Cert.Kernel6Ideal.Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host lines before the call, and then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The blocks -/

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of input 0 holds the input's block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input 1 holds the input's block at every point. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input 2 holds the input's block at every point. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end of a run -/

/-- A run that ends with the pipeline's results leaves the arguments as they were. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c)⟩) h

/-- The condition under which the body is at the first point. -/
abbrev isFirst (i : grid0.Coords) : Prop := (Scalar.cmpi .ne (Scalar.extui (Scalar.cmpi .eq (BitVec.ofNat 32 (i 0).val) 0#32)) 0#32) = 1#1

/-- The condition under which the body starts a copy for the next point. -/
abbrev isMore (i : grid0.Coords) : Prop := k0_cond2 i = 1#1

/-- The first point. -/
def t0_0 : Fin grid0.N := ⟨0, by decide⟩

theorem isFirst_iff : ∀ t : Fin grid0.N, isFirst (grid0.coords t) ↔ t.val = 0 := by decide +kernel
theorem isMore_iff : ∀ t : Fin grid0.N, isMore (grid0.coords t) ↔ t.val < 12 := by decide +kernel
theorem cond4_iff : ∀ t : Fin grid0.N, k0_cond4 (grid0.coords t) = 1#1 ↔ 0 < t.val := by decide +kernel

/-- Each window's buffer at a point. -/
abbrev ms0_0 (t : Fin cfg0.N) : Memref sig .tc .vmem S16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x512 .f32 := win0_7.stage (cfg0.slots t 7)
abbrev hs0_7 (t : Fin cfg0.N) : (ms0_7 t).IsWhole := hstage0_7 ((cfg0.slots t 7).cast nbuf0_7)
/-- The two tiles. -/
abbrev scM0_0 : Memref sig .tc .vmem S2x640x1024 .f32 := Memref.whole cc0_scratch0
/-- The input, which the body copies from. -/
abbrev hbM0_0 : Memref sig .tc .hbm S8192x1024 .f32 := Memref.whole main_arg0
/-- What a buffer holds, and the buffer held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The counters of the body's own copies. -/
abbrev osem0 : Fin 2 → SemLoc sig := fun j => (![SemLoc.dma 13, SemLoc.dma 14] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0) := by
  rw [Pipeline.ownSems0_eq_of_list c osem0 [0, 1] (by decide) (by decide)]; rfl
/-- The arrays that the body copies from. -/
def H0 : Finset (Ref sig .tc) := {main_arg0}
theorem H0_sub : H0 ⊆ Pipeline.restRefs sig spec0 := by decide
/-- They are held at what they hold when the call starts. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- What the call starts with and ends with, part by part. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 13) 0 ∗ semVal ((c : Thread nD τ), SemLoc.dma 14) 0) ∗ iprop(hbPt0 c hbM0_0 (V m c main_arg0))) := by
  rw [Pipeline.ΦD_eq, scopedRest0_eq, ownSems00_eq, hbmPts0_eq]; simp only [scM0_0, owns_whole]; try rfl

instance : NeZero grid0.N := ⟨by rw [N_0]; decide⟩
theorem inb_slot0_0 (s : Fin 2) : ∀ a, (![s.val, 0, 0] : Fin 3 → Nat) a + S1x640x1024.size a ≤ S2x640x1024.size a := by
  have := s.isLt; intro a; fin_cases a <;> simp <;> omega
theorem inb_src0_0 (b : Fin 13) : ∀ a, (![640 * b.val - 128, 0] : Fin 2 → Nat) a + S640x1024.size a ≤ S8192x1024.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- The tile `s`. -/
def rslot0_0 (s : Fin 2) : Memref sig .tc .vmem S640x1024 .f32 :=
  (scM0_0.slice (Rect.unit (s := S2x640x1024) ![s.val, 0, 0] S1x640x1024.size (inb_slot0_0 s)) (fun _ => rfl)).squeeze S640x1024 squeezes_S1x640x1024_S640x1024
/-- Block `b` of the input: the rows of tile `b` of the stream. -/
def srcB0_0 (b : Fin 13) : Memref sig .tc .hbm S640x1024 .f32 :=
  hbM0_0.slice (Rect.unit (s := S8192x1024) ![640 * b.val - 128, 0] S640x1024.size (inb_src0_0 b)) (fun _ => rfl)
/-- The counter of tile `s`. -/
def cellA0_0 (s : Fin 2) : DmaSems sig S_ := (cc0_scratch1.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 13 := by decide
theorem cellR0_0_1 : cellR0_0 1 = SemLoc.dma 14 := by decide

section Ring0_0
variable (c : Dev nD) (W : HbBuf0 (F := F) c hbM0_0)
/-- Each tile has its own share of the input, to read from. -/
abbrev qs0_0 (s : Fin 2) : PosShare TreeShare := if s.val = 0 then fullShare.left else fullShare.right
/-- A tile at given contents, its counter at zero, the part of the input that a copy reads, the rest of it, and the input whole; what
    a copy leaves in the tile; and the copy under way. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 13) : sProp 𝕄 := (srcB0_0 b).view.loc (c : Thread nD τ) ↦[(srcB0_0 b).view.set]{qs0_0 s} W
/-- The rest of the input beside a block. -/
def restP0_0 (s : Fin 2) (b : Fin 13) : sProp 𝕄 := ((c : Thread nD τ).loc main_arg0) ↦[Finset.univ \ (srcB0_0 b).view.set]{qs0_0 s} W
abbrev wholeP0_0 (s : Fin 2) : sProp 𝕄 := ((c : Thread nD τ).loc main_arg0) ↦[Finset.univ]{qs0_0 s} W
abbrev landed0_0 (s : Fin 2) (b : Fin 13) (f : HbBuf0 (F := F) c (rslot0_0 s)) : HbBuf0 (F := F) c (rslot0_0 s) :=
  (rslot0_0 s).view.writes (Elt F) f [⟨Rect.whole S640x1024, ReadAs.same.apply ((srcB0_0 b).view.read (Elt F) W)⟩]
abbrev flightP0_0 (s : Fin 2) (b : Fin 13) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- A tile that no copy fills has its share of the input whole; a copy under way leaves the rest of it. -/
abbrev slotW0_0 (s : Fin 2) (f : HbBuf0 (F := F) c (rslot0_0 s)) : sProp 𝕄 := iprop(slotP0_0 c s f ∗ wholeP0_0 c W s)
abbrev flightW0_0 (s : Fin 2) (b : Fin 13) (f : HbBuf0 (F := F) c (rslot0_0 s)) : sProp 𝕄 := iprop(flightP0_0 c W s b f ∗ restP0_0 c W s b)
abbrev noHome0_0 (b : Fin 13) : sProp 𝕄 := iprop(emp)
/-- The two tiles before point `k`: at first both are free; later block `k` is on its way into its tile, and the other tile
    keeps the block before it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (fun _ _ f => f) k
omit [FloatOps F] in
theorem cellP0_0_0 : cellP0_0 (F := F) c 0 = semVal ((c : Thread nD τ), SemLoc.dma 13) 0 := congrArg (fun x => (semVal ((c : Thread nD τ), x) 0 : sProp 𝕄)) cellR0_0_0
omit [FloatOps F] in
theorem cellP0_0_1 : cellP0_0 (F := F) c 1 = semVal ((c : Thread nD τ), SemLoc.dma 14) 0 := congrArg (fun x => (semVal ((c : Thread nD τ), x) 0 : sProp 𝕄)) cellR0_0_1
end Ring0_0

/-! ### The two tiles are disjoint and are the whole scratch -/

abbrev slotSet0_0 (s : Fin 2) : Finset S2x640x1024.Idx := (Rect.unit (s := S2x640x1024) ![s.val, 0, 0] S1x640x1024.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x640x1024) (0 : Fin 3) 1 (fun s : Fin 2 => (![s.val, 0, 0] : Fin 3 → Nat)) S1x640x1024.size inb_slot0_0 (fun s => by simp) rfl s s' h
theorem slots0_0_cover : Finset.univ.biUnion slotSet0_0 = Finset.univ :=
  Ring.lead_cover (s := S2x640x1024) (0 : Fin 3) 1 (fun s : Fin 2 => (![s.val, 0, 0] : Fin 3 → Nat)) S1x640x1024.size inb_slot0_0 (fun s => by simp)
    (fun s a ha => by fin_cases a <;> first | exact absurd rfl ha | rfl) rfl (fun a ha => by fin_cases a <;> first | exact absurd rfl ha | rfl) rfl

/-! ### The two tiles at the start and at the end -/

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A share of the input is a block's part of it and the rest, -/
theorem src0_0_split (s : Fin 2) (b : Fin 13) : wholeP0_0 (F := F) c W s ⊣⊢ iprop(srcP0_0 c W s b ∗ restP0_0 c W s b) := by
  unfold restP0_0; exact pointsTo_split_subset (Finset.subset_univ _)
/-- the whole input is the two shares, -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- and the scratch is the two tiles. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- Before the first point both tiles are free, -/
theorem ring0_0_in (c : Dev nD) :
    iprop((∃ d, owns (c : Thread nD τ) scM0_0 fullShare d) ∗ (semVal ((c : Thread nD τ), SemLoc.dma 13) 0 ∗ semVal ((c : Thread nD τ), SemLoc.dma 14) 0) ∗ hbPt0 c hbM0_0 (V m c main_arg0))
      ⊢ ringAt0_0 c (V m c main_arg0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and after the last point everything is back. -/
theorem ring0_0_out (c : Dev nD) :
    ringAt0_0 c (V m c main_arg0) 13
      ⊢ iprop((∃ d, owns (c : Thread nD τ) scM0_0 fullShare d) ∗ (semVal ((c : Thread nD τ), SemLoc.dma 13) 0 ∗ semVal ((c : Thread nD τ), SemLoc.dma 14) 0) ∗ hbPt0 c hbM0_0 (V m c main_arg0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg0)).2; isplitl [HW0]; · iexact HW0
    iexact HW1

/-! ### The places the body names, in terms of the grid point -/

section Names
omit [FloatOps F]

theorem off1_eq : ∀ t : Fin grid0.N, k0_off1 (grid0.coords t) = ![(Ring.sl 2 (t.val + 1)).val] := by decide +kernel
theorem off2_eq : ∀ t : Fin grid0.N, k0_off2 (grid0.coords t) = ![(Ring.sl 2 (t.val + 1)).val, 0, 0] := by decide +kernel
theorem off3_eq : ∀ t : Fin grid0.N, isMore (grid0.coords t) → k0_off3 (grid0.coords t) = ![640 * (Ring.bk 13 (t.val + 1)).val - 128, 0] := by decide +kernel
theorem off4_eq : ∀ t : Fin grid0.N, k0_off4 (grid0.coords t) = ![(Ring.sl 2 t.val).val] := by decide +kernel
theorem off5_eq : ∀ t : Fin grid0.N, k0_off5 (grid0.coords t) = ![(Ring.sl 2 t.val).val, 0, 0] := by decide +kernel
theorem off6_eq : ∀ t : Fin grid0.N, k0_cond4 (grid0.coords t) = 1#1 → k0_off6 (grid0.coords t) = ![640 * (Ring.bk 13 t.val).val - 128, 0] := by decide +kernel
theorem off7_eq : ∀ t : Fin grid0.N, k0_off7 (grid0.coords t) = ![(Ring.sl 2 t.val).val, 0, 0] := by decide +kernel

@[sl_canon] theorem slot_next (t : Fin grid0.N) (h : isMore (grid0.coords t)) :
    (scM0_0.slice (Rect.unit (s := S2x640x1024) (k0_off2 (grid0.coords t)) S1x640x1024.size (k0_off2_inb (grid0.coords t) h)) (fun _ => rfl)).squeeze S640x1024 squeezes_S1x640x1024_S640x1024 = rslot0_0 (Ring.sl 2 (t.val + 1)) :=
  congrArg (fun M : Memref sig .tc .vmem S1x640x1024 .f32 => M.squeeze S640x1024 squeezes_S1x640x1024_S640x1024) (Memref.slice_unit_congr _ (off2_eq t) _ _ (fun _ => rfl) (fun _ => rfl))

@[sl_canon] theorem cell_next (t : Fin grid0.N) (h : isMore (grid0.coords t)) :
    (cc0_scratch1.slice (Rect.unit (s := S2) (k0_off1 (grid0.coords t)) S1.size (k0_off1_inb (grid0.coords t) h))).squeeze S_ squeezes_S1_S_ = cellA0_0 (Ring.sl 2 (t.val + 1)) :=
  congrArg (fun A : DmaSems sig S1 => A.squeeze S_ squeezes_S1_S_) (SemArray.slice_unit_congr _ (off1_eq t) _ _)

@[sl_canon] theorem src_next (t : Fin grid0.N) (h : isMore (grid0.coords t)) :
    hbM0_0.slice (Rect.unit (s := S8192x1024) (k0_off3 (grid0.coords t)) S640x1024.size (k0_off3_inb (grid0.coords t) h)) (fun _ => rfl) = srcB0_0 (Ring.bk 13 (t.val + 1)) :=
  congrArg (fun M : Memref sig .tc .hbm S640x1024 .f32 => M) (Memref.slice_unit_congr _ (off3_eq t h) _ _ (fun _ => rfl) (fun _ => rfl))

@[sl_canon] theorem slot_here (t : Fin grid0.N) (h : k0_cond4 (grid0.coords t) = 1#1) :
    (scM0_0.slice (Rect.unit (s := S2x640x1024) (k0_off5 (grid0.coords t)) S1x640x1024.size (k0_off5_inb (grid0.coords t) h)) (fun _ => rfl)).squeeze S640x1024 squeezes_S1x640x1024_S640x1024 = rslot0_0 (Ring.sl 2 t.val) :=
  congrArg (fun M : Memref sig .tc .vmem S1x640x1024 .f32 => M.squeeze S640x1024 squeezes_S1x640x1024_S640x1024) (Memref.slice_unit_congr _ (off5_eq t) _ _ (fun _ => rfl) (fun _ => rfl))

@[sl_canon] theorem cell_here (t : Fin grid0.N) (h : k0_cond4 (grid0.coords t) = 1#1) :
    (cc0_scratch1.slice (Rect.unit (s := S2) (k0_off4 (grid0.coords t)) S1.size (k0_off4_inb (grid0.coords t) h))).squeeze S_ squeezes_S1_S_ = cellA0_0 (Ring.sl 2 t.val) :=
  congrArg (fun A : DmaSems sig S1 => A.squeeze S_ squeezes_S1_S_) (SemArray.slice_unit_congr _ (off4_eq t) _ _)

@[sl_canon] theorem src_here (t : Fin grid0.N) (h : k0_cond4 (grid0.coords t) = 1#1) :
    hbM0_0.slice (Rect.unit (s := S8192x1024) (k0_off6 (grid0.coords t)) S640x1024.size (k0_off6_inb (grid0.coords t) h)) (fun _ => rfl) = srcB0_0 (Ring.bk 13 t.val) :=
  congrArg (fun M : Memref sig .tc .hbm S640x1024 .f32 => M) (Memref.slice_unit_congr _ (off6_eq t h) _ _ (fun _ => rfl) (fun _ => rfl))

/-- The load of a tile, by the tile's own offset. -/
instance (priority := high) closedOff7 (t : Fin grid0.N) : ClosedOff (k0_off7 (grid0.coords t)) := ⟨![(Ring.sl 2 t.val).val, 0, 0], off7_eq t⟩

end Names

/-! ### The first point's copy -/

/-- The rows of tile 0 that the first point's copy fills. -/
abbrev lowM : Memref sig .tc .vmem S512x1024 .f32 :=
  (scM0_0.slice (Rect.unit (s := S2x640x1024) ![0, 128, 0] S1x512x1024.size inb_S2x640x1024_S1x512x1024_0_128_0) (fun _ => rfl)).squeeze S512x1024 squeezes_S1x512x1024_S512x1024

/-- What the first point's copy reads. -/
abbrev headM : Memref sig .tc .hbm S512x1024 .f32 :=
  hbM0_0.slice (Rect.unit (s := S8192x1024) ![0, 0] S512x1024.size inb_S8192x1024_S512x1024_0_0) (fun _ => rfl)

theorem low_set : lowM.view.set = (Rect.unit (s := S2x640x1024) ![0, 128, 0] S1x512x1024.size inb_S2x640x1024_S1x512x1024_0_128_0).set := by
  simp only [Memref.view_squeeze, View.set_reshape]; exact View.set_slice_whole _ _

theorem low_sub : (lowM.view.set : Finset S2x640x1024.Idx) ⊆ (rslot0_0 0).view.set := by
  intro i hi
  rw [slotSet0_0_eq, Rect.mem_set_unit]
  rw [low_set, Rect.mem_set_unit] at hi
  intro a
  have h := hi a
  fin_cases a <;> simp at h ⊢ <;> omega

/-- The rest of tile 0: its first 128 rows. -/
abbrev S1x128x1024 : Shape := ⟨3, ![1, 128, 1024]⟩

theorem inb_top : ∀ a, (![0, 0, 0] : Fin 3 → Nat) a + S1x128x1024.size a ≤ S2x640x1024.size a := by decide

abbrev topM : Memref sig .tc .vmem S1x128x1024 .f32 :=
  scM0_0.slice (Rect.unit (s := S2x640x1024) ![0, 0, 0] S1x128x1024.size inb_top) (fun _ => rfl)

theorem top_set : topM.view.set = (Rect.unit (s := S2x640x1024) ![0, 0, 0] S1x128x1024.size inb_top).set := View.set_slice_whole _ _

theorem top_rect : slotSet0_0 0 \ (Rect.unit (s := S2x640x1024) ![0, 128, 0] S1x512x1024.size inb_S2x640x1024_S1x512x1024_0_128_0).set
    = (Rect.unit (s := S2x640x1024) ![0, 0, 0] S1x128x1024.size inb_top).set := by
  ext i
  rw [Finset.mem_sdiff, Rect.mem_set_unit, Rect.mem_set_unit, Rect.mem_set_unit]
  have h1 : (i 1).val < 640 := (i 1).isLt
  have h2 : (i 2).val < 1024 := (i 2).isLt
  constructor
  · rintro ⟨ha, hb⟩ a
    have h0 := ha 0
    have hl : (i 1).val < 128 := by
      by_contra hx
      refine hb fun a => ?_
      fin_cases a <;> simp at h0 ⊢ <;> omega
    fin_cases a <;> simp at h0 ⊢ <;> omega
  · intro h
    have h0 := h 0
    have h1' := h 1
    simp at h0 h1'
    refine ⟨fun a => ?_, fun hb => ?_⟩
    · fin_cases a <;> simp <;> omega
    · have := hb 1
      simp at this
      omega

theorem top_eq : (fun A B : Finset S2x640x1024.Idx => A \ B) (rslot0_0 0).view.set lowM.view.set = topM.view.set :=
  (congrArg₂ (fun A B : Finset S2x640x1024.Idx => A \ B) (slotSet0_0_eq 0) low_set).trans (top_rect.trans top_set.symm)

section
variable (c : Dev nD) (W : HbBuf0 (F := F) c hbM0_0)

/-- The part of tile 0 that the first point's copy fills, -/
abbrev lowP (e : Buf (Elt F) (lowM.view.loc (c : Thread nD τ))) : sProp 𝕄 := lowM.view.loc (c : Thread nD τ) ↦[lowM.view.set]{fullShare} e

/-- and the rest. -/
abbrev topP (e : Buf (Elt F) (topM.view.loc (c : Thread nD τ))) : sProp 𝕄 := topM.view.loc (c : Thread nD τ) ↦[topM.view.set]{fullShare} e

/-- What the first point's copy reads, -/
abbrev headP : sProp 𝕄 := headM.view.loc (c : Thread nD τ) ↦[headM.view.set]{qs0_0 0} W

/-- and the rest of the operand. -/
def headR : sProp 𝕄 := ((c : Thread nD τ).loc main_arg0) ↦[Finset.univ \ headM.view.set]{qs0_0 0} W

theorem head_split : wholeP0_0 (F := F) c W 0 ⊣⊢ iprop(headP c W ∗ headR c W) := by
  unfold headR; exact pointsTo_split_subset (Finset.subset_univ _)

theorem tile0_split (e : Buf (Elt F) ((rslot0_0 0).view.loc (c : Thread nD τ))) : slotP0_0 (F := F) c 0 e ⊢ iprop(lowP c e ∗ topP c e) := by
  unfold topP; rw [← show _ = topM.view.set from top_eq]; exact (pointsTo_split_subset low_sub).1

theorem tile0_join (e e' : Buf (Elt F) (lowM.view.loc (c : Thread nD τ))) :
    iprop(lowP (F := F) c e ∗ topP c e') ⊢ slotP0_0 c 0 (lowM.view.set.piecewise e e') := by
  unfold topP; rw [← show _ = topM.view.set from top_eq]; exact pointsTo_join_subset low_sub
end

end Cert.Kernel6Ideal.Up

end
-- ==== Proof.Up.Vals.lean ====
/-
  The input projection's forward call: what the body leaves in its results, as functions of the rows it finds.
-/
module

public import proofs.«01_k».proof.Proof.Up.Setup
public import Idealize.ShloMosaic.Lib.VecWindow
public import Idealize.ShloMosaic.Lib.ViewIndex
public import Idealize.ShloMosaic.Lib.ValueLayout

@[expose] public section

set_option maxRecDepth 16384

noncomputable section

namespace Cert.Kernel6Ideal.Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-- A block of rows, as a tile of one. -/
abbrev tileV (h : Vec F S640x1024 .f32) : Vec F S1x640x1024 .f32 := shapeCast S1x640x1024 h (by decide)

/-- The number added to the mean square. -/
abbrev eps : F .f32 := Scalar.ofBits .f32 0x3727C5AC#32

/-- The first projection of the rows, -/
def qF (h : Vec F S640x1024 .f32) (g : Vec F S1x1024 .f32) (w : Vec F S1792x1024 .bf16) : Vec F S640x512 .bf16 :=
  k0_pay2 h (k0_pay9 (tileV h)) eps g (fun y => w ((Rect.unit (s := S1792x1024) ![0, 0] S512x1024.size inb_S1792x1024_S512x1024_0_0).emb y))

/-- the second, -/
def kvF (h : Vec F S640x1024 .f32) (g : Vec F S1x1024 .f32) (w : Vec F S1792x1024 .bf16) : Vec F S640x256 .bf16 :=
  k0_pay3 h (k0_pay9 (tileV h)) eps g (fun y => w ((Rect.unit (s := S1792x1024) ![512, 0] S256x1024.size inb_S1792x1024_S256x1024_512_0).emb y))

/-- the third, -/
def caF (h : Vec F S640x1024 .f32) (g : Vec F S1x1024 .f32) (w : Vec F S1792x1024 .bf16) : Vec F S640x512 .f32 :=
  k0_pay4 h (k0_pay9 (tileV h)) eps g (fun y => w ((Rect.unit (s := S1792x1024) ![768, 0] S512x1024.size inb_S1792x1024_S512x1024_768_0).emb y))

/-- and the fourth. -/
def cgF (h : Vec F S640x1024 .f32) (g : Vec F S1x1024 .f32) (w : Vec F S1792x1024 .bf16) : Vec F S640x512 .f32 :=
  k0_pay5 h (k0_pay9 (tileV h)) eps g (fun y => w ((Rect.unit (s := S1792x1024) ![1280, 0] S512x1024.size inb_S1792x1024_S512x1024_1280_0).emb y))

/-- A tile of one, as a block again. -/
theorem pay8_tile (h : Vec F S640x1024 .f32) : k0_pay8 (tileV h) = h := by
  funext y
  show h (Shape.reshapeEquiv _ (Shape.reshapeEquiv _ y)) = _
  rw [Shape.reshapeEquiv_reshapeEquiv, Shape.reshapeEquiv_self]

/-- A whole buffer's contents, read with a window of the buffer's own sizes, -/
theorem ra_full {sp : Space} {s : Shape} {e : EltTy} {M : Memref sig .tc sp s e} (h : M.IsWhole) (X : Vec F s e) {off : Fin s.rank → ℕ} (inb : ∀ a, off a + s.size a ≤ s.size a) :
    M.view.readAt (Elt F) (Rect.unit off s.size inb).toLoadRect (h.unread X) = X := by
  rw [View.readAt_full, h.read_unread]

/-- and with any window. -/
theorem ra_sub {sp : Space} {s : Shape} {e : EltTy} {M : Memref sig .tc sp s e} (h : M.IsWhole) (X : Vec F s e) (r : Rect s) :
    M.view.readAt (Elt F) r.toLoadRect (h.unread X) = fun y => X (r.emb y) := by
  rw [View.readAt_rect]
  funext y
  exact congrFun (h.read_unread X) (r.emb y)

theorem read_store {sp : Space} {s : Shape} {e : EltTy} (v : View sig .tc sp s e) (f : v.ty.Contents (Elt F)) {off : Fin s.rank → ℕ} (inb : ∀ a, off a + s.size a ≤ s.size a) (w : Vec F s e) (L : List (View.Piece (Elt F) s e)) :
    v.read (Elt F) (v.writes (Elt F) f (⟨Rect.unit off s.size inb, w⟩ :: L)) = w := View.read_writes_full v f inb w L

/-- What a load of a tile reads is what the tile holds. -/
theorem slot_read (s : Fin 2) {off : Fin 3 → ℕ} (ho : off = ![s.val, 0, 0]) (inb : ∀ a, off a + S1x640x1024.size a ≤ S2x640x1024.size a) (f : scM0_0.view.ty.Contents (Elt F)) :
    scM0_0.view.readAt (Elt F) (Rect.unit (s := S2x640x1024) off S1x640x1024.size inb).toLoadRect f = tileV ((rslot0_0 s).view.read (Elt F) f) := by
  subst ho
  rw [View.readAt_rect]
  funext y
  refine congrArg f (?_ : (scM0_0.view.slice (Rect.unit (s := S2x640x1024) ![s.val, 0, 0] S1x640x1024.size inb)).emb y = (rslot0_0 s).view.emb (Shape.reshapeEquiv _ y))
  show _ = (Rect.unit (s := S2x640x1024) ![s.val, 0, 0] S1x640x1024.size _).emb (Shape.reshapeEquiv _ (Shape.reshapeEquiv _ y))
  rw [Shape.reshapeEquiv_reshapeEquiv, Shape.reshapeEquiv_self]
  rfl

/-- The first block of rows: zero rows, the sixteen rows given apart, and the first of the streamed rows. -/
def headX (x0 : Vec F S16x1024 .f32) (y : Vec F S512x1024 .f32) : Vec F S640x1024 .f32 := fun j =>
  if h : (j 0).val < 112 then Scalar.ofBits .f32 0x00000000#32
  else if h' : (j 0).val < 128 then x0 (ix2 ⟨(j 0).val - 112, by omega⟩ (j 1))
  else y (ix2 ⟨(j 0).val - 128, by have := (j 0).isLt; simp at this; omega⟩ (j 1))

/-- The first tile after its first 128 rows are written. -/
def topW (x0 : Vec F S16x1024 .f32) (e : scM0_0.view.ty.Contents (Elt F)) : scM0_0.view.ty.Contents (Elt F) :=
  View.write (Elt F) (scM0_0.access (Rect.unit (s := S2x640x1024) ![0, 112, 0] S1x16x1024.size inb_S2x640x1024_S1x16x1024_0_112_0))
    (View.write (Elt F) (scM0_0.access (Rect.unit (s := S2x640x1024) ![0, 0, 0] S1x112x1024.size inb_S2x640x1024_S1x112x1024_0_0_0)) e (k0_pay6 (F := F)) Finset.univ)
    (k0_pay7 x0) Finset.univ

/-- Row `a` of the part of tile 0 from row `o` on is the tile's row `a + o`. -/
theorem tile0_emb {n : ℕ} (o : ℕ) (inb : ∀ a, (![0, o, 0] : Fin 3 → ℕ) a + (![1, n, 1024] : Fin 3 → ℕ) a ≤ S2x640x1024.size a)
    (inb' : ∀ a, (![0, 0, 0] : Fin 3 → ℕ) a + S1x640x1024.size a ≤ S2x640x1024.size a) (a : Fin n) (b : Fin 1024) (r : Fin 640) (h : r.val = a.val + o) (z z' : Fin 1) :
    (Rect.unit (s := S2x640x1024) ![0, 0, 0] S1x640x1024.size inb').emb (ix3 z' r b) = (Rect.unit (s := S2x640x1024) ![0, o, 0] ![1, n, 1024] inb).emb (ix3 z a b) := by
  obtain rfl := Subsingleton.elim z z'
  funext i
  match i with
  | ⟨0, _⟩ => rfl
  | ⟨1, _⟩ => exact Fin.ext (by show 0 + 1 * r.val = o + 1 * a.val; omega)
  | ⟨2, _⟩ => rfl

theorem slot0_emb (r : Fin 640) (b : Fin 1024) :
    (rslot0_0 0).view.emb (ix2 r b) = (Rect.unit (s := S2x640x1024) ![0, 0, 0] S1x640x1024.size (inb_slot0_0 0)).emb (ix3 (0 : Fin 1) r b) := by
  show (Rect.unit (s := S2x640x1024) ![0, 0, 0] S1x640x1024.size (inb_slot0_0 0)).emb (Shape.reshapeEquiv _ (ix2 r b)) = _
  rw [reshapeEquiv_ix2_1ab]
  rfl

theorem low_emb (r : Fin 512) (b : Fin 1024) :
    lowM.view.emb (ix2 r b) = (Rect.unit (s := S2x640x1024) ![0, 128, 0] S1x512x1024.size inb_S2x640x1024_S1x512x1024_0_128_0).emb (ix3 (0 : Fin 1) r b) := by
  show (Rect.unit (s := S2x640x1024) ![0, 128, 0] S1x512x1024.size inb_S2x640x1024_S1x512x1024_0_128_0).emb (Shape.reshapeEquiv _ (ix2 r b)) = _
  rw [reshapeEquiv_ix2_1ab]
  rfl

theorem first_at (x0 : Vec F S16x1024 .f32) (y : Vec F S512x1024 .f32) (e : scM0_0.view.ty.Contents (Elt F)) (A : S2x640x1024.Idx → Elt F .f32)
    (hA : ∀ r b, A ((Rect.unit (s := S2x640x1024) ![0, 128, 0] S1x512x1024.size inb_S2x640x1024_S1x512x1024_0_128_0).emb (ix3 (0 : Fin 1) r b)) = y (ix2 r b)) (r : Fin 640) (b : Fin 1024) :
    (Rect.unit (s := S2x640x1024) ![0, 128, 0] S1x512x1024.size inb_S2x640x1024_S1x512x1024_0_128_0).set.piecewise A (topW x0 e)
      ((Rect.unit (s := S2x640x1024) ![0, 0, 0] S1x640x1024.size (inb_slot0_0 0)).emb (ix3 (0 : Fin 1) r b)) = headX x0 y (ix2 r b) := by
  unfold headX
  by_cases h' : r.val < 128
  · rw [Finset.piecewise_eq_of_notMem _ _ _ (by
      rw [Rect.mem_set_unit]
      intro h
      have h1 := (h 1).1
      have h2 : 128 ≤ 0 + 1 * r.val := h1
      omega)]
    unfold topW
    by_cases h : r.val < 112
    · rw [dif_pos (by exact h)]
      refine (View.write_of_not_mem (v := scM0_0.access (Rect.unit (s := S2x640x1024) ![0, 112, 0] S1x16x1024.size inb_S2x640x1024_S1x16x1024_0_112_0)) _ _ _ (fun hi => ?_)).trans ?_
      · rw [View.setOn_univ, show (scM0_0.access (Rect.unit (s := S2x640x1024) ![0, 112, 0] S1x16x1024.size inb_S2x640x1024_S1x16x1024_0_112_0)).set = (Rect.unit (s := S2x640x1024) ![0, 112, 0] S1x16x1024.size inb_S2x640x1024_S1x16x1024_0_112_0).set from View.set_slice_whole _ _, Rect.mem_set_unit] at hi
        have h1 := (hi 1).1
        have h2 : 112 ≤ 0 + 1 * r.val := h1
        omega
      · refine (congrArg _ (tile0_emb 0 inb_S2x640x1024_S1x112x1024_0_0_0 (inb_slot0_0 0) (⟨r.val, h⟩ : Fin 112) b r rfl 0 0)).trans ?_
        exact View.write_emb_of_mem (v := scM0_0.access (Rect.unit (s := S2x640x1024) ![0, 0, 0] S1x112x1024.size inb_S2x640x1024_S1x112x1024_0_0_0)) _ _ (Finset.mem_univ _)
    · rw [dif_neg (by exact h), dif_pos (by exact h')]
      refine (congrArg _ (tile0_emb 112 inb_S2x640x1024_S1x16x1024_0_112_0 (inb_slot0_0 0) (⟨r.val - 112, by omega⟩ : Fin 16) b r (by show r.val = r.val - 112 + 112; omega) 0 0)).trans ?_
      refine (View.write_emb_of_mem (v := scM0_0.access (Rect.unit (s := S2x640x1024) ![0, 112, 0] S1x16x1024.size inb_S2x640x1024_S1x16x1024_0_112_0)) _ _ (Finset.mem_univ _)).trans ?_
      show x0 (Shape.reshapeEquiv _ (ix3 (0 : Fin 1) (⟨r.val - 112, _⟩ : Fin 16) b)) = _
      rw [show (ix3 (0 : Fin 1) (⟨r.val - 112, by omega⟩ : Fin 16) b : S1x16x1024.Idx) = Shape.reshapeEquiv (s := S1x16x1024) (s' := S16x1024) (by decide) (ix2 (⟨r.val - 112, by omega⟩ : Fin 16) b) from (reshapeEquiv_ix2_1ab (a := 16) (b := 1024) (by decide) _ b).symm, Shape.reshapeEquiv_reshapeEquiv, Shape.reshapeEquiv_self]
  · have hr := r.isLt
    rw [dif_neg (by show ¬ r.val < 112; omega), dif_neg (by exact h')]
    rw [tile0_emb 128 inb_S2x640x1024_S1x512x1024_0_128_0 (inb_slot0_0 0) (⟨r.val - 128, by omega⟩ : Fin 512) b r (by show r.val = r.val - 128 + 128; omega) 0 0]
    refine (Finset.piecewise_eq_of_mem _ _ _ ?_).trans (hA _ b)
    rw [Rect.mem_set_unit]
    intro a
    match a with
    | ⟨0, _⟩ => exact ⟨Nat.le_refl 0, Nat.one_pos⟩
    | ⟨1, _⟩ => exact ⟨by show 128 ≤ 128 + 1 * (r.val - 128); omega, by show 128 + 1 * (r.val - 128) < 128 + 512; omega⟩
    | ⟨2, _⟩ => exact ⟨Nat.zero_le _, by have := b.isLt; show 0 + 1 * b.val < 0 + 1024; omega⟩

theorem low_free (A : S2x640x1024.Idx → Elt F .f32) (x : S512x1024.Idx) : lowM.view.read (Elt F) A x = A (lowM.view.emb x) := rfl

/-- The first tile, once its first rows are written and the copy has filled the others, holds the first block of rows. -/
theorem first_read (x0 : Vec F S16x1024 .f32) (y : Vec F S512x1024 .f32) (e e' : scM0_0.view.ty.Contents (Elt F)) :
    (rslot0_0 0).view.read (Elt F) ((lowM.view.set : Finset S2x640x1024.Idx).piecewise (lowM.view.writes (Elt F) e' [⟨Rect.whole S512x1024, y⟩]) (topW x0 e)) = headX x0 y := by
  have hA : ∀ r b, (lowM.view.writes (Elt F) e' [⟨Rect.whole S512x1024, y⟩] : S2x640x1024.Idx → Elt F .f32)
      ((Rect.unit (s := S2x640x1024) ![0, 128, 0] S1x512x1024.size inb_S2x640x1024_S1x512x1024_0_128_0).emb (ix3 (0 : Fin 1) r b)) = y (ix2 r b) := fun r b => by
    rw [← low_emb]
    exact (low_free _ _).symm.trans (congrFun (View.read_writes_whole lowM.view e' y) (ix2 r b))
  generalize (lowM.view.writes (Elt F) e' [⟨Rect.whole S512x1024, y⟩]) = A at hA ⊢
  funext j
  obtain ⟨r, b, rfl⟩ : ∃ a b, j = ix2 a b := ⟨j 0, j 1, by funext i; fin_cases i <;> rfl⟩
  exact (congrArg₂ (fun (S : Finset S2x640x1024.Idx) (i : S2x640x1024.Idx) => S.piecewise (A : S2x640x1024.Idx → Elt F .f32) (topW x0 e) i) low_set (slot0_emb r b)).trans (first_at x0 y e A hA r b)

end Cert.Kernel6Ideal.Up

end
-- ==== Proof.Up.RunB.lean ====
/-
  The input projection's forward body at a point after the first and before the last.
-/
module

public import proofs.«01_k».proof.Proof.Up.Vals

@[expose] public section

set_option maxRecDepth 16384

noncomputable section

namespace Cert.Kernel6Ideal.Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runB (c : Dev nD) (t : Fin cfg0.N) (arg2 : Memref sig .tc .vmem S16x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S640x1024 .f32) (harg5 : arg5.IsWhole) (arg6 : Memref sig .tc .vmem S640x512 .bf16) (harg6 : arg6.IsWhole) (arg7 : Memref sig .tc .vmem S640x256 .bf16) (harg7 : arg7.IsWhole) (arg8 : Memref sig .tc .vmem S640x512 .f32) (harg8 : arg8.IsWhole) (arg9 : Memref sig .tc .vmem S640x512 .f32) (harg9 : arg9.IsWhole) (hc0 : ¬isFirst (grid0.coords t)) (hc1 : isMore (grid0.coords t))
    (x0 : Vec F S16x1024 .f32) (x1 : Vec F S1x1024 .f32) (x2 : Vec F S1792x1024 .bf16) (W : HbBuf0 (F := F) c hbM0_0) (O : Waits sig Unit) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ Ring.inflight (flightW0_0 c W) (Ring.sl 2 t.val) (Ring.bk 13 t.val) ∗ Ring.kept (cellP0_0 c) (slotW0_0 c W) (fun _ _ f => f) (Ring.sl 2 (t.val + 1)) (Ring.bk 13 (t.val - 1)) ∗ owes (c : Thread nD τ) 0 O
        ∗ (iprop(owns (c : Thread nD τ) arg2 fullShare x0 ∗ owns (c : Thread nD τ) arg3 fullShare x1 ∗ owns (c : Thread nD τ) arg4 fullShare x2 ∗ owns (c : Thread nD τ) arg5 fullShare ((srcB0_0 (Ring.bk 13 t.val)).view.read (Elt F) W) ∗ owns (c : Thread nD τ) arg6 fullShare (qF ((srcB0_0 (Ring.bk 13 t.val)).view.read (Elt F) W) x1 x2) ∗ owns (c : Thread nD τ) arg7 fullShare (kvF ((srcB0_0 (Ring.bk 13 t.val)).view.read (Elt F) W) x1 x2) ∗ owns (c : Thread nD τ) arg8 fullShare (caF ((srcB0_0 (Ring.bk 13 t.val)).view.read (Elt F) W) x1 x2) ∗ owns (c : Thread nD τ) arg9 fullShare (cgF ((srcB0_0 (Ring.bk 13 t.val)).view.read (Elt F) W) x1 x2)
            ∗ Ring.inflight (flightW0_0 c W) (Ring.sl 2 (t.val + 1)) (Ring.bk 13 (t.val + 1)) ∗ Ring.kept (cellP0_0 c) (slotW0_0 c W) (fun _ _ f => f) (Ring.sl 2 t.val) (Ring.bk 13 t.val) ∗ (∃ O', owes (c : Thread nD τ) 0 O')) -∗ K ⟨⟩))
      ⊢ wp frame (wpE (defs₀ (F := F)) Variants.none c none) Set.univ (cc0_inproj_fwd (grid0.coords t) (Memref.whole main_arg0) (Memref.isWhole_whole _) arg2 harg2 arg3 harg3 arg4 harg4 arg5 harg5 arg6 harg6 arg7 harg7 arg8 harg8 arg9 harg9 scM0_0 (Memref.isWhole_whole _) cc0_scratch1) K := by
    have hc3 : k0_cond4 (grid0.coords t) = 1#1 := (cond4_iff t).mpr (Nat.pos_of_ne_zero fun h => hc0 ((isFirst_iff t).mpr h))

    simp only [cc0_inproj_fwd_eq_skeleton]; unfold cc0_inproj_fwd_skel
    simp only [k0_part1_eq_skeleton]
    unfold owns Ring.inflight Ring.kept
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ff, Hf, Hrf⟩, ⟨Hc1, ⟨%fs1, Hs1, Hw1⟩⟩, HW, Hk⟩
    obtain rfl := harg2.eq_unread hf0; obtain rfl := harg3.eq_unread hf1; obtain rfl := harg4.eq_unread hf2
    ihave Hsp := (src0_0_split c W (Ring.sl 2 (t.val + 1)) (Ring.bk 13 (t.val + 1))).1 $$ Hw1
    icases Hsp with ⟨Hh1, Hr1⟩
    sl_exec (disch := first | sl_exact hc0 | sl_exact hc1 | sl_exact hc3)
    have ev : runB.sl.v24 c t W = tileV ((srcB0_0 (Ring.bk 13 t.val)).view.read (Elt F) W) := by
      unfold runB.sl.v24
      refine (slot_read _ (off7_eq t) _ _).trans ?_
      rw [View.read_writes_whole]
    have er : runB.sl.r c t W = (srcB0_0 (Ring.bk 13 t.val)).view.read (Elt F) W := by unfold runB.sl.r; rw [ev]; exact pay8_tile _
    have e1 : runB.sl.r_1 c t W = k0_pay9 (tileV ((srcB0_0 (Ring.bk 13 t.val)).view.read (Elt F) W)) := by unfold runB.sl.r_1; rw [ev]
    sl_step
    iapply Hk
    isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact (read_store _ _ _ _ _).trans (by rw [ev]; exact pay8_tile _)
    isplitl [H4]; · iexists _; isplitr; swap; (· iexact H4); ipureintro; refine (read_store _ _ _ _ _).trans ?_; rw [er, e1, ra_full, ra_sub]; rfl
    isplitl [H5]; · iexists _; isplitr; swap; (· iexact H5); ipureintro; refine (read_store _ _ _ _ _).trans ?_; rw [er, e1, ra_full, ra_sub]; rfl
    isplitl [H6]; · iexists _; isplitr; swap; (· iexact H6); ipureintro; refine (read_store _ _ _ _ _).trans ?_; rw [er, e1, ra_full, ra_sub]; rfl
    isplitl [H7]; · iexists _; isplitr; swap; (· iexact H7); ipureintro; refine (read_store _ _ _ _ _).trans ?_; rw [er, e1, ra_full, ra_sub]; rfl
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (src0_0_split c W (Ring.sl 2 t.val) (Ring.bk 13 t.val)).2; isplitl [Hf_src]; · iexact Hf_src
      iexact Hrf
    iexists _; iexact HW

end Cert.Kernel6Ideal.Up

end
-- ==== Proof.Up.RunC.lean ====
/-
  The input projection's forward body at the last point.
-/
module

public import proofs.«01_k».proof.Proof.Up.RunB

@[expose] public section

set_option maxRecDepth 16384

noncomputable section

namespace Cert.Kernel6Ideal.Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runC (c : Dev nD) (t : Fin cfg0.N) (arg2 : Memref sig .tc .vmem S16x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S640x1024 .f32) (harg5 : arg5.IsWhole) (arg6 : Memref sig .tc .vmem S640x512 .bf16) (harg6 : arg6.IsWhole) (arg7 : Memref sig .tc .vmem S640x256 .bf16) (harg7 : arg7.IsWhole) (arg8 : Memref sig .tc .vmem S640x512 .f32) (harg8 : arg8.IsWhole) (arg9 : Memref sig .tc .vmem S640x512 .f32) (harg9 : arg9.IsWhole) (hc0 : ¬isFirst (grid0.coords t)) (hc1 : ¬isMore (grid0.coords t))
    (x0 : Vec F S16x1024 .f32) (x1 : Vec F S1x1024 .f32) (x2 : Vec F S1792x1024 .bf16) (W : HbBuf0 (F := F) c hbM0_0) (O : Waits sig Unit) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ Ring.inflight (flightW0_0 c W) (Ring.sl 2 t.val) (Ring.bk 13 t.val) ∗ owes (c : Thread nD τ) 0 O
        ∗ (iprop(owns (c : Thread nD τ) arg2 fullShare x0 ∗ owns (c : Thread nD τ) arg3 fullShare x1 ∗ owns (c : Thread nD τ) arg4 fullShare x2 ∗ owns (c : Thread nD τ) arg5 fullShare ((srcB0_0 (Ring.bk 13 t.val)).view.read (Elt F) W) ∗ owns (c : Thread nD τ) arg6 fullShare (qF ((srcB0_0 (Ring.bk 13 t.val)).view.read (Elt F) W) x1 x2) ∗ owns (c : Thread nD τ) arg7 fullShare (kvF ((srcB0_0 (Ring.bk 13 t.val)).view.read (Elt F) W) x1 x2) ∗ owns (c : Thread nD τ) arg8 fullShare (caF ((srcB0_0 (Ring.bk 13 t.val)).view.read (Elt F) W) x1 x2) ∗ owns (c : Thread nD τ) arg9 fullShare (cgF ((srcB0_0 (Ring.bk 13 t.val)).view.read (Elt F) W) x1 x2)
            ∗ Ring.kept (cellP0_0 c) (slotW0_0 c W) (fun _ _ f => f) (Ring.sl 2 t.val) (Ring.bk 13 t.val) ∗ (∃ O', owes (c : Thread nD τ) 0 O')) -∗ K ⟨⟩))
      ⊢ wp frame (wpE (defs₀ (F := F)) Variants.none c none) Set.univ (cc0_inproj_fwd (grid0.coords t) (Memref.whole main_arg0) (Memref.isWhole_whole _) arg2 harg2 arg3 harg3 arg4 harg4 arg5 harg5 arg6 harg6 arg7 harg7 arg8 harg8 arg9 harg9 scM0_0 (Memref.isWhole_whole _) cc0_scratch1) K := by
    have hc3 : k0_cond4 (grid0.coords t) = 1#1 := (cond4_iff t).mpr (Nat.pos_of_ne_zero fun h => hc0 ((isFirst_iff t).mpr h))

    simp only [cc0_inproj_fwd_eq_skeleton]; unfold cc0_inproj_fwd_skel
    simp only [k0_part1_eq_skeleton]
    unfold owns Ring.inflight Ring.kept
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ff, Hf, Hrf⟩, HW, Hk⟩
    obtain rfl := harg2.eq_unread hf0; obtain rfl := harg3.eq_unread hf1; obtain rfl := harg4.eq_unread hf2
    sl_exec (disch := first | sl_exact hc0 | sl_exact hc1 | sl_exact hc3)
    have ev : runC.sl.v24 c t W = tileV ((srcB0_0 (Ring.bk 13 t.val)).view.read (Elt F) W) := by
      unfold runC.sl.v24
      refine (slot_read _ (off7_eq t) _ _).trans ?_
      rw [View.read_writes_whole]
    have er : runC.sl.r c t W = (srcB0_0 (Ring.bk 13 t.val)).view.read (Elt F) W := by unfold runC.sl.r; rw [ev]; exact pay8_tile _
    have e1 : runC.sl.r_1 c t W = k0_pay9 (tileV ((srcB0_0 (Ring.bk 13 t.val)).view.read (Elt F) W)) := by unfold runC.sl.r_1; rw [ev]
    sl_step
    iapply Hk
    isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact (read_store _ _ _ _ _).trans (by rw [ev]; exact pay8_tile _)
    isplitl [H4]; · iexists _; isplitr; swap; (· iexact H4); ipureintro; refine (read_store _ _ _ _ _).trans ?_; rw [er, e1, ra_full, ra_sub]; rfl
    isplitl [H5]; · iexists _; isplitr; swap; (· iexact H5); ipureintro; refine (read_store _ _ _ _ _).trans ?_; rw [er, e1, ra_full, ra_sub]; rfl
    isplitl [H6]; · iexists _; isplitr; swap; (· iexact H6); ipureintro; refine (read_store _ _ _ _ _).trans ?_; rw [er, e1, ra_full, ra_sub]; rfl
    isplitl [H7]; · iexists _; isplitr; swap; (· iexact H7); ipureintro; refine (read_store _ _ _ _ _).trans ?_; rw [er, e1, ra_full, ra_sub]; rfl
    isplitl [Hf Hf_dst Hf_src Hrf]
    · isplitl [Hf]; · iexact Hf
      iexists _; isplitl [Hf_dst]; · iexact Hf_dst
      iapply (src0_0_split c W (Ring.sl 2 t.val) (Ring.bk 13 t.val)).2; isplitl [Hf_src]; · iexact Hf_src
      iexact Hrf
    iexists _; iexact HW

end Cert.Kernel6Ideal.Up

end
-- ==== Proof.Up.RunA.lean ====
/-
  The input projection's forward body at the first point.
-/
module

public import proofs.«01_k».proof.Proof.Up.RunC

@[expose] public section

set_option maxRecDepth 16384

noncomputable section

namespace Cert.Kernel6Ideal.Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem runA (c : Dev nD) (arg2 : Memref sig .tc .vmem S16x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S640x1024 .f32) (harg5 : arg5.IsWhole) (arg6 : Memref sig .tc .vmem S640x512 .bf16) (harg6 : arg6.IsWhole) (arg7 : Memref sig .tc .vmem S640x256 .bf16) (harg7 : arg7.IsWhole) (arg8 : Memref sig .tc .vmem S640x512 .f32) (harg8 : arg8.IsWhole) (arg9 : Memref sig .tc .vmem S640x512 .f32) (harg9 : arg9.IsWhole)
    (x0 : Vec F S16x1024 .f32) (x1 : Vec F S1x1024 .f32) (x2 : Vec F S1792x1024 .bf16) (W : HbBuf0 (F := F) c hbM0_0) (O : Waits sig Unit) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ cellP0_0 (F := F) c 0 ∗ (∃ f, slotP0_0 (F := F) c 0 f) ∗ wholeP0_0 c W 0 ∗ (cellP0_0 c (Ring.sl 2 (t0_0.val + 1)) ∗ ∃ f, slotW0_0 c W (Ring.sl 2 (t0_0.val + 1)) f) ∗ owes (c : Thread nD τ) 0 O
        ∗ (iprop(owns (c : Thread nD τ) arg2 fullShare x0 ∗ owns (c : Thread nD τ) arg3 fullShare x1 ∗ owns (c : Thread nD τ) arg4 fullShare x2 ∗ owns (c : Thread nD τ) arg5 fullShare (headX x0 (headM.view.read (Elt F) W)) ∗ owns (c : Thread nD τ) arg6 fullShare (qF (headX x0 (headM.view.read (Elt F) W)) x1 x2) ∗ owns (c : Thread nD τ) arg7 fullShare (kvF (headX x0 (headM.view.read (Elt F) W)) x1 x2) ∗ owns (c : Thread nD τ) arg8 fullShare (caF (headX x0 (headM.view.read (Elt F) W)) x1 x2) ∗ owns (c : Thread nD τ) arg9 fullShare (cgF (headX x0 (headM.view.read (Elt F) W)) x1 x2)
            ∗ Ring.inflight (flightW0_0 c W) (Ring.sl 2 (t0_0.val + 1)) (Ring.bk 13 (t0_0.val + 1)) ∗ (cellP0_0 (F := F) c 0 ∗ ∃ f, slotW0_0 c W 0 f) ∗ (∃ O', owes (c : Thread nD τ) 0 O')) -∗ K ⟨⟩))
      ⊢ wp frame (wpE (defs₀ (F := F)) Variants.none c none) Set.univ (cc0_inproj_fwd (grid0.coords t0_0) (Memref.whole main_arg0) (Memref.isWhole_whole _) arg2 harg2 arg3 harg3 arg4 harg4 arg5 harg5 arg6 harg6 arg7 harg7 arg8 harg8 arg9 harg9 scM0_0 (Memref.isWhole_whole _) cc0_scratch1) K := by
    have hc0 : isFirst (grid0.coords t0_0) := by decide +kernel
    have hc1 : isMore (grid0.coords t0_0) := by decide +kernel
    have hc3 : ¬ k0_cond4 (grid0.coords t0_0) = 1#1 := by decide +kernel
    have e7 : k0_off7 (grid0.coords t0_0) = ![0, 0, 0] := by decide +kernel
    haveI : ClosedOff (k0_off7 (grid0.coords t0_0)) := ⟨![0, 0, 0], e7⟩
    simp only [cc0_inproj_fwd_eq_skeleton]; unfold cc0_inproj_fwd_skel
    simp only [k0_part1_eq_skeleton]
    unfold owns Ring.inflight
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hc0, ⟨%fs0, Hs0⟩, Hw0, ⟨Hc1, ⟨%fs1, Hs1, Hw1⟩⟩, HW, Hk⟩
    obtain rfl := harg2.eq_unread hf0; obtain rfl := harg3.eq_unread hf1; obtain rfl := harg4.eq_unread hf2
    ihave Hsp := (src0_0_split c W (Ring.sl 2 (t0_0.val + 1)) (Ring.bk 13 (t0_0.val + 1))).1 $$ Hw1
    icases Hsp with ⟨Hh1, Hr1⟩
    ihave Ht := (tile0_split (F := F) c fs0) $$ Hs0
    icases Ht with ⟨Hlow, Htop⟩
    ihave Hh := (head_split c W).1 $$ Hw0
    icases Hh with ⟨Hhead, HhR⟩
    sl_exec (disch := first | sl_exact hc0 | sl_exact hc1 | sl_exact hc3)
    ihave Hs := (tile0_join (F := F) c _ (runA.sl.Htop_w2 c arg2 harg2 x0 fs0)) $$ [Hlow Htop]
    · isplitl [Hlow]; · iexact Hlow
      iexact Htop
    sl_exec (disch := first | sl_exact hc0 | sl_exact hc1 | sl_exact hc3)
    have ew : runA.sl.Htop_w2 c arg2 harg2 x0 fs0 = topW x0 fs0 := by
      unfold runA.sl.Htop_w2 runA.sl.Htop_w1; rw [ra_full]; rfl
    have ev : runA.sl.v24 c arg2 harg2 x0 W fs0 = tileV (headX x0 (headM.view.read (Elt F) W)) := by
      unfold runA.sl.v24
      refine (slot_read 0 e7 _ _).trans ?_
      rw [ew]
      exact congrArg tileV (first_read x0 _ _ _)
    have er : runA.sl.r c arg2 harg2 x0 W fs0 = (headX x0 (headM.view.read (Elt F) W)) := by unfold runA.sl.r; rw [ev]; exact pay8_tile _
    have e1 : runA.sl.r_1 c arg2 harg2 x0 W fs0 = k0_pay9 (tileV (headX x0 (headM.view.read (Elt F) W))) := by unfold runA.sl.r_1; rw [ev]
    sl_step
    iapply Hk
    isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact (read_store _ _ _ _ _).trans (by rw [ev]; exact pay8_tile _)
    isplitl [H4]; · iexists _; isplitr; swap; (· iexact H4); ipureintro; refine (read_store _ _ _ _ _).trans ?_; rw [er, e1, ra_full, ra_sub]; rfl
    isplitl [H5]; · iexists _; isplitr; swap; (· iexact H5); ipureintro; refine (read_store _ _ _ _ _).trans ?_; rw [er, e1, ra_full, ra_sub]; rfl
    isplitl [H6]; · iexists _; isplitr; swap; (· iexact H6); ipureintro; refine (read_store _ _ _ _ _).trans ?_; rw [er, e1, ra_full, ra_sub]; rfl
    isplitl [H7]; · iexists _; isplitr; swap; (· iexact H7); ipureintro; refine (read_store _ _ _ _ _).trans ?_; rw [er, e1, ra_full, ra_sub]; rfl
    isplitl [Hc1 Hr1]
    · iexists _; isplitl [Hc1]; · iexact Hc1
      iexact Hr1
    isplitl [Hc0 Hs Hhead HhR]
    · isplitl [Hc0]; · iexact Hc0
      iexists _; isplitl [Hs]; · iexact Hs
      iapply (head_split c W).2; isplitl [Hhead]; · iexact Hhead
      iexact HhR
    iexists _; iexact HW

end Cert.Kernel6Ideal.Up

end
-- ==== Proof.Up.Frame.lean ====
/-
  The input projection's forward call runs to its end from any memory and leaves its arguments as they were, and what its five
  results hold afterwards is a formula of the blocks at each grid point.
-/
module

public import proofs.«01_k».proof.Proof.Up.RunA
public import proofs.«01_k».proof.Proof.Up.RunB
public import proofs.«01_k».proof.Proof.Up.RunC
public import Idealize.ShloMosaic.Lib.Claim

@[expose] public section

set_option maxRecDepth 16384

noncomputable section

namespace Cert.Kernel6Ideal.Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tile of the stream at a point: at the first point the zeros, the memory rows and the first rows of the input; after that a
    block of the input's rows. -/
def hAt (c : Dev nD) (t : Fin cfg0.N) : Vec F S640x1024 .f32 :=
  if t.val = 0 then headX (iblk m c 0 t) (headM.view.read (Elt F) (V m c main_arg0))
  else (srcB0_0 (Ring.bk 13 t.val)).view.read (Elt F) (V m c main_arg0)

/-- What is held between two points: the generator register and the ring of read-ahead tiles. -/
def PhiR (c : Dev nD) (k : ℕ) : sProp 𝕄 := iprop((∃ r, prngReg c r) ∗ ringAt0_0 c (V m c main_arg0) k)

/-- What each window's buffer holds after a point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt m c t
    | ⟨4, _⟩ => qF (hAt m c t) (iblk m c 1 t) (iblk m c 2 t)
    | ⟨5, _⟩ => kvF (hAt m c t) (iblk m c 1 t) (iblk m c 2 t)
    | ⟨6, _⟩ => caF (hAt m c t) (iblk m c 1 t) (iblk m c 2 t)
    | ⟨7, _⟩ => cgF (hAt m c t) (iblk m c 1 t) (iblk m c 2 t)
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]

theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = hAt m c t := by dsimp only [dats]
theorem after0_4 (c : Dev nD) (t : Fin cfg0.N) : (dats m 0 c).after 4 t = qF (hAt m c t) (iblk m c 1 t) (iblk m c 2 t) := by dsimp only [dats]
theorem after0_5 (c : Dev nD) (t : Fin cfg0.N) : (dats m 0 c).after 5 t = kvF (hAt m c t) (iblk m c 1 t) (iblk m c 2 t) := by dsimp only [dats]
theorem after0_6 (c : Dev nD) (t : Fin cfg0.N) : (dats m 0 c).after 6 t = caF (hAt m c t) (iblk m c 1 t) (iblk m c 2 t) := by dsimp only [dats]
theorem after0_7 (c : Dev nD) (t : Fin cfg0.N) : (dats m 0 c).after 7 t = cgF (hAt m c t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem hAt_first (c : Dev nD) : hAt m c t0_0 = headX (iblk m c 0 t0_0) (headM.view.read (Elt F) (V m c main_arg0)) := if_pos rfl

theorem hAt_later (c : Dev nD) (t : Fin cfg0.N) (h : ¬t.val = 0) : hAt m c t = (srcB0_0 (Ring.bk 13 t.val)).view.read (Elt F) (V m c main_arg0) := if_neg h

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3, after0_4, after0_5, after0_6, after0_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 13 := N_0
  have hN : t.val < 13 := lt_of_lt_of_eq t.isLt (show cfg0.N = 13 from N_0)
  by_cases h0 : t.val = 0
  · obtain rfl : t = t0_0 := Fin.ext h0
    rw [hAt_first m c, if_pos h0, if_neg (show ¬(t0_0.val + 1 = 0) by omega)]
    rw [Ring.At₀_eq2' _ _ _ t0_0.val h0 (by decide : 2 ≤ 13), Ring.AtK2_one' _ _ _ _ _ t0_0.val h0 (by decide : 1 < 13)]
    iintro ⟨⟨Hg, ⟨-, Hfr0, Hfr1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (runA c _ _ _ _ _ _ _ _ _ _ _ _ _ _ _ _ (iblk m c 0 t0_0) (iblk m c 1 t0_0) (iblk m c 2 t0_0) (V m c main_arg0) W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    unfold Ring.free
    icases Hfr0 with ⟨Hc0, ⟨%f0, Hs0, Hw0⟩⟩
    isplitl [Hc0]; · iexact Hc0
    isplitl [Hs0]; · iexists f0; iexact Hs0
    isplitl [Hw0]; · iexact Hw0
    isplitl [Hfr1]; · iexact Hfr1
    isplitl [HW]; · iexact HW
    iintro ⟨H0, H1, H2, H3, H4, H5, H6, H7, Hfl, Hkp, ⟨%W', HW'⟩⟩
    isplitl [Hg Hfl Hkp]
    · isplitl [Hg]; · iexact Hg
      iapply Ring.with_homes₀
      isplitl [Hfl]; · iexact Hfl
      iexact Hkp
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val < 12
    · rw [hAt_later m c t h0, if_neg h0, if_neg (show ¬t.val + 1 = 0 by omega)]
      rw [Ring.AtK2_here _ _ _ _ _ t.val (show 1 ≤ t.val by omega) (show t.val + 1 < 13 by omega), Ring.AtK2_next _ _ _ _ _ t.val (show 1 ≤ t.val by omega) (show t.val + 1 < 13 by omega)]
      iintro ⟨⟨Hg, ⟨-, Hfl, Hkp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (runB c t _ _ _ _ _ _ _ _ _ _ _ _ _ _ _ _ (fun h => h0 ((isFirst_iff t).mp h)) ((isMore_iff t).mpr h1) (iblk m c 0 t) (iblk m c 1 t) (iblk m c 2 t) (V m c main_arg0) W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [Hfl]; · iexact Hfl
      isplitl [Hkp]; · iexact Hkp
      isplitl [HW]; · iexact HW
      iintro ⟨H0, H1, H2, H3, H4, H5, H6, H7, Hfl', Hkp', ⟨%W', HW'⟩⟩
      isplitl [Hg Hfl' Hkp']
      · isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [hAt_later m c t h0, if_neg h0, if_neg (show ¬t.val + 1 = 0 by omega)]
      rw [Ring.AtK2_here_last _ _ _ _ _ t.val (show 1 ≤ t.val by omega) (show t.val + 1 = 13 by omega), Ring.AtK2_next_last _ _ _ _ _ t.val (show 1 ≤ t.val by omega) (show t.val + 1 = 13 by omega)]
      iintro ⟨⟨Hg, ⟨-, Hfl, Hkp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (runC c t _ _ _ _ _ _ _ _ _ _ _ _ _ _ _ _ (fun h => h0 ((isFirst_iff t).mp h)) (fun h => h1 ((isMore_iff t).mp h)) (iblk m c 0 t) (iblk m c 1 t) (iblk m c 2 t) (V m c main_arg0) W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [Hfl]; · iexact Hfl
      isplitl [HW]; · iexact HW
      iintro ⟨H0, H1, H2, H3, H4, H5, H6, H7, Hkp', ⟨%W', HW'⟩⟩
      isplitl [Hg Hkp Hkp']
      · isplitl [Hg]; · iexact Hg
        iapply (Ring.with_homes (Idealize.SL.BI.Entails.refl _))
        isplitl [Hkp]; · iexact Hkp
        iexact Hkp'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body at a point, from the table of bodies. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What is handed over before the first point, and what comes back after the last. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR0_0, Hg, ⟨Hq0, Hq1⟩, Hh0⟩
  isplitl [Hg]; · iexact Hg
  iapply (ring0_0_in (F := F) m c)
  isplitl [HR0_0]; · iexact HR0_0
  isplitl [Hq0 Hq1]
  · isplitl [Hq0]; · iexact Hq0
    iexact Hq1
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 13 by rw [N_0]]
  iintro ⟨Hg, HR0_0⟩
  ihave HX0_0 := (ring0_0_out (F := F) m c) $$ HR0_0
  icases HX0_0 with ⟨HR0_0, ⟨Hq0, Hq1⟩, Hh0⟩
  isplitl [HR0_0]
  · iexact HR0_0
  isplitl [Hg]
  · iexact Hg
  isplitl [Hq0 Hq1]
  · isplitl [Hq0]; · iexact Hq0
    iexact Hq1
  iexact Hh0

/-! ## The run and the frame -/

set_option backward.isDefEq.respectTransparency.types false in
/-- Every run ends with the pipeline's results and with every counter at zero, -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- with the results alone, -/
theorem run_main : θ_run defs (onTc (τ := τ) (main (F := F))) (s₀ m ρ) (Pipeline.FramePost cfgs (dats m) 0 (V m)) :=
  (θ_run defs _ _).mono (fun _ h => h.1) (run_main_quiescent m ρ)

/-- with the arguments unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- and with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel6Ideal.Up

end
-- ==== Proof.Up.Formulas.lean ====
/-
  The formulas of the input projection's forward call over the extended reals: the residual stream, put together from zeros, the
  memory rows and the input, and a part of the columns of the normalised rows' product with the weight.
-/
module

public import proofs.«01_k».proof.Proof.FwdFormulas

@[expose] public section

noncomputable section

namespace Cert.Value

open Idealize.ShloMosaic

/-- The residual stream at a row and a column: 112 rows of zeros, the sixteen memory rows, and the input. -/
def streamAt (x : Mat 8192 1024) (s : Mat 16 1024) (i : Fin 8320) (k : Fin 1024) : EReal :=
  if h : i.val < 112 then Ideal.ofBits .f32 0x00000000#32
  else if h' : i.val < 128 then s (ix2 ⟨i.val - 112, by omega⟩ k)
  else x (ix2 ⟨i.val - 128, by omega⟩ k)

/-- The residual stream. -/
def stream (x : Mat 8192 1024) (s : Mat 16 1024) : Mat 8320 1024 := fun j => streamAt x s (j 0) (j 1)

/-- The columns `off` to `off + N` of the normalised rows' product with the weight, from the transposed weight. -/
def inPart {R : Nat} (N off : Nat) (hle : off + N ≤ 1792) (h : Mat R 1024) (g : Mat 1 1024) (wt : Mat 1792 1024) : Mat R N :=
  fun j => ∑ q : Fin 1024, normed h g (j 0) q * wt (ix2 ⟨off + (j 1).val, by have := (j 1).isLt; dsimp at this; omega⟩ q)

theorem IsRows.inPart {n : Fin 13} {N off : Nat} {hle : off + N ≤ 1792} {h : Mat 640 1024} {H : Mat 8320 1024} {g : Mat 1 1024}
    {wt : Mat 1792 1024} (hh : IsRows n h H) : IsRows n (inPart N off hle h g wt) (inPart N off hle H g wt) := fun k j => by
  show ∑ q : Fin 1024, Value.normed h g k q * wt (ix2 ⟨off + j.val, _⟩ q) = ∑ q : Fin 1024, Value.normed H g (rowAt n k) q * wt (ix2 ⟨off + j.val, _⟩ q)
  simp only [hh.normed]

end Cert.Value

end
-- ==== Proof.Up.Pay.lean ====
/-
  What the body of the input projection's forward call stores at a grid point, as formulas of the blocks that it reads.
-/
module

public import proofs.«01_k».proof.Proof.Up.Vals
public import proofs.«01_k».proof.Proof.Up.Formulas
public import Idealize.ShloMosaic.Lib.Pipeline.ValueKit
public import Idealize.ShloMosaic.Lib.Pointwise

@[expose] public section

set_option maxRecDepth 16384

noncomputable section

namespace Cert.Kernel6Ideal.Up

open Cert.Kernel6Ideal Cert.Kernel6Ideal.Gen Cert.Value
open Idealize.ShloMosaic Idealize.ShloMosaic.TcCoe Idealize.ShloMosaic.Tactic

/-- The mean of the squares of a row of a tile. -/
theorem stat_pay (h : Vec Ideal S640x1024 .f32) (j : S640x1.Idx) :
    k0_pay9 (tileV h) j = Ideal.div (∑ k : Fin 1024, h (ix2 (j 0) k) * h (ix2 (j 0) k)) (Ideal.ofBits .f32 0x44800000#32) := by
  unfold k0_pay9
  rw [pay8_tile]
  pointwise

theorem qF_pay (h : Vec Ideal S640x1024 .f32) (g : Vec Ideal S1x1024 .f32) (w : Vec Ideal S1792x1024 .bf16) :
    qF h g w = inPart (R := 640) 512 0 (by decide) h g w := by
  funext j
  unfold qF inPart normed
  pointwise [k0_pay2, k0_pay1, stat_pay, eps, rstd]
  refine Finset.sum_congr rfl fun q _ => ?_
  rw [stat_pay]
  refine congrArg (HMul.hMul (α := EReal) _) (congrArg w (funext fun a => Fin.ext ?_))
  match a with
  | ⟨0, _⟩ => show 0 + 1 * (j 1).val = (j 1).val; omega
  | ⟨1, _⟩ => show 0 + 1 * q.val = q.val; omega

theorem kvF_pay (h : Vec Ideal S640x1024 .f32) (g : Vec Ideal S1x1024 .f32) (w : Vec Ideal S1792x1024 .bf16) :
    kvF h g w = inPart (R := 640) 256 512 (by decide) h g w := by
  funext j
  unfold kvF inPart normed
  pointwise [k0_pay3, k0_pay1, stat_pay, eps, rstd]
  refine Finset.sum_congr rfl fun q _ => ?_
  rw [stat_pay]
  refine congrArg (HMul.hMul (α := EReal) _) (congrArg w (funext fun a => Fin.ext ?_))
  match a with
  | ⟨0, _⟩ => show 512 + 1 * (j 1).val = 512 + (j 1).val; omega
  | ⟨1, _⟩ => show 0 + 1 * q.val = q.val; omega

theorem caF_pay (h : Vec Ideal S640x1024 .f32) (g : Vec Ideal S1x1024 .f32) (w : Vec Ideal S1792x1024 .bf16) :
    caF h g w = inPart (R := 640) 512 768 (by decide) h g w := by
  funext j
  unfold caF inPart normed
  pointwise [k0_pay4, k0_pay1, stat_pay, eps, rstd]
  refine Finset.sum_congr rfl fun q _ => ?_
  rw [stat_pay]
  refine congrArg (HMul.hMul (α := EReal) _) (congrArg w (funext fun a => Fin.ext ?_))
  match a with
  | ⟨0, _⟩ => show 768 + 1 * (j 1).val = 768 + (j 1).val; omega
  | ⟨1, _⟩ => show 0 + 1 * q.val = q.val; omega

theorem cgF_pay (h : Vec Ideal S640x1024 .f32) (g : Vec Ideal S1x1024 .f32) (w : Vec Ideal S1792x1024 .bf16) :
    cgF h g w = inPart (R := 640) 512 1280 (by decide) h g w := by
  funext j
  unfold cgF inPart normed
  pointwise [k0_pay5, k0_pay1, stat_pay, eps, rstd]
  refine Finset.sum_congr rfl fun q _ => ?_
  rw [stat_pay]
  refine congrArg (HMul.hMul (α := EReal) _) (congrArg w (funext fun a => Fin.ext ?_))
  match a with
  | ⟨0, _⟩ => show 1280 + 1 * (j 1).val = 1280 + (j 1).val; omega
  | ⟨1, _⟩ => show 0 + 1 * q.val = q.val; omega

end Cert.Kernel6Ideal.Up

end
-- ==== Proof.Up.Value.lean ====
/-
  What the input projection's forward call leaves in its five results: the residual stream, and the four parts of the
  normalised rows' product with the weight.
-/
module

public import proofs.«01_k».proof.Proof.Up.Frame
public import proofs.«01_k».proof.Proof.Up.Pay
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel6Ideal.Up

open Cert.Kernel6Ideal Cert.Kernel6Ideal.Gen Cert.Value
open Idealize.ShloMosaic Idealize.ShloMosaic.TcCoe Idealize.ShloMosaic.Tactic

/-- The block index of every window of the call at a point: the row tile is the point. -/
theorem idx0 : ∀ t : Fin cfg0.N, win0_0.index t = ![0, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0])

variable (m : (ℓ : Loc nD τ sig) → Buf (Elt Ideal) ℓ) (ρ : Dev nD → PrngReg) (c : Dev nD) (t : Fin cfg0.N)

/-- The number of a point, as the number of a row tile. -/
def tile (t : Fin cfg0.N) : Fin 13 := ⟨t.val, lt_of_lt_of_eq t.isLt N_0⟩

theorem blk0 : (iblk m c 0 t : Mat 16 1024) = (V m c main_arg1 : Mat 16 1024) := by
  funext j
  blk_point [iblk, idx0 t]

theorem blk1 : (iblk m c 1 t : Mat 1 1024) = (V m c main_arg2 : Mat 1 1024) := by
  funext j
  blk_point [iblk, idx0 t]

theorem blk2 : (iblk m c 2 t : Mat 1792 1024) = (V m c main_v1 : Mat 1792 1024) := by
  funext j
  blk_point [iblk, idx0 t]

/-- The tile of the stream at a point is the point's rows of the stream. -/
theorem rows_h : IsRows (tile t) (hAt m c t : Mat 640 1024) (stream (V m c main_arg0 : Mat 8192 1024) (V m c main_arg1 : Mat 16 1024)) := fun k j => by
  have hN : t.val < 13 := lt_of_lt_of_eq t.isLt N_0
  show hAt m c t (ix2 k j) = streamAt _ _ (rowAt (tile t) k) j
  have e : (rowAt (tile t) k).val = 640 * t.val + k.val := rfl
  have e0 : ((ix2 k j : S640x1024.Idx) 0).val = k.val := rfl
  unfold hAt streamAt
  by_cases h : t.val = 0
  · have e' : (rowAt (tile t) k).val = k.val := by rw [e, h]; omega
    rw [if_pos h]
    unfold headX
    by_cases h1 : k.val < 112
    · rw [dif_pos (by rw [e0]; exact h1), dif_pos (by rw [e']; exact h1)]
      rfl
    by_cases h2 : k.val < 128
    · rw [dif_neg (by rw [e0]; exact h1), dif_pos (by rw [e0]; exact h2), dif_neg (by rw [e']; exact h1), dif_pos (by rw [e']; exact h2)]
      rw [show (iblk m c 0 t : Mat 16 1024) = _ from blk0 m c t]
      exact congrArg (fun z => (V m c main_arg1 : Mat 16 1024) (ix2 z j)) (Fin.ext (by show k.val - 112 = (rowAt (tile t) k).val - 112; rw [e']))
    · rw [dif_neg (by rw [e0]; exact h1), dif_neg (by rw [e0]; exact h2), dif_neg (by rw [e']; exact h1), dif_neg (by rw [e']; exact h2)]
      refine congrArg (V m c main_arg0 : Mat 8192 1024) (funext fun a => Fin.ext ?_)
      match a with
      | ⟨0, _⟩ => show 0 + 1 * (k.val - 128) = (rowAt (tile t) k).val - 128; rw [e']; omega
      | ⟨1, _⟩ => show 0 + 1 * j.val = j.val; omega
  · have h1 : ¬(rowAt (tile t) k).val < 112 := by omega
    have h2 : ¬(rowAt (tile t) k).val < 128 := by omega
    rw [if_neg h, dif_neg h1, dif_neg h2]
    refine congrArg (V m c main_arg0 : Mat 8192 1024) (funext fun a => Fin.ext ?_)
    match a with
    | ⟨0, _⟩ =>
      have eb : (Ring.bk 13 t.val).val = t.val := Nat.mod_eq_of_lt hN
      show (640 * (Ring.bk 13 t.val).val - 128) + 1 * k.val = (rowAt (tile t) k).val - 128
      rw [eb, e]
      omega
    | ⟨1, _⟩ => show 0 + 1 * j.val = j.val; omega

theorem emb3 (y : S640x1024.Idx) : (win0_3.blk t).view.emb y = (ix2 (rowAt (tile t) (y 0)) (y 1) : S8320x1024.Idx) := by
  unfold rowAt tile
  blk_ext [idx0 t]

theorem emb4 (y : S640x512.Idx) : (win0_4.blk t).view.emb y = (ix2 (rowAt (tile t) (y 0)) (y 1) : S8320x512.Idx) := by
  unfold rowAt tile
  blk_ext [idx0 t]

theorem emb5 (y : S640x256.Idx) : (win0_5.blk t).view.emb y = (ix2 (rowAt (tile t) (y 0)) (y 1) : S8320x256.Idx) := by
  unfold rowAt tile
  blk_ext [idx0 t]

theorem emb6 (y : S640x512.Idx) : (win0_6.blk t).view.emb y = (ix2 (rowAt (tile t) (y 0)) (y 1) : S8320x512.Idx) := by
  unfold rowAt tile
  blk_ext [idx0 t]

theorem emb7 (y : S640x512.Idx) : (win0_7.blk t).view.emb y = (ix2 (rowAt (tile t) (y 0)) (y 1) : S8320x512.Idx) := by
  unfold rowAt tile
  blk_ext [idx0 t]

theorem arr3 : (dats m 0 c).arrAt 3 cfg0.N = stream (V m c main_arg0 : Mat 8192 1024) (V m c main_arg1 : Mat 16 1024) := by
  refine (dats m 0 c).arrAt_eq_of_covers 3 _ (by decide +kernel) fun t hf y => ?_
  blk_simp
  rw [after0_3]
  refine Eq.trans ?_ (congrArg _ (emb3 t y).symm)
  exact (congrArg _ (ix2_eta y).symm).trans (rows_h m c t (y 0) (y 1))

theorem arr4 : (dats m 0 c).arrAt 4 cfg0.N = inPart 512 0 (by decide) (stream (V m c main_arg0 : Mat 8192 1024) (V m c main_arg1 : Mat 16 1024))
    (V m c main_arg2 : Mat 1 1024) (V m c main_v1 : Mat 1792 1024) := by
  refine (dats m 0 c).arrAt_eq_of_covers 4 _ (by decide +kernel) fun t hf y => ?_
  blk_simp
  rw [after0_4]
  refine Eq.trans ?_ (congrArg _ (emb4 t y).symm)
  rw [qF_pay, show (iblk m c 1 t : Mat 1 1024) = _ from blk1 m c t, show (iblk m c 2 t : Mat 1792 1024) = _ from blk2 m c t]
  exact (congrArg _ (ix2_eta y).symm).trans ((rows_h m c t).inPart (y 0) (y 1))

theorem arr5 : (dats m 0 c).arrAt 5 cfg0.N = inPart 256 512 (by decide) (stream (V m c main_arg0 : Mat 8192 1024) (V m c main_arg1 : Mat 16 1024))
    (V m c main_arg2 : Mat 1 1024) (V m c main_v1 : Mat 1792 1024) := by
  refine (dats m 0 c).arrAt_eq_of_covers 5 _ (by decide +kernel) fun t hf y => ?_
  blk_simp
  rw [after0_5]
  refine Eq.trans ?_ (congrArg _ (emb5 t y).symm)
  rw [kvF_pay, show (iblk m c 1 t : Mat 1 1024) = _ from blk1 m c t, show (iblk m c 2 t : Mat 1792 1024) = _ from blk2 m c t]
  exact (congrArg _ (ix2_eta y).symm).trans ((rows_h m c t).inPart (y 0) (y 1))

theorem arr6 : (dats m 0 c).arrAt 6 cfg0.N = inPart 512 768 (by decide) (stream (V m c main_arg0 : Mat 8192 1024) (V m c main_arg1 : Mat 16 1024))
    (V m c main_arg2 : Mat 1 1024) (V m c main_v1 : Mat 1792 1024) := by
  refine (dats m 0 c).arrAt_eq_of_covers 6 _ (by decide +kernel) fun t hf y => ?_
  blk_simp
  rw [after0_6]
  refine Eq.trans ?_ (congrArg _ (emb6 t y).symm)
  rw [caF_pay, show (iblk m c 1 t : Mat 1 1024) = _ from blk1 m c t, show (iblk m c 2 t : Mat 1792 1024) = _ from blk2 m c t]
  exact (congrArg _ (ix2_eta y).symm).trans ((rows_h m c t).inPart (y 0) (y 1))

theorem arr7 : (dats m 0 c).arrAt 7 cfg0.N = inPart 512 1280 (by decide) (stream (V m c main_arg0 : Mat 8192 1024) (V m c main_arg1 : Mat 16 1024))
    (V m c main_arg2 : Mat 1 1024) (V m c main_v1 : Mat 1792 1024) := by
  refine (dats m 0 c).arrAt_eq_of_covers 7 _ (by decide +kernel) fun t hf y => ?_
  blk_simp
  rw [after0_7]
  refine Eq.trans ?_ (congrArg _ (emb7 t y).symm)
  rw [cgF_pay, show (iblk m c 1 t : Mat 1 1024) = _ from blk1 m c t, show (iblk m c 2 t : Mat 1792 1024) = _ from blk2 m c t]
  exact (congrArg _ (ix2_eta y).symm).trans ((rows_h m c t).inPart (y 0) (y 1))

/-- The weight as the call takes it is the argument's transpose. -/
theorem w_of : V m c main_v1 = tr (m ((c : Thread nD τ).loc main_arg3) : Mat 1024 1792) := by
  funext j
  unfold V tr
  after_reads_at

/-- Every run ends with the formulas of the arguments in the five results, and with the arguments unchanged. -/
theorem run : θ_run defs (onTc (τ := τ) (main (F := Ideal))) ⟨m, fun _ => 0, ρ⟩ fun r => ∀ c : Dev nD,
      r.2.mem ((c : Thread nD τ).loc main_v2_0) = stream (m ((c : Thread nD τ).loc main_arg0)) (m ((c : Thread nD τ).loc main_arg1))
      ∧ r.2.mem ((c : Thread nD τ).loc main_v2_1) = inPart (R := 8320) 512 0 (by decide) (stream (m ((c : Thread nD τ).loc main_arg0)) (m ((c : Thread nD τ).loc main_arg1))) (m ((c : Thread nD τ).loc main_arg2)) (tr (m ((c : Thread nD τ).loc main_arg3)))
      ∧ r.2.mem ((c : Thread nD τ).loc main_v2_2) = inPart (R := 8320) 256 512 (by decide) (stream (m ((c : Thread nD τ).loc main_arg0)) (m ((c : Thread nD τ).loc main_arg1))) (m ((c : Thread nD τ).loc main_arg2)) (tr (m ((c : Thread nD τ).loc main_arg3)))
      ∧ r.2.mem ((c : Thread nD τ).loc main_v2_3) = inPart (R := 8320) 512 768 (by decide) (stream (m ((c : Thread nD τ).loc main_arg0)) (m ((c : Thread nD τ).loc main_arg1))) (m ((c : Thread nD τ).loc main_arg2)) (tr (m ((c : Thread nD τ).loc main_arg3)))
      ∧ r.2.mem ((c : Thread nD τ).loc main_v2_4) = inPart (R := 8320) 512 1280 (by decide) (stream (m ((c : Thread nD τ).loc main_arg0)) (m ((c : Thread nD τ).loc main_arg1))) (m ((c : Thread nD τ).loc main_arg2)) (tr (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (θ_run_and (run_main m ρ) (frame m ρ))
  obtain ⟨h, hf, -⟩ := h
  refine ⟨((h c).1 3).trans ((arr3 m c).trans ?_), ((h c).1 4).trans ((arr4 m c).trans ?_), ((h c).1 5).trans ((arr5 m c).trans ?_),
    ((h c).1 6).trans ((arr6 m c).trans ?_), ((h c).1 7).trans ((arr7 m c).trans ?_), hf c⟩
  · rw [V_main_arg0, V_main_arg1]
  all_goals rw [w_of, V_main_arg0, V_main_arg1, V_main_arg2]

end Cert.Kernel6Ideal.Up

end
-- ==== Proof.Up.Ref.lean ====
/-
  What the reference of the input projection's forward call computes, over the extended reals.
-/
module

public import proofs.«01_k».proof.Proof.Gen.Reference6Ideal.Read
public import Idealize.ShloMosaic.Lib.Pointwise
public import Idealize.ShloMosaic.Lib.Pipeline.ValueKit
public import Idealize.ShloMosaic.Lib.Pipeline.Value
public import proofs.«01_k».proof.Proof.Up.Formulas

@[expose] public section

set_option maxRecDepth 16384

noncomputable section

namespace Cert.Reference6Ideal.Stages

open Idealize.ShloMosaic Idealize.ShloMosaic.TcCoe Idealize.ShloMosaic.Tactic
open Cert.Reference6Ideal Cert.Reference6Ideal.Read Cert.Value

variable (x : Mat 8192 1024) (s : Mat 16 1024) (g : Mat 1 1024) (w : Mat 1024 1792)

/-- The residual stream. -/
theorem stream_eq : val_main_v1 (F := Ideal) x s = stream x s := by
  funext j
  have h0 : (j 0).val < 8320 := (j 0).isLt
  unfold val_main_v1 stream streamAt
  split
  · next hl =>
    refine (concatenate_apply_piece 0 _ _ j 0 (by show 0 < 3; decide) S112x1024 (val_main_v0 (F := Ideal)) rfl rfl 0 rfl (ix2 (⟨(j 0).val, hl⟩ : Fin 112) (j 1))
      (Fin.forall_fin_two.mpr ⟨fun hb => absurd rfl hb, fun _ => rfl⟩) (by show 0 + (j 0).val = (j 0).val; omega)).trans ?_
    rfl
  split
  · exact concatenate_apply_piece 0 _ _ j 1 (by show 1 < 3; decide) S16x1024 s rfl rfl 112 rfl (ix2 (⟨(j 0).val - 112, by omega⟩ : Fin 16) (j 1))
      (Fin.forall_fin_two.mpr ⟨fun hb => absurd rfl hb, fun _ => rfl⟩) (by show 112 + ((j 0).val - 112) = (j 0).val; omega)
  · exact concatenate_apply_piece 0 _ _ j 2 (by show 2 < 3; decide) S8192x1024 x rfl rfl 128 rfl (ix2 (⟨(j 0).val - 128, by omega⟩ : Fin 8192) (j 1))
      (Fin.forall_fin_two.mpr ⟨fun hb => absurd rfl hb, fun _ => rfl⟩) (by show 128 + ((j 0).val - 128) = (j 0).val; omega)

/-- The reciprocal root mean square of a row. -/
theorem rstd_eq (i : S8320x1.Idx) : val_main_v9 (F := Ideal) x s i = rstd (stream x s) (i 0) := by
  unfold rstd
  pointwise [val_main_v9, val_main_v8, val_main_v7, val_main_v6, val_main_v5, val_main_v4, val_main_v3, val_main_v2, val_main_cst_0,
    val_main_cst_1, val_main_cst_2, stream_eq]

/-- The normalised rows. -/
theorem hn_eq (i : S8320x1024.Idx) : val_main_v13 (F := Ideal) x s g i = normed (stream x s) g (i 0) (i 1) := by
  unfold normed
  pointwise [val_main_v13, val_main_v12, val_main_v11, val_main_v10, rstd_eq, stream_eq]

/-- The product with the weight. -/
theorem proj_eq (i : S8320x1792.Idx) : val_main_v14 (F := Ideal) x s g w i
    = ∑ q : Fin 1024, normed (stream x s) g (i 0) q * w (ix2 q (i 1)) := by
  pointwise [val_main_v14, hn_eq]

theorem q_eq : val_main_v19 (F := Ideal) x s g w = inPart 512 0 (by decide) (stream x s) g (tr w) := by
  funext j
  unfold inPart tr
  pointwise [val_main_v19, val_main_v15, proj_eq]

theorem kv_eq : val_main_v20 (F := Ideal) x s g w = inPart 256 512 (by decide) (stream x s) g (tr w) := by
  funext j
  unfold inPart tr
  pointwise [val_main_v20, val_main_v16, proj_eq]

theorem ca_eq : val_main_v17 (F := Ideal) x s g w = inPart 512 768 (by decide) (stream x s) g (tr w) := by
  funext j
  unfold inPart tr
  pointwise [val_main_v17, proj_eq]

theorem cg_eq : val_main_v18 (F := Ideal) x s g w = inPart 512 1280 (by decide) (stream x s) g (tr w) := by
  funext j
  unfold inPart tr
  pointwise [val_main_v18, proj_eq]

end Cert.Reference6Ideal.Stages

end
-- ==== Proof.lean ====
/-
  The certificate of six programs. The backward pass of the feed-forward block, five calls in one program, computes the
  gradients that differentiating the block's forward lines gives. The forward pass of the block, one call that ends with the
  loss, computes the block's values, the loss and the gradients of the loss at the stream and at the last gain. The third
  computes the gradient of the output projection's weight. The fourth, the optimiser's call, sums a device's partial
  gradients and takes AdamW's step with the sum. The fifth is the backward pass of the input projection and of the
  normalisation before it, and the sixth their forward pass.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Finite
public import proofs.«01_k».proof.Proof.Equation
public import proofs.«01_k».proof.Proof.RunEnd
public import proofs.«01_k».proof.Proof.KernelEnd
public import proofs.«01_k».proof.Proof.FwdValue
public import proofs.«01_k».proof.Proof.FwdEquation
public import proofs.«01_k».proof.Proof.FwdFinite
public import proofs.«01_k».proof.Proof.WOut
public import proofs.«01_k».proof.Proof.Adamw
public import proofs.«01_k».proof.Proof.Proj.Value
public import proofs.«01_k».proof.Proof.Proj.Ref
public import proofs.«01_k».proof.Proof.Proj.Finite
public import proofs.«01_k».proof.Proof.Up.Value
public import proofs.«01_k».proof.Proof.Up.Ref
public import Idealize.ShloMosaic.Lib.Quiescent
public import Idealize.ShloMosaic.Adequacy
public import Idealize.ShloMosaic.Init

@[expose] public section

noncomputable section

namespace Cert.Proof

open Idealize.ShloMosaic Idealize.SL.Sem Cert.Value

/-- The frame of the reference: its run leaves the arguments as they were, and it declares no semaphore. -/
theorem frame_reference : Cert.quiescent_ReferenceIdeal (hReferenceIdeal := Cert.ReferenceIdeal.Gen.facts) (hPre_finite := preFacts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The kernel and the reference compute the same five gradients of finite arguments: the formulas of `Formulas.lean`. -/
theorem same_gradients : Cert.algebraic_KernelIdeal_ReferenceIdeal (hKernelIdeal := Cert.KernelIdeal.Gen.facts)
    (hReferenceIdeal := Cert.ReferenceIdeal.Gen.facts) (hPre_finite := preFacts) := by
  intro m g m' g' hpre hargs
  refine ⟨_, _, _, _, _, Cert.KernelIdeal.Value.run (F := Ideal) m g, ?_⟩
  refine (θ_run Cert.ReferenceIdeal.defs _ _).mono (fun r h c => ?_) (Cert.ReferenceIdeal.Value.run (F := Ideal) m' g')
  obtain ⟨h54, h37, h32, h28, h23, hrest⟩ := h c
  obtain ⟨a0, a1, a2, a3, a4, a5⟩ := hargs c
  obtain ⟨r0, r1, r2, r3, r4, r5⟩ := @real_of_finite preFacts _ _ _ _ _ _ (hpre c)
  have hd := Cert.ReferenceIdeal.Stages.dgate_real r0 r1 r2 r3 r4 r5
  refine ⟨?_, ?_, ?_, ?_, ?_, hrest⟩
  · rw [h54, Cert.ReferenceIdeal.Read.val_main_v54_eq, a0, a1, a2, a3, a4, a5, Cert.KernelIdeal.Value.W9_dh]
    exact Cert.ReferenceIdeal.Stages.dstream_real r0 r1 r2 r3 r4 r5
  · rw [h37, Cert.ReferenceIdeal.Read.val_main_v37_eq, a0, a1, a2, a3, a4, a5, Cert.KernelIdeal.Value.W9_dg]
    exact Cert.ReferenceIdeal.Stages.dg_eq _ _ _ _ _ _ hd
  · rw [h32, Cert.ReferenceIdeal.Read.val_main_v32_eq, a0, a1, a2, a3, a4, a5, Cert.KernelIdeal.Value.W9_dwg]
    exact Cert.ReferenceIdeal.Stages.dwg_eq _ _ _ _ _ _ hd
  · rw [h28, Cert.ReferenceIdeal.Read.val_main_v28_eq, a0, a1, a2, a4, a5, Cert.KernelIdeal.Value.W9_dwu]
    exact Cert.ReferenceIdeal.Stages.dwu_eq _ _ _ _ _
  · rw [h23, Cert.ReferenceIdeal.Read.val_main_v23_eq, a0, a1, a2, a3, a5, Cert.KernelIdeal.Value.W9_dwd]
    exact Cert.ReferenceIdeal.Stages.dwd_eq _ _ _ _ _

/-- The forward call's body is the same in the two programs of the same text. -/
theorem same_body : Cert.Kernel2.defs₀ (F := Bits) = Cert.Kernel2Ideal.defs₀ (F := Bits) := by
  unfold Cert.Kernel2.defs₀ Cert.Kernel2Ideal.defs₀
  congr 1
  funext l a
  match l, a with
  | 0, (t, s) => rfl

/-- So is its launch. -/
theorem same_launch : Cert.Kernel2.cfg0 = Cert.Kernel2Ideal.cfg0 := by
  with_unfolding_all rfl

/-- So is the family of its launches. -/
theorem same_launches : Cert.Kernel2.pcfgs (F := Bits) = Cert.Kernel2Ideal.pcfgs (F := Bits) :=
  funext fun _ => congrArg (Pipeline.Cfg.toPCfg (Val := Elt Bits)) same_launch

/-- The frame of the forward call in the arithmetic of words: the run over any float values, taken at these. -/
theorem frame_kernel2 : Cert.quiescent_Kernel2_pre_none (hKernel2 := Cert.Kernel2.Gen.facts) := by
  intro m ρ _
  unfold Cert.Kernel2.defs Cert.Kernel2.main
  rw [same_launches, same_body]
  exact Cert.Kernel2Ideal.Fwd.frame (F := Bits) m ρ

/-- The frame of the second reference. -/
theorem frame_reference2 : Cert.quiescent_Reference2Ideal (hReference2Ideal := Cert.Reference2Ideal.Gen.facts) (hPre_finite2 := preFacts2) := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The forward call and its reference compute the same six arrays of finite arguments. -/
theorem same_forward : Cert.algebraic_Kernel2Ideal_Reference2Ideal (hKernel2Ideal := Cert.Kernel2Ideal.Gen.facts)
    (hReference2Ideal := Cert.Reference2Ideal.Gen.facts) (hPre_finite2 := preFacts2) := by
  intro m g m' g' hpre hargs
  refine ⟨_, _, _, _, _, _, Cert.Kernel2Ideal.Fwd.run m g, ?_⟩
  refine (θ_run Cert.Reference2Ideal.defs _ _).mono (fun r h c => ?_) (Cert.Reference2Ideal.Value.run (F := Ideal) m' g')
  obtain ⟨h70, h71, h72, h69, h73, h53, hrest⟩ := h c
  obtain ⟨a0, a1, a2, a3, a4, a5, a6⟩ := hargs c
  obtain ⟨r0, r1, r2, r3, r4, r5, r6⟩ := @real_of_finite2 preFacts2 _ _ _ _ _ _ _ (hpre c)
  refine ⟨?_, ?_, ?_, ?_, ?_, ?_, hrest⟩
  · rw [h70, Cert.Reference2Ideal.Read.val_main_v70_eq, a0, a1, a2]
    exact Cert.Reference2Ideal.Stages.gate_eq _ _ _
  · rw [h71, Cert.Reference2Ideal.Read.val_main_v71_eq, a0, a1, a3]
    exact Cert.Reference2Ideal.Stages.up_eq _ _ _
  · rw [h72, Cert.Reference2Ideal.Read.val_main_v72_eq, a0, a1, a2, a3]
    exact Cert.Reference2Ideal.Stages.act_eq _ _ _ _
  · rw [h69, Cert.Reference2Ideal.Read.val_main_v69_eq, a0, a1, a2, a3, a4, a5, a6]
    exact Cert.Reference2Ideal.Stages.dh_real r0 r1 r2 r3 r4 r5 r6
  · rw [h73, Cert.Reference2Ideal.Read.val_main_v73_eq, a0, a1, a2, a3, a4, a5, a6]
    exact Cert.Reference2Ideal.Stages.loss_real r0 r1 r2 r3 r4 r5 r6
  · rw [h53, Cert.Reference2Ideal.Read.val_main_v53_eq, a0, a1, a2, a3, a4, a5, a6]
    exact Cert.Reference2Ideal.Stages.dg_real r0 r1 r2 r3 r4 r5 r6

/-- The frame of the third reference. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The third call and its reference compute the same gradient of the output projection's weight. -/
theorem same_wout : Cert.algebraic_Kernel3Ideal_Reference3Ideal (hKernel3Ideal := Cert.Kernel3Ideal.Gen.facts)
    (hReference3Ideal := Cert.Reference3Ideal.Gen.facts) := by
  intro m g m' g' _ hargs
  refine ⟨_, Cert.Kernel3Ideal.Out.run m g, ?_⟩
  refine (θ_run Cert.Reference3Ideal.defs _ _).mono (fun r h c => ?_) (Cert.Reference3Ideal.Value.run (F := Ideal) m' g')
  obtain ⟨a0, -, a2⟩ := hargs c
  refine ⟨?_, (h c).2⟩
  rw [(h c).1, Cert.Reference3Ideal.Read.val_main_v2_eq, a0, a2]
  exact Cert.Kernel3Ideal.Out.reference_eq _ _

/-- The frame of the optimiser's call in the arithmetic of words, where the slot is one of four. -/
theorem frame_kernel4 : Cert.quiescent_Kernel4 (hKernel4 := Cert.Kernel4.Gen.facts) (hPre_in_range := preFacts4) := fun m ρ hp =>
  Cert.Kernel4.Gen.frame m ρ (Cert.Kernel4Ideal.Step.ok m (@slot_lt preFacts4 _ _ _ _ _ _ _ _ (hp 0) (ix1 0)))

/-- The frame of its ideal program. -/
theorem frame_kernel4Ideal : Cert.quiescent_Kernel4Ideal (hKernel4Ideal := Cert.Kernel4Ideal.Gen.facts) (hPre_in_range := preFacts4) := fun m ρ hp =>
  Cert.Kernel4Ideal.Gen.frame m ρ (Cert.Kernel4Ideal.Step.ok m (@slot_lt preFacts4 _ _ _ _ _ _ _ _ (hp 0) (ix1 0)))

/-- The frame of the fourth reference. -/
theorem frame_reference4 : Cert.quiescent_Reference4Ideal (hReference4Ideal := Cert.Reference4Ideal.Gen.facts) (hPre_in_range := preFacts4) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The optimiser's call and its reference compute the same summed gradient, step and moments. -/
theorem same_adamw : Cert.algebraic_Kernel4Ideal_Reference4Ideal (hKernel4Ideal := Cert.Kernel4Ideal.Gen.facts)
    (hReference4Ideal := Cert.Reference4Ideal.Gen.facts) (hPre_in_range := preFacts4) := by
  intro m g m' g' hpre hargs
  have hs := @slot_lt preFacts4 _ _ _ _ _ _ _ _ (hpre 0) (ix1 0)
  refine ⟨_, _, _, _, Cert.Kernel4Ideal.Step.run m g hs, ?_⟩
  refine (θ_run Cert.Reference4Ideal.defs _ _).mono (fun r h c => ?_) (Cert.Reference4Ideal.Value.run (F := Ideal) m' g')
  obtain ⟨h7, h31, h12, h18, hrest⟩ := h c
  obtain ⟨a0, a1, a2, a3, a4, a5⟩ := hargs c
  obtain rfl : c = 0 := Subsingleton.elim _ _
  refine ⟨?_, ?_, ?_, ?_, hrest⟩
  · rw [h7, Cert.Reference4Ideal.Read.val_main_v7_eq, a0, a1, a2]
    exact Cert.Reference4Ideal.Step.grad_eq _ _ _ hs
  · rw [h31, Cert.Reference4Ideal.Read.val_main_v31_eq, a0, a1, a2, a3, a4, a5]
    refine funext fun j => (Cert.Reference4Ideal.Step.d_eq _ _ _ _ _ _ j).trans ?_
    rw [Cert.Reference4Ideal.Step.m_eq, Cert.Reference4Ideal.Step.v_eq, Cert.Reference4Ideal.Step.grad_eq _ _ _ hs]
  · rw [h12, Cert.Reference4Ideal.Read.val_main_v12_eq, a0, a1, a2, a4]
    refine funext fun j => (Cert.Reference4Ideal.Step.m_eq _ _ _ _ j).trans ?_
    rw [Cert.Reference4Ideal.Step.grad_eq _ _ _ hs]
  · rw [h18, Cert.Reference4Ideal.Read.val_main_v18_eq, a0, a1, a2, a5]
    refine funext fun j => (Cert.Reference4Ideal.Step.v_eq _ _ _ _ j).trans ?_
    rw [Cert.Reference4Ideal.Step.grad_eq _ _ _ hs]

/-- The input projection's backward call has the same body in the two programs of the same text, -/
theorem same_body5 : Cert.Kernel5.defs₀ (F := Bits) = Cert.Kernel5Ideal.defs₀ (F := Bits) := by
  unfold Cert.Kernel5.defs₀ Cert.Kernel5Ideal.defs₀
  congr 1
  funext l a
  match l, a with
  | 0, (t, s) => rfl

/-- the same launch, -/
theorem same_launch5 : Cert.Kernel5.cfg0 = Cert.Kernel5Ideal.cfg0 := by
  with_unfolding_all rfl

/-- and the same family of launches. -/
theorem same_launches5 : Cert.Kernel5.pcfgs (F := Bits) = Cert.Kernel5Ideal.pcfgs (F := Bits) :=
  funext fun _ => congrArg (Pipeline.Cfg.toPCfg (Val := Elt Bits)) same_launch5

/-- The frame of that call in the arithmetic of words: the run over any float values, taken at these. -/
theorem frame_kernel5 : Cert.quiescent_Kernel5_pre_none (hKernel5 := Cert.Kernel5.Gen.facts) := by
  intro m ρ _
  unfold Cert.Kernel5.defs Cert.Kernel5.main
  rw [same_launches5, same_body5]
  exact Cert.Kernel5Ideal.Proj.frame (F := Bits) m ρ

/-- The frame of the fifth reference. -/
theorem frame_reference5 : Cert.quiescent_Reference5Ideal (hReference5Ideal := Cert.Reference5Ideal.Gen.facts) (hPre_finite5 := preFacts5) := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The input projection's backward call and its reference compute the same five arrays of finite arguments. -/
theorem same_inproj : Cert.algebraic_Kernel5Ideal_Reference5Ideal (hKernel5Ideal := Cert.Kernel5Ideal.Gen.facts)
    (hReference5Ideal := Cert.Reference5Ideal.Gen.facts) (hPre_finite5 := preFacts5) := by
  intro m g m' g' hpre hargs
  refine ⟨_, _, _, _, _, Cert.Kernel5Ideal.Proj.run m g, ?_⟩
  refine (θ_run Cert.Reference5Ideal.defs _ _).mono (fun r h c => ?_) (Cert.Reference5Ideal.Value.run (F := Ideal) m' g')
  obtain ⟨h41, h42, h43, h56, h23, hrest⟩ := h c
  obtain ⟨a0, a1, a2, a3, a4, a5, a6, a7, a8⟩ := hargs c
  obtain ⟨r0, r1, r2, r3, r4, r5, r6, r7, r8⟩ := @real_of_finite5 preFacts5 _ _ _ _ _ _ _ _ _ (hpre c)
  refine ⟨?_, ?_, ?_, ?_, ?_, hrest⟩
  · rw [h41, Cert.Reference5Ideal.Read.val_main_v41_eq, a0, a1, a2, a3, a4, a5, a6, a7, a8]
    exact Cert.Reference5Ideal.Stages.low_real r0 r1 r2 r3 r4 r5 r6 r7 r8
  · rw [h42, Cert.Reference5Ideal.Read.val_main_v42_eq, a0, a1, a2, a3, a4, a5, a6, a7, a8]
    exact Cert.Reference5Ideal.Stages.mid_real r0 r1 r2 r3 r4 r5 r6 r7 r8
  · rw [h43, Cert.Reference5Ideal.Read.val_main_v43_eq, a3, a4, a5, a6, a7]
    exact Cert.Reference5Ideal.Stages.dproj_res _ _ _ _ _
  · rw [h56, Cert.Reference5Ideal.Read.val_main_v56_eq, a1, a2]
    exact Cert.Reference5Ideal.Stages.hn_eq _ _
  · rw [h23, Cert.Reference5Ideal.Read.val_main_v23_eq, a1, a3, a4, a5, a6, a7, a8]
    exact Cert.Reference5Ideal.Stages.dg_eq _ _ _ _ _ _ _

/-- The input projection's forward call has the same body in the two programs of the same text, -/
theorem same_body6 : Cert.Kernel6.defs₀ (F := Bits) = Cert.Kernel6Ideal.defs₀ (F := Bits) := by
  unfold Cert.Kernel6.defs₀ Cert.Kernel6Ideal.defs₀
  congr 1
  funext l a
  match l, a with
  | 0, (t, s) => rfl

/-- the same launch, -/
theorem same_launch6 : Cert.Kernel6.cfg0 = Cert.Kernel6Ideal.cfg0 := by
  with_unfolding_all rfl

/-- and the same family of launches. -/
theorem same_launches6 : Cert.Kernel6.pcfgs (F := Bits) = Cert.Kernel6Ideal.pcfgs (F := Bits) :=
  funext fun _ => congrArg (Pipeline.Cfg.toPCfg (Val := Elt Bits)) same_launch6

/-- The frame of that call in the arithmetic of words: the run over any float values, taken at these. -/
theorem frame_kernel6 : Cert.quiescent_Kernel6 (hKernel6 := Cert.Kernel6.Gen.facts) := by
  intro m ρ _
  unfold Cert.Kernel6.defs Cert.Kernel6.main
  rw [same_launches6, same_body6]
  exact Cert.Kernel6Ideal.Up.frame (F := Bits) m ρ

/-- The frame of the sixth reference. -/
theorem frame_reference6 : Cert.quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- The input projection's forward call and its reference compute the same five arrays. -/
theorem same_inproj_fwd : Cert.algebraic_Kernel6Ideal_Reference6Ideal (hKernel6Ideal := Cert.Kernel6Ideal.Gen.facts)
    (hReference6Ideal := Cert.Reference6Ideal.Gen.facts) := by
  intro m g m' g' _ hargs
  refine ⟨_, _, _, _, _, Cert.Kernel6Ideal.Up.run m g, ?_⟩
  refine (θ_run Cert.Reference6Ideal.defs _ _).mono (fun r h c => ?_) (Cert.Reference6Ideal.Value.run (F := Ideal) m' g')
  obtain ⟨h1, h19, h20, h17, h18, hrest⟩ := h c
  obtain ⟨a0, a1, a2, a3⟩ := hargs c
  refine ⟨?_, ?_, ?_, ?_, ?_, hrest⟩
  · rw [h1, Cert.Reference6Ideal.Read.val_main_v1_eq, a0, a1]
    exact Cert.Reference6Ideal.Stages.stream_eq _ _
  · rw [h19, Cert.Reference6Ideal.Read.val_main_v19_eq, a0, a1, a2, a3]
    exact Cert.Reference6Ideal.Stages.q_eq _ _ _ _
  · rw [h20, Cert.Reference6Ideal.Read.val_main_v20_eq, a0, a1, a2, a3]
    exact Cert.Reference6Ideal.Stages.kv_eq _ _ _ _
  · rw [h17, Cert.Reference6Ideal.Read.val_main_v17_eq, a0, a1, a2, a3]
    exact Cert.Reference6Ideal.Stages.ca_eq _ _ _ _
  · rw [h18, Cert.Reference6Ideal.Read.val_main_v18_eq, a0, a1, a2, a3]
    exact Cert.Reference6Ideal.Stages.cg_eq _ _ _ _

/-- The certificate: for each program the frames, the idealisation, and the equal results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, preFacts, preFacts2, preFacts4, preFacts5,
    fun m ρ _ => Cert.Kernel.Gen.frame m ρ, fun m ρ _ => Cert.Kernel.Gen.frame m ρ,
    fun m ρ _ => Cert.KernelIdeal.Gen.frame m ρ, fun m ρ _ => Cert.KernelIdeal.Gen.frame m ρ,
    frame_reference,
    fun m ρ _ => frame_kernel2 m ρ trivial, frame_kernel2,
    fun m ρ _ => Cert.Kernel2Ideal.Fwd.frame m ρ, fun m ρ _ => Cert.Kernel2Ideal.Fwd.frame m ρ,
    frame_reference2,
    fun m ρ _ => Cert.Kernel3.Gen.frame m ρ, fun m ρ _ => Cert.Kernel3Ideal.Gen.frame m ρ, frame_reference3,
    frame_kernel4, frame_kernel4Ideal, frame_reference4,
    fun m ρ _ => frame_kernel5 m ρ trivial, frame_kernel5,
    fun m ρ _ => Cert.Kernel5Ideal.Proj.frame m ρ, fun m ρ _ => Cert.Kernel5Ideal.Proj.frame m ρ,
    frame_reference5,
    frame_kernel6, fun m ρ _ => Cert.Kernel6Ideal.Up.frame m ρ, frame_reference6,
    trivial, same_gradients, trivial, same_forward, trivial, same_wout, trivial, same_adamw, trivial, same_inproj,
    trivial, same_inproj_fwd⟩

end Cert.Proof

end
